-- ==== Defs.lean ====
def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_mix [hPre_finite_mix : Cert.Pre_finite_mix.Facts] (m : (ℓ : Loc Cert.MixIdeal.nD Cert.MixIdeal.τ Cert.MixIdeal.sig) → Buf (Elt Ideal) ℓ) : Prop :=
  ∀ c : Dev Cert.MixIdeal.nD,
    (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_mix [hPre_finite_mix : Cert.Pre_finite_mix.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixIdeal_pre_finite_mix [hMixIdeal : Cert.MixIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_mix m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_MixRefIdeal_pre_finite_mix [hMixRefIdeal : Cert.MixRefIdeal.Facts] [hPre_finite_mix : Cert.Pre_finite_mix.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_mix m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def preserves_Gla_GlaIdeal : Prop :=
  True

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)) →
    ∃ (v0 : (c : Dev Cert.GlaIdeal.nD) → Buf (Elt Ideal) ((c.tc : Thread Cert.GlaIdeal.nD Cert.GlaIdeal.τ).loc Cert.GlaIdeal.main_v30)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v30) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v75) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3))

def preserves_Mix_MixIdeal : Prop :=
  True

def algebraic_MixIdeal_MixRefIdeal_pre_finite_mix [hMixIdeal : Cert.MixIdeal.Facts] [hMixRefIdeal : Cert.MixRefIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_mix m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v8_0)) (v1 : (c : Dev Cert.MixIdeal.nD) → Buf (Elt Ideal) ((c.tc : Thread Cert.MixIdeal.nD Cert.MixIdeal.τ).loc Cert.MixIdeal.main_v8_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v8_0) = v0 c
          ∧ r.2.mem ((c.tc : Thread Cert.MixIdeal.nD Cert.MixIdeal.τ).loc Cert.MixIdeal.main_v8_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v49) = v0 c
          ∧ r.2.mem ((c.tc : Thread Cert.MixRefIdeal.nD Cert.MixRefIdeal.τ).loc Cert.MixRefIdeal.main_v65) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v36) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v19) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v5)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v5) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v19) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def Claim : Prop :=
  ∃ (hGla : Cert.Gla.Facts) (hGlaIdeal : Cert.GlaIdeal.Facts) (hGlaRefIdeal : Cert.GlaRefIdeal.Facts) (hMix : Cert.Mix.Facts) (hMixIdeal : Cert.MixIdeal.Facts) (hMixRefIdeal : Cert.MixRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hProj : Cert.Proj.Facts) (hProjIdeal : Cert.ProjIdeal.Facts) (hProjRefIdeal : Cert.ProjRefIdeal.Facts) (hKv : Cert.Kv.Facts) (hKvIdeal : Cert.KvIdeal.Facts) (hKvRefIdeal : Cert.KvRefIdeal.Facts) (hNorm : Cert.Norm.Facts) (hNormIdeal : Cert.NormIdeal.Facts) (hNormRefIdeal : Cert.NormRefIdeal.Facts) (hPre_finite_mix : Cert.Pre_finite_mix.Facts),
    quiescent_Gla (hGla := hGla)
    ∧ quiescent_GlaIdeal (hGlaIdeal := hGlaIdeal)
    ∧ quiescent_GlaRefIdeal (hGlaRefIdeal := hGlaRefIdeal)
    ∧ quiescent_Mix (hMix := hMix)
    ∧ quiescent_MixIdeal (hMixIdeal := hMixIdeal)
    ∧ quiescent_MixIdeal_pre_finite_mix (hMixIdeal := hMixIdeal) (hPre_finite_mix := hPre_finite_mix)
    ∧ quiescent_MixRefIdeal (hMixRefIdeal := hMixRefIdeal)
    ∧ quiescent_MixRefIdeal_pre_finite_mix (hMixRefIdeal := hMixRefIdeal) (hPre_finite_mix := hPre_finite_mix)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Proj (hProj := hProj)
    ∧ quiescent_ProjIdeal (hProjIdeal := hProjIdeal)
    ∧ quiescent_ProjRefIdeal (hProjRefIdeal := hProjRefIdeal)
    ∧ quiescent_Kv (hKv := hKv)
    ∧ quiescent_KvIdeal (hKvIdeal := hKvIdeal)
    ∧ quiescent_KvRefIdeal (hKvRefIdeal := hKvRefIdeal)
    ∧ quiescent_Norm (hNorm := hNorm)
    ∧ quiescent_NormIdeal (hNormIdeal := hNormIdeal)
    ∧ quiescent_NormRefIdeal (hNormRefIdeal := hNormRefIdeal)
    ∧ preserves_Gla_GlaIdeal
    ∧ algebraic_GlaIdeal_GlaRefIdeal (hGlaIdeal := hGlaIdeal) (hGlaRefIdeal := hGlaRefIdeal)
    ∧ preserves_Mix_MixIdeal
    ∧ algebraic_MixIdeal_MixRefIdeal_pre_finite_mix (hMixIdeal := hMixIdeal) (hMixRefIdeal := hMixRefIdeal) (hPre_finite_mix := hPre_finite_mix)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Proj_ProjIdeal
    ∧ algebraic_ProjIdeal_ProjRefIdeal (hProjIdeal := hProjIdeal) (hProjRefIdeal := hProjRefIdeal)
    ∧ preserves_Kv_KvIdeal
    ∧ algebraic_KvIdeal_KvRefIdeal (hKvIdeal := hKvIdeal) (hKvRefIdeal := hKvRefIdeal)
    ∧ preserves_Norm_NormIdeal
    ∧ algebraic_NormIdeal_NormRefIdeal (hNormIdeal := hNormIdeal) (hNormRefIdeal := hNormRefIdeal)
-- ==== Pre_finite_mix.lean ====
abbrev S32768x512 : Shape := ⟨2, ![32768, 512]⟩
abbrev S32768x1024 : Shape := ⟨2, ![32768, 1024]⟩
abbrev S4x2048x2048 : Shape := ⟨3, ![4, 2048, 2048]⟩
abbrev S32768x2048 : Shape := ⟨2, ![32768, 2048]⟩
abbrev S4x2048 : Shape := ⟨2, ![4, 2048]⟩
abbrev S4x2048x512 : Shape := ⟨3, ![4, 2048, 512]⟩
abbrev S4096x1024 : Shape := ⟨2, ![4096, 1024]⟩
abbrev S4x512x2048 : Shape := ⟨3, ![4, 512, 2048]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S32768x1024 : S_.BroadcastsInDim S32768x1024 (![] : Fin 0 → Fin S32768x1024.rank)
  reducesTo_S32768x1024_S_d0_1 : S32768x1024.ReducesTo [0, 1] S_
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S32768x2048 : S_.BroadcastsInDim S32768x2048 (![] : Fin 0 → Fin S32768x2048.rank)
  reducesTo_S32768x2048_S_d0_1 : S32768x2048.ReducesTo [0, 1] S_
  bcast_S_S4x2048 : S_.BroadcastsInDim S4x2048 (![] : Fin 0 → Fin S4x2048.rank)
  reducesTo_S4x2048_S_d0_1 : S4x2048.ReducesTo [0, 1] S_
  bcast_S_S4x2048x512 : S_.BroadcastsInDim S4x2048x512 (![] : Fin 0 → Fin S4x2048x512.rank)
  reducesTo_S4x2048x512_S_d0_1_2 : S4x2048x512.ReducesTo [0, 1, 2] S_
  bcast_S_S4096x1024 : S_.BroadcastsInDim S4096x1024 (![] : Fin 0 → Fin S4096x1024.rank)
  reducesTo_S4096x1024_S_d0_1 : S4096x1024.ReducesTo [0, 1] S_

variable [Facts]

def fn_part2 {F : FTy → Type} [FloatOps F] (main_arg7 : FVec F S4096x1024 .bf16) (main_v33 : IVec S_ 1) : IVec S_ 1 :=
  let main_v34 : FVec F S4096x1024 .bf16 := Host.absf main_arg7
  let main_cst_12 : FVec F S_ .bf16 := constant S_ .bf16 0x7F80#16
  let main_v35 : FVec F S4096x1024 .bf16 := broadcastInDim S4096x1024 ![] bcast_S_S4096x1024 main_cst_12
  let main_v36 : IVec S4096x1024 1 := cmpf .olt main_v34 main_v35
  let main_c_13 : IVec S_ 1 := constantI S_ 1 1#1
  let main_v37 : IVec S_ 1 := (fun x v => Host.reduce IntOp.andi x v reducesTo_S4096x1024_S_d0_1 h_S_) main_v36 main_c_13
  let main_v38 : IVec S_ 1 := andi main_v33 main_v37
  main_v38

def fn_part1 {F : FTy → Type} [FloatOps F] (main_arg4 : FVec F S32768x2048 .f32) (main_arg5 : FVec F S4x2048 .f32) (main_arg6 : FVec F S4x2048x512 .bf16) (main_arg7 : FVec F S4096x1024 .bf16) (main_v13 : IVec S_ 1) (main_v16 : IVec S4x2048x2048 1) : IVec S_ 1 :=
  let main_c_5 : IVec S_ 1 := constantI S_ 1 1#1
  let main_v17 : IVec S_ 1 := (fun x v => Host.reduce IntOp.andi x v reducesTo_S4x2048x2048_S_d0_1_2 h_S_) main_v16 main_c_5
  let main_v18 : IVec S_ 1 := andi main_v13 main_v17
  let main_v19 : FVec F S32768x2048 .f32 := Host.absf main_arg4
  let main_cst_6 : FVec F S_ .f32 := constant S_ .f32 0x7F800000#32
  let main_v20 : FVec F S32768x2048 .f32 := broadcastInDim S32768x2048 ![] bcast_S_S32768x2048 main_cst_6
  let main_v21 : IVec S32768x2048 1 := cmpf .olt main_v19 main_v20
  let main_c_7 : IVec S_ 1 := constantI S_ 1 1#1
  let main_v22 : IVec S_ 1 := (fun x v => Host.reduce IntOp.andi x v reducesTo_S32768x2048_S_d0_1 h_S_) main_v21 main_c_7
  let main_v23 : IVec S_ 1 := andi main_v18 main_v22
  let main_v24 : FVec F S4x2048 .f32 := Host.absf main_arg5
  let main_cst_8 : FVec F S_ .f32 := constant S_ .f32 0x7F800000#32
  let main_v25 : FVec F S4x2048 .f32 := broadcastInDim S4x2048 ![] bcast_S_S4x2048 main_cst_8
  let main_v26 : IVec S4x2048 1 := cmpf .olt main_v24 main_v25
  let main_c_9 : IVec S_ 1 := constantI S_ 1 1#1
  let main_v27 : IVec S_ 1 := (fun x v => Host.reduce IntOp.andi x v reducesTo_S4x2048_S_d0_1 h_S_) main_v26 main_c_9
  let main_v28 : IVec S_ 1 := andi main_v23 main_v27
  let main_v29 : FVec F S4x2048x512 .bf16 := Host.absf main_arg6
  let main_cst_10 : FVec F S_ .bf16 := constant S_ .bf16 0x7F80#16
  let main_v30 : FVec F S4x2048x512 .bf16 := broadcastInDim S4x2048x512 ![] bcast_S_S4x2048x512 main_cst_10
  let main_v31 : IVec S4x2048x512 1 := cmpf .olt main_v29 main_v30
  let main_c_11 : IVec S_ 1 := constantI S_ 1 1#1
  let main_v32 : IVec S_ 1 := (fun x v => Host.reduce IntOp.andi x v reducesTo_S4x2048x512_S_d0_1_2 h_S_) main_v31 main_c_11
  let main_v33 : IVec S_ 1 := andi main_v28 main_v32
  fn_part2 (F := F) main_arg7 main_v33

def fn {F : FTy → Type} [FloatOps F] (main_arg0 : FVec F S32768x512 .bf16) (main_arg1 : FVec F S32768x1024 .bf16) (main_arg2 : FVec F S32768x512 .bf16) (main_arg3 : FVec F S4x2048x2048 .f32) (main_arg4 : FVec F S32768x2048 .f32) (main_arg5 : FVec F S4x2048 .f32) (main_arg6 : FVec F S4x2048x512 .bf16) (main_arg7 : FVec F S4096x1024 .bf16) (main_arg8 : FVec F S4x512x2048 .f32) (main_arg9 : FVec F S4x2048 .f32) : IVec S_ 1 :=
  let main_v0 : FVec F S32768x512 .bf16 := Host.absf main_arg0
  let main_cst : FVec F S_ .bf16 := constant S_ .bf16 0x7F80#16
  let main_v1 : FVec F S32768x512 .bf16 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x1024 .bf16 := Host.absf main_arg1
  let main_cst_0 : FVec F S_ .bf16 := constant S_ .bf16 0x7F80#16
  let main_v5 : FVec F S32768x1024 .bf16 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S32768x512 .bf16 := Host.absf main_arg2
  let main_cst_2 : FVec F S_ .bf16 := constant S_ .bf16 0x7F80#16
  let main_v10 : FVec F S32768x512 .bf16 := broadcastInDim S32768x512 ![] bcast_S_S32768x512 main_cst_2
  let main_v11 : IVec S32768x512 1 := cmpf .olt main_v9 main_v10
  let main_c_3 : IVec S_ 1 := constantI S_ 1 1#1
  let main_v12 : IVec S_ 1 := (fun x v => Host.reduce IntOp.andi x v reducesTo_S32768x512_S_d0_1 h_S_) main_v11 main_c_3
  let main_v13 : IVec S_ 1 := andi main_v8 main_v12
  let main_v14 : FVec F S4x2048x2048 .f32 := Host.absf main_arg3
  let main_cst_4 : FVec F S_ .f32 := constant S_ .f32 0x7F800000#32
  let main_v15 : FVec F S4x2048x2048 .f32 := broadcastInDim S4x2048x2048 ![] bcast_S_S4x2048x2048 main_cst_4
  let main_v16 : IVec S4x2048x2048 1 := cmpf .olt main_v14 main_v15
  fn_part1 (F := F) main_arg4 main_arg5 main_arg6 main_arg7 main_v13 main_v16
-- ==== Gla.lean ====
abbrev S32768x4608 : Shape := ⟨2, ![32768, 4608]⟩
abbrev S4x16x256 : Shape := ⟨3, ![4, 16, 256]⟩
abbrev S4x256 : Shape := ⟨2, ![4, 256]⟩
abbrev S4x128 : Shape := ⟨2, ![4, 128]⟩
abbrev S_ : Shape := ⟨0, ![]⟩
abbrev S128x256 : Shape := ⟨2, ![128, 256]⟩
abbrev S1x16x256 : Shape := ⟨3, ![1, 16, 256]⟩
abbrev S16x256 : Shape := ⟨2, ![16, 256]⟩
abbrev S1 : Shape := ⟨1, ![1]⟩
abbrev S1x256 : Shape := ⟨2, ![1, 256]⟩
abbrev S256 : Shape := ⟨1, ![256]⟩
abbrev S1x128 : Shape := ⟨2, ![1, 128]⟩
abbrev S128 : Shape := ⟨1, ![128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1024x512 : Shape := ⟨2, ![1024, 512]⟩
abbrev S32768x512 : Shape := ⟨2, ![32768, 512]⟩
abbrev S128x128 : Shape := ⟨2, ![128, 128]⟩
abbrev S512x128 : Shape := ⟨2, ![512, 128]⟩
abbrev S512x256 : Shape := ⟨2, ![512, 256]⟩
abbrev S256x128 : Shape := ⟨2, ![256, 128]⟩
abbrev S1024x256 : Shape := ⟨2, ![1024, 256]⟩
abbrev S64x128 : Shape := ⟨2, ![64, 128]⟩
abbrev S64x256 : Shape := ⟨2, ![64, 256]⟩

abbrev nBuf : Space → Nat
  | .hbm => 39
  | .vmem => 19
  | .smem => 0
  | _ => 0

abbrev bufTy : (tb : Table) → Fin (tcTables nBuf tb) → BufTy
  | .hbm, ⟨0, _⟩ => ⟨S32768x4608, .bf16⟩
  | .hbm, ⟨1, _⟩ => ⟨S4x16x256, .f32⟩
  | .hbm, ⟨2, _⟩ => ⟨S4x256, .f32⟩
  | .hbm, ⟨3, _⟩ => ⟨S4x128, .f32⟩
  | .hbm, ⟨4, _⟩ => ⟨S_, .f32⟩
  | .hbm, ⟨5, _⟩ => ⟨S128x256, .f32⟩
  | .hbm, ⟨6, _⟩ => ⟨S1x16x256, .f32⟩
  | .hbm, ⟨7, _⟩ => ⟨S16x256, .f32⟩
  | .hbm, ⟨8, _⟩ => ⟨S_, .i32⟩
  | .hbm, ⟨9, _⟩ => ⟨S1, .i32⟩
  | .hbm, ⟨10, _⟩ => ⟨S128x256, .f32⟩
  | .hbm, ⟨11, _⟩ => ⟨S128x256, .bf16⟩
  | .hbm, ⟨12, _⟩ => ⟨S1x256, .f32⟩
  | .hbm, ⟨13, _⟩ => ⟨S256, .f32⟩
  | .hbm, ⟨14, _⟩ => ⟨S1x128, .f32⟩
  | .hbm, ⟨15, _⟩ => ⟨S128, .f32⟩
  | .hbm, ⟨16, _⟩ => ⟨S512, .i32⟩
  | .hbm, ⟨17, _⟩ => ⟨S512x1, .i32⟩
  | .hbm, ⟨18, _⟩ => ⟨S512, .i32⟩
  | .hbm, ⟨19, _⟩ => ⟨S1x512, .i32⟩
  | .hbm, ⟨20, _⟩ => ⟨S_, .i32⟩
  | .hbm, ⟨21, _⟩ => ⟨S512x1, .i32⟩
  | .hbm, ⟨22, _⟩ => ⟨S512x1, .i32⟩
  | .hbm, ⟨23, _⟩ => ⟨S_, .i32⟩
  | .hbm, ⟨24, _⟩ => ⟨S1x512, .i32⟩
  | .hbm, ⟨25, _⟩ => ⟨S1x512, .i32⟩
  | .hbm, ⟨26, _⟩ => ⟨S512x512, .i32⟩
  | .hbm, ⟨27, _⟩ => ⟨S512x512, .i32⟩
  | .hbm, ⟨28, _⟩ => ⟨S512x512, .i1⟩
  | .hbm, ⟨29, _⟩ => ⟨S512x512, .i32⟩
  | .hbm, ⟨30, _⟩ => ⟨S512x512, .i32⟩
  | .hbm, ⟨31, _⟩ => ⟨S512x512, .i1⟩
  | .hbm, ⟨32, _⟩ => ⟨S512x512, .i1⟩
  | .hbm, ⟨33, _⟩ => ⟨S1024x512, .i1⟩
  | .hbm, ⟨34, _⟩ => ⟨S1024x512, .f32⟩
  | .hbm, ⟨35, _⟩ => ⟨S1024x512, .bf16⟩
  | .hbm, ⟨36, _⟩ => ⟨S1x256, .f32⟩
  | .hbm, ⟨37, _⟩ => ⟨S1x128, .f32⟩
  | .hbm, ⟨38, _⟩ => ⟨S32768x512, .bf16⟩
  | .local _ .vmem, ⟨0, _⟩ => ⟨S1024x512, .bf16⟩
  | .local _ .vmem, ⟨1, _⟩ => ⟨S128x128, .bf16⟩
  | .local _ .vmem, ⟨2, _⟩ => ⟨S128x128, .bf16⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x128, .bf16⟩
  | .local _ .vmem, ⟨15, _⟩ => ⟨S512x128, .bf16⟩
  | .local _ .vmem, ⟨16, _⟩ => ⟨S512x256, .bf16⟩
  | .local _ .vmem, ⟨17, _⟩ => ⟨S512x256, .bf16⟩
  | .local _ .vmem, ⟨18, _⟩ => ⟨S256x128, .f32⟩
  | _, _ => ⟨S32768x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![16, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c22_i32 : BitVec 32 := 22#32
  let v2 : BitVec 32 := Scalar.addi c22_i32 arg1
  let c0_i32 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c13_i32 : BitVec 32 := 13#32
  let v2 : BitVec 32 := Scalar.addi c13_i32 arg1
  let c0_i32 : BitVec 32 := 0#32
  ![v1.toNat, v2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c15_i32 : BitVec 32 := 15#32
  let v2 : BitVec 32 := Scalar.addi c15_i32 arg1
  let c0_i32 : BitVec 32 := 0#32
  ![v1.toNat, v2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c34_i32 : BitVec 32 := 34#32
  let c0_i32 : BitVec 32 := 0#32
  ![v1.toNat, c34_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== GlaRefIdeal.lean ====
abbrev S32768x4608 : Shape := ⟨2, ![32768, 4608]⟩
abbrev S4x16x256 : Shape := ⟨3, ![4, 16, 256]⟩
abbrev S4x256 : Shape := ⟨2, ![4, 256]⟩
abbrev S4x128 : Shape := ⟨2, ![4, 128]⟩
abbrev S16x2048x4608 : Shape := ⟨3, ![16, 2048, 4608]⟩
abbrev S16x2048x256 : Shape := ⟨3, ![16, 2048, 256]⟩
abbrev S16x2048x512 : Shape := ⟨3, ![16, 2048, 512]⟩
abbrev S16x2048x16 : Shape := ⟨3, ![16, 2048, 16]⟩
abbrev S1x16x256 : Shape := ⟨3, ![1, 16, 256]⟩
abbrev S16x256 : Shape := ⟨2, ![16, 256]⟩
abbrev S1x256 : Shape := ⟨2, ![1, 256]⟩
abbrev S256 : Shape := ⟨1, ![256]⟩
abbrev S1x1x256 : Shape := ⟨3, ![1, 1, 256]⟩
abbrev S_ : Shape := ⟨0, ![]⟩
abbrev S16x2048x4x64 : Shape := ⟨4, ![16, 2048, 4, 64]⟩
abbrev S16x2048x4x128 : Shape := ⟨4, ![16, 2048, 4, 128]⟩
abbrev S16x32x64x4x64 : Shape := ⟨5, ![16, 32, 64, 4, 64]⟩
abbrev S16x32x64x4x128 : Shape := ⟨5, ![16, 32, 64, 4, 128]⟩
abbrev S16x32x1x4x64 : Shape := ⟨5, ![16, 32, 1, 4, 64]⟩
abbrev S64x64 : Shape := ⟨2, ![64, 64]⟩
abbrev S16x32x4x64x64 : Shape := ⟨5, ![16, 32, 4, 64, 64]⟩
abbrev S16x32x4x128x64 : Shape := ⟨5, ![16, 32, 4, 128, 64]⟩
abbrev S16x32x4x64x128 : Shape := ⟨5, ![16, 32, 4, 64, 128]⟩
abbrev S16x32x4x64 : Shape := ⟨4, ![16, 32, 4, 64]⟩
abbrev S16x4x64x128 : Shape := ⟨4, ![16, 4, 64, 128]⟩
abbrev S32x16x4x64x128 : Shape := ⟨5, ![32, 16, 4, 64, 128]⟩
abbrev S32x16x4x64 : Shape := ⟨4, ![32, 16, 4, 64]⟩
abbrev S1x16x4x64x128 : Shape := ⟨5, ![1, 16, 4, 64, 128]⟩
abbrev S1x16x4x64 : Shape := ⟨4, ![1, 16, 4, 64]⟩
abbrev S16x4x64 : Shape := ⟨3, ![16, 4, 64]⟩
abbrev S16x4x64x1 : Shape := ⟨4, ![16, 4, 64, 1]⟩
abbrev S1x128 : Shape := ⟨2, ![1, 128]⟩
abbrev S128 : Shape := ⟨1, ![128]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩
abbrev S32768x512 : Shape := ⟨2, ![32768, 512]⟩

abbrev nBuf : Space → Nat
  | .hbm => 154
  | .vmem => 0
  | .smem => 0
  | _ => 0

abbrev hbmTy0_0 (i : Nat) : BufTy := match i % 128 with
  | 0 => ⟨S32768x4608, .bf16⟩
  | 1 => ⟨S4x16x256, .f32⟩
  | 2 => ⟨S4x256, .f32⟩
  | 3 => ⟨S4x128, .f32⟩
  | 4 => ⟨S32768x4608, .f32⟩
  | 5 => ⟨S16x2048x4608, .f32⟩
  | 6 => ⟨S16x2048x256, .f32⟩
  | 7 => ⟨S16x2048x256, .f32⟩
  | 8 => ⟨S16x2048x512, .f32⟩
  | 9 => ⟨S16x2048x512, .f32⟩
  | 10 => ⟨S16x2048x16, .f32⟩
  | 11 => ⟨S1x16x256, .f32⟩
  | 12 => ⟨S16x256, .f32⟩
  | 13 => ⟨S16x2048x256, .f32⟩
  | 14 => ⟨S1x256, .f32⟩
  | 15 => ⟨S256, .f32⟩
  | 16 => ⟨S1x1x256, .f32⟩
  | 17 => ⟨S16x2048x256, .f32⟩
  | 18 => ⟨S16x2048x256, .f32⟩
  | 19 => ⟨S16x2048x256, .f32⟩
  | 20 => ⟨S_, .f32⟩
  | 21 => ⟨S16x2048x256, .f32⟩
  | 22 => ⟨S16x2048x256, .f32⟩
  | 23 => ⟨S16x2048x256, .f32⟩
  | 24 => ⟨S16x2048x256, .f32⟩
  | 25 => ⟨S16x2048x256, .i1⟩
  | 26 => ⟨S16x2048x256, .f32⟩
  | 27 => ⟨S16x2048x256, .f32⟩
  | 28 => ⟨S16x2048x256, .f32⟩
  | 29 => ⟨S16x2048x256, .f32⟩
  | 30 => ⟨S16x2048x256, .f32⟩
  | 31 => ⟨S16x2048x256, .f32⟩
  | 32 => ⟨S16x2048x256, .f32⟩
  | 33 => ⟨S16x2048x256, .f32⟩
  | 34 => ⟨S16x2048x256, .f32⟩
  | 35 => ⟨S_, .f32⟩
  | 36 => ⟨S16x2048x256, .f32⟩
  | 37 => ⟨S16x2048x256, .f32⟩
  | 38 => ⟨S16x2048x4x64, .f32⟩
  | 39 => ⟨S16x2048x4x64, .f32⟩
  | 40 => ⟨S16x2048x4x64, .f32⟩
  | 41 => ⟨S16x2048x4x128, .f32⟩
  | 42 => ⟨S16x32x64x4x64, .f32⟩
  | 43 => ⟨S16x32x64x4x64, .f32⟩
  | 44 => ⟨S16x32x64x4x128, .f32⟩
  | 45 => ⟨S16x32x64x4x64, .f32⟩
  | 46 => ⟨S_, .f32⟩
  | 47 => ⟨S_, .f32⟩
  | 48 => ⟨S16x32x64x4x64, .f32⟩
  | 49 => ⟨S16x32x1x4x64, .f32⟩
  | 50 => ⟨S16x32x64x4x64, .f32⟩
  | 51 => ⟨S16x32x64x4x64, .f32⟩
  | 52 => ⟨S16x32x64x4x64, .f32⟩
  | 53 => ⟨S16x32x64x4x64, .f32⟩
  | 54 => ⟨S16x32x64x4x64, .f32⟩
  | 55 => ⟨S16x32x64x4x64, .f32⟩
  | 56 => ⟨S16x32x64x4x64, .f32⟩
  | 57 => ⟨S16x32x64x4x64, .f32⟩
  | 58 => ⟨S16x32x64x4x64, .f32⟩
  | 59 => ⟨S_, .i1⟩
  | 60 => ⟨S64x64, .i1⟩
  | 61 => ⟨S64x64, .i32⟩
  | 62 => ⟨S_, .i32⟩
  | 63 => ⟨S64x64, .i32⟩
  | 64 => ⟨S64x64, .i32⟩
  | 65 => ⟨S64x64, .i32⟩
  | 66 => ⟨S64x64, .i1⟩
  | 67 => ⟨S_, .i1⟩
  | 68 => ⟨S64x64, .i1⟩
  | 69 => ⟨S64x64, .i1⟩
  | 70 => ⟨S16x32x4x64x64, .f32⟩
  | 71 => ⟨S_, .f32⟩
  | 72 => ⟨S_, .f32⟩
  | 73 => ⟨S16x32x4x64x64, .i1⟩
  | 74 => ⟨S16x32x4x64x64, .f32⟩
  | 75 => ⟨S16x32x4x64x64, .f32⟩
  | 76 => ⟨S16x32x4x128x64, .f32⟩
  | 77 => ⟨S16x32x64x4x128, .f32⟩
  | 78 => ⟨S16x32x4x64x128, .f32⟩
  | 79 => ⟨S16x32x4x64, .f32⟩
  | 80 => ⟨S16x32x4x64, .f32⟩
  | 81 => ⟨S_, .f32⟩
  | 82 => ⟨S16x4x64x128, .f32⟩
  | 83 => ⟨S32x16x4x64x128, .f32⟩
  | 84 => ⟨S32x16x4x64, .f32⟩
  | 85 => ⟨S_, .f32⟩
  | 86 => ⟨S32x16x4x64x128, .f32⟩
  | 87 => ⟨S_, .i32⟩
  | 88 => ⟨S32x16x4x64x128, .f32⟩
  | 89 => ⟨S32x16x4x64, .f32⟩
  | 90 => ⟨S_, .i32⟩
  | 91 => ⟨S16x4x64x128, .f32⟩
  | 92 => ⟨S32x16x4x64x128, .f32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S1x16x4x64x128, .f32⟩
  | 100 => ⟨S16x4x64x128, .f32⟩
  | 101 => ⟨S_, .i32⟩
  | 102 => ⟨S_, .i32⟩
  | 103 => ⟨S_, .i32⟩
  | 104 => ⟨S1x16x4x64, .f32⟩
  | 105 => ⟨S16x4x64, .f32⟩
  | 106 => ⟨S16x4x64x1, .f32⟩
  | 107 => ⟨S16x4x64x128, .f32⟩
  | 108 => ⟨S16x4x64x128, .f32⟩
  | 109 => ⟨S16x4x64x128, .f32⟩
  | 110 => ⟨S1x16x4x64x128, .f32⟩
  | 111 => ⟨S_, .i32⟩
  | 112 => ⟨S_, .i32⟩
  | 113 => ⟨S_, .i32⟩
  | 114 => ⟨S_, .i32⟩
  | 115 => ⟨S32x16x4x64x128, .f32⟩
  | 116 => ⟨S_, .i32⟩
  | 117 => ⟨S_, .i32⟩
  | 118 => ⟨S16x32x4x64x128, .f32⟩
  | 119 => ⟨S16x32x4x128x64, .f32⟩
  | 120 => ⟨S16x32x64x4x128, .f32⟩
  | 121 => ⟨S16x32x64x4x128, .f32⟩
  | 122 => ⟨S16x2048x4x128, .f32⟩
  | 123 => ⟨S1x128, .f32⟩
  | 124 => ⟨S128, .f32⟩
  | 125 => ⟨S16x2048x4x128, .f32⟩
  | 126 => ⟨S_, .f32⟩
  | 127 => ⟨S16x2048x4, .f32⟩
  | _ => ⟨S32768x4608, .bf16⟩

abbrev hbmTy0_1 (i : Nat) : BufTy := match i % 128 with
  | 0 => ⟨S16x2048x4x1, .f32⟩
  | 1 => ⟨S_, .f32⟩
  | 2 => ⟨S16x2048x4x1, .f32⟩
  | 3 => ⟨S16x2048x4x1, .f32⟩
  | 4 => ⟨S_, .f32⟩
  | 5 => ⟨S16x2048x4x1, .f32⟩
  | 6 => ⟨S16x2048x4x1, .f32⟩
  | 7 => ⟨S16x2048x4x1, .f32⟩
  | 8 => ⟨S16x2048x4x128, .f32⟩
  | 9 => ⟨S16x2048x4x128, .f32⟩
  | 10 => ⟨S1x1x1x128, .f32⟩
  | 11 => ⟨S16x2048x4x128, .f32⟩
  | 12 => ⟨S16x2048x4x128, .f32⟩
  | 13 => ⟨S16x2048x512, .f32⟩
  | 14 => ⟨S16x2048x512, .f32⟩
  | 15 => ⟨S16x2048x512, .f32⟩
  | 16 => ⟨S_, .f32⟩
  | 17 => ⟨S16x2048x512, .f32⟩
  | 18 => ⟨S16x2048x512, .f32⟩
  | 19 => ⟨S_, .f32⟩
  | 20 => ⟨S16x2048x512, .f32⟩
  | 21 => ⟨S16x2048x512, .f32⟩
  | 22 => ⟨S16x2048x512, .f32⟩
  | 23 => ⟨S16x2048x512, .f32⟩
  | 24 => ⟨S32768x512, .f32⟩
  | 25 => ⟨S32768x512, .bf16⟩
  | _ => ⟨S32768x4608, .bf16⟩

abbrev hbmTy (i : Nat) : BufTy := match i / 128 with
  | 0 => hbmTy0_0 i
  | 1 => hbmTy0_1 i
  | _ => ⟨S32768x4608, .bf16⟩

abbrev bufTy : (tb : Table) → Fin (tcTables nBuf tb) → BufTy
  | .hbm, ⟨i, _⟩ => hbmTy i
  | _, _ => ⟨S32768x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call1_call0_cst : Ref sig .tc := ⟨.hbm, 46, rfl⟩
abbrev main_call1_call0_v0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c : Ref sig .tc := ⟨.hbm, 59, rfl⟩
abbrev main_v37 : Ref sig .tc := ⟨.hbm, 60, rfl⟩
abbrev main_call2_v0 : Ref sig .tc := ⟨.hbm, 61, rfl⟩
abbrev main_call2_c : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_0 : Ref sig .tc := ⟨.hbm, 67, rfl⟩
abbrev main_call2_v5 : Ref sig .tc := ⟨.hbm, 68, rfl⟩
abbrev main_v38 : Ref sig .tc := ⟨.hbm, 69, rfl⟩
abbrev main_v39 : Ref sig .tc := ⟨.hbm, 70, rfl⟩
abbrev main_cst_0 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_1 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_2 : Ref sig .tc := ⟨.hbm, 85, rfl⟩
abbrev main_v49 : Ref sig .tc := ⟨.hbm, 86, rfl⟩
abbrev main_c_3 : Ref sig .tc := ⟨.hbm, 87, rfl⟩
abbrev main_v50_0 : Ref sig .tc := ⟨.hbm, 88, rfl⟩
abbrev main_v50_1 : Ref sig .tc := ⟨.hbm, 89, rfl⟩
abbrev main_v50_2 : Ref sig .tc := ⟨.hbm, 90, rfl⟩
abbrev main_v50_3 : Ref sig .tc := ⟨.hbm, 91, rfl⟩
abbrev main_v50_4 : Ref sig .tc := ⟨.hbm, 92, rfl⟩
abbrev main_while0c_c_11 : Ref sig .tc := ⟨.hbm, 93, rfl⟩
abbrev main_while0c_v76 : Ref sig .tc := ⟨.hbm, 94, rfl⟩
abbrev main_while0b_call4_c : Ref sig .tc := ⟨.hbm, 95, rfl⟩
abbrev main_while0b_call4_c_0 : Ref sig .tc := ⟨.hbm, 96, rfl⟩
abbrev main_while0b_call4_c_1 : Ref sig .tc := ⟨.hbm, 97, rfl⟩
abbrev main_while0b_call4_c_2 : Ref sig .tc := ⟨.hbm, 98, rfl⟩
abbrev main_while0b_call4_v0 : Ref sig .tc := ⟨.hbm, 99, rfl⟩
abbrev main_while0b_v76 : Ref sig .tc := ⟨.hbm, 100, rfl⟩
abbrev main_while0b_call5_c : Ref sig .tc := ⟨.hbm, 101, rfl⟩
abbrev main_while0b_call5_c_0 : Ref sig .tc := ⟨.hbm, 102, rfl⟩
abbrev main_while0b_call5_c_1 : Ref sig .tc := ⟨.hbm, 103, rfl⟩
abbrev main_while0b_call5_v0 : Ref sig .tc := ⟨.hbm, 104, rfl⟩
abbrev main_while0b_v77 : Ref sig .tc := ⟨.hbm, 105, rfl⟩
abbrev main_while0b_v78 : Ref sig .tc := ⟨.hbm, 106, rfl⟩
abbrev main_while0b_v79 : Ref sig .tc := ⟨.hbm, 107, rfl⟩
abbrev main_while0b_v80 : Ref sig .tc := ⟨.hbm, 108, rfl⟩
abbrev main_while0b_v81 : Ref sig .tc := ⟨.hbm, 109, rfl⟩
abbrev main_while0b_call6_v0 : Ref sig .tc := ⟨.hbm, 110, rfl⟩
abbrev main_while0b_call6_c : Ref sig .tc := ⟨.hbm, 111, rfl⟩
abbrev main_while0b_call6_c_0 : Ref sig .tc := ⟨.hbm, 112, rfl⟩
abbrev main_while0b_call6_c_1 : Ref sig .tc := ⟨.hbm, 113, rfl⟩
abbrev main_while0b_call6_c_2 : Ref sig .tc := ⟨.hbm, 114, rfl⟩
abbrev main_while0b_v82 : Ref sig .tc := ⟨.hbm, 115, rfl⟩
abbrev main_while0b_c_11 : Ref sig .tc := ⟨.hbm, 116, rfl⟩
abbrev main_while0b_v83 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_cst_4 : Ref sig .tc := ⟨.hbm, 126, rfl⟩
abbrev main_v59 : Ref sig .tc := ⟨.hbm, 127, rfl⟩
abbrev main_v60 : Ref sig .tc := ⟨.hbm, 128, rfl⟩
abbrev main_cst_5 : Ref sig .tc := ⟨.hbm, 129, rfl⟩
abbrev main_v61 : Ref sig .tc := ⟨.hbm, 130, rfl⟩
abbrev main_v62 : Ref sig .tc := ⟨.hbm, 131, rfl⟩
abbrev main_cst_6 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_call7_v0 : Ref sig .tc := ⟨.hbm, 142, rfl⟩
abbrev main_call7_v1 : Ref sig .tc := ⟨.hbm, 143, rfl⟩
abbrev main_call7_cst : Ref sig .tc := ⟨.hbm, 144, rfl⟩
abbrev main_call7_v2 : Ref sig .tc := ⟨.hbm, 145, rfl⟩
abbrev main_call7_v3 : Ref sig .tc := ⟨.hbm, 146, rfl⟩
abbrev main_call7_cst_0 : Ref sig .tc := ⟨.hbm, 147, rfl⟩
abbrev main_call7_v4 : Ref sig .tc := ⟨.hbm, 148, rfl⟩
abbrev main_call7_v5 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩

abbrev nD : Nat := 1
abbrev τ : Topo := Topo.v7x

variable {F : FTy → Type} [FloatOps F]

abbrev main_while0_count : Scf.Loop 32 := ⟨0#32, 32#32, 1#32⟩
-- ==== Mix.lean ====
abbrev S32768x512 : Shape := ⟨2, ![32768, 512]⟩
abbrev S32768x1024 : Shape := ⟨2, ![32768, 1024]⟩
abbrev S4x2048x2048 : Shape := ⟨3, ![4, 2048, 2048]⟩
abbrev S32768x2048 : Shape := ⟨2, ![32768, 2048]⟩
abbrev S4x2048 : Shape := ⟨2, ![4, 2048]⟩
abbrev S4x2048x512 : Shape := ⟨3, ![4, 2048, 512]⟩
abbrev S4096x1024 : Shape := ⟨2, ![4096, 1024]⟩
abbrev S4x512x2048 : Shape := ⟨3, ![4, 512, 2048]⟩
abbrev S1x2048 : Shape := ⟨2, ![1, 2048]⟩
abbrev S2048 : Shape := ⟨1, ![2048]⟩
abbrev S512x512 : Shape := ⟨2, ![512, 512]⟩
abbrev S512x1024 : Shape := ⟨2, ![512, 1024]⟩
abbrev S1x2048x2048 : Shape := ⟨3, ![1, 2048, 2048]⟩
abbrev S512x2048 : Shape := ⟨2, ![512, 2048]⟩
abbrev S1x2048x512 : Shape := ⟨3, ![1, 2048, 512]⟩
abbrev S256x1024 : Shape := ⟨2, ![256, 1024]⟩
abbrev S1x512x2048 : Shape := ⟨3, ![1, 512, 2048]⟩
abbrev S1x1024x2048 : Shape := ⟨3, ![1, 1024, 2048]⟩
abbrev S1024x2048 : Shape := ⟨2, ![1024, 2048]⟩
abbrev S512 : Shape := ⟨1, ![512]⟩
abbrev S512x1 : Shape := ⟨2, ![512, 1]⟩
abbrev S2048x512 : Shape := ⟨2, ![2048, 512]⟩
abbrev S256x128 : Shape := ⟨2, ![256, 128]⟩
abbrev S512x128 : Shape := ⟨2, ![512, 128]⟩
abbrev S512x256 : Shape := ⟨2, ![512, 256]⟩

abbrev nBuf : Space → Nat
  | .hbm => 20
  | .vmem => 19
  | .smem => 0
  | _ => 0

abbrev bufTy : (tb : Table) → Fin (tcTables nBuf tb) → BufTy
  | .hbm, ⟨0, _⟩ => ⟨S32768x512, .bf16⟩
  | .hbm, ⟨1, _⟩ => ⟨S32768x1024, .bf16⟩
  | .hbm, ⟨2, _⟩ => ⟨S32768x512, .bf16⟩
  | .hbm, ⟨3, _⟩ => ⟨S4x2048x2048, .f32⟩
  | .hbm, ⟨4, _⟩ => ⟨S32768x2048, .f32⟩
  | .hbm, ⟨5, _⟩ => ⟨S4x2048, .f32⟩
  | .hbm, ⟨6, _⟩ => ⟨S4x2048x512, .bf16⟩
  | .hbm, ⟨7, _⟩ => ⟨S4096x1024, .bf16⟩
  | .hbm, ⟨8, _⟩ => ⟨S4x512x2048, .f32⟩
  | .hbm, ⟨9, _⟩ => ⟨S4x2048, .f32⟩
  | .hbm, ⟨10, _⟩ => ⟨S4x2048x2048, .bf16⟩
  | .hbm, ⟨11, _⟩ => ⟨S1x2048, .f32⟩
  | .hbm, ⟨12, _⟩ => ⟨S2048, .f32⟩
  | .hbm, ⟨13, _⟩ => ⟨S4x512x2048, .bf16⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S1x2048, .f32⟩
  | .hbm, ⟨18, _⟩ => ⟨S32768x2048, .f32⟩
  | .hbm, ⟨19, _⟩ => ⟨S32768x2048, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S1x2048x2048, .bf16⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | .local _ .vmem, ⟨10, _⟩ => ⟨S1x2048x512, .bf16⟩
  | .local _ .vmem, ⟨11, _⟩ => ⟨S256x1024, .bf16⟩
  | .local _ .vmem, ⟨12, _⟩ => ⟨S256x1024, .bf16⟩
  | .local _ .vmem, ⟨13, _⟩ => ⟨S1x512x2048, .bf16⟩
  | .local _ .vmem, ⟨14, _⟩ => ⟨S1x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | .local _ .vmem, ⟨18, _⟩ => ⟨S512x2048, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MixRefIdeal.lean ====
abbrev S32768x512 : Shape := ⟨2, ![32768, 512]⟩
abbrev S32768x1024 : Shape := ⟨2, ![32768, 1024]⟩
abbrev S4x2048x2048 : Shape := ⟨3, ![4, 2048, 2048]⟩
abbrev S32768x2048 : Shape := ⟨2, ![32768, 2048]⟩
abbrev S4x2048 : Shape := ⟨2, ![4, 2048]⟩
abbrev S4x2048x512 : Shape := ⟨3, ![4, 2048, 512]⟩
abbrev S4096x1024 : Shape := ⟨2, ![4096, 1024]⟩
abbrev S4x512x2048 : Shape := ⟨3, ![4, 512, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048x512 : Shape := ⟨3, ![1, 2048, 512]⟩
abbrev S2048x512 : Shape := ⟨2, ![2048, 512]⟩
abbrev S16x2048x4x128 : Shape := ⟨4, ![16, 2048, 4, 128]⟩
abbrev S16x256x1024 : Shape := ⟨3, ![16, 256, 1024]⟩
abbrev S16x256x512 : Shape := ⟨3, ![16, 256, 512]⟩
abbrev S16x256x4x128 : Shape := ⟨4, ![16, 256, 4, 128]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩
abbrev S1x512x2048 : Shape := ⟨3, ![1, 512, 2048]⟩
abbrev S512x2048 : Shape := ⟨2, ![512, 2048]⟩

abbrev nBuf : Space → Nat
  | .hbm => 85
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x1024, .bf16⟩
  | .hbm, ⟨2, _⟩ => ⟨S32768x512, .bf16⟩
  | .hbm, ⟨3, _⟩ => ⟨S4x2048x2048, .f32⟩
  | .hbm, ⟨4, _⟩ => ⟨S32768x2048, .f32⟩
  | .hbm, ⟨5, _⟩ => ⟨S4x2048, .f32⟩
  | .hbm, ⟨6, _⟩ => ⟨S4x2048x512, .bf16⟩
  | .hbm, ⟨7, _⟩ => ⟨S4096x1024, .bf16⟩
  | .hbm, ⟨8, _⟩ => ⟨S4x512x2048, .f32⟩
  | .hbm, ⟨9, _⟩ => ⟨S4x2048, .f32⟩
  | .hbm, ⟨10, _⟩ => ⟨S32768x2048, .bf16⟩
  | .hbm, ⟨11, _⟩ => ⟨S32768x2048, .f32⟩
  | .hbm, ⟨12, _⟩ => ⟨S1x2048x2048, .f32⟩
  | .hbm, ⟨13, _⟩ => ⟨S2048x2048, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S2048, .f32⟩
  | .hbm, ⟨18, _⟩ => ⟨S32768x2048, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x1, .f32⟩
  | .hbm, ⟨29, _⟩ => ⟨S32768x2048, .f32⟩
  | .hbm, ⟨30, _⟩ => ⟨S32768x2048, .f32⟩
  | .hbm, ⟨31, _⟩ => ⟨S1x2048, .f32⟩
  | .hbm, ⟨32, _⟩ => ⟨S32768x2048, .f32⟩
  | .hbm, ⟨33, _⟩ => ⟨S32768x2048, .f32⟩
  | .hbm, ⟨34, _⟩ => ⟨S1x2048x512, .bf16⟩
  | .hbm, ⟨35, _⟩ => ⟨S2048x512, .bf16⟩
  | .hbm, ⟨36, _⟩ => ⟨S2048x512, .f32⟩
  | .hbm, ⟨37, _⟩ => ⟨S32768x512, .f32⟩
  | .hbm, ⟨38, _⟩ => ⟨S16x2048x4x128, .f32⟩
  | .hbm, ⟨39, _⟩ => ⟨S4096x1024, .f32⟩
  | .hbm, ⟨40, _⟩ => ⟨S16x256x1024, .f32⟩
  | .hbm, ⟨41, _⟩ => ⟨S16x256x512, .f32⟩
  | .hbm, ⟨42, _⟩ => ⟨S16x256x512, .f32⟩
  | .hbm, ⟨43, _⟩ => ⟨S16x256x4x128, .f32⟩
  | .hbm, ⟨44, _⟩ => ⟨S16x256x4x128, .f32⟩
  | .hbm, ⟨45, _⟩ => ⟨S16x4x2048x256, .f32⟩
  | .hbm, ⟨46, _⟩ => ⟨S_, .f32⟩
  | .hbm, ⟨47, _⟩ => ⟨S16x4x2048, .f32⟩
  | .hbm, ⟨48, _⟩ => ⟨S16x4x2048x1, .f32⟩
  | .hbm, ⟨49, _⟩ => ⟨S16x4x2048x256, .f32⟩
  | .hbm, ⟨50, _⟩ => ⟨S16x4x2048x256, .f32⟩
  | .hbm, ⟨51, _⟩ => ⟨S_, .f32⟩
  | .hbm, ⟨52, _⟩ => ⟨S16x4x2048x256, .f32⟩
  | .hbm, ⟨53, _⟩ => ⟨S16x4x2048x256, .f32⟩
  | .hbm, ⟨54, _⟩ => ⟨S_, .f32⟩
  | .hbm, ⟨55, _⟩ => ⟨S16x4x2048, .f32⟩
  | .hbm, ⟨56, _⟩ => ⟨S16x4x2048x1, .f32⟩
  | .hbm, ⟨57, _⟩ => ⟨S16x4x2048x256, .f32⟩
  | .hbm, ⟨58, _⟩ => ⟨S16x4x2048x256, .f32⟩
  | .hbm, ⟨59, _⟩ => ⟨S16x4x128x2048, .f32⟩
  | .hbm, ⟨60, _⟩ => ⟨S16x2048x4x128, .f32⟩
  | .hbm, ⟨61, _⟩ => ⟨S32768x512, .f32⟩
  | .hbm, ⟨62, _⟩ => ⟨S1x512x2048, .f32⟩
  | .hbm, ⟨63, _⟩ => ⟨S512x2048, .f32⟩
  | .hbm, ⟨64, _⟩ => ⟨S32768x2048, .f32⟩
  | .hbm, ⟨65, _⟩ => ⟨S32768x2048, .f32⟩
  | .hbm, ⟨66, _⟩ => ⟨S1x2048, .f32⟩
  | .hbm, ⟨67, _⟩ => ⟨S2048, .f32⟩
  | .hbm, ⟨68, _⟩ => ⟨S32768x2048, .f32⟩
  | .hbm, ⟨69, _⟩ => ⟨S_, .f32⟩
  | .hbm, ⟨70, _⟩ => ⟨S32768, .f32⟩
  | .hbm, ⟨71, _⟩ => ⟨S32768x1, .f32⟩
  | .hbm, ⟨72, _⟩ => ⟨S_, .f32⟩
  | .hbm, ⟨73, _⟩ => ⟨S32768x1, .f32⟩
  | .hbm, ⟨74, _⟩ => ⟨S32768x1, .f32⟩
  | .hbm, ⟨75, _⟩ => ⟨S_, .f32⟩
  | .hbm, ⟨76, _⟩ => ⟨S32768x1, .f32⟩
  | .hbm, ⟨77, _⟩ => ⟨S32768x1, .f32⟩
  | .hbm, ⟨78, _⟩ => ⟨S32768x1, .f32⟩
  | .hbm, ⟨79, _⟩ => ⟨S32768x2048, .f32⟩
  | .hbm, ⟨80, _⟩ => ⟨S32768x2048, .f32⟩
  | .hbm, ⟨81, _⟩ => ⟨S1x2048, .f32⟩
  | .hbm, ⟨82, _⟩ => ⟨S32768x2048, .f32⟩
  | .hbm, ⟨83, _⟩ => ⟨S32768x2048, .f32⟩
  | .hbm, ⟨84, _⟩ => ⟨S32768x2048, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_5 : Ref sig .tc := ⟨.hbm, 69, rfl⟩
abbrev main_v53 : Ref sig .tc := ⟨.hbm, 70, rfl⟩
abbrev main_v54 : Ref sig .tc := ⟨.hbm, 71, rfl⟩
abbrev main_cst_6 : Ref sig .tc := ⟨.hbm, 72, rfl⟩
abbrev main_v55 : Ref sig .tc := ⟨.hbm, 73, rfl⟩
abbrev main_v56 : Ref sig .tc := ⟨.hbm, 74, rfl⟩
abbrev main_cst_7 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== Up.lean ====
abbrev S32768x2048 : Shape := ⟨2, ![32768, 2048]⟩
abbrev S4x2048x11264 : Shape := ⟨3, ![4, 2048, 11264]⟩
abbrev S4x3x11264 : Shape := ⟨3, ![4, 3, 11264]⟩
abbrev S4x11264 : Shape := ⟨2, ![4, 11264]⟩
abbrev S4x1x11264 : Shape := ⟨3, ![4, 1, 11264]⟩
abbrev S32768x5632 : Shape := ⟨2, ![32768, 5632]⟩
abbrev S1024x2048 : Shape := ⟨2, ![1024, 2048]⟩
abbrev S16x2048 : Shape := ⟨2, ![16, 2048]⟩
abbrev S1x2048x512 : Shape := ⟨3, ![1, 2048, 512]⟩
abbrev S1x3x11264 : Shape := ⟨3, ![1, 3, 11264]⟩
abbrev S1x1x11264 : Shape := ⟨3, ![1, 1, 11264]⟩
abbrev S1024x5632 : Shape := ⟨2, ![1024, 5632]⟩
abbrev S1040x2048 : Shape := ⟨2, ![1040, 2048]⟩
abbrev S1040x256 : Shape := ⟨2, ![1040, 256]⟩
abbrev S1x2048x256 : Shape := ⟨3, ![1, 2048, 256]⟩
abbrev S2048x256 : Shape := ⟨2, ![2048, 256]⟩
abbrev S1x3x256 : Shape := ⟨3, ![1, 3, 256]⟩
abbrev S3x256 : Shape := ⟨2, ![3, 256]⟩
abbrev S1024x256 : Shape := ⟨2, ![1024, 256]⟩
abbrev S1x256 : Shape := ⟨2, ![1, 256]⟩
abbrev S1x1x256 : Shape := ⟨3, ![1, 1, 256]⟩

abbrev nBuf : Space → Nat
  | .hbm => 7
  | .vmem => 17
  | .smem => 0
  | _ => 0

abbrev bufTy : (tb : Table) → Fin (tcTables nBuf tb) → BufTy
  | .hbm, ⟨0, _⟩ => ⟨S32768x2048, .bf16⟩
  | .hbm, ⟨1, _⟩ => ⟨S4x2048x11264, .f32⟩
  | .hbm, ⟨2, _⟩ => ⟨S4x3x11264, .f32⟩
  | .hbm, ⟨3, _⟩ => ⟨S4x11264, .f32⟩
  | .hbm, ⟨4, _⟩ => ⟨S4x2048x11264, .bf16⟩
  | .hbm, ⟨5, _⟩ => ⟨S4x1x11264, .f32⟩
  | .hbm, ⟨6, _⟩ => ⟨S32768x5632, .bf16⟩
  | .local _ .vmem, ⟨0, _⟩ => ⟨S1024x2048, .bf16⟩
  | .local _ .vmem, ⟨1, _⟩ => ⟨S1024x2048, .bf16⟩
  | .local _ .vmem, ⟨2, _⟩ => ⟨S16x2048, .bf16⟩
  | .local _ .vmem, ⟨3, _⟩ => ⟨S16x2048, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x3x11264, .f32⟩
  | .local _ .vmem, ⟨9, _⟩ => ⟨S1x1x11264, .f32⟩
  | .local _ .vmem, ⟨10, _⟩ => ⟨S1024x5632, .bf16⟩
  | .local _ .vmem, ⟨11, _⟩ => ⟨S1024x5632, .bf16⟩
  | .local _ .vmem, ⟨12, _⟩ => ⟨S1040x2048, .bf16⟩
  | .local _ .vmem, ⟨13, _⟩ => ⟨S1040x256, .f32⟩
  | .local _ .vmem, ⟨14, _⟩ => ⟨S1040x256, .f32⟩
  | .local _ .vmem, ⟨15, _⟩ => ⟨S1040x256, .f32⟩
  | .local _ .vmem, ⟨16, _⟩ => ⟨S1040x256, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_mult1 (i : grid0.Coords) : BitVec 32 :=
  let arg1 : BitVec 32 := BitVec.ofNat 32 (i 1).val
  let c512_i32 : BitVec 32 := 512#32
  let v4 : BitVec 32 := Scalar.muli arg1 c512_i32
  let c256_i32 : BitVec 32 := 256#32
  let v17 : BitVec 32 := Scalar.subi v4 c256_i32
  let c0_i32_13 : BitVec 32 := 0#32
  let v18 : BitVec 32 := Scalar.maxsi v17 c0_i32_13
  v18
def k0_off1 (i : grid0.Coords) : Fin 3 → Nat :=
  let c0_16 : Index := 0#32
  let c0_17 : Index := 0#32
  let arg1 : BitVec 32 := BitVec.ofNat 32 (i 1).val
  let c512_i32 : BitVec 32 := 512#32
  let v4 : BitVec 32 := Scalar.muli arg1 c512_i32
  let c256_i32 : BitVec 32 := 256#32
  let v17 : BitVec 32 := Scalar.subi v4 c256_i32
  let c0_i32_13 : BitVec 32 := 0#32
  let v18 : BitVec 32 := Scalar.maxsi v17 c0_i32_13
  let v19 : BitVec 32 := v18
  let v21 : Index := Scalar.indexCast v19
  ![0, 0, v21.toNat]
def k0_off2 (i : grid0.Coords) : Fin 3 → Nat :=
  let c0_18 : Index := 0#32
  let c0_19 : Index := 0#32
  let arg1 : BitVec 32 := BitVec.ofNat 32 (i 1).val
  let c512_i32 : BitVec 32 := 512#32
  let v4 : BitVec 32 := Scalar.muli arg1 c512_i32
  let c256_i32 : BitVec 32 := 256#32
  let v17 : BitVec 32 := Scalar.subi v4 c256_i32
  let c0_i32_13 : BitVec 32 := 0#32
  let v18 : BitVec 32 := Scalar.maxsi v17 c0_i32_13
  let v19 : BitVec 32 := v18
  let v38 : Index := Scalar.indexCast v19
  ![0, 0, v38.toNat]
def k0_mult2 (i : grid0.Coords) : BitVec 32 :=
  let c5632_i32 : BitVec 32 := 5632#32
  let arg1 : BitVec 32 := BitVec.ofNat 32 (i 1).val
  let c512_i32 : BitVec 32 := 512#32
  let v4 : BitVec 32 := Scalar.muli arg1 c512_i32
  let c256_i32 : BitVec 32 := 256#32
  let v17 : BitVec 32 := Scalar.subi v4 c256_i32
  let c0_i32_13 : BitVec 32 := 0#32
  let v18 : BitVec 32 := Scalar.maxsi v17 c0_i32_13
  let v19 : BitVec 32 := v18
  let v43 : BitVec 32 := Scalar.addi c5632_i32 v19
  v43
def k0_off3 (i : grid0.Coords) : Fin 3 → Nat :=
  let c0_22 : Index := 0#32
  let c0_23 : Index := 0#32
  let c5632_i32 : BitVec 32 := 5632#32
  let arg1 : BitVec 32 := BitVec.ofNat 32 (i 1).val
  let c512_i32 : BitVec 32 := 512#32
  let v4 : BitVec 32 := Scalar.muli arg1 c512_i32
  let c256_i32 : BitVec 32 := 256#32
  let v17 : BitVec 32 := Scalar.subi v4 c256_i32
  let c0_i32_13 : BitVec 32 := 0#32
  let v18 : BitVec 32 := Scalar.maxsi v17 c0_i32_13
  let v19 : BitVec 32 := v18
  let v43 : BitVec 32 := Scalar.addi c5632_i32 v19
  let v44 : BitVec 32 := v43
  let v46 : Index := Scalar.indexCast v44
  ![0, 0, v46.toNat]
def k0_off4 (i : grid0.Coords) : Fin 3 → Nat :=
  let c0_24 : Index := 0#32
  let c0_25 : Index := 0#32
  let c5632_i32 : BitVec 32 := 5632#32
  let arg1 : BitVec 32 := BitVec.ofNat 32 (i 1).val
  let c512_i32 : BitVec 32 := 512#32
  let v4 : BitVec 32 := Scalar.muli arg1 c512_i32
  let c256_i32 : BitVec 32 := 256#32
  let v17 : BitVec 32 := Scalar.subi v4 c256_i32
  let c0_i32_13 : BitVec 32 := 0#32
  let v18 : BitVec 32 := Scalar.maxsi v17 c0_i32_13
  let v19 : BitVec 32 := v18
  let v43 : BitVec 32 := Scalar.addi c5632_i32 v19
  let v44 : BitVec 32 := v43
  let v63 : Index := Scalar.indexCast v44
  ![0, 0, v63.toNat]
def k0_off5 (i : grid0.Coords) : Fin 2 → Nat :=
  let c0_28 : Index := 0#32
  let arg1 : BitVec 32 := BitVec.ofNat 32 (i 1).val
  let c512_i32 : BitVec 32 := 512#32
  let v4 : BitVec 32 := Scalar.muli arg1 c512_i32
  let c256_i32 : BitVec 32 := 256#32
  let v17 : BitVec 32 := Scalar.subi v4 c256_i32
  let c0_i32_13 : BitVec 32 := 0#32
  let v18 : BitVec 32 := Scalar.maxsi v17 c0_i32_13
  let v19 : BitVec 32 := v18
  let v76 : Index := Scalar.indexCast v19
  ![0, v76.toNat]
def k0_mult3 (i : grid0.Coords) : BitVec 32 :=
  let arg1 : BitVec 32 := BitVec.ofNat 32 (i 1).val
  let c512_i32 : BitVec 32 := 512#32
  let v4 : BitVec 32 := Scalar.muli arg1 c512_i32
  v4
def k0_off6 (i : grid0.Coords) : Fin 3 → Nat :=
  let c0_42 : Index := 0#32
  let c0_43 : Index := 0#32
  let arg1 : BitVec 32 := BitVec.ofNat 32 (i 1).val
  let c512_i32 : BitVec 32 := 512#32
  let v4 : BitVec 32 := Scalar.muli arg1 c512_i32
  let v90 : BitVec 32 := v4
  let v92 : Index := Scalar.indexCast v90
  ![0, 0, v92.toNat]
def k0_off7 (i : grid0.Coords) : Fin 3 → Nat :=
  let c0_44 : Index := 0#32
  let c0_45 : Index := 0#32
  let arg1 : BitVec 32 := BitVec.ofNat 32 (i 1).val
  let c512_i32 : BitVec 32 := 512#32
  let v4 : BitVec 32 := Scalar.muli arg1 c512_i32
  let v90 : BitVec 32 := v4
  let v109 : Index := Scalar.indexCast v90
  ![0, 0, v109.toNat]
def k0_mult4 (i : grid0.Coords) : BitVec 32 :=
  let c5632_i32_46 : BitVec 32 := 5632#32
  let arg1 : BitVec 32 := BitVec.ofNat 32 (i 1).val
  let c512_i32 : BitVec 32 := 512#32
  let v4 : BitVec 32 := Scalar.muli arg1 c512_i32
  let v90 : BitVec 32 := v4
  let v114 : BitVec 32 := Scalar.addi c5632_i32_46 v90
  v114
def k0_off8 (i : grid0.Coords) : Fin 3 → Nat :=
  let c0_49 : Index := 0#32
  let c0_50 : Index := 0#32
  let c5632_i32_46 : BitVec 32 := 5632#32
  let arg1 : BitVec 32 := BitVec.ofNat 32 (i 1).val
  let c512_i32 : BitVec 32 := 512#32
  let v4 : BitVec 32 := Scalar.muli arg1 c512_i32
  let v90 : BitVec 32 := v4
  let v114 : BitVec 32 := Scalar.addi c5632_i32_46 v90
  let v115 : BitVec 32 := v114
  let v117 : Index := Scalar.indexCast v115
  ![0, 0, v117.toNat]
def k0_off9 (i : grid0.Coords) : Fin 3 → Nat :=
  let c0_51 : Index := 0#32
  let c0_52 : Index := 0#32
  let c5632_i32_46 : BitVec 32 := 5632#32
  let arg1 : BitVec 32 := BitVec.ofNat 32 (i 1).val
  let c512_i32 : BitVec 32 := 512#32
  let v4 : BitVec 32 := Scalar.muli arg1 c512_i32
  let v90 : BitVec 32 := v4
  let v114 : BitVec 32 := Scalar.addi c5632_i32_46 v90
  let v115 : BitVec 32 := v114
  let v134 : Index := Scalar.indexCast v115
  ![0, 0, v134.toNat]
def k0_off10 (i : grid0.Coords) : Fin 2 → Nat :=
  let c0_55 : Index := 0#32
  let arg1 : BitVec 32 := BitVec.ofNat 32 (i 1).val
  let c512_i32 : BitVec 32 := 512#32
  let v4 : BitVec 32 := Scalar.muli arg1 c512_i32
  let v90 : BitVec 32 := v4
  let v147 : Index := Scalar.indexCast v90
  ![0, v147.toNat]
def k0_cond2 (i : grid0.Coords) : BitVec 1 :=
  let arg1 : BitVec 32 := BitVec.ofNat 32 (i 1).val
  let c10_i32 : BitVec 32 := 10#32
  let v149 : BitVec 1 := Scalar.cmpi .eq arg1 c10_i32
  let v150 : BitVec 32 := Scalar.extui v149
  let c0_i32_56 : BitVec 32 := 0#32
  let v151 : BitVec 1 := Scalar.cmpi .ne v150 c0_i32_56
  v151

def k0_mult5 (i : grid0.Coords) : BitVec 32 :=
  let arg1 : BitVec 32 := BitVec.ofNat 32 (i 1).val
  let c512_i32 : BitVec 32 := 512#32
  let v4 : BitVec 32 := Scalar.muli arg1 c512_i32
  let c256_i32_57 : BitVec 32 := 256#32
  let v152 : BitVec 32 := Scalar.addi v4 c256_i32_57
  v152
def k0_off11 (i : grid0.Coords) : Fin 3 → Nat :=
  let c0_60 : Index := 0#32
  let c0_61 : Index := 0#32
  let arg1 : BitVec 32 := BitVec.ofNat 32 (i 1).val
  let c512_i32 : BitVec 32 := 512#32
  let v4 : BitVec 32 := Scalar.muli arg1 c512_i32
  let c256_i32_57 : BitVec 32 := 256#32
  let v152 : BitVec 32 := Scalar.addi v4 c256_i32_57
  let v153 : BitVec 32 := v152
  let v155 : Index := Scalar.indexCast v153
  ![0, 0, v155.toNat]
def k0_off12 (i : grid0.Coords) : Fin 3 → Nat :=
  let c0_62 : Index := 0#32
  let c0_63 : Index := 0#32
  let arg1 : BitVec 32 := BitVec.ofNat 32 (i 1).val
  let c512_i32 : BitVec 32 := 512#32
  let v4 : BitVec 32 := Scalar.muli arg1 c512_i32
  let c256_i32_57 : BitVec 32 := 256#32
  let v152 : BitVec 32 := Scalar.addi v4 c256_i32_57
  let v153 : BitVec 32 := v152
  let v172 : Index := Scalar.indexCast v153
  ![0, 0, v172.toNat]
def k0_mult6 (i : grid0.Coords) : BitVec 32 :=
  let c5632_i32_64 : BitVec 32 := 5632#32
  let arg1 : BitVec 32 := BitVec.ofNat 32 (i 1).val
  let c512_i32 : BitVec 32 := 512#32
  let v4 : BitVec 32 := Scalar.muli arg1 c512_i32
  let c256_i32_57 : BitVec 32 := 256#32
  let v152 : BitVec 32 := Scalar.addi v4 c256_i32_57
  let v153 : BitVec 32 := v152
  let v177 : BitVec 32 := Scalar.addi c5632_i32_64 v153
  v177
def k0_off13 (i : grid0.Coords) : Fin 3 → Nat :=
  let c0_67 : Index := 0#32
  let c0_68 : Index := 0#32
  let c5632_i32_64 : BitVec 32 := 5632#32
  let arg1 : BitVec 32 := BitVec.ofNat 32 (i 1).val
  let c512_i32 : BitVec 32 := 512#32
  let v4 : BitVec 32 := Scalar.muli arg1 c512_i32
  let c256_i32_57 : BitVec 32 := 256#32
  let v152 : BitVec 32 := Scalar.addi v4 c256_i32_57
  let v153 : BitVec 32 := v152
  let v177 : BitVec 32 := Scalar.addi c5632_i32_64 v153
  let v178 : BitVec 32 := v177
  let v180 : Index := Scalar.indexCast v178
  ![0, 0, v180.toNat]
def k0_off14 (i : grid0.Coords) : Fin 3 → Nat :=
  let c0_69 : Index := 0#32
  let c0_70 : Index := 0#32
  let c5632_i32_64 : BitVec 32 := 5632#32
  let arg1 : BitVec 32 := BitVec.ofNat 32 (i 1).val
  let c512_i32 : BitVec 32 := 512#32
  let v4 : BitVec 32 := Scalar.muli arg1 c512_i32
  let c256_i32_57 : BitVec 32 := 256#32
  let v152 : BitVec 32 := Scalar.addi v4 c256_i32_57
  let v153 : BitVec 32 := v152
  let v177 : BitVec 32 := Scalar.addi c5632_i32_64 v153
  let v178 : BitVec 32 := v177
  let v197 : Index := Scalar.indexCast v178
  ![0, 0, v197.toNat]
def k0_off15 (i : grid0.Coords) : Fin 2 → Nat :=
  let c0_73 : Index := 0#32
  let arg1 : BitVec 32 := BitVec.ofNat 32 (i 1).val
  let c512_i32 : BitVec 32 := 512#32
  let v4 : BitVec 32 := Scalar.muli arg1 c512_i32
  let c256_i32_57 : BitVec 32 := 256#32
  let v152 : BitVec 32 := Scalar.addi v4 c256_i32_57
  let v153 : BitVec 32 := v152
  let v210 : Index := Scalar.indexCast v153
  ![0, v210.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x3x11264 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x11264 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== UpRefIdeal.lean ====
abbrev S32768x2048 : Shape := ⟨2, ![32768, 2048]⟩
abbrev S4x2048x11264 : Shape := ⟨3, ![4, 2048, 11264]⟩
abbrev S4x3x11264 : Shape := ⟨3, ![4, 3, 11264]⟩
abbrev S4x11264 : Shape := ⟨2, ![4, 11264]⟩
abbrev S1x2048x11264 : Shape := ⟨3, ![1, 2048, 11264]⟩
abbrev S2048x11264 : Shape := ⟨2, ![2048, 11264]⟩
abbrev S32768x11264 : Shape := ⟨2, ![32768, 11264]⟩
abbrev S16x2048x11264 : Shape := ⟨3, ![16, 2048, 11264]⟩
abbrev S_ : Shape := ⟨0, ![]⟩
abbrev S16x2050x11264 : Shape := ⟨3, ![16, 2050, 11264]⟩
abbrev S1x1x11264 : Shape := ⟨3, ![1, 1, 11264]⟩
abbrev S11264 : Shape := ⟨1, ![11264]⟩
abbrev S1x11264 : Shape := ⟨2, ![1, 11264]⟩
abbrev S16x2048x5632 : Shape := ⟨3, ![16, 2048, 5632]⟩
abbrev S32768x5632 : Shape := ⟨2, ![32768, 5632]⟩

abbrev nBuf : Space → Nat
  | .hbm => 51
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S4x2048x11264, .f32⟩
  | .hbm, ⟨2, _⟩ => ⟨S4x3x11264, .f32⟩
  | .hbm, ⟨3, _⟩ => ⟨S4x11264, .f32⟩
  | .hbm, ⟨4, _⟩ => ⟨S32768x2048, .f32⟩
  | .hbm, ⟨5, _⟩ => ⟨S1x2048x11264, .f32⟩
  | .hbm, ⟨6, _⟩ => ⟨S2048x11264, .f32⟩
  | .hbm, ⟨7, _⟩ => ⟨S32768x11264, .f32⟩
  | .hbm, ⟨8, _⟩ => ⟨S16x2048x11264, .f32⟩
  | .hbm, ⟨9, _⟩ => ⟨S_, .i32⟩
  | .hbm, ⟨10, _⟩ => ⟨S_, .f32⟩
  | .hbm, ⟨11, _⟩ => ⟨S16x2050x11264, .f32⟩
  | .hbm, ⟨12, _⟩ => ⟨S16x2048x11264, .f32⟩
  | .hbm, ⟨13, _⟩ => ⟨S1x1x11264, .f32⟩
  | .hbm, ⟨14, _⟩ => ⟨S11264, .f32⟩
  | .hbm, ⟨15, _⟩ => ⟨S1x1x11264, .f32⟩
  | .hbm, ⟨16, _⟩ => ⟨S16x2048x11264, .f32⟩
  | .hbm, ⟨17, _⟩ => ⟨S16x2048x11264, .f32⟩
  | .hbm, ⟨18, _⟩ => ⟨S16x2048x11264, .f32⟩
  | .hbm, ⟨19, _⟩ => ⟨S1x1x11264, .f32⟩
  | .hbm, ⟨20, _⟩ => ⟨S11264, .f32⟩
  | .hbm, ⟨21, _⟩ => ⟨S1x1x11264, .f32⟩
  | .hbm, ⟨22, _⟩ => ⟨S16x2048x11264, .f32⟩
  | .hbm, ⟨23, _⟩ => ⟨S16x2048x11264, .f32⟩
  | .hbm, ⟨24, _⟩ => ⟨S16x2048x11264, .f32⟩
  | .hbm, ⟨25, _⟩ => ⟨S16x2048x11264, .f32⟩
  | .hbm, ⟨26, _⟩ => ⟨S1x1x11264, .f32⟩
  | .hbm, ⟨27, _⟩ => ⟨S11264, .f32⟩
  | .hbm, ⟨28, _⟩ => ⟨S1x1x11264, .f32⟩
  | .hbm, ⟨29, _⟩ => ⟨S16x2048x11264, .f32⟩
  | .hbm, ⟨30, _⟩ => ⟨S16x2048x11264, .f32⟩
  | .hbm, ⟨31, _⟩ => ⟨S16x2048x11264, .f32⟩
  | .hbm, ⟨32, _⟩ => ⟨S1x11264, .f32⟩
  | .hbm, ⟨33, _⟩ => ⟨S11264, .f32⟩
  | .hbm, ⟨34, _⟩ => ⟨S1x1x11264, .f32⟩
  | .hbm, ⟨35, _⟩ => ⟨S16x2048x11264, .f32⟩
  | .hbm, ⟨36, _⟩ => ⟨S16x2048x11264, .f32⟩
  | .hbm, ⟨37, _⟩ => ⟨S16x2048x5632, .f32⟩
  | .hbm, ⟨38, _⟩ => ⟨S16x2048x5632, .f32⟩
  | .hbm, ⟨39, _⟩ => ⟨S16x2048x5632, .f32⟩
  | .hbm, ⟨40, _⟩ => ⟨S16x2048x5632, .f32⟩
  | .hbm, ⟨41, _⟩ => ⟨S_, .f32⟩
  | .hbm, ⟨42, _⟩ => ⟨S16x2048x5632, .f32⟩
  | .hbm, ⟨43, _⟩ => ⟨S16x2048x5632, .f32⟩
  | .hbm, ⟨44, _⟩ => ⟨S_, .f32⟩
  | .hbm, ⟨45, _⟩ => ⟨S16x2048x5632, .f32⟩
  | .hbm, ⟨46, _⟩ => ⟨S16x2048x5632, .f32⟩
  | .hbm, ⟨47, _⟩ => ⟨S16x2048x5632, .f32⟩
  | .hbm, ⟨48, _⟩ => ⟨S16x2048x5632, .f32⟩
  | .hbm, ⟨49, _⟩ => ⟨S32768x5632, .f32⟩
  | .hbm, ⟨50, _⟩ => ⟨S32768x5632, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Down.lean ====
abbrev S32768x5632 : Shape := ⟨2, ![32768, 5632]⟩
abbrev S4x5632x2048 : Shape := ⟨3, ![4, 5632, 2048]⟩
abbrev S32768x2048 : Shape := ⟨2, ![32768, 2048]⟩
abbrev S1024x5632 : Shape := ⟨2, ![1024, 5632]⟩
abbrev S1x5632x512 : Shape := ⟨3, ![1, 5632, 512]⟩
abbrev S1024x512 : Shape := ⟨2, ![1024, 512]⟩
abbrev S5632x512 : Shape := ⟨2, ![5632, 512]⟩

abbrev nBuf : Space → Nat
  | .hbm => 5
  | .vmem => 8
  | .smem => 0
  | _ => 0

abbrev bufTy : (tb : Table) → Fin (tcTables nBuf tb) → BufTy
  | .hbm, ⟨0, _⟩ => ⟨S32768x5632, .bf16⟩
  | .hbm, ⟨1, _⟩ => ⟨S4x5632x2048, .f32⟩
  | .hbm, ⟨2, _⟩ => ⟨S32768x2048, .f32⟩
  | .hbm, ⟨3, _⟩ => ⟨S4x5632x2048, .bf16⟩
  | .hbm, ⟨4, _⟩ => ⟨S32768x2048, .f32⟩
  | .local _ .vmem, ⟨0, _⟩ => ⟨S1024x5632, .bf16⟩
  | .local _ .vmem, ⟨1, _⟩ => ⟨S1024x5632, .bf16⟩
  | .local _ .vmem, ⟨2, _⟩ => ⟨S1x5632x512, .bf16⟩
  | .local _ .vmem, ⟨3, _⟩ => ⟨S1x5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S32768x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S32768x5632 : Shape := ⟨2, ![32768, 5632]⟩
abbrev S4x5632x2048 : Shape := ⟨3, ![4, 5632, 2048]⟩
abbrev S32768x2048 : Shape := ⟨2, ![32768, 2048]⟩
abbrev S1x5632x2048 : Shape := ⟨3, ![1, 5632, 2048]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S32768x5632, .bf16⟩
  | .hbm, ⟨1, _⟩ => ⟨S4x5632x2048, .f32⟩
  | .hbm, ⟨2, _⟩ => ⟨S32768x2048, .f32⟩
  | .hbm, ⟨3, _⟩ => ⟨S32768x5632, .f32⟩
  | .hbm, ⟨4, _⟩ => ⟨S1x5632x2048, .f32⟩
  | .hbm, ⟨5, _⟩ => ⟨S5632x2048, .f32⟩
  | .hbm, ⟨6, _⟩ => ⟨S32768x2048, .f32⟩
  | .hbm, ⟨7, _⟩ => ⟨S32768x2048, .f32⟩
  | _, _ => ⟨S32768x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proj.lean ====
abbrev S32768x2048 : Shape := ⟨2, ![32768, 2048]⟩
abbrev S4x2048 : Shape := ⟨2, ![4, 2048]⟩
abbrev S4x2048x4608 : Shape := ⟨3, ![4, 2048, 4608]⟩
abbrev S1x2048 : Shape := ⟨2, ![1, 2048]⟩
abbrev S2048 : Shape := ⟨1, ![2048]⟩
abbrev S32768x4608 : Shape := ⟨2, ![32768, 4608]⟩
abbrev S1024x2048 : Shape := ⟨2, ![1024, 2048]⟩
abbrev S1x2048x1536 : Shape := ⟨3, ![1, 2048, 1536]⟩
abbrev S1024x1536 : Shape := ⟨2, ![1024, 1536]⟩
abbrev S1024 : Shape := ⟨1, ![1024]⟩
abbrev S1024x1 : Shape := ⟨2, ![1024, 1]⟩
abbrev S2048x1536 : Shape := ⟨2, ![2048, 1536]⟩

abbrev nBuf : Space → Nat
  | .hbm => 7
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S4x2048, .f32⟩
  | .hbm, ⟨2, _⟩ => ⟨S4x2048x4608, .bf16⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S32768x4608, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1536, .bf16⟩
  | .local _ .vmem, ⟨4, _⟩ => ⟨S1x2048x1536, .bf16⟩
  | .local _ .vmem, ⟨5, _⟩ => ⟨S1024x1536, .bf16⟩
  | .local _ .vmem, ⟨6, _⟩ => ⟨S1024x1536, .bf16⟩
  | .local _ .vmem, ⟨7, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S32768x2048 : Shape := ⟨2, ![32768, 2048]⟩
abbrev S4x2048 : Shape := ⟨2, ![4, 2048]⟩
abbrev S4x2048x4608 : Shape := ⟨3, ![4, 2048, 4608]⟩
abbrev S1x2048 : Shape := ⟨2, ![1, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048x4608 : Shape := ⟨3, ![1, 2048, 4608]⟩
abbrev S2048x4608 : Shape := ⟨2, ![2048, 4608]⟩
abbrev S32768x4608 : Shape := ⟨2, ![32768, 4608]⟩

abbrev nBuf : Space → Nat
  | .hbm => 26
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S4x2048, .f32⟩
  | .hbm, ⟨2, _⟩ => ⟨S4x2048x4608, .bf16⟩
  | .hbm, ⟨3, _⟩ => ⟨S1x2048, .f32⟩
  | .hbm, ⟨4, _⟩ => ⟨S2048, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S1x2048x4608, .bf16⟩
  | .hbm, ⟨22, _⟩ => ⟨S2048x4608, .bf16⟩
  | .hbm, ⟨23, _⟩ => ⟨S2048x4608, .f32⟩
  | .hbm, ⟨24, _⟩ => ⟨S32768x4608, .f32⟩
  | .hbm, ⟨25, _⟩ => ⟨S32768x4608, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kv.lean ====
abbrev S16x256x2048 : Shape := ⟨3, ![16, 256, 2048]⟩
abbrev S4x2048 : Shape := ⟨2, ![4, 2048]⟩
abbrev S4x2048x1024 : Shape := ⟨3, ![4, 2048, 1024]⟩
abbrev S4096x2048 : Shape := ⟨2, ![4096, 2048]⟩
abbrev S1x2048 : Shape := ⟨2, ![1, 2048]⟩
abbrev S2048 : Shape := ⟨1, ![2048]⟩
abbrev S4096x1024 : Shape := ⟨2, ![4096, 1024]⟩
abbrev S512x2048 : Shape := ⟨2, ![512, 2048]⟩
abbrev S1x2048x512 : Shape := ⟨3, ![1, 2048, 512]⟩
abbrev S512x512 : Shape := ⟨2, ![512, 512]⟩
abbrev S512 : Shape := ⟨1, ![512]⟩
abbrev S512x1 : Shape := ⟨2, ![512, 1]⟩
abbrev S2048x512 : Shape := ⟨2, ![2048, 512]⟩

abbrev nBuf : Space → Nat
  | .hbm => 9
  | .vmem => 8
  | .smem => 0
  | _ => 0

abbrev bufTy : (tb : Table) → Fin (tcTables nBuf tb) → BufTy
  | .hbm, ⟨0, _⟩ => ⟨S16x256x2048, .f32⟩
  | .hbm, ⟨1, _⟩ => ⟨S4x2048, .f32⟩
  | .hbm, ⟨2, _⟩ => ⟨S4x2048x1024, .f32⟩
  | .hbm, ⟨3, _⟩ => ⟨S4096x2048, .f32⟩
  | .hbm, ⟨4, _⟩ => ⟨S1x2048, .f32⟩
  | .hbm, ⟨5, _⟩ => ⟨S2048, .f32⟩
  | .hbm, ⟨6, _⟩ => ⟨S4x2048x1024, .bf16⟩
  | .hbm, ⟨7, _⟩ => ⟨S1x2048, .f32⟩
  | .hbm, ⟨8, _⟩ => ⟨S4096x1024, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S512x512, .bf16⟩
  | .local _ .vmem, ⟨6, _⟩ => ⟨S512x512, .bf16⟩
  | .local _ .vmem, ⟨7, _⟩ => ⟨S512x2048, .bf16⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvRefIdeal.lean ====
abbrev S16x256x2048 : Shape := ⟨3, ![16, 256, 2048]⟩
abbrev S4x2048 : Shape := ⟨2, ![4, 2048]⟩
abbrev S4x2048x1024 : Shape := ⟨3, ![4, 2048, 1024]⟩
abbrev S1x2048 : Shape := ⟨2, ![1, 2048]⟩
abbrev S2048 : Shape := ⟨1, ![2048]⟩
abbrev S_ : Shape := ⟨0, ![]⟩
abbrev S16x256 : Shape := ⟨2, ![16, 256]⟩
abbrev S16x256x1 : Shape := ⟨3, ![16, 256, 1]⟩
abbrev S1x1x2048 : Shape := ⟨3, ![1, 1, 2048]⟩
abbrev S1x2048x1024 : Shape := ⟨3, ![1, 2048, 1024]⟩
abbrev S2048x1024 : Shape := ⟨2, ![2048, 1024]⟩
abbrev S16x256x1024 : Shape := ⟨3, ![16, 256, 1024]⟩
abbrev S4096x1024 : Shape := ⟨2, ![4096, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S4x2048, .f32⟩
  | .hbm, ⟨2, _⟩ => ⟨S4x2048x1024, .f32⟩
  | .hbm, ⟨3, _⟩ => ⟨S1x2048, .f32⟩
  | .hbm, ⟨4, _⟩ => ⟨S2048, .f32⟩
  | .hbm, ⟨5, _⟩ => ⟨S16x256x2048, .f32⟩
  | .hbm, ⟨6, _⟩ => ⟨S_, .f32⟩
  | .hbm, ⟨7, _⟩ => ⟨S16x256, .f32⟩
  | .hbm, ⟨8, _⟩ => ⟨S16x256x1, .f32⟩
  | .hbm, ⟨9, _⟩ => ⟨S_, .f32⟩
  | .hbm, ⟨10, _⟩ => ⟨S16x256x1, .f32⟩
  | .hbm, ⟨11, _⟩ => ⟨S16x256x1, .f32⟩
  | .hbm, ⟨12, _⟩ => ⟨S_, .f32⟩
  | .hbm, ⟨13, _⟩ => ⟨S16x256x1, .f32⟩
  | .hbm, ⟨14, _⟩ => ⟨S16x256x1, .f32⟩
  | .hbm, ⟨15, _⟩ => ⟨S16x256x1, .f32⟩
  | .hbm, ⟨16, _⟩ => ⟨S16x256x2048, .f32⟩
  | .hbm, ⟨17, _⟩ => ⟨S16x256x2048, .f32⟩
  | .hbm, ⟨18, _⟩ => ⟨S1x1x2048, .f32⟩
  | .hbm, ⟨19, _⟩ => ⟨S16x256x2048, .f32⟩
  | .hbm, ⟨20, _⟩ => ⟨S16x256x2048, .f32⟩
  | .hbm, ⟨21, _⟩ => ⟨S1x2048x1024, .f32⟩
  | .hbm, ⟨22, _⟩ => ⟨S2048x1024, .f32⟩
  | .hbm, ⟨23, _⟩ => ⟨S16x256x1024, .f32⟩
  | .hbm, ⟨24, _⟩ => ⟨S4096x1024, .f32⟩
  | .hbm, ⟨25, _⟩ => ⟨S4096x1024, .bf16⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Norm.lean ====
abbrev S32768x2048 : Shape := ⟨2, ![32768, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S1x2048, .f32⟩
  | .hbm, ⟨3, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S32768x2048, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x2048, .f32⟩
  | .hbm, ⟨14, _⟩ => ⟨S32768x2048, .f32⟩
  | .hbm, ⟨15, _⟩ => ⟨S1x2048, .f32⟩
  | .hbm, ⟨16, _⟩ => ⟨S32768x2048, .f32⟩
  | .hbm, ⟨17, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Rms.lean ====
/-
  The root-mean-square normalisation of a row of 2048 numbers, as both programs of each pair compute it.
-/
module

public import Idealize.ShloMosaic.Lib.Pointwise

@[expose] public section

noncomputable section

open Idealize.ShloMosaic

namespace Cert.Rms

theorem hz2 : (![0, 0] : Fin 2 → Nat) = fun _ => 0 := funext fun a => by fin_cases a <;> rfl
theorem hz3 : (![0, 0, 0] : Fin 3 → Nat) = fun _ => 0 := funext fun a => by fin_cases a <;> rfl

/-- The scale of a row: the reciprocal root of its mean square plus the small constant. -/
def scale (x : Fin 2048 → EReal) : EReal :=
  Ideal.rsqrt (Ideal.div (∑ k, x k * x k) (Ideal.ofBits FTy.f32 1157627904#32) + Ideal.ofBits FTy.f32 897988541#32)

/-- Entry `k` of the normalised row, times its gain. -/
def normed (x : Fin 2048 → EReal) (g : EReal) (k : Fin 2048) : EReal := x k * scale x * g

end Cert.Rms
-- ==== Proof.GlaMath.lean ====
/-
  The gated linear attention as one closed form over natural-number coordinates, and the few facts about sums and
  the gate that both sides use.
-/
module

public import proofs.«01_k».proof.Proof.Rms

@[expose] public section

set_option maxRecDepth 16384

noncomputable section

open Idealize.ShloMosaic

namespace Cert.GlaMath

/-- The gate of a pre-activation: the logarithm of the sigmoid, over 16. -/
def lsg (z : EReal) : EReal :=
  Ideal.div (min z 0 - Ideal.log1p (Ideal.exp (0 - max z (-z)))) (Ideal.ofBits .f32 0x41800000#32)

/-- The pattern of 16. -/
theorem ofBits_16 : Ideal.ofBits .f32 0x41800000#32 = ((16 : ℝ) : EReal) := by
  simp [Ideal.ofBits, Ideal.ieee]
  rw [← EReal.coe_mul]
  norm_num

/-- The logarithm of one plus nothing. -/
theorem log1p_zero : Ideal.log1p 0 = ((0 : ℝ) : EReal) := by
  show Ideal.log (1 + 0) = _
  rw [add_zero]
  show (if (1 : ℝ) ≤ 0 then (⊥ : EReal) else ((Real.log 1 : ℝ) : EReal)) = _
  rw [if_neg (by norm_num), Real.log_one]

/-- The larger of two reals, as extended reals. -/
theorem coe_max' (a b : ℝ) : max (a : EReal) (b : EReal) = ((max a b : ℝ) : EReal) :=
  (Monotone.map_max (f := fun x : ℝ => (x : EReal)) (fun _ _ h => EReal.coe_le_coe_iff.mpr h)).symm

/-- The smaller of two reals, as extended reals. -/
theorem coe_min' (a b : ℝ) : min (a : EReal) (b : EReal) = ((min a b : ℝ) : EReal) :=
  (Monotone.map_min (f := fun x : ℝ => (x : EReal)) (fun _ _ h => EReal.coe_le_coe_iff.mpr h)).symm

/-- The softplus term is a real number. -/
theorem soft_real (z : EReal) : ∃ l : ℝ, Ideal.log1p (Ideal.exp (0 - max z (-z))) = (l : EReal) := by
  induction z with
  | bot =>
    refine ⟨0, ?_⟩
    rw [show max (⊥ : EReal) (-⊥) = ⊤ by simp, show (0 : EReal) - ⊤ = ⊥ by simp]
    exact log1p_zero
  | top =>
    refine ⟨0, ?_⟩
    rw [show max (⊤ : EReal) (-⊤) = ⊤ by simp, show (0 : EReal) - ⊤ = ⊥ by simp]
    exact log1p_zero
  | coe r =>
    have e : max (r : EReal) (-(r : EReal)) = ((max r (-r) : ℝ) : EReal) := by
      rw [← EReal.coe_neg]; exact coe_max' r (-r)
    refine ⟨Real.log (1 + Real.exp (0 - max r (-r))), ?_⟩
    rw [e, show (0 : EReal) - ((max r (-r) : ℝ) : EReal) = ((0 - max r (-r) : ℝ) : EReal) by
      rw [EReal.coe_sub]; rfl]
    show Ideal.log (1 + ((Real.exp (0 - max r (-r)) : ℝ) : EReal)) = _
    rw [show (1 : EReal) + ((Real.exp (0 - max r (-r)) : ℝ) : EReal) = ((1 + Real.exp (0 - max r (-r)) : ℝ) : EReal) by
      rw [EReal.coe_add]; rfl]
    show (if (1 + Real.exp (0 - max r (-r))) ≤ 0 then (⊥ : EReal) else _) = _
    rw [if_neg (by have := Real.exp_pos (0 - max r (-r)); linarith)]

/-- The gate is never the infinity. -/
theorem lsg_ne_top (z : EReal) : lsg z ≠ ⊤ := by
  obtain ⟨l, hl⟩ := soft_real z
  unfold lsg
  rw [hl, ofBits_16]
  unfold Ideal.div
  rw [if_neg (by norm_num)]
  induction z with
  | bot =>
    rw [show min (⊥ : EReal) 0 = ⊥ by simp, EReal.bot_sub, ← EReal.coe_inv, EReal.bot_mul_coe_of_pos (by norm_num)]
    simp
  | top =>
    rw [show min (⊤ : EReal) 0 = ((0 : ℝ) : EReal) by simp, ← EReal.coe_inv, ← EReal.coe_sub, ← EReal.coe_mul]
    exact EReal.coe_ne_top _
  | coe r =>
    rw [show min (r : EReal) 0 = ((min r 0 : ℝ) : EReal) from coe_min' r 0, ← EReal.coe_inv, ← EReal.coe_sub,
      ← EReal.coe_mul]
    exact EReal.coe_ne_top _

/-- A number other than the infinity is itself plus the difference from itself. -/
theorem add_sub_self {x : EReal} (h : x ≠ ⊤) : x + (x - x) = x := by
  induction x with
  | bot => simp
  | top => exact absurd rfl h
  | coe r => rw [← EReal.coe_sub, ← EReal.coe_add]; simp

/-- The gate as the softplus of the negated pre-activation writes it. -/
theorem soft_eq (z : EReal) :
    -(max (-z) 0 + Ideal.log1p (Ideal.exp (-(max (-z - 0) (-(-z - 0)))))) = min z 0 - Ideal.log1p (Ideal.exp (0 - max z (-z))) := by
  have e : max (-z - 0) (-(-z - 0)) = max z (-z) := by rw [sub_zero, neg_neg, max_comm]
  rw [e, show -(max z (-z)) = 0 - max z (-z) by rw [zero_sub]]
  obtain ⟨l, hl⟩ := soft_real z
  rw [hl, EReal.neg_add (by simp) (by simp), sub_eq_add_neg, sub_eq_add_neg]
  congr 1
  induction z with
  | bot => simp
  | top => simp
  | coe r =>
    rw [← EReal.coe_neg, show max ((-r : ℝ) : EReal) 0 = ((max (-r) 0 : ℝ) : EReal) from coe_max' (-r) 0,
      show min (r : EReal) 0 = ((min r 0 : ℝ) : EReal) from coe_min' r 0, ← EReal.coe_neg]
    congr 1
    rw [show (0 : ℝ) = -0 by simp, max_neg_neg, neg_neg, neg_zero]

/-- A value through the gate `x / (1 + exp (-x))`, and the same as a product with the logistic. -/
theorem silu_eq (x : EReal) : x * Ideal.div 1 (1 + Ideal.exp (-x)) = Ideal.div x (1 + Ideal.exp (0 - x)) := by
  have h : (1 : EReal) + Ideal.exp (-x) ≠ 0 := by
    have h0 : 0 ≤ Ideal.exp (-x) := by
      generalize -x = y
      induction y with
      | bot => exact le_refl _
      | top => exact le_top
      | coe r => exact EReal.coe_nonneg.mpr (Real.exp_pos r).le
    have h1 : (0 : EReal) < 1 + Ideal.exp (-x) := lt_of_lt_of_le (by norm_num) (le_add_of_nonneg_right h0)
    exact h1.ne'
  rw [zero_sub]
  unfold Ideal.div
  rw [if_neg h, if_neg h, one_mul]

/-- A sum over a product range, read row by row. -/
theorem sum_rows (a b : ℕ) (f : ℕ → EReal) : ∑ k : Fin (a * b), f k.val = ∑ i : Fin a, ∑ j : Fin b, f (b * i.val + j.val) := by
  rw [← finProdFinEquiv.sum_comp, Fintype.sum_prod_type]
  refine Finset.sum_congr rfl fun i _ => Finset.sum_congr rfl fun j _ => ?_
  rw [finProdFinEquiv_apply_val, Nat.add_comm]

/-- A sum over 512 rows of a function that vanishes outside one chunk of 64. -/
theorem sum_chunk (f : ℕ → EReal) (n : ℕ) (hn : n < 8) (h : ∀ k, k < 512 → k / 64 ≠ n → f k = 0) :
    ∑ k : Fin 512, f k.val = ∑ s : Fin 64, f (64 * n + s.val) := by
  rw [sum_rows 8 64 f, Finset.sum_eq_single (⟨n, hn⟩ : Fin 8)]
  · intro i _ hi
    refine Finset.sum_eq_zero fun s _ => h _ ?_ ?_
    · have := i.isLt; have := s.isLt; omega
    · intro e; apply hi; apply Fin.ext; show i.val = n
      have := s.isLt; omega
  · intro h; exact absurd (Finset.mem_univ _) h

/-- A sum over 128 lanes of a function that vanishes outside one half of 64. -/
theorem sum_half (f : ℕ → EReal) (n : ℕ) (hn : n < 2) (h : ∀ k, k < 128 → k / 64 ≠ n → f k = 0) :
    ∑ k : Fin 128, f k.val = ∑ s : Fin 64, f (64 * n + s.val) := by
  rw [sum_rows 2 64 f, Finset.sum_eq_single (⟨n, hn⟩ : Fin 2)]
  · intro i _ hi
    refine Finset.sum_eq_zero fun s _ => h _ ?_ ?_
    · have := i.isLt; have := s.isLt; omega
    · intro e; apply hi; apply Fin.ext; show i.val = n
      have := s.isLt; omega
  · intro h; exact absurd (Finset.mem_univ _) h

/-- A sum over 128 lanes of a function that vanishes past the first 16. -/
theorem sum_lanes (f : ℕ → EReal) (h : ∀ k, k < 128 → 16 ≤ k → f k = 0) :
    ∑ k : Fin 128, f k.val = ∑ s : Fin 16, f s.val := by
  rw [sum_rows 8 16 f, Finset.sum_eq_single (⟨0, by omega⟩ : Fin 8)]
  · refine Finset.sum_congr rfl fun s _ => ?_
    show f (16 * 0 + s.val) = _
    rw [Nat.mul_zero, Nat.zero_add]
  · intro i _ hi
    refine Finset.sum_eq_zero fun s _ => h _ ?_ ?_
    · have := i.isLt; have := s.isLt; omega
    · have : i.val ≠ 0 := fun e => hi (Fin.ext e)
      omega
  · intro h; exact absurd (Finset.mem_univ _) h

section closed

variable (p : ℕ → ℕ → EReal) (w : ℕ → ℕ → EReal) (gb ng : ℕ → EReal)

/-- The log decay of row `R` at key channel `c`. -/
def la (R c : ℕ) : EReal := lsg ((∑ r : Fin 16, p R (4352 + r.val) * w r.val c) + gb c)

/-- The running log decay within row `R`'s chunk, up to and including `R`. -/
def bb (R c : ℕ) : EReal := ∑ s : Fin 64, if s.val ≤ R % 64 then la p w gb (64 * (R / 64) + s.val) c else 0

/-- The log decay over the whole of chunk `N`. -/
def bl (N c : ℕ) : EReal := ∑ s : Fin 64, la p w gb (64 * N + s.val) c

/-- The decayed query. -/
def qd (R c : ℕ) : EReal := p R (2816 + c) * Ideal.exp (bb p w gb R c)

/-- The key with its decay undone. -/
def ki (R c : ℕ) : EReal := p R (3072 + c) * Ideal.exp (0 - bb p w gb R c)

/-- The key decayed to its chunk's end. -/
def ke (R c : ℕ) : EReal := p R (3072 + c) * Ideal.exp (bl p w gb (R / 64) c - bb p w gb R c)

/-- What chunk `N` adds to the state at key channel `c` and value channel `v`. -/
def kv (N c v : ℕ) : EReal := ∑ t : Fin 64, p (64 * N + t.val) (3328 + v) * ke p w gb (64 * N + t.val) c

/-- The state that enters chunk `n` of the sequence whose first chunk is `N0`. -/
def st (N0 : ℕ) : ℕ → ℕ → ℕ → EReal
  | 0, _, _ => 0
  | n + 1, c, v => st N0 n c v * Ideal.exp (bl p w gb (N0 + n) c) + kv p w gb (N0 + n) c v

/-- The masked score of row `R` against the `s`-th row of its chunk, in head `h`. -/
def att (R s h : ℕ) : EReal :=
  if s ≤ R % 64 then ∑ d : Fin 64, qd p w gb R (64 * h + d.val) * ki p w gb (64 * (R / 64) + s) (64 * h + d.val) else 0

/-- The attention output before its norm. -/
def oo (R v : ℕ) : EReal :=
  (∑ s : Fin 64, att p w gb R s.val (v / 128) * p (64 * (R / 64) + s.val) (3328 + v))
    + ∑ d : Fin 64, qd p w gb R (64 * (v / 128) + d.val)
        * st p w gb (R / 64 / 32 * 32) (R / 64 % 32) (64 * (v / 128) + d.val) v

/-- The gated, normed output. -/
def yy (R v : ℕ) : EReal :=
  oo p w gb R v
    * Ideal.rsqrt (Ideal.div (∑ u : Fin 128, oo p w gb R (128 * (v / 128) + u.val) * oo p w gb R (128 * (v / 128) + u.val))
        (Ideal.ofBits .f32 0x43000000#32) + Ideal.ofBits .f32 0x358637BD#32)
    * ng (v % 128) * Ideal.div (p R (3840 + v)) (1 + Ideal.exp (0 - p R (3840 + v)))

end closed

end Cert.GlaMath

end
-- ==== Proof.GlaRefPure.lean ====
/-
  The reference of the gated linear attention as plain functions of arrays, in the order its host program computes them.
-/
module

public import proofs.«01_k».proof.Defs
public import proofs.«01_k».proof.Proof.GlaMath
public import proofs.«01_k».proof.Proof.Gen.GlaRefIdeal.Run
public import Idealize.ShloMosaic.Lib.Pointwise

@[expose] public section

set_option maxRecDepth 16384

noncomputable section

open Idealize.ShloMosaic Idealize.ShloMosaic.TcCoe Idealize.ShloMosaic.Tactic Idealize.SL.Sem

namespace Cert.GlaRefIdeal.Pure

open Cert.GlaRefIdeal Cert.GlaRefIdeal.Gen

/-- The projected rows by sequence. -/
def x1 (a0 : FVec Ideal S32768x4608 .bf16) : FVec Ideal S16x2048x4608 .f32 :=
  (shapeCast S16x2048x4608 (extf .f32 a0 bitsLt_bf16_f32) shapeCasts_S32768x4608_S16x2048x4608)

/-- The output gate. -/
def x5 (a0 : FVec Ideal S32768x4608 .bf16) : FVec Ideal S16x2048x512 .f32 :=
  (extractStridedSlice S16x2048x512 ![0, 0, 3840] (x1 a0) slices_S16x2048x4608_S16x2048x512_0_0_3840)

/-- The decay gate before its nonlinearity. -/
def x14 (a0 : FVec Ideal S32768x4608 .bf16) (a1 : FVec Ideal S4x16x256 .f32) (a2 : FVec Ideal S4x256 .f32) : FVec Ideal S16x2048x256 .f32 :=
  (addf (Host.dotGeneral (F := Ideal) dot_S16x2048x16_S16x256_S16x2048x256_2_0_01_1_n_n none (extractStridedSlice S16x2048x16 ![0, 0, 4352] (x1 a0) slices_S16x2048x4608_S16x2048x16_0_0_4352) (shapeCast S16x256 (extractStridedSlice S1x16x256 ![0, 0, 0] a1 slices_S4x16x256_S1x16x256_0_0_0) shapeCasts_S1x16x256_S16x256)) (broadcastInDim S16x2048x256 ![0, 1, 2] bcast_S1x1x256_S16x2048x256_0_1_2 (broadcastInDim S1x1x256 ![2] bcast_S256_S1x1x256_2 (shapeCast S256 (extractStridedSlice S1x256 ![0, 0] a2 slices_S4x256_S1x256_0_0) shapeCasts_S1x256_S256))))

/-- The logarithm of the sigmoid, as a softplus. -/
def x15 (z : FVec Ideal S16x2048x256 .f32) : FVec Ideal S16x2048x256 .f32 :=
  (Host.negf (select (cmpf .une (subf (Host.negf z) (broadcastInDim S16x2048x256 ![] bcast_S_S16x2048x256 (constant (F := Ideal) S_ .f32 0x00000000#32))) (subf (Host.negf z) (broadcastInDim S16x2048x256 ![] bcast_S_S16x2048x256 (constant (F := Ideal) S_ .f32 0x00000000#32)))) (addf (Host.negf z) (broadcastInDim S16x2048x256 ![] bcast_S_S16x2048x256 (constant (F := Ideal) S_ .f32 0x00000000#32))) (addf (maximumf (Host.negf z) (broadcastInDim S16x2048x256 ![] bcast_S_S16x2048x256 (constant (F := Ideal) S_ .f32 0x00000000#32))) (Host.log1p (Host.exp (Host.negf (Host.absf (subf (Host.negf z) (broadcastInDim S16x2048x256 ![] bcast_S_S16x2048x256 (constant (F := Ideal) S_ .f32 0x00000000#32))))))))))

/-- The log decays by chunk and head. -/
def x25 (z : FVec Ideal S16x2048x256 .f32) : FVec Ideal S16x32x64x4x64 .f32 :=
  (shapeCast S16x32x64x4x64 (shapeCast S16x2048x4x64 (Host.divf z (broadcastInDim S16x2048x256 ![] bcast_S_S16x2048x256 (constant (F := Ideal) S_ .f32 0x41800000#32))) shapeCasts_S16x2048x256_S16x2048x4x64) shapeCasts_S16x2048x4x64_S16x32x64x4x64)

/-- The queries by chunk and head. -/
def x22 (a0 : FVec Ideal S32768x4608 .bf16) : FVec Ideal S16x32x64x4x64 .f32 :=
  (shapeCast S16x32x64x4x64 (shapeCast S16x2048x4x64 (extractStridedSlice S16x2048x256 ![0, 0, 2816] (x1 a0) slices_S16x2048x4608_S16x2048x256_0_0_2816) shapeCasts_S16x2048x256_S16x2048x4x64) shapeCasts_S16x2048x4x64_S16x32x64x4x64)

/-- The keys by chunk and head. -/
def x23 (a0 : FVec Ideal S32768x4608 .bf16) : FVec Ideal S16x32x64x4x64 .f32 :=
  (shapeCast S16x32x64x4x64 (shapeCast S16x2048x4x64 (extractStridedSlice S16x2048x256 ![0, 0, 3072] (x1 a0) slices_S16x2048x4608_S16x2048x256_0_0_3072) shapeCasts_S16x2048x256_S16x2048x4x64) shapeCasts_S16x2048x4x64_S16x32x64x4x64)

/-- The values by chunk and head. -/
def x24 (a0 : FVec Ideal S32768x4608 .bf16) : FVec Ideal S16x32x64x4x128 .f32 :=
  (shapeCast S16x32x64x4x128 (shapeCast S16x2048x4x128 (extractStridedSlice S16x2048x512 ![0, 0, 3328] (x1 a0) slices_S16x2048x4608_S16x2048x512_0_0_3328) shapeCasts_S16x2048x512_S16x2048x4x128) shapeCasts_S16x2048x4x128_S16x32x64x4x128)

/-- The running sum of the log decays within a chunk. -/
def x26 (l : FVec Ideal S16x32x64x4x64 .f32) : FVec Ideal S16x32x64x4x64 .f32 :=
  (Host.reduceWindowAdd (F := Ideal) ![1, 1, 64, 1, 1] ![1, 1, 1, 1, 1] ![0, 0, 63, 0, 0] ![0, 0, 0, 0, 0] l (broadcastInDim S_ ![] bcast_S_S_ (constant (F := Ideal) S_ .f32 0x00000000#32)) reduceWindows_S16x32x64x4x64_S16x32x64x4x64_w1s1p0_0_w1s1p0_0_w64s1p63_0_w1s1p0_0_w1s1p0_0 h_S_)

/-- The decayed queries. -/
def x29 (q b : FVec Ideal S16x32x64x4x64 .f32) : FVec Ideal S16x32x64x4x64 .f32 :=
  (mulf q (Host.exp b))

/-- The keys with their decay undone. -/
def x32 (k b : FVec Ideal S16x32x64x4x64 .f32) : FVec Ideal S16x32x64x4x64 .f32 :=
  (mulf k (Host.exp (Host.negf b)))

/-- The keys decayed to their chunk's end. -/
def x36 (k b : FVec Ideal S16x32x64x4x64 .f32) : FVec Ideal S16x32x64x4x64 .f32 :=
  (mulf k (Host.exp (subf (broadcastInDim S16x32x64x4x64 ![0, 1, 2, 3, 4] bcast_S16x32x1x4x64_S16x32x64x4x64_0_1_2_3_4 (extractStridedSlice S16x32x1x4x64 ![0, 0, 63, 0, 0] b slices_S16x32x64x4x64_S16x32x1x4x64_0_0_63_0_0)) b)))

/-- The causal mask of a chunk. -/
def x38  : IVec S64x64 1 :=
  (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))

/-- The masked scores. -/
def x40 (q k : FVec Ideal S16x32x64x4x64 .f32) : FVec Ideal S16x32x4x64x64 .f32 :=
  (select (broadcastInDim S16x32x4x64x64 ![3, 4] bcast_S64x64_S16x32x4x64x64_3_4 x38) (Host.dotGeneral (F := Ideal) dot_S16x32x64x4x64_S16x32x64x4x64_S16x32x4x64x64_4_4_2_2_013_013 none q k) (broadcastInDim S16x32x4x64x64 ![] bcast_S_S16x32x4x64x64 (constant (F := Ideal) S_ .f32 0x00000000#32)))

/-- The output from within the chunk. -/
def x42 (v : FVec Ideal S16x32x64x4x128 .f32) (s : FVec Ideal S16x32x4x64x64 .f32) : FVec Ideal S16x32x64x4x128 .f32 :=
  (transpose S16x32x64x4x128 [0, 1, 4, 2, 3] (Host.dotGeneral (F := Ideal) dot_S16x32x64x4x128_S16x32x4x64x64_S16x32x4x128x64_2_4_4_3_013_012 none v s) transposes_S16x32x4x128x64_S16x32x64x4x128_0_1_4_2_3)

/-- What each chunk adds to the state, chunks first. -/
def x47 (k : FVec Ideal S16x32x64x4x64 .f32) (v : FVec Ideal S16x32x64x4x128 .f32) : FVec Ideal S32x16x4x64x128 .f32 :=
  (transpose S32x16x4x64x128 [1, 0, 2, 3, 4] (Host.dotGeneral (F := Ideal) dot_S16x32x64x4x64_S16x32x64x4x128_S16x32x4x64x128_2_2_4_4_013_013 none k v) transposes_S16x32x4x64x128_S32x16x4x64x128_1_0_2_3_4)

/-- The decay over each chunk, chunks first. -/
def x48 (b : FVec Ideal S16x32x64x4x64 .f32) : FVec Ideal S32x16x4x64 .f32 :=
  (transpose S32x16x4x64 [1, 0, 2, 3] (Host.exp (shapeCast S16x32x4x64 (extractStridedSlice S16x32x1x4x64 ![0, 0, 63, 0, 0] b slices_S16x32x64x4x64_S16x32x1x4x64_0_0_63_0_0) shapeCasts_S16x32x1x4x64_S16x32x4x64)) transposes_S16x32x4x64_S32x16x4x64_1_0_2_3)

/-- The zero state. -/
def x46  : FVec Ideal S16x4x64x128 .f32 :=
  (broadcastInDim S16x4x64x128 ![] bcast_S_S16x4x64x128 (constant (F := Ideal) S_ .f32 0x00000000#32))

/-- The zero stack of states. -/
def x49  : FVec Ideal S32x16x4x64x128 .f32 :=
  (broadcastInDim S32x16x4x64x128 ![] bcast_S_S32x16x4x64x128 (constant (F := Ideal) S_ .f32 0x00000000#32))

/-- The output before its norm. -/
def x54 (o : FVec Ideal S16x32x64x4x128 .f32) (q : FVec Ideal S16x32x64x4x64 .f32) (S : FVec Ideal S32x16x4x64x128 .f32) : FVec Ideal S16x2048x4x128 .f32 :=
  (shapeCast S16x2048x4x128 (addf o (transpose S16x32x64x4x128 [0, 1, 4, 2, 3] (Host.dotGeneral (F := Ideal) dot_S16x32x4x64x128_S16x32x64x4x64_S16x32x4x128x64_3_4_4_2_012_013 none (transpose S16x32x4x64x128 [1, 0, 2, 3, 4] S transposes_S32x16x4x64x128_S16x32x4x64x128_1_0_2_3_4) q) transposes_S16x32x4x128x64_S16x32x64x4x128_0_1_4_2_3)) shapeCasts_S16x32x64x4x128_S16x2048x4x128)

/-- The normed output. -/
def x70 (y : FVec Ideal S16x2048x4x128 .f32) (a3 : FVec Ideal S4x128 .f32) : FVec Ideal S16x2048x4x128 .f32 :=
  (mulf (mulf y (broadcastInDim S16x2048x4x128 ![0, 1, 2, 3] bcast_S16x2048x4x1_S16x2048x4x128_0_1_2_3 (Host.rsqrt (addf (Host.divf (broadcastInDim S16x2048x4x1 ![0, 1, 2] bcast_S16x2048x4_S16x2048x4x1_0_1_2 (Host.reduceAdd (F := Ideal) (mulf y y) (constant (F := Ideal) S_ .f32 0x00000000#32) reducesTo_S16x2048x4x128_S16x2048x4_d3 h_S_)) (broadcastInDim S16x2048x4x1 ![] bcast_S_S16x2048x4x1 (constant (F := Ideal) S_ .f32 0x43000000#32))) (broadcastInDim S16x2048x4x1 ![] bcast_S_S16x2048x4x1 (constant (F := Ideal) S_ .f32 0x358637BD#32)))))) (broadcastInDim S16x2048x4x128 ![0, 1, 2, 3] bcast_S1x1x1x128_S16x2048x4x128_0_1_2_3 (broadcastInDim S1x1x1x128 ![3] bcast_S128_S1x1x1x128_3 (shapeCast S128 (extractStridedSlice S1x128 ![0, 0] a3 slices_S4x128_S1x128_0_0) shapeCasts_S1x128_S128))))

/-- The gate through its nonlinearity. -/
def x72 (g : FVec Ideal S16x2048x512 .f32) : FVec Ideal S16x2048x512 .f32 :=
  (mulf g (Host.divf (broadcastInDim S16x2048x512 ![] bcast_S_S16x2048x512 (constant (F := Ideal) S_ .f32 0x3F800000#32)) (addf (broadcastInDim S16x2048x512 ![] bcast_S_S16x2048x512 (constant (F := Ideal) S_ .f32 0x3F800000#32)) (Host.exp (Host.negf g)))))

/-- The result. -/
def x75 (y : FVec Ideal S16x2048x4x128 .f32) (g : FVec Ideal S16x2048x512 .f32) : FVec Ideal S32768x512 .bf16 :=
  (truncf .bf16 (shapeCast S32768x512 (mulf (shapeCast S16x2048x512 y shapeCasts_S16x2048x4x128_S16x2048x512) g) shapeCasts_S16x2048x512_S32768x512) bitsLt_bf16_f32)

end Cert.GlaRefIdeal.Pure

end
-- ==== Proof.GlaRefRead.lean ====
/-
  The reference of the gated linear attention, read entry by entry: the gate, the running decays, the scores, what each chunk
  adds to the state, and the normed and gated output.
-/
module

public import proofs.«01_k».proof.Proof.GlaRefPure

@[expose] public section

set_option maxRecDepth 16384

noncomputable section

open Idealize.ShloMosaic Idealize.ShloMosaic.TcCoe Idealize.ShloMosaic.Tactic Idealize.SL.Sem

namespace Cert.GlaRefIdeal.Pure

open Cert.GlaRefIdeal Cert.GlaRefIdeal.Gen Cert.GlaMath

/-- Splitting rows into chunks and columns into heads. -/
theorem split_k (x : S16x2048x256.Idx → EReal) (b : Fin 16) (n : Fin 32) (r : Fin 64) (h : Fin 4) (d : Fin 64) :
    shapeCast S16x32x64x4x64 (shapeCast S16x2048x4x64 x shapeCasts_S16x2048x256_S16x2048x4x64) shapeCasts_S16x2048x4x64_S16x32x64x4x64 (ix5 b n r h d)
      = x (ix3 b ⟨64 * n.val + r.val, by omega⟩ ⟨64 * h.val + d.val, by omega⟩) := by
  pointwise
  simp only [Nat.mul_comm]

theorem x1_apply (a0 : FVec Ideal S32768x4608 .bf16) (b : Fin 16) (t : Fin 2048) (c : Fin 4608) :
    x1 a0 (ix3 b t c) = a0 (ix2 ⟨2048 * b.val + t.val, by omega⟩ c) := by
  pointwise [x1]
  simp only [Nat.mul_comm]

theorem x14_apply (a0 : FVec Ideal S32768x4608 .bf16) (a1 : FVec Ideal S4x16x256 .f32) (a2 : FVec Ideal S4x256 .f32) (b : Fin 16) (t : Fin 2048) (c : Fin 256) :
    x14 a0 a1 a2 (ix3 b t c) = (∑ r : Fin 16, a0 (ix2 ⟨2048 * b.val + t.val, by omega⟩ ⟨4352 + r.val, by omega⟩) * a1 (ix3 0 r c)) + a2 (ix2 0 c) := by
  unfold x14
  have e := x1_apply a0
  generalize x1 a0 = y at e ⊢
  pointwise
  simp only [e]

theorem x15_apply (z : FVec Ideal S16x2048x256 .f32) (j : S16x2048x256.Idx) : x15 z j = min (z j) 0 - Ideal.log1p (Ideal.exp (0 - max (z j) (-(z j)))) := by
  rw [← soft_eq]
  pointwise [x15]
  rw [if_neg (fun h => h rfl)]
  rfl

theorem x25_apply (z : FVec Ideal S16x2048x256 .f32) (b : Fin 16) (n : Fin 32) (r : Fin 64) (h : Fin 4) (d : Fin 64) :
    x25 z (ix5 b n r h d) = Ideal.div (z (ix3 b ⟨64 * n.val + r.val, by omega⟩ ⟨64 * h.val + d.val, by omega⟩)) (Ideal.ofBits .f32 0x41800000#32) := by
  unfold x25
  rw [split_k]
  pointwise

theorem x38_apply (r s : Fin 64) : x38 (ix2 r s) = if s.val ≤ r.val then 1#1 else 0#1 := by
  have e : IntOp.cmpi CmpIPredicate.sge (IntOp.addi (BitVec.ofNat 32 r.val) 0#32) (BitVec.ofNat 32 s.val) = if s.val ≤ r.val then 1#1 else 0#1 := by
    have hr := r.isLt
    have hs := s.isLt
    have ir : (BitVec.ofNat 32 r.val + 0#32).toInt = (r.val : ℤ) := by
      rw [BitVec.add_zero, BitVec.toInt_eq_toNat_of_lt (by rw [BitVec.toNat_ofNat]; omega), BitVec.toNat_ofNat, Nat.mod_eq_of_lt (by omega)]
    have is : (BitVec.ofNat 32 s.val).toInt = (s.val : ℤ) := by
      rw [BitVec.toInt_eq_toNat_of_lt (by rw [BitVec.toNat_ofNat]; omega), BitVec.toNat_ofNat, Nat.mod_eq_of_lt (by omega)]
    show BitVec.ofBool (decide ((BitVec.ofNat 32 s.val).toInt ≤ (BitVec.ofNat 32 r.val + 0#32).toInt)) = _
    rw [ir, is]
    by_cases h : s.val ≤ r.val
    · rw [if_pos h, decide_eq_true (Int.ofNat_le.mpr h)]; rfl
    · rw [if_neg h, decide_eq_false (fun h' => h (Int.ofNat_le.mp h'))]; rfl
  pointwise [x38]
  rw [e]
  split <;> rfl

theorem x40_apply (q k : FVec Ideal S16x32x64x4x64 .f32) (b : Fin 16) (n : Fin 32) (h : Fin 4) (r s : Fin 64) :
    x40 q k (ix5 b n h r s) = if s.val ≤ r.val then ∑ d : Fin 64, q (ix5 b n r h d) * k (ix5 b n s h d) else 0 := by
  unfold x40
  have e := x38_apply
  generalize x38 = y at e ⊢
  pointwise
  rw [e]
  split <;> rfl

theorem x42_apply (v : FVec Ideal S16x32x64x4x128 .f32) (a : FVec Ideal S16x32x4x64x64 .f32) (b : Fin 16) (n : Fin 32) (r : Fin 64) (h : Fin 4) (u : Fin 128) :
    x42 v a (ix5 b n r h u) = ∑ s : Fin 64, v (ix5 b n s h u) * a (ix5 b n h r s) := by
  pointwise [x42]

theorem x47_apply (k : FVec Ideal S16x32x64x4x64 .f32) (v : FVec Ideal S16x32x64x4x128 .f32) (n : Fin 32) (b : Fin 16) (h : Fin 4) (d : Fin 64) (u : Fin 128) :
    x47 k v (ix5 n b h d u) = ∑ s : Fin 64, k (ix5 b n s h d) * v (ix5 b n s h u) := by
  pointwise [x47]

theorem x48_apply (l : FVec Ideal S16x32x64x4x64 .f32) (n : Fin 32) (b : Fin 16) (h : Fin 4) (d : Fin 64) :
    x48 l (ix4 n b h d) = Ideal.exp (l (ix5 b n 63 h d)) := by
  pointwise [x48]

theorem x36_apply (k l : FVec Ideal S16x32x64x4x64 .f32) (b : Fin 16) (n : Fin 32) (r : Fin 64) (h : Fin 4) (d : Fin 64) :
    x36 k l (ix5 b n r h d) = k (ix5 b n r h d) * Ideal.exp (l (ix5 b n 63 h d) - l (ix5 b n r h d)) := by
  pointwise [x36]

theorem x54_apply (o : FVec Ideal S16x32x64x4x128 .f32) (q : FVec Ideal S16x32x64x4x64 .f32) (S : FVec Ideal S32x16x4x64x128 .f32)
    (b : Fin 16) (n : Fin 32) (r : Fin 64) (h : Fin 4) (u : Fin 128) :
    x54 o q S (ix4 b ⟨64 * n.val + r.val, by omega⟩ h u) = o (ix5 b n r h u) + ∑ d : Fin 64, S (ix5 n b h d u) * q (ix5 b n r h d) := by
  pointwise [x54]

theorem x70_apply (y : FVec Ideal S16x2048x4x128 .f32) (a3 : FVec Ideal S4x128 .f32) (b : Fin 16) (t : Fin 2048) (h : Fin 4) (u : Fin 128) :
    x70 y a3 (ix4 b t h u) = y (ix4 b t h u) * Ideal.rsqrt (Ideal.div (∑ l : Fin 128, y (ix4 b t h l) * y (ix4 b t h l)) (Ideal.ofBits .f32 0x43000000#32) + Ideal.ofBits .f32 0x358637BD#32)
      * a3 (ix2 0 u) := by
  pointwise [x70]

theorem x72_apply (g : FVec Ideal S16x2048x512 .f32) (j : S16x2048x512.Idx) : x72 g j = Ideal.div (g j) (1 + Ideal.exp (0 - g j)) := by
  rw [← silu_eq]
  pointwise [x72]

theorem x75_apply (y : FVec Ideal S16x2048x4x128 .f32) (g : FVec Ideal S16x2048x512 .f32) (b : Fin 16) (t : Fin 2048) (h : Fin 4) (u : Fin 128) :
    x75 y g (ix2 ⟨2048 * b.val + t.val, by omega⟩ ⟨128 * h.val + u.val, by omega⟩) = y (ix4 b t h u) * g (ix3 b t ⟨128 * h.val + u.val, by omega⟩) := by
  pointwise [x75]

end Cert.GlaRefIdeal.Pure

end
-- ==== Proof.GlaRefSum.lean ====
/-
  The running sum of the log decays, read at an entry.
-/
module

public import proofs.«01_k».proof.Proof.GlaRefRead

@[expose] public section

set_option maxRecDepth 16384

noncomputable section

open Idealize.ShloMosaic Idealize.ShloMosaic.TcCoe Idealize.ShloMosaic.Tactic Idealize.SL.Sem

namespace Cert.GlaRefIdeal.Pure

open Cert.GlaRefIdeal Cert.GlaRefIdeal.Gen Cert.GlaMath

/-- Folding additions from the left is the sum of what is added. -/
theorem fold_sum {ι : Type} (f : ι → EReal) : ∀ (l : List ι) (a : EReal), l.foldl (fun r n => r + f n) a = a + (l.map f).sum
  | [], a => by rw [List.foldl_nil, List.map_nil, List.sum_nil, add_zero]
  | x :: l, a => by rw [List.foldl_cons, fold_sum f l, List.map_cons, List.sum_cons, add_assoc]

/-- The window of a running sum over 64 positions. -/
abbrev Win : Shape := ⟨5, ![1, 1, 64, 1, 1]⟩

theorem win_numel : Win.numel = 64 := by decide +kernel

/-- Position `n` of the window is `n` along its one long axis. -/
theorem win_symm (n : Fin Win.numel) : Win.rowMajor.symm n = ix5 0 0 (n.cast win_numel) 0 0 :=
  (Win.rowMajor.symm_apply_eq).2 (Fin.ext (by
    rw [Shape.rowMajor_val_five]
    show n.val = (((0 * 1 + 0) * 64 + n.val) * 1 + 0) * 1 + 0
    omega))

/-- A window that ends at `r` sums the entries up to `r`. -/
theorem window_sum (f : Fin 64 → EReal) (r : Fin 64) :
    (∑ n : Fin 64, if h : 63 ≤ r.val + n.val then f ⟨r.val + n.val - 63, by omega⟩ else 0) = ∑ s : Fin 64, if s.val ≤ r.val then f s else 0 := by
  refine Fintype.sum_equiv (Equiv.addRight (r + 1)) _ _ fun n => ?_
  have hv : ((Equiv.addRight (r + 1)) n).val = (r.val + n.val + 1) % 64 := by
    show (n + (r + 1)).val = _
    rw [Fin.val_add, Fin.val_add]
    show (n.val + (r.val + 1) % 64) % 64 = _
    omega
  by_cases h : 63 ≤ r.val + n.val
  · rw [dif_pos h, if_pos (by rw [hv]; omega)]
    exact congrArg f (Fin.ext (by rw [hv]; show r.val + n.val - 63 = _; omega))
  · rw [dif_neg h, if_neg (by rw [hv]; omega)]

/-- The running sum at a row is the sum of its chunk's entries up to that row. -/
theorem x26_apply (l : FVec Ideal S16x32x64x4x64 .f32) (b : Fin 16) (n : Fin 32) (r : Fin 64) (h : Fin 4) (d : Fin 64) :
    x26 l (ix5 b n r h d) = ∑ s : Fin 64, if s.val ≤ r.val then l (ix5 b n s h d) else 0 := by
  rw [← window_sum (fun s => l (ix5 b n s h d)) r]
  have hr := r.isLt
  unfold x26 Host.reduceWindowAdd
  show Ideal.hostReduceWindowAdd _ _ _ _ _ _ _ _ = _
  unfold Ideal.hostReduceWindowAdd Host.reduceWindow
  refine (fold_sum _ _ _).trans ?_
  have hz : (broadcastInDim S_ ![] bcast_S_S_ (constant (F := Ideal) S_ .f32 0x00000000#32)) (Shape.Idx.first h_S_) = (0 : EReal) := by
    pointwise
  simp only [hz]
  rw [zero_add, ← Fin.sum_univ_def]
  refine Fintype.sum_equiv (finCongr win_numel) _ _ fun k => ?_
  have hk : k.val < 64 := (k.cast win_numel).isLt
  have w := win_symm k
  have hw : ∀ a, (Win.rowMajor.symm k a).val = (ix5 (0 : Fin 1) (0 : Fin 1) (k.cast win_numel) (0 : Fin 1) (0 : Fin 1) a : Fin _).val := fun a => by rw [w]
  by_cases hc : 63 ≤ r.val + k.val
  · refine Eq.trans ?_ (dif_pos (show 63 ≤ r.val + (k.cast win_numel).val from hc)).symm
    have hin : ∀ a : Fin 5, (![0, 0, 63, 0, 0] : Fin 5 → Nat) a ≤ (ix5 b n r h d a : Fin _).val * (![1, 1, 1, 1, 1] : Fin 5 → Nat) a + (Win.rowMajor.symm k a).val
        ∧ (ix5 b n r h d a : Fin _).val * (![1, 1, 1, 1, 1] : Fin 5 → Nat) a + (Win.rowMajor.symm k a).val - (![0, 0, 63, 0, 0] : Fin 5 → Nat) a < S16x32x64x4x64.size a := by
      intro a
      rw [hw]
      match a with
      | ⟨0, _⟩ => show 0 ≤ b.val * 1 + 0 ∧ b.val * 1 + 0 - 0 < 16; omega
      | ⟨1, _⟩ => show 0 ≤ n.val * 1 + 0 ∧ n.val * 1 + 0 - 0 < 32; omega
      | ⟨2, _⟩ => show 63 ≤ r.val * 1 + k.val ∧ r.val * 1 + k.val - 63 < 64; omega
      | ⟨3, _⟩ => show 0 ≤ h.val * 1 + 0 ∧ h.val * 1 + 0 - 0 < 4; omega
      | ⟨4, _⟩ => show 0 ≤ d.val * 1 + 0 ∧ d.val * 1 + 0 - 0 < 64; omega
    refine (dif_pos hin).trans (congrArg l (funext fun a => Fin.ext ?_))
    show (ix5 b n r h d a : Fin _).val * (![1, 1, 1, 1, 1] : Fin 5 → Nat) a + (Win.rowMajor.symm k a).val - (![0, 0, 63, 0, 0] : Fin 5 → Nat) a = _
    rw [hw]
    match a with
    | ⟨0, _⟩ => show b.val * 1 + 0 - 0 = b.val; omega
    | ⟨1, _⟩ => show n.val * 1 + 0 - 0 = n.val; omega
    | ⟨2, _⟩ => show r.val * 1 + k.val - 63 = r.val + k.val - 63; omega
    | ⟨3, _⟩ => show h.val * 1 + 0 - 0 = h.val; omega
    | ⟨4, _⟩ => show d.val * 1 + 0 - 0 = d.val; omega
  · refine Eq.trans ?_ (dif_neg (show ¬ 63 ≤ r.val + (k.cast win_numel).val from hc)).symm
    refine dif_neg fun hin => hc ?_
    have h2 := (hin 2).1
    change 63 ≤ r.val * 1 + (Win.rowMajor.symm k 2).val at h2
    rw [hw 2] at h2
    change 63 ≤ r.val * 1 + k.val at h2
    omega

end Cert.GlaRefIdeal.Pure

end
-- ==== Proof.GlaRefLoop.lean ====
/-
  The loop over the chunks: before each trip the running state and the states stacked so far, entry by entry.
-/
module

public import proofs.«01_k».proof.Proof.GlaRefRead

@[expose] public section

set_option maxRecDepth 16384

noncomputable section

open Idealize.ShloMosaic Idealize.ShloMosaic.TcCoe Idealize.ShloMosaic.Tactic Idealize.SL.Sem

namespace Cert.GlaRefIdeal.Pure

open Cert.GlaRefIdeal Cert.GlaRefIdeal.Gen Cert.GlaRefIdeal.Value Cert.GlaMath
open Idealize.ShloMosaic.StableHlo

/-- The loop's counter, an integer below 32, read signed. -/
theorem iv_toInt (k : ℕ) (hk : k < 32) : (Scf.iv (0#32) 1#32 k).toInt = (k : ℤ) := by
  unfold Scf.iv
  rw [BitVec.zero_add, BitVec.mul_one, BitVec.toInt_eq_toNat_of_lt (by rw [BitVec.toNat_ofNat]; omega), BitVec.toNat_ofNat, Nat.mod_eq_of_lt (by omega)]

/-- Chunk `k` cut out of the stacked additions. -/
theorem cutK (K : FVec Ideal S32x16x4x64x128 .f32) (k : ℕ) (hk : k < 32) (st : Fin 5 → ℤ) (h0 : st 0 = k) (hs : ∀ a : Fin 4, st a.succ = 0) (b : Fin 16) (h : Fin 4) (d : Fin 64) (u : Fin 128) :
    (Host.dynamicSlice S1x16x4x64x128 K st sliceFits_S32x16x4x64x128_S1x16x4x64x128) (ix5 0 b h d u) = K (ix5 ⟨k, hk⟩ b h d u) := by
  unfold Host.dynamicSlice extractStridedSlice
  refine congrArg K (funext fun a => Fin.ext ?_)
  match a with
  | ⟨0, _⟩ => show (min (max (st 0) 0) ((32 - 1 : ℕ) : ℤ)).toNat + 0 = k; rw [h0]; omega
  | ⟨1, _⟩ => show (min (max (st 1) 0) ((16 - 16 : ℕ) : ℤ)).toNat + b.val = b.val; have := hs 0; change st 1 = 0 at this; rw [this]; omega
  | ⟨2, _⟩ => show (min (max (st 2) 0) ((4 - 4 : ℕ) : ℤ)).toNat + h.val = h.val; have := hs 1; change st 2 = 0 at this; rw [this]; omega
  | ⟨3, _⟩ => show (min (max (st 3) 0) ((64 - 64 : ℕ) : ℤ)).toNat + d.val = d.val; have := hs 2; change st 3 = 0 at this; rw [this]; omega
  | ⟨4, _⟩ => show (min (max (st 4) 0) ((128 - 128 : ℕ) : ℤ)).toNat + u.val = u.val; have := hs 3; change st 4 = 0 at this; rw [this]; omega

/-- Chunk `k` cut out of the stacked decays. -/
theorem cutL (L : FVec Ideal S32x16x4x64 .f32) (k : ℕ) (hk : k < 32) (st : Fin 4 → ℤ) (h0 : st 0 = k) (hs : ∀ a : Fin 3, st a.succ = 0) (b : Fin 16) (h : Fin 4) (d : Fin 64) :
    (Host.dynamicSlice S1x16x4x64 L st sliceFits_S32x16x4x64_S1x16x4x64) (ix4 0 b h d) = L (ix4 ⟨k, hk⟩ b h d) := by
  unfold Host.dynamicSlice extractStridedSlice
  refine congrArg L (funext fun a => Fin.ext ?_)
  match a with
  | ⟨0, _⟩ => show (min (max (st 0) 0) ((32 - 1 : ℕ) : ℤ)).toNat + 0 = k; rw [h0]; omega
  | ⟨1, _⟩ => show (min (max (st 1) 0) ((16 - 16 : ℕ) : ℤ)).toNat + b.val = b.val; have := hs 0; change st 1 = 0 at this; rw [this]; omega
  | ⟨2, _⟩ => show (min (max (st 2) 0) ((4 - 4 : ℕ) : ℤ)).toNat + h.val = h.val; have := hs 1; change st 2 = 0 at this; rw [this]; omega
  | ⟨3, _⟩ => show (min (max (st 3) 0) ((64 - 64 : ℕ) : ℤ)).toNat + d.val = d.val; have := hs 2; change st 3 = 0 at this; rw [this]; omega

/-- One state put at place `k` of the stack. -/
theorem putQ (Q : FVec Ideal S32x16x4x64x128 .f32) (U : FVec Ideal S1x16x4x64x128 .f32) (k : ℕ) (hk : k < 32) (st : Fin 5 → ℤ) (h0 : st 0 = k) (hs : ∀ a : Fin 4, st a.succ = 0)
    (n : Fin 32) (b : Fin 16) (h : Fin 4) (d : Fin 64) (u : Fin 128) :
    (Host.dynamicUpdateSlice Q U st updateFits_S32x16x4x64x128_S1x16x4x64x128) (ix5 n b h d u) = if n.val = k then U (ix5 0 b h d u) else Q (ix5 n b h d u) := by
  have s1 := hs 0; change st 1 = 0 at s1
  have s2 := hs 1; change st 2 = 0 at s2
  have s3 := hs 2; change st 3 = 0 at s3
  have s4 := hs 3; change st 4 = 0 at s4
  unfold Host.dynamicUpdateSlice updateSlice
  by_cases hn : n.val = k
  · rw [if_pos hn]
    refine (dif_pos fun a => ?_).trans (congrArg U (funext fun a => Fin.ext ?_))
    · match a with
      | ⟨0, _⟩ => show (min (max (st 0) 0) ((32 - 1 : ℕ) : ℤ)).toNat ≤ n.val ∧ n.val < (min (max (st 0) 0) ((32 - 1 : ℕ) : ℤ)).toNat + 1; rw [h0]; omega
      | ⟨1, _⟩ => show (min (max (st 1) 0) ((16 - 16 : ℕ) : ℤ)).toNat ≤ b.val ∧ b.val < (min (max (st 1) 0) ((16 - 16 : ℕ) : ℤ)).toNat + 16; rw [s1]; omega
      | ⟨2, _⟩ => show (min (max (st 2) 0) ((4 - 4 : ℕ) : ℤ)).toNat ≤ h.val ∧ h.val < (min (max (st 2) 0) ((4 - 4 : ℕ) : ℤ)).toNat + 4; rw [s2]; omega
      | ⟨3, _⟩ => show (min (max (st 3) 0) ((64 - 64 : ℕ) : ℤ)).toNat ≤ d.val ∧ d.val < (min (max (st 3) 0) ((64 - 64 : ℕ) : ℤ)).toNat + 64; rw [s3]; omega
      | ⟨4, _⟩ => show (min (max (st 4) 0) ((128 - 128 : ℕ) : ℤ)).toNat ≤ u.val ∧ u.val < (min (max (st 4) 0) ((128 - 128 : ℕ) : ℤ)).toNat + 128; rw [s4]; omega
    · match a with
      | ⟨0, _⟩ => show n.val - (min (max (st 0) 0) ((32 - 1 : ℕ) : ℤ)).toNat = 0; rw [h0]; omega
      | ⟨1, _⟩ => show b.val - (min (max (st 1) 0) ((16 - 16 : ℕ) : ℤ)).toNat = b.val; rw [s1]; omega
      | ⟨2, _⟩ => show h.val - (min (max (st 2) 0) ((4 - 4 : ℕ) : ℤ)).toNat = h.val; rw [s2]; omega
      | ⟨3, _⟩ => show d.val - (min (max (st 3) 0) ((64 - 64 : ℕ) : ℤ)).toNat = d.val; rw [s3]; omega
      | ⟨4, _⟩ => show u.val - (min (max (st 4) 0) ((128 - 128 : ℕ) : ℤ)).toNat = u.val; rw [s4]; omega
  · rw [if_neg hn]
    refine dif_neg fun hin => hn ?_
    have h1 := hin 0
    change (min (max (st 0) 0) ((32 - 1 : ℕ) : ℤ)).toNat ≤ n.val ∧ n.val < (min (max (st 0) 0) ((32 - 1 : ℕ) : ℤ)).toNat + 1 at h1
    rw [h0] at h1
    omega

/-- One trip's new state: the old one decayed, and what the chunk adds. -/
theorem trip_state (K : FVec Ideal S32x16x4x64x128 .f32) (L : FVec Ideal S32x16x4x64 .f32) (A : FVec Ideal S16x4x64x128 .f32) (ctr : IVec S_ 32) (k : ℕ) (hk : k < 32) (hc : ctr = fun _ => Scf.iv 0#32 1#32 k) (b : Fin 16) (h : Fin 4) (d : Fin 64) (u : Fin 128) :
    (addf (mulf A (broadcastInDim S16x4x64x128 ![0, 1, 2, 3] bcast_S16x4x64x1_S16x4x64x128_0_1_2_3 (broadcastInDim S16x4x64x1 ![0, 1, 2] bcast_S16x4x64_S16x4x64x1_0_1_2 (shapeCast S16x4x64 (Host.dynamicSlice S1x16x4x64 L (fun k => (((![ctr, constantI S_ 32 0#32, constantI S_ 32 0#32, constantI S_ 32 0#32] : Fin 4 → (⟨S_, .i32⟩ : BufTy).Contents (Elt Ideal))) k (Shape.Idx.first h_S_)).toInt) sliceFits_S32x16x4x64_S1x16x4x64) shapeCasts_S1x16x4x64_S16x4x64)))) (shapeCast S16x4x64x128 (Host.dynamicSlice S1x16x4x64x128 K (fun k => (((![ctr, constantI S_ 32 0#32, constantI S_ 32 0#32, constantI S_ 32 0#32, constantI S_ 32 0#32] : Fin 5 → (⟨S_, .i32⟩ : BufTy).Contents (Elt Ideal))) k (Shape.Idx.first h_S_)).toInt) sliceFits_S32x16x4x64x128_S1x16x4x64x128) shapeCasts_S1x16x4x64x128_S16x4x64x128)) (ix4 b h d u) = A (ix4 b h d u) * L (ix4 ⟨k, hk⟩ b h d) + K (ix5 ⟨k, hk⟩ b h d u) := by
  have eL := cutL L k hk (fun k => (((![ctr, constantI S_ 32 0#32, constantI S_ 32 0#32, constantI S_ 32 0#32] : Fin 4 → (⟨S_, .i32⟩ : BufTy).Contents (Elt Ideal))) k (Shape.Idx.first h_S_)).toInt) (by rw [hc]; exact iv_toInt k hk) (fun a => by fin_cases a <;> rfl) b h d
  have eK := cutK K k hk (fun k => (((![ctr, constantI S_ 32 0#32, constantI S_ 32 0#32, constantI S_ 32 0#32, constantI S_ 32 0#32] : Fin 5 → (⟨S_, .i32⟩ : BufTy).Contents (Elt Ideal))) k (Shape.Idx.first h_S_)).toInt) (by rw [hc]; exact iv_toInt k hk) (fun a => by fin_cases a <;> rfl) b h d u
  rw [← eK, ← eL]
  generalize Host.dynamicSlice S1x16x4x64 L (fun k => (((![ctr, constantI S_ 32 0#32, constantI S_ 32 0#32, constantI S_ 32 0#32] : Fin 4 → (⟨S_, .i32⟩ : BufTy).Contents (Elt Ideal))) k (Shape.Idx.first h_S_)).toInt) sliceFits_S32x16x4x64_S1x16x4x64 = X
  generalize Host.dynamicSlice S1x16x4x64x128 K (fun k => (((![ctr, constantI S_ 32 0#32, constantI S_ 32 0#32, constantI S_ 32 0#32, constantI S_ 32 0#32] : Fin 5 → (⟨S_, .i32⟩ : BufTy).Contents (Elt Ideal))) k (Shape.Idx.first h_S_)).toInt) sliceFits_S32x16x4x64x128_S1x16x4x64x128 = Y
  pointwise

/-- One trip's new stack: the state before the trip put at the trip's place. -/
theorem trip_stack (Q : FVec Ideal S32x16x4x64x128 .f32) (A : FVec Ideal S16x4x64x128 .f32) (ctr : IVec S_ 32) (k : ℕ) (hk : k < 32) (hc : ctr = fun _ => Scf.iv 0#32 1#32 k)
    (n : Fin 32) (b : Fin 16) (h : Fin 4) (d : Fin 64) (u : Fin 128) :
    (Host.dynamicUpdateSlice Q (broadcastInDim S1x16x4x64x128 ![1, 2, 3, 4] bcast_S16x4x64x128_S1x16x4x64x128_1_2_3_4 A) (fun k => (((![ctr, constantI S_ 32 0#32, constantI S_ 32 0#32, constantI S_ 32 0#32, constantI S_ 32 0#32] : Fin 5 → (⟨S_, .i32⟩ : BufTy).Contents (Elt Ideal))) k (Shape.Idx.first h_S_)).toInt) updateFits_S32x16x4x64x128_S1x16x4x64x128) (ix5 n b h d u) = if n.val = k then A (ix4 b h d u) else Q (ix5 n b h d u) := by
  subst hc
  rw [putQ Q _ k hk _ (iv_toInt k hk) (fun a => by fin_cases a <;> rfl)]
  have e : (broadcastInDim S1x16x4x64x128 ![1, 2, 3, 4] bcast_S16x4x64x128_S1x16x4x64x128_1_2_3_4 A) (ix5 0 b h d u) = A (ix4 b h d u) := by
    pointwise
  rw [e]

/-- The state at a place before chunk `n`. -/
def sv (K : FVec Ideal S32x16x4x64x128 .f32) (L : FVec Ideal S32x16x4x64 .f32) (b : Fin 16) (h : Fin 4) (d : Fin 64) (u : Fin 128) : ℕ → EReal
  | 0 => 0
  | n + 1 => if hn : n < 32 then sv K L b h d u n * L (ix4 ⟨n, hn⟩ b h d) + K (ix5 ⟨n, hn⟩ b h d u) else 0

theorem sv_succ (K : FVec Ideal S32x16x4x64x128 .f32) (L : FVec Ideal S32x16x4x64 .f32) (b : Fin 16) (h : Fin 4) (d : Fin 64) (u : Fin 128) (n : ℕ) (hn : n < 32) :
    sv K L b h d u (n + 1) = sv K L b h d u n * L (ix4 ⟨n, hn⟩ b h d) + K (ix5 ⟨n, hn⟩ b h d u) := by
  simp only [sv]
  rw [dif_pos hn]

variable (m : (ℓ : Loc nD τ sig) → Buf (Elt Ideal) ℓ)

/-- A buffer that neither the loop's condition nor its body writes keeps its contents through the loop. -/
theorem atK_keep (c : Dev nD) (r : Ref sig .tc) (hr : r ∉ condOps_W ++ while0Ops0_W ++ while0Ops0_1_W ++ while0Ops0_2_W ++ while0Ops0_3_W ++ while0Ops0_4_W) :
    ∀ k, atK m k c (Proc.devRef .tc r) = entryContents preI m c (Proc.devRef .tc r)
  | 0 => rfl
  | k + 1 => by
    simp only [List.mem_append, not_or] at hr
    obtain ⟨⟨⟨⟨⟨h0, h1⟩, h2⟩, h3⟩, h4⟩, h5⟩ := hr
    rw [show atK m (k + 1) c = afterL bodyI (after condOps (atK m k c)) from rfl]
    simp only [bodyI, afterL_cons, afterL_nil]
    rw [after_of_writes_sub while0Ops0_4 _ while0Ops0_4_writes h5, after_of_writes_sub while0Ops0_3 _ while0Ops0_3_writes h4, after_of_writes_sub while0Ops0_2 _ while0Ops0_2_writes h3,
      after_of_writes_sub while0Ops0_1 _ while0Ops0_1_writes h2, after_of_writes_sub while0Ops0 _ while0Ops0_writes h1, after_of_writes_sub condOps _ condOps_writes h0]
    exact atK_keep c r (by simp only [List.mem_append, not_or]; exact ⟨⟨⟨⟨⟨h0, h1⟩, h2⟩, h3⟩, h4⟩, h5⟩) k

/-- Before every trip: the two stacks the loop reads, the running state, and the states stacked so far. -/
theorem loop_state (K : FVec Ideal S32x16x4x64x128 .f32) (L : FVec Ideal S32x16x4x64 .f32) (c : Dev nD)
    (eK : entryContents preI m c (Proc.devRef .tc main_v50_0) = K) (eL : entryContents preI m c (Proc.devRef .tc main_v50_1) = L)
    (eA : entryContents preI m c (Proc.devRef .tc main_v50_3) = x46) (eQ : entryContents preI m c (Proc.devRef .tc main_v50_4) = x49) :
    ∀ k, k ≤ 32 → atK m k c (Proc.devRef .tc main_v50_0) = K ∧ atK m k c (Proc.devRef .tc main_v50_1) = L
      ∧ (∀ b h d u, (atK m k c (Proc.devRef .tc main_v50_3) : FVec Ideal S16x4x64x128 .f32) (ix4 b h d u) = sv K L b h d u k)
      ∧ (∀ (n : Fin 32) b h d u, n.val < k → (atK m k c (Proc.devRef .tc main_v50_4) : FVec Ideal S32x16x4x64x128 .f32) (ix5 n b h d u) = sv K L b h d u n.val)
  | 0, _ => by
    refine ⟨eK, eL, fun b h d u => ?_, fun n b h d u hn => absurd hn (Nat.not_lt_zero _)⟩
    rw [show atK m 0 c = entryContents preI m c from rfl, eA]
    show x46 (ix4 b h d u) = 0
    pointwise [x46]
  | k + 1, hk => by
    obtain ⟨iK, iL, iA, iQ⟩ := loop_state K L c eK eL eA eQ k (by omega)
    have ic := atK_ctr m c k
    have kc : ∀ r, r ∈ carriedRefs → after condOps (atK m k c) (Proc.devRef .tc r) = atK m k c (Proc.devRef .tc r) := cond_keeps (atK m k c)
    rw [show atK m (k + 1) c = afterL bodyI (after condOps (atK m k c)) from rfl]
    refine ⟨?_, ?_, fun b h d u => ?_, fun n b h d u hn => ?_⟩
    · exact (trip_main_v50_0 _).trans ((kc main_v50_0 (by decide)).trans iK)
    · exact (trip_main_v50_1 _).trans ((kc main_v50_1 (by decide)).trans iL)
    · refine (congrFun (trip_main_v50_3 _) _).trans ?_
      rw [kc main_v50_0 (by decide), kc main_v50_1 (by decide), kc main_v50_2 (by decide), kc main_v50_3 (by decide), iK, iL]
      refine (trip_state K L _ _ k (by omega) ic b h d u).trans ?_
      rw [iA]
      exact (sv_succ K L b h d u k (by omega)).symm
    · refine (congrFun (trip_main_v50_4 _) _).trans ?_
      rw [kc main_v50_2 (by decide), kc main_v50_3 (by decide), kc main_v50_4 (by decide)]
      refine (trip_stack _ _ _ k (by omega) ic n b h d u).trans ?_
      by_cases e : n.val = k
      · rw [if_pos e, iA, e]
      · rw [if_neg e, iQ n b h d u (by omega)]

end Cert.GlaRefIdeal.Pure

end
-- ==== Proof.GlaRefEntry.lean ====
/-
  The reference's buffers when its loop over the chunks begins, as plain functions of the arguments.
-/
module

public import proofs.«01_k».proof.Proof.GlaRefPure

@[expose] public section

set_option maxRecDepth 16384

noncomputable section

open Idealize.ShloMosaic Idealize.ShloMosaic.TcCoe Idealize.ShloMosaic.Tactic Idealize.SL.Sem

namespace Cert.GlaRefIdeal.Pure

open Cert.GlaRefIdeal Cert.GlaRefIdeal.Gen Cert.GlaRefIdeal.Value
open Idealize.ShloMosaic.StableHlo

variable (m : (ℓ : Loc nD τ sig) → Buf (Elt Ideal) ℓ)

set_option maxHeartbeats 4000000 in
/-- The output gate at the entry. -/
theorem entry_main_v5 (c : Dev nD) : entryContents preI m c (Proc.devRef .tc main_v5) = x5 (m ((c.tc : Thread nD τ).loc main_arg0)) := by
  simp only [entryContents, afterL_cons, afterL_nil]
  after_reads_simp
  rfl

set_option maxHeartbeats 4000000 in
/-- The decayed queries at the entry. -/
theorem entry_main_v29 (c : Dev nD) : entryContents preI m c (Proc.devRef .tc main_v29) = x29 (x22 (m ((c.tc : Thread nD τ).loc main_arg0))) (x26 (x25 (x15 (x14 (m ((c.tc : Thread nD τ).loc main_arg0)) (m ((c.tc : Thread nD τ).loc main_arg1)) (m ((c.tc : Thread nD τ).loc main_arg2)))))) := by
  simp only [entryContents, afterL_cons, afterL_nil]
  after_reads_simp
  rfl

set_option maxHeartbeats 4000000 in
/-- The chunks' own output at the entry. -/
theorem entry_main_v42 (c : Dev nD) : entryContents preI m c (Proc.devRef .tc main_v42) = x42 (x24 (m ((c.tc : Thread nD τ).loc main_arg0))) (x40 (x29 (x22 (m ((c.tc : Thread nD τ).loc main_arg0))) (x26 (x25 (x15 (x14 (m ((c.tc : Thread nD τ).loc main_arg0)) (m ((c.tc : Thread nD τ).loc main_arg1)) (m ((c.tc : Thread nD τ).loc main_arg2))))))) (x32 (x23 (m ((c.tc : Thread nD τ).loc main_arg0))) (x26 (x25 (x15 (x14 (m ((c.tc : Thread nD τ).loc main_arg0)) (m ((c.tc : Thread nD τ).loc main_arg1)) (m ((c.tc : Thread nD τ).loc main_arg2)))))))) := by
  simp only [entryContents, afterL_cons, afterL_nil]
  after_reads_simp
  rfl

set_option maxHeartbeats 4000000 in
/-- What each chunk adds to the state, at the entry. -/
theorem entry_main_v50_0 (c : Dev nD) : entryContents preI m c (Proc.devRef .tc main_v50_0) = x47 (x36 (x23 (m ((c.tc : Thread nD τ).loc main_arg0))) (x26 (x25 (x15 (x14 (m ((c.tc : Thread nD τ).loc main_arg0)) (m ((c.tc : Thread nD τ).loc main_arg1)) (m ((c.tc : Thread nD τ).loc main_arg2))))))) (x24 (m ((c.tc : Thread nD τ).loc main_arg0))) := by
  simp only [entryContents, afterL_cons, afterL_nil]
  after_reads_simp
  rfl

set_option maxHeartbeats 4000000 in
/-- The decay over each chunk, at the entry. -/
theorem entry_main_v50_1 (c : Dev nD) : entryContents preI m c (Proc.devRef .tc main_v50_1) = x48 (x26 (x25 (x15 (x14 (m ((c.tc : Thread nD τ).loc main_arg0)) (m ((c.tc : Thread nD τ).loc main_arg1)) (m ((c.tc : Thread nD τ).loc main_arg2)))))) := by
  simp only [entryContents, afterL_cons, afterL_nil]
  after_reads_simp
  rfl

set_option maxHeartbeats 4000000 in
/-- The zero state at the entry. -/
theorem entry_main_v50_3 (c : Dev nD) : entryContents preI m c (Proc.devRef .tc main_v50_3) = x46 := by
  simp only [entryContents, afterL_cons, afterL_nil]
  after_reads_simp
  rfl

set_option maxHeartbeats 4000000 in
/-- The zero stack at the entry. -/
theorem entry_main_v50_4 (c : Dev nD) : entryContents preI m c (Proc.devRef .tc main_v50_4) = x49 := by
  simp only [entryContents, afterL_cons, afterL_nil]
  after_reads_simp
  rfl

set_option maxHeartbeats 4000000 in
/-- An argument at the entry. -/
theorem entry_main_arg0 (c : Dev nD) : entryContents preI m c (Proc.devRef .tc main_arg0) = (m ((c.tc : Thread nD τ).loc main_arg0)) := by
  simp only [entryContents, afterL_cons, afterL_nil]
  after_reads_simp

set_option maxHeartbeats 4000000 in
/-- An argument at the entry. -/
theorem entry_main_arg1 (c : Dev nD) : entryContents preI m c (Proc.devRef .tc main_arg1) = (m ((c.tc : Thread nD τ).loc main_arg1)) := by
  simp only [entryContents, afterL_cons, afterL_nil]
  after_reads_simp

set_option maxHeartbeats 4000000 in
/-- An argument at the entry. -/
theorem entry_main_arg2 (c : Dev nD) : entryContents preI m c (Proc.devRef .tc main_arg2) = (m ((c.tc : Thread nD τ).loc main_arg2)) := by
  simp only [entryContents, afterL_cons, afterL_nil]
  after_reads_simp

set_option maxHeartbeats 4000000 in
/-- An argument at the entry. -/
theorem entry_main_arg3 (c : Dev nD) : entryContents preI m c (Proc.devRef .tc main_arg3) = (m ((c.tc : Thread nD τ).loc main_arg3)) := by
  simp only [entryContents, afterL_cons, afterL_nil]
  after_reads_simp

end Cert.GlaRefIdeal.Pure

end
-- ==== Proof.GlaPay.lean ====
/-
  The payloads of the gated linear attention's kernel body, read at an index.
-/
module

public import proofs.«01_k».proof.Proof.GlaMath
public import proofs.«01_k».proof.Proof.Gen.GlaIdeal.Skeleton
public import Idealize.ShloMosaic.Lib.Pointwise

@[expose] public section

set_option maxRecDepth 16384

noncomputable section

open Idealize.ShloMosaic Idealize.ShloMosaic.TcCoe Idealize.ShloMosaic.Tactic

namespace Cert.GlaIdeal.Pay

open Cert.GlaIdeal Cert.GlaIdeal.Gen Cert.GlaMath

/-- The pre-activation's gate, from the low-rank lanes, the second factor and the bias. -/
def L (a : Vec Ideal S512x128 .bf16) (b : Vec Ideal S128x128 .bf16) (g : Vec Ideal S1x128 .f32) (k : Fin 512) (c : Fin 128) : EReal :=
  lsg ((∑ j : Fin 128, a (ix2 k j) * b (ix2 j c)) + g (ix2 0 c))

/-- The running sums: the mask's upper half against the gates and against what their rounding leaves. -/
theorem pay4_apply (a : Vec Ideal S512x128 .bf16) (b : Vec Ideal S128x128 .bf16) (g : Vec Ideal S1x128 .f32) (M : Vec Ideal S1024x512 .bf16)
    (r : Fin 512) (c : Fin 128) :
    (k0_pay4 a b g M : S512x128.Idx → EReal) (ix2 r c)
      = (∑ k : Fin 512, M (ix2 ⟨r.val, by omega⟩ k) * L a b g k c) + ∑ k : Fin 512, M (ix2 ⟨r.val, by omega⟩ k) * (L a b g k c - L a b g k c) := by
  unfold L lsg
  pointwise [k0_pay4, k0_pay3]
  rfl

/-- The whole-chunk sums: the mask's lower half. -/
theorem pay5_apply (a : Vec Ideal S512x128 .bf16) (b : Vec Ideal S128x128 .bf16) (g : Vec Ideal S1x128 .f32) (M : Vec Ideal S1024x512 .bf16)
    (r : Fin 512) (c : Fin 128) :
    (k0_pay5 a b g M : S512x128.Idx → EReal) (ix2 r c)
      = (∑ k : Fin 512, M (ix2 ⟨512 + r.val, by omega⟩ k) * L a b g k c) + ∑ k : Fin 512, M (ix2 ⟨512 + r.val, by omega⟩ k) * (L a b g k c - L a b g k c) := by
  unfold L lsg
  pointwise [k0_pay5, k0_pay3]
  rfl

theorem pay8_apply (b q : FVec Ideal S512x128 .f32) (r : Fin 512) (c : Fin 128) :
    (k0_pay8 b q : S512x128.Idx → EReal) (ix2 r c) = q (ix2 r c) * Ideal.exp (b (ix2 r c)) := by
  pointwise [k0_pay8]

theorem pay6_apply (q : Vec Ideal S512x128 .bf16) (r : Fin 512) (c : Fin 128) :
    (k0_pay6 q : S512x128.Idx → EReal) (ix2 r c) = q (ix2 r c) := by
  pointwise [k0_pay6]

theorem pay9_apply (b : FVec Ideal S512x128 .f32) (k : Vec Ideal S512x128 .bf16) (r : Fin 512) (c : Fin 128) :
    (k0_pay9 b k : S512x128.Idx → EReal) (ix2 r c) = k (ix2 r c) * Ideal.exp (0 - b (ix2 r c)) := by
  pointwise [k0_pay9, k0_pay7]

theorem pay10_apply (b e : FVec Ideal S512x128 .f32) (k : Vec Ideal S512x128 .bf16) (r : Fin 512) (c : Fin 128) :
    (k0_pay10 b e k : S512x128.Idx → EReal) (ix2 r c) = k (ix2 r c) * Ideal.exp (e (ix2 r c) - b (ix2 r c)) := by
  pointwise [k0_pay10, k0_pay7]

theorem pay11_apply (e : FVec Ideal S512x128 .f32) (r : Fin 512) (c : Fin 128) :
    (k0_pay11 e : S512x128.Idx → EReal) (ix2 r c) = Ideal.exp (e (ix2 r c)) := by
  pointwise [k0_pay11]

/-- The left half of the lanes. -/
theorem pay12_apply (r : Fin 512) (c : Fin 128) : k0_pay12 (ix2 r c) = 1#1 ↔ c.val < 64 := by
  revert c; unfold k0_pay12; pointwise; decide

theorem pay14_apply (M : Vec Ideal S512x512 .bf16) (r k : Fin 512) : k0_pay14 M (ix2 r k) = 1#1 ↔ 0 < (M (ix2 r k) : EReal) := by
  pointwise [k0_pay14]
  by_cases h : (0 : EReal) < M (ix2 r k) <;> simp [h]

/-- One head's scores within the block, masked, against its values: the left head. -/
theorem pay15_apply (b q : FVec Ideal S512x128 .f32) (k : Vec Ideal S512x128 .bf16) (M : Vec Ideal S512x512 .bf16) (v : Vec Ideal S512x256 .bf16)
    (r : Fin 512) (c : Fin 128) :
    (k0_pay15 b q k M v : S512x128.Idx → EReal) (ix2 r c)
      = ∑ s : Fin 512, if k0_pay14 M (ix2 r s) = 1#1 then
          (∑ l : Fin 128, if k0_pay12 (ix2 r l) = 1#1 then (k0_pay8 b q : S512x128.Idx → EReal) (ix2 r l) * (k0_pay9 b k : S512x128.Idx → EReal) (ix2 s l) else 0)
          * v (ix2 s ⟨c.val, by omega⟩) else 0 := by
  unfold k0_pay15
  generalize k0_pay14 M = m1
  generalize k0_pay12 = m2
  generalize k0_pay8 b q = a1
  generalize k0_pay9 b k = a2
  pointwise [k0_pay13]
  rfl

/-- The right head. -/
theorem pay16_apply (b q : FVec Ideal S512x128 .f32) (k : Vec Ideal S512x128 .bf16) (M : Vec Ideal S512x512 .bf16) (v : Vec Ideal S512x256 .bf16)
    (r : Fin 512) (c : Fin 128) :
    (k0_pay16 b q k M v : S512x128.Idx → EReal) (ix2 r c)
      = ∑ s : Fin 512, if k0_pay14 M (ix2 r s) = 1#1 then
          (∑ l : Fin 128, if k0_pay12 (ix2 r l) = 1#1 then 0 else (k0_pay8 b q : S512x128.Idx → EReal) (ix2 r l) * (k0_pay9 b k : S512x128.Idx → EReal) (ix2 s l))
          * v (ix2 s ⟨128 + c.val, by omega⟩) else 0 := by
  unfold k0_pay16
  generalize k0_pay14 M = m1
  generalize k0_pay12 = m2
  generalize k0_pay8 b q = a1
  generalize k0_pay9 b k = a2
  pointwise [k0_pay13]
  rfl

theorem inter0 (q k : FVec Ideal S512x128 .bf16) (d : FVec Ideal S512x128 .f32) (v : Vec Ideal S512x256 .bf16) (o : IVec S256x128 1)
    (s : Vec Ideal S256x128 .f32) (r : Fin 64) (u : Fin 256) :
    (k0_pay20 q s : S64x256.Idx → EReal) (ix2 r u) = ∑ l : Fin 128, q (ix2 ⟨0 + r.val, by omega⟩ l) * (s : S256x128.Idx → EReal) (ix2 u l) := by
  unfold k0_pay20
  pointwise

theorem step0 (k : FVec Ideal S512x128 .bf16) (d : FVec Ideal S512x128 .f32) (v : Vec Ideal S512x256 .bf16) (o : IVec S256x128 1)
    (s : Vec Ideal S256x128 .f32) (u : Fin 256) (l : Fin 128) :
    (k0_pay21 k d v o s : S256x128.Idx → EReal) (ix2 u l) = (s : S256x128.Idx → EReal) (ix2 u l) * d (ix2 ⟨0, by omega⟩ l)
      + if o (ix2 u l) = 1#1 then ∑ t : Fin 64, v (ix2 ⟨0 + t.val, by omega⟩ u) * k (ix2 ⟨0 + t.val, by omega⟩ l) else 0 := by
  unfold k0_pay21
  pointwise
  rfl

theorem inter1 (q k : FVec Ideal S512x128 .bf16) (d : FVec Ideal S512x128 .f32) (v : Vec Ideal S512x256 .bf16) (o : IVec S256x128 1)
    (s : Vec Ideal S256x128 .f32) (r : Fin 64) (u : Fin 256) :
    (k0_pay22 q k d v o s : S64x256.Idx → EReal) (ix2 r u) = ∑ l : Fin 128, q (ix2 ⟨64 + r.val, by omega⟩ l) * (k0_pay21 k d v o s : S256x128.Idx → EReal) (ix2 u l) := by
  unfold k0_pay22
  generalize k0_pay21 k d v o s = S
  pointwise

theorem step1 (k : FVec Ideal S512x128 .bf16) (d : FVec Ideal S512x128 .f32) (v : Vec Ideal S512x256 .bf16) (o : IVec S256x128 1)
    (s : Vec Ideal S256x128 .f32) (u : Fin 256) (l : Fin 128) :
    (k0_pay23 k d v o s : S256x128.Idx → EReal) (ix2 u l) = (k0_pay21 k d v o s : S256x128.Idx → EReal) (ix2 u l) * d (ix2 ⟨64, by omega⟩ l)
      + if o (ix2 u l) = 1#1 then ∑ t : Fin 64, v (ix2 ⟨64 + t.val, by omega⟩ u) * k (ix2 ⟨64 + t.val, by omega⟩ l) else 0 := by
  unfold k0_pay23
  generalize k0_pay21 k d v o s = S
  pointwise
  rfl

theorem inter2 (q k : FVec Ideal S512x128 .bf16) (d : FVec Ideal S512x128 .f32) (v : Vec Ideal S512x256 .bf16) (o : IVec S256x128 1)
    (s : Vec Ideal S256x128 .f32) (r : Fin 64) (u : Fin 256) :
    (k0_pay24 q k d v o s : S64x256.Idx → EReal) (ix2 r u) = ∑ l : Fin 128, q (ix2 ⟨128 + r.val, by omega⟩ l) * (k0_pay23 k d v o s : S256x128.Idx → EReal) (ix2 u l) := by
  unfold k0_pay24
  generalize k0_pay23 k d v o s = S
  pointwise

theorem step2 (k : FVec Ideal S512x128 .bf16) (d : FVec Ideal S512x128 .f32) (v : Vec Ideal S512x256 .bf16) (o : IVec S256x128 1)
    (s : Vec Ideal S256x128 .f32) (u : Fin 256) (l : Fin 128) :
    (k0_pay25 k d v o s : S256x128.Idx → EReal) (ix2 u l) = (k0_pay23 k d v o s : S256x128.Idx → EReal) (ix2 u l) * d (ix2 ⟨128, by omega⟩ l)
      + if o (ix2 u l) = 1#1 then ∑ t : Fin 64, v (ix2 ⟨128 + t.val, by omega⟩ u) * k (ix2 ⟨128 + t.val, by omega⟩ l) else 0 := by
  unfold k0_pay25
  generalize k0_pay23 k d v o s = S
  pointwise
  rfl

theorem inter3 (q k : FVec Ideal S512x128 .bf16) (d : FVec Ideal S512x128 .f32) (v : Vec Ideal S512x256 .bf16) (o : IVec S256x128 1)
    (s : Vec Ideal S256x128 .f32) (r : Fin 64) (u : Fin 256) :
    (k0_pay26 q k d v o s : S64x256.Idx → EReal) (ix2 r u) = ∑ l : Fin 128, q (ix2 ⟨192 + r.val, by omega⟩ l) * (k0_pay25 k d v o s : S256x128.Idx → EReal) (ix2 u l) := by
  unfold k0_pay26
  generalize k0_pay25 k d v o s = S
  pointwise

theorem step3 (k : FVec Ideal S512x128 .bf16) (d : FVec Ideal S512x128 .f32) (v : Vec Ideal S512x256 .bf16) (o : IVec S256x128 1)
    (s : Vec Ideal S256x128 .f32) (u : Fin 256) (l : Fin 128) :
    (k0_pay27 k d v o s : S256x128.Idx → EReal) (ix2 u l) = (k0_pay25 k d v o s : S256x128.Idx → EReal) (ix2 u l) * d (ix2 ⟨192, by omega⟩ l)
      + if o (ix2 u l) = 1#1 then ∑ t : Fin 64, v (ix2 ⟨192 + t.val, by omega⟩ u) * k (ix2 ⟨192 + t.val, by omega⟩ l) else 0 := by
  unfold k0_pay27
  generalize k0_pay25 k d v o s = S
  pointwise
  rfl

theorem inter4 (q k : FVec Ideal S512x128 .bf16) (d : FVec Ideal S512x128 .f32) (v : Vec Ideal S512x256 .bf16) (o : IVec S256x128 1)
    (s : Vec Ideal S256x128 .f32) (r : Fin 64) (u : Fin 256) :
    (k0_pay28 q s : S64x256.Idx → EReal) (ix2 r u) = ∑ l : Fin 128, q (ix2 ⟨256 + r.val, by omega⟩ l) * (s : S256x128.Idx → EReal) (ix2 u l) := by
  unfold k0_pay28
  pointwise

theorem step4 (k : FVec Ideal S512x128 .bf16) (d : FVec Ideal S512x128 .f32) (v : Vec Ideal S512x256 .bf16) (o : IVec S256x128 1)
    (s : Vec Ideal S256x128 .f32) (u : Fin 256) (l : Fin 128) :
    (k0_pay29 k d v o s : S256x128.Idx → EReal) (ix2 u l) = (s : S256x128.Idx → EReal) (ix2 u l) * d (ix2 ⟨256, by omega⟩ l)
      + if o (ix2 u l) = 1#1 then ∑ t : Fin 64, v (ix2 ⟨256 + t.val, by omega⟩ u) * k (ix2 ⟨256 + t.val, by omega⟩ l) else 0 := by
  unfold k0_pay29
  pointwise
  rfl

theorem inter5 (q k : FVec Ideal S512x128 .bf16) (d : FVec Ideal S512x128 .f32) (v : Vec Ideal S512x256 .bf16) (o : IVec S256x128 1)
    (s : Vec Ideal S256x128 .f32) (r : Fin 64) (u : Fin 256) :
    (k0_pay30 q k d v o s : S64x256.Idx → EReal) (ix2 r u) = ∑ l : Fin 128, q (ix2 ⟨320 + r.val, by omega⟩ l) * (k0_pay29 k d v o s : S256x128.Idx → EReal) (ix2 u l) := by
  unfold k0_pay30
  generalize k0_pay29 k d v o s = S
  pointwise

theorem step5 (k : FVec Ideal S512x128 .bf16) (d : FVec Ideal S512x128 .f32) (v : Vec Ideal S512x256 .bf16) (o : IVec S256x128 1)
    (s : Vec Ideal S256x128 .f32) (u : Fin 256) (l : Fin 128) :
    (k0_pay31 k d v o s : S256x128.Idx → EReal) (ix2 u l) = (k0_pay29 k d v o s : S256x128.Idx → EReal) (ix2 u l) * d (ix2 ⟨320, by omega⟩ l)
      + if o (ix2 u l) = 1#1 then ∑ t : Fin 64, v (ix2 ⟨320 + t.val, by omega⟩ u) * k (ix2 ⟨320 + t.val, by omega⟩ l) else 0 := by
  unfold k0_pay31
  generalize k0_pay29 k d v o s = S
  pointwise
  rfl

theorem inter6 (q k : FVec Ideal S512x128 .bf16) (d : FVec Ideal S512x128 .f32) (v : Vec Ideal S512x256 .bf16) (o : IVec S256x128 1)
    (s : Vec Ideal S256x128 .f32) (r : Fin 64) (u : Fin 256) :
    (k0_pay32 q k d v o s : S64x256.Idx → EReal) (ix2 r u) = ∑ l : Fin 128, q (ix2 ⟨384 + r.val, by omega⟩ l) * (k0_pay31 k d v o s : S256x128.Idx → EReal) (ix2 u l) := by
  unfold k0_pay32
  generalize k0_pay31 k d v o s = S
  pointwise

theorem step6 (k : FVec Ideal S512x128 .bf16) (d : FVec Ideal S512x128 .f32) (v : Vec Ideal S512x256 .bf16) (o : IVec S256x128 1)
    (s : Vec Ideal S256x128 .f32) (u : Fin 256) (l : Fin 128) :
    (k0_pay33 k d v o s : S256x128.Idx → EReal) (ix2 u l) = (k0_pay31 k d v o s : S256x128.Idx → EReal) (ix2 u l) * d (ix2 ⟨384, by omega⟩ l)
      + if o (ix2 u l) = 1#1 then ∑ t : Fin 64, v (ix2 ⟨384 + t.val, by omega⟩ u) * k (ix2 ⟨384 + t.val, by omega⟩ l) else 0 := by
  unfold k0_pay33
  generalize k0_pay31 k d v o s = S
  pointwise
  rfl

theorem inter7 (q k : FVec Ideal S512x128 .bf16) (d : FVec Ideal S512x128 .f32) (v : Vec Ideal S512x256 .bf16) (o : IVec S256x128 1)
    (s : Vec Ideal S256x128 .f32) (r : Fin 64) (u : Fin 256) :
    (k0_pay34 q k d v o s : S64x256.Idx → EReal) (ix2 r u) = ∑ l : Fin 128, q (ix2 ⟨448 + r.val, by omega⟩ l) * (k0_pay33 k d v o s : S256x128.Idx → EReal) (ix2 u l) := by
  unfold k0_pay34
  generalize k0_pay33 k d v o s = S
  pointwise

theorem step7 (k : FVec Ideal S512x128 .bf16) (d : FVec Ideal S512x128 .f32) (v : Vec Ideal S512x256 .bf16) (o : IVec S256x128 1)
    (s : Vec Ideal S256x128 .f32) (u : Fin 256) (l : Fin 128) :
    (k0_pay35 k d v o s : S256x128.Idx → EReal) (ix2 u l) = (k0_pay33 k d v o s : S256x128.Idx → EReal) (ix2 u l) * d (ix2 ⟨448, by omega⟩ l)
      + if o (ix2 u l) = 1#1 then ∑ t : Fin 64, v (ix2 ⟨448 + t.val, by omega⟩ u) * k (ix2 ⟨448 + t.val, by omega⟩ l) else 0 := by
  unfold k0_pay35
  generalize k0_pay33 k d v o s = S
  pointwise
  rfl

end Cert.GlaIdeal.Pay

end
-- ==== Proof.GlaTail.lean ====
/-
  The last payloads of the gated linear attention's kernel body, read at an index.
-/
module

public import proofs.«01_k».proof.Proof.GlaMath
public import proofs.«01_k».proof.Proof.Gen.GlaIdeal.Skeleton
public import Idealize.ShloMosaic.Lib.Pointwise

@[expose] public section

set_option maxRecDepth 16384

noncomputable section

open Idealize.ShloMosaic Idealize.ShloMosaic.TcCoe Idealize.ShloMosaic.Tactic

namespace Cert.GlaIdeal.Pay

open Cert.GlaIdeal Cert.GlaIdeal.Gen Cert.GlaMath

/-- The gated norm of one head's row `o` at lane `c`, with scale `g` and gate pre-activation `z`. -/
def fin (o : Fin 128 → EReal) (g z : EReal) (c : Fin 128) : EReal :=
  o c * Ideal.rsqrt (Ideal.div (∑ u : Fin 128, o u * o u) (Ideal.ofBits .f32 0x43000000#32) + Ideal.ofBits .f32 0x358637BD#32)
    * g * Ideal.div z (1 + Ideal.exp (0 - z))

theorem pay36_eq (v : FVec Ideal S256x128 .f32) : k0_pay36 v = v := by
  funext j
  obtain ⟨r, l, rfl⟩ : ∃ (r : Fin 256) (l : Fin 128), j = ix2 r l := ⟨j 0, j 1, eq_ix2 j⟩
  pointwise [k0_pay36]

theorem pay2_apply (u : Fin 256) (l : Fin 128) : (k0_pay2 (F := Ideal) : S256x128.Idx → EReal) (ix2 u l) = 0 := by
  pointwise [k0_pay2]

section

variable (a0 a1 a2 a3 a4 a5 a6 a7 : FVec Ideal S64x256 .f32)

/-- The eight chunks' rows, one under the other. -/
theorem pay37_apply (n : Fin 8) (r : Fin 64) (u : Fin 256) :
    (k0_pay37 a0 a1 a2 a3 a4 a5 a6 a7 : S512x256.Idx → EReal) (ix2 ⟨64 * n.val + r.val, by omega⟩ u)
      = (![a0, a1, a2, a3, a4, a5, a6, a7] n : S64x256.Idx → EReal) (ix2 r u) := by
  have e : ∀ (x : FVec Ideal S64x256 .f32) (k : ℕ) (hk : k < 64), k = r.val → (x : S64x256.Idx → EReal) (ix2 ⟨k, hk⟩ u) = x (ix2 r u) :=
    fun x k hk h => by subst h; rfl
  have hr := r.isLt
  unfold k0_pay37
  pointwise
  obtain ⟨n, hn⟩ := n
  dsimp only
  interval_cases n
  · rw [dif_pos (by omega)]; exact e _ _ _ (by omega)
  · rw [dif_neg (by omega), dif_pos (by omega)]; exact e _ _ _ (by omega)
  · rw [dif_neg (by omega), dif_neg (by omega), dif_pos (by omega)]; exact e _ _ _ (by omega)
  · rw [dif_neg (by omega), dif_neg (by omega), dif_neg (by omega), dif_pos (by omega)]; exact e _ _ _ (by omega)
  · rw [dif_neg (by omega), dif_neg (by omega), dif_neg (by omega), dif_neg (by omega), dif_pos (by omega)]; exact e _ _ _ (by omega)
  · rw [dif_neg (by omega), dif_neg (by omega), dif_neg (by omega), dif_neg (by omega), dif_neg (by omega), dif_pos (by omega)]
    exact e _ _ _ (by omega)
  · rw [dif_neg (by omega), dif_neg (by omega), dif_neg (by omega), dif_neg (by omega), dif_neg (by omega), dif_neg (by omega),
      dif_pos (by omega)]
    exact e _ _ _ (by omega)
  · rw [dif_neg (by omega), dif_neg (by omega), dif_neg (by omega), dif_neg (by omega), dif_neg (by omega), dif_neg (by omega),
      dif_neg (by omega)]
    exact e _ _ _ (by omega)

/-- The left head's output. -/
theorem pay39_apply (b : FVec Ideal S512x128 .f32) (og : Vec Ideal S512x256 .bf16) (g : Vec Ideal S1x128 .f32) (r : Fin 512) (c : Fin 128) :
    (k0_pay39 b a0 a1 a2 a3 a4 a5 a6 a7 og g : S512x128.Idx → EReal) (ix2 r c)
      = fin (fun u => b (ix2 r u) + (k0_pay37 a0 a1 a2 a3 a4 a5 a6 a7 : S512x256.Idx → EReal) (ix2 r ⟨u.val, by omega⟩)) (g (ix2 0 c))
          (og (ix2 r ⟨c.val, by omega⟩)) c := by
  unfold fin k0_pay39
  generalize k0_pay37 a0 a1 a2 a3 a4 a5 a6 a7 = S
  pointwise [k0_pay38]

/-- The right head's output. -/
theorem pay1_apply (b : FVec Ideal S512x128 .f32) (og : Vec Ideal S512x256 .bf16) (g : Vec Ideal S1x128 .f32) (r : Fin 512) (c : Fin 128) :
    (k0_pay1 (k0_pay38 og) (k0_pay40 b a0 a1 a2 a3 a4 a5 a6 a7) (k0_pay41 b a0 a1 a2 a3 a4 a5 a6 a7) g : S512x128.Idx → EReal) (ix2 r c)
      = fin (fun u => b (ix2 r u) + (k0_pay37 a0 a1 a2 a3 a4 a5 a6 a7 : S512x256.Idx → EReal) (ix2 r ⟨128 + u.val, by omega⟩)) (g (ix2 0 c))
          (og (ix2 r ⟨128 + c.val, by omega⟩)) c := by
  unfold fin k0_pay1 k0_pay41 k0_pay40
  generalize k0_pay37 a0 a1 a2 a3 a4 a5 a6 a7 = S
  pointwise [k0_pay38]

end

end Cert.GlaIdeal.Pay

end
-- ==== Proof.GlaOwn.lean ====
/-
  The mask of a state's own entries in the gated linear attention's kernel body.
-/
module

public import proofs.«01_k».proof.Proof.GlaMath
public import proofs.«01_k».proof.Proof.Gen.GlaIdeal.Skeleton
public import Idealize.ShloMosaic.Lib.Pointwise

@[expose] public section

set_option maxRecDepth 16384

noncomputable section

open Idealize.ShloMosaic Idealize.ShloMosaic.TcCoe Idealize.ShloMosaic.Tactic

namespace Cert.GlaIdeal.Pay

open Cert.GlaIdeal Cert.GlaIdeal.Gen Cert.GlaMath

/-- The entries of the state that belong to a row's own head. -/
def own (v : Fin 256) (l : Fin 128) : Prop := v.val / 128 = l.val / 64

instance (v : Fin 256) (l : Fin 128) : Decidable (own v l) := by unfold own; infer_instance

/-- The mask of own entries. -/
theorem pay19_apply (v : Fin 256) (l : Fin 128) :
    k0_pay19 (iota .tc S256x128 32 [0] iota_S256x128_d0_w32) 128#32 k0_pay17 k0_pay18 (ix2 v l) = 1#1 ↔ own v l := by
  unfold own
  pointwise [k0_pay19, k0_pay17, k0_pay18]
  revert v l
  decide +kernel

end Cert.GlaIdeal.Pay

end
-- ==== Proof.GlaBlock.lean ====
/-
  One grid point of the gated linear attention's kernel: what it computes from its blocks is the closed form of its rows.
-/
module

public import proofs.«01_k».proof.Proof.GlaMath
public import proofs.«01_k».proof.Proof.GlaPay
public import proofs.«01_k».proof.Proof.GlaTail
public import proofs.«01_k».proof.Proof.GlaOwn

@[expose] public section

set_option maxRecDepth 16384

noncomputable section

open Idealize.ShloMosaic Idealize.ShloMosaic.TcCoe Idealize.ShloMosaic.Tactic

namespace Cert.GlaIdeal.Block

open Cert.GlaIdeal Cert.GlaIdeal.Gen Cert.GlaMath Cert.GlaIdeal.Pay

/-- A 0/1 mask against values and against their rounding remainders sums the values it selects. -/
theorem mask_sum {n : ℕ} (P : Fin n → Prop) [DecidablePred P] (g : Fin n → EReal) (hg : ∀ k, g k ≠ ⊤) :
    (∑ k, (if P k then (1 : EReal) else 0) * g k) + (∑ k, (if P k then (1 : EReal) else 0) * (g k - g k)) = ∑ k, if P k then g k else 0 := by
  rw [← Finset.sum_add_distrib]
  refine Finset.sum_congr rfl fun k _ => ?_
  by_cases h : P k
  · simp only [if_pos h, one_mul]; exact add_sub_self (hg k)
  · simp only [if_neg h, zero_mul, add_zero]

section

variable (p w : ℕ → ℕ → EReal) (gb ng : ℕ → EReal) (T H : ℕ)
variable (x0 : Vec Ideal S1024x512 .bf16) (x1 : Vec Ideal S128x128 .bf16) (x2 x3 : Vec Ideal S1x128 .f32)
  (x4 x5 : Vec Ideal S512x128 .bf16) (x6 x7 : Vec Ideal S512x256 .bf16) (x8 : Vec Ideal S512x128 .bf16) (M : Vec Ideal S512x512 .bf16)

/-- The blocks of a grid point: row block `T`, head pair `H`. -/
structure Blocks : Prop where
  h0a : ∀ r k : Fin 512, (x0 (ix2 ⟨r.val, by omega⟩ k) : EReal) = if k.val / 64 = r.val / 64 ∧ k.val ≤ r.val then 1 else 0
  h0b : ∀ r k : Fin 512, (x0 (ix2 ⟨512 + r.val, by omega⟩ k) : EReal) = if k.val / 64 = r.val / 64 then 1 else 0
  hM : ∀ r k : Fin 512, (M (ix2 r k) : EReal) = if k.val / 64 = r.val / 64 ∧ k.val ≤ r.val then 1 else 0
  h1 : ∀ l c : Fin 128, (x1 (ix2 l c) : EReal) = if l.val < 16 then w l.val (128 * H + c.val) else 0
  h2 : ∀ c : Fin 128, (x2 (ix2 0 c) : EReal) = gb (128 * H + c.val)
  h3 : ∀ c : Fin 128, (x3 (ix2 0 c) : EReal) = ng c.val
  h4 : ∀ (r : Fin 512) (c : Fin 128), (x4 (ix2 r c) : EReal) = p (512 * T + r.val) (2816 + (128 * H + c.val))
  h5 : ∀ (r : Fin 512) (c : Fin 128), (x5 (ix2 r c) : EReal) = p (512 * T + r.val) (3072 + (128 * H + c.val))
  h6 : ∀ (r : Fin 512) (v : Fin 256), (x6 (ix2 r v) : EReal) = p (512 * T + r.val) (3328 + (256 * H + v.val))
  h7 : ∀ (r : Fin 512) (v : Fin 256), (x7 (ix2 r v) : EReal) = p (512 * T + r.val) (3840 + (256 * H + v.val))
  h8 : ∀ (r : Fin 512) (l : Fin 128), (x8 (ix2 r l) : EReal) = p (512 * T + r.val) (4352 + l.val)

/-- The state at the head of chunk `n` of row block `T`, at a value channel and a key lane of head pair `H`. -/
def stt (n : ℕ) (u : Fin 256) (l : Fin 128) : EReal :=
  if own u l then st p w gb (T / 4 * 32) (8 * (T % 4) + n) (128 * H + l.val) (256 * H + u.val) else 0

section chain

variable (xs : Vec Ideal S256x128 .f32)

/-- The decayed queries, keys, chunk decays and own-entry mask of a grid point. -/
abbrev Q : FVec Ideal S512x128 .bf16 := k0_pay8 (k0_pay4 x8 x1 x2 x0) (k0_pay6 x4)
abbrev K : FVec Ideal S512x128 .bf16 := k0_pay10 (k0_pay4 x8 x1 x2 x0) (k0_pay5 x8 x1 x2 x0) x5
abbrev D : FVec Ideal S512x128 .f32 := k0_pay11 (k0_pay5 x8 x1 x2 x0)
abbrev O : IVec S256x128 1 := k0_pay19 (iota .tc S256x128 32 [0] iota_S256x128_d0_w32) 128#32 k0_pay17 k0_pay18

/-- The state halfway through the grid point's chunks. -/
abbrev S4 : FVec Ideal S256x128 .f32 := k0_pay27 (K x0 x1 x2 x5 x8) (D x0 x1 x2 x8) x6 O xs

/-- The state a grid point leaves, from the state `xs` it finds. -/
abbrev SX : FVec Ideal S256x128 .f32 := k0_pay36 (k0_pay35 (K x0 x1 x2 x5 x8) (D x0 x1 x2 x8) x6 O (S4 x0 x1 x2 x5 x6 x8 xs))

/-- The left head's output block. -/
abbrev OL : FVec Ideal S512x128 .bf16 :=
  k0_pay39 (k0_pay15 (k0_pay4 x8 x1 x2 x0) (k0_pay6 x4) x5 M x6)
    (k0_pay20 (Q x0 x1 x2 x4 x8) xs)
    (k0_pay22 (Q x0 x1 x2 x4 x8) (K x0 x1 x2 x5 x8) (D x0 x1 x2 x8) x6 O xs)
    (k0_pay24 (Q x0 x1 x2 x4 x8) (K x0 x1 x2 x5 x8) (D x0 x1 x2 x8) x6 O xs)
    (k0_pay26 (Q x0 x1 x2 x4 x8) (K x0 x1 x2 x5 x8) (D x0 x1 x2 x8) x6 O xs)
    (k0_pay28 (Q x0 x1 x2 x4 x8) (S4 x0 x1 x2 x5 x6 x8 xs))
    (k0_pay30 (Q x0 x1 x2 x4 x8) (K x0 x1 x2 x5 x8) (D x0 x1 x2 x8) x6 O (S4 x0 x1 x2 x5 x6 x8 xs))
    (k0_pay32 (Q x0 x1 x2 x4 x8) (K x0 x1 x2 x5 x8) (D x0 x1 x2 x8) x6 O (S4 x0 x1 x2 x5 x6 x8 xs))
    (k0_pay34 (Q x0 x1 x2 x4 x8) (K x0 x1 x2 x5 x8) (D x0 x1 x2 x8) x6 O (S4 x0 x1 x2 x5 x6 x8 xs)) x7 x3

/-- The right head's output block. -/
abbrev OR : FVec Ideal S512x128 .bf16 :=
  k0_pay1 (k0_pay38 x7)
   (k0_pay40 (k0_pay16 (k0_pay4 x8 x1 x2 x0) (k0_pay6 x4) x5 M x6)
    (k0_pay20 (Q x0 x1 x2 x4 x8) xs)
    (k0_pay22 (Q x0 x1 x2 x4 x8) (K x0 x1 x2 x5 x8) (D x0 x1 x2 x8) x6 O xs)
    (k0_pay24 (Q x0 x1 x2 x4 x8) (K x0 x1 x2 x5 x8) (D x0 x1 x2 x8) x6 O xs)
    (k0_pay26 (Q x0 x1 x2 x4 x8) (K x0 x1 x2 x5 x8) (D x0 x1 x2 x8) x6 O xs)
    (k0_pay28 (Q x0 x1 x2 x4 x8) (S4 x0 x1 x2 x5 x6 x8 xs))
    (k0_pay30 (Q x0 x1 x2 x4 x8) (K x0 x1 x2 x5 x8) (D x0 x1 x2 x8) x6 O (S4 x0 x1 x2 x5 x6 x8 xs))
    (k0_pay32 (Q x0 x1 x2 x4 x8) (K x0 x1 x2 x5 x8) (D x0 x1 x2 x8) x6 O (S4 x0 x1 x2 x5 x6 x8 xs))
    (k0_pay34 (Q x0 x1 x2 x4 x8) (K x0 x1 x2 x5 x8) (D x0 x1 x2 x8) x6 O (S4 x0 x1 x2 x5 x6 x8 xs)))
   (k0_pay41 (k0_pay16 (k0_pay4 x8 x1 x2 x0) (k0_pay6 x4) x5 M x6)
    (k0_pay20 (Q x0 x1 x2 x4 x8) xs)
    (k0_pay22 (Q x0 x1 x2 x4 x8) (K x0 x1 x2 x5 x8) (D x0 x1 x2 x8) x6 O xs)
    (k0_pay24 (Q x0 x1 x2 x4 x8) (K x0 x1 x2 x5 x8) (D x0 x1 x2 x8) x6 O xs)
    (k0_pay26 (Q x0 x1 x2 x4 x8) (K x0 x1 x2 x5 x8) (D x0 x1 x2 x8) x6 O xs)
    (k0_pay28 (Q x0 x1 x2 x4 x8) (S4 x0 x1 x2 x5 x6 x8 xs))
    (k0_pay30 (Q x0 x1 x2 x4 x8) (K x0 x1 x2 x5 x8) (D x0 x1 x2 x8) x6 O (S4 x0 x1 x2 x5 x6 x8 xs))
    (k0_pay32 (Q x0 x1 x2 x4 x8) (K x0 x1 x2 x5 x8) (D x0 x1 x2 x8) x6 O (S4 x0 x1 x2 x5 x6 x8 xs))
    (k0_pay34 (Q x0 x1 x2 x4 x8) (K x0 x1 x2 x5 x8) (D x0 x1 x2 x8) x6 O (S4 x0 x1 x2 x5 x6 x8 xs))) x3

end chain

variable {p w gb ng T H x0 x1 x2 x3 x4 x5 x6 x7 x8 M}
variable (h : Blocks p w gb ng T H x0 x1 x2 x3 x4 x5 x6 x7 x8 M)

include h

theorem L_eq (k : Fin 512) (c : Fin 128) : L x8 x1 x2 k c = la p w gb (512 * T + k.val) (128 * H + c.val) := by
  unfold L la
  rw [h.h2]
  congr 2
  have e := sum_lanes (fun l => p (512 * T + k.val) (4352 + l) * (if l < 16 then w l (128 * H + c.val) else 0))
    (fun l _ hl => by rw [if_neg (by omega), mul_zero])
  refine Eq.trans (Finset.sum_congr rfl fun l _ => ?_) (e.trans (Finset.sum_congr rfl fun l _ => ?_))
  · rw [h.h8, h.h1]
  · rw [if_pos l.isLt]

/-- The kernel's running sums are the running log decay. -/
theorem b_eq (r : Fin 512) (c : Fin 128) :
    (k0_pay4 x8 x1 x2 x0 : S512x128.Idx → EReal) (ix2 r c) = bb p w gb (512 * T + r.val) (128 * H + c.val) := by
  have hr := r.isLt
  refine (pay4_apply _ _ _ _ r c).trans ?_
  simp only [h.h0a]
  rw [mask_sum _ _ (fun k => by unfold L; exact lsg_ne_top _)]
  simp only [L_eq h]
  refine (sum_chunk (fun k => if k / 64 = r.val / 64 ∧ k ≤ r.val then la p w gb (512 * T + k) (128 * H + c.val) else 0) (r.val / 64) (by omega)
    (fun k _ hk => if_neg (fun e => hk e.1))).trans ?_
  unfold bb
  refine Finset.sum_congr rfl fun s _ => ?_
  have hs := s.isLt
  try dsimp only
  rw [show 512 * T + (64 * (r.val / 64) + s.val) = 64 * ((512 * T + r.val) / 64) + s.val by omega]
  exact if_congr (by omega) rfl rfl

/-- The kernel's whole-chunk sums are the chunk's log decay. -/
theorem e_eq (r : Fin 512) (c : Fin 128) :
    (k0_pay5 x8 x1 x2 x0 : S512x128.Idx → EReal) (ix2 r c) = bl p w gb ((512 * T + r.val) / 64) (128 * H + c.val) := by
  have hr := r.isLt
  refine (pay5_apply _ _ _ _ r c).trans ?_
  simp only [h.h0b]
  rw [mask_sum _ _ (fun k => by unfold L; exact lsg_ne_top _)]
  simp only [L_eq h]
  refine (sum_chunk (fun k => if k / 64 = r.val / 64 then la p w gb (512 * T + k) (128 * H + c.val) else 0) (r.val / 64) (by omega)
    (fun k _ hk => if_neg hk)).trans ?_
  unfold bl
  refine Finset.sum_congr rfl fun s _ => ?_
  have hs := s.isLt
  try dsimp only
  rw [show 512 * T + (64 * (r.val / 64) + s.val) = 64 * ((512 * T + r.val) / 64) + s.val by omega]
  exact if_pos (by omega)

theorem q_eq (r : Fin 512) (c : Fin 128) :
    (k0_pay8 (k0_pay4 x8 x1 x2 x0) (k0_pay6 x4) : S512x128.Idx → EReal) (ix2 r c) = qd p w gb (512 * T + r.val) (128 * H + c.val) := by
  refine (pay8_apply _ _ r c).trans ?_
  rw [b_eq h, pay6_apply, h.h4]
  rfl

theorem k_eq (r : Fin 512) (c : Fin 128) :
    (k0_pay9 (k0_pay4 x8 x1 x2 x0) x5 : S512x128.Idx → EReal) (ix2 r c) = ki p w gb (512 * T + r.val) (128 * H + c.val) := by
  refine (pay9_apply _ _ r c).trans ?_
  rw [b_eq h, h.h5]
  rfl

theorem ke_eq (r : Fin 512) (c : Fin 128) :
    (k0_pay10 (k0_pay4 x8 x1 x2 x0) (k0_pay5 x8 x1 x2 x0) x5 : S512x128.Idx → EReal) (ix2 r c)
      = ke p w gb (512 * T + r.val) (128 * H + c.val) := by
  refine (pay10_apply _ _ _ r c).trans ?_
  rw [b_eq h, e_eq h, h.h5]
  rfl

theorem d_eq (r : Fin 512) (c : Fin 128) :
    (k0_pay11 (k0_pay5 x8 x1 x2 x0) : S512x128.Idx → EReal) (ix2 r c) = Ideal.exp (bl p w gb ((512 * T + r.val) / 64) (128 * H + c.val)) := by
  refine (pay11_apply _ r c).trans ?_
  rw [e_eq h]

/-- One step of the state, from its value at the chunk's head. -/
theorem step_eq (n : ℕ) (hn : n < 8) (o : IVec S256x128 1) (ho : ∀ u l, o (ix2 u l) = 1#1 ↔ own u l) (u : Fin 256) (l : Fin 128) :
    stt p w gb T H n u l * (k0_pay11 (k0_pay5 x8 x1 x2 x0) : S512x128.Idx → EReal) (ix2 ⟨64 * n, by omega⟩ l)
      + (if o (ix2 u l) = 1#1 then ∑ t : Fin 64, (x6 (ix2 ⟨64 * n + t.val, by omega⟩ u) : EReal)
          * (k0_pay10 (k0_pay4 x8 x1 x2 x0) (k0_pay5 x8 x1 x2 x0) x5 : S512x128.Idx → EReal) (ix2 ⟨64 * n + t.val, by omega⟩ l) else 0)
      = stt p w gb T H (n + 1) u l := by
  rw [d_eq h]
  by_cases hu : own u l
  · rw [if_pos ((ho u l).mpr hu)]
    unfold stt
    rw [if_pos hu, if_pos hu, ← Nat.add_assoc]
    show _ = st p w gb _ _ _ _ * _ + kv p w gb _ _ _
    rw [show (512 * T + 64 * n) / 64 = T / 4 * 32 + (8 * (T % 4) + n) by omega]
    congr 1
    unfold kv
    refine Finset.sum_congr rfl fun t _ => ?_
    rw [h.h6, ke_eq h]
    try dsimp only
    rw [show 512 * T + (64 * n + t.val) = 64 * (T / 4 * 32 + (8 * (T % 4) + n)) + t.val by omega]
  · rw [if_neg (fun e => hu ((ho u l).mp e))]
    unfold stt
    rw [if_neg hu, if_neg hu, zero_mul, add_zero]

/-- A chunk's queries against the state at its head. -/
theorem inter_eq (n : ℕ) (hn : n < 8) (r : Fin 64) (u : Fin 256) :
    ∑ l : Fin 128, (k0_pay8 (k0_pay4 x8 x1 x2 x0) (k0_pay6 x4) : S512x128.Idx → EReal) (ix2 ⟨64 * n + r.val, by omega⟩ l)
        * stt p w gb T H n u l
      = ∑ d : Fin 64, qd p w gb (512 * T + (64 * n + r.val)) (64 * ((256 * H + u.val) / 128) + d.val)
          * st p w gb ((512 * T + (64 * n + r.val)) / 64 / 32 * 32) ((512 * T + (64 * n + r.val)) / 64 % 32)
              (64 * ((256 * H + u.val) / 128) + d.val) (256 * H + u.val) := by
  have hu := u.isLt
  have hr := r.isLt
  simp only [q_eq h]
  refine (sum_half (fun l => qd p w gb (512 * T + (64 * n + r.val)) (128 * H + l) *
    (if u.val / 128 = l / 64 then st p w gb (T / 4 * 32) (8 * (T % 4) + n) (128 * H + l) (256 * H + u.val) else 0)) (u.val / 128) (by omega)
    (fun k _ hk => by rw [if_neg (fun e => hk e.symm), mul_zero])).trans ?_
  refine Finset.sum_congr rfl fun d _ => ?_
  have hd := d.isLt
  try dsimp only
  rw [if_pos (by omega), show 128 * H + (64 * (u.val / 128) + d.val) = 64 * ((256 * H + u.val) / 128) + d.val by omega,
    show (512 * T + (64 * n + r.val)) / 64 / 32 * 32 = T / 4 * 32 by omega,
    show (512 * T + (64 * n + r.val)) / 64 % 32 = 8 * (T % 4) + n by omega]

/-- One head's scores within its chunk against its values: head 0 of the pair. -/
theorem intra0 (r : Fin 512) (c : Fin 128) :
    (k0_pay15 (k0_pay4 x8 x1 x2 x0) (k0_pay6 x4) x5 M x6 : S512x128.Idx → EReal) (ix2 r c)
      = ∑ s : Fin 64, att p w gb (512 * T + r.val) s.val (2 * H + 0)
          * p (64 * ((512 * T + r.val) / 64) + s.val) (3328 + (256 * H + (c.val))) := by
  have hr := r.isLt
  refine (pay15_apply _ _ _ _ _ r c).trans ?_
  have hm : ∀ k : Fin 512, k0_pay14 M (ix2 r k) = 1#1 ↔ (k.val / 64 = r.val / 64 ∧ k.val ≤ r.val) := fun k => by
    rw [pay14_apply, h.hM]
    by_cases e : k.val / 64 = r.val / 64 ∧ k.val ≤ r.val
    · simp [e]
    · rw [if_neg e]; exact iff_of_false (lt_irrefl _) e
  have hd : ∀ s : Fin 512, (∑ l : Fin 128, if k0_pay12 (ix2 r l) = 1#1 then (k0_pay8 (k0_pay4 x8 x1 x2 x0) (k0_pay6 x4) : S512x128.Idx → EReal) (ix2 r l)
        * (k0_pay9 (k0_pay4 x8 x1 x2 x0) x5 : S512x128.Idx → EReal) (ix2 s l) else 0)
      = ∑ d : Fin 64, qd p w gb (512 * T + r.val) (64 * (2 * H + 0) + d.val) * ki p w gb (512 * T + s.val) (64 * (2 * H + 0) + d.val) := fun s => by
    simp only [q_eq h, k_eq h, pay12_apply]
    refine (sum_half (fun l => if l < 64 then qd p w gb (512 * T + r.val) (128 * H + l) * ki p w gb (512 * T + s.val) (128 * H + l) else 0) 0 (by omega)
      (fun k _ hk => if_neg (by omega))).trans ?_
    refine Finset.sum_congr rfl fun d _ => ?_
    have hdl := d.isLt
    try dsimp only
    rw [if_pos (by omega), show 128 * H + (64 * 0 + d.val) = 64 * (2 * H + 0) + d.val by omega]
  simp only [hd, h.h6, hm]
  refine (sum_chunk (fun k => if k / 64 = r.val / 64 ∧ k ≤ r.val then
    (∑ d : Fin 64, qd p w gb (512 * T + r.val) (64 * (2 * H + 0) + d.val) * ki p w gb (512 * T + k) (64 * (2 * H + 0) + d.val))
      * p (512 * T + k) (3328 + (256 * H + (c.val))) else 0) (r.val / 64) (by omega)
    (fun k _ hk => if_neg (fun e => hk e.1))).trans ?_
  refine Finset.sum_congr rfl fun s _ => ?_
  have hs := s.isLt
  try dsimp only
  rw [show 512 * T + (64 * (r.val / 64) + s.val) = 64 * ((512 * T + r.val) / 64) + s.val by omega]
  unfold att
  by_cases e : s.val ≤ (512 * T + r.val) % 64
  · rw [if_pos (by omega), if_pos e]
  · rw [if_neg (by omega), if_neg e, zero_mul]

/-- One head's scores within its chunk against its values: head 1 of the pair. -/
theorem intra1 (r : Fin 512) (c : Fin 128) :
    (k0_pay16 (k0_pay4 x8 x1 x2 x0) (k0_pay6 x4) x5 M x6 : S512x128.Idx → EReal) (ix2 r c)
      = ∑ s : Fin 64, att p w gb (512 * T + r.val) s.val (2 * H + 1)
          * p (64 * ((512 * T + r.val) / 64) + s.val) (3328 + (256 * H + (128 + c.val))) := by
  have hr := r.isLt
  refine (pay16_apply _ _ _ _ _ r c).trans ?_
  have hm : ∀ k : Fin 512, k0_pay14 M (ix2 r k) = 1#1 ↔ (k.val / 64 = r.val / 64 ∧ k.val ≤ r.val) := fun k => by
    rw [pay14_apply, h.hM]
    by_cases e : k.val / 64 = r.val / 64 ∧ k.val ≤ r.val
    · simp [e]
    · rw [if_neg e]; exact iff_of_false (lt_irrefl _) e
  have hd : ∀ s : Fin 512, (∑ l : Fin 128, if k0_pay12 (ix2 r l) = 1#1 then 0 else (k0_pay8 (k0_pay4 x8 x1 x2 x0) (k0_pay6 x4) : S512x128.Idx → EReal) (ix2 r l)
        * (k0_pay9 (k0_pay4 x8 x1 x2 x0) x5 : S512x128.Idx → EReal) (ix2 s l))
      = ∑ d : Fin 64, qd p w gb (512 * T + r.val) (64 * (2 * H + 1) + d.val) * ki p w gb (512 * T + s.val) (64 * (2 * H + 1) + d.val) := fun s => by
    simp only [q_eq h, k_eq h, pay12_apply]
    refine (sum_half (fun l => if l < 64 then 0 else qd p w gb (512 * T + r.val) (128 * H + l) * ki p w gb (512 * T + s.val) (128 * H + l)) 1 (by omega)
      (fun k _ hk => if_pos (by omega))).trans ?_
    refine Finset.sum_congr rfl fun d _ => ?_
    have hdl := d.isLt
    try dsimp only
    rw [if_neg (by omega), show 128 * H + (64 * 1 + d.val) = 64 * (2 * H + 1) + d.val by omega]
  simp only [hd, h.h6, hm]
  refine (sum_chunk (fun k => if k / 64 = r.val / 64 ∧ k ≤ r.val then
    (∑ d : Fin 64, qd p w gb (512 * T + r.val) (64 * (2 * H + 1) + d.val) * ki p w gb (512 * T + k) (64 * (2 * H + 1) + d.val))
      * p (512 * T + k) (3328 + (256 * H + (128 + c.val))) else 0) (r.val / 64) (by omega)
    (fun k _ hk => if_neg (fun e => hk e.1))).trans ?_
  refine Finset.sum_congr rfl fun s _ => ?_
  have hs := s.isLt
  try dsimp only
  rw [show 512 * T + (64 * (r.val / 64) + s.val) = 64 * ((512 * T + r.val) / 64) + s.val by omega]
  unfold att
  by_cases e : s.val ≤ (512 * T + r.val) % 64
  · rw [if_pos (by omega), if_pos e]
  · rw [if_neg (by omega), if_neg e, zero_mul]

variable {xs : Vec Ideal S256x128 .f32} (hs : ∀ u l, (xs (ix2 u l) : EReal) = stt p w gb T H 0 u l)

include hs

theorem s1 (u : Fin 256) (l : Fin 128) : (k0_pay21 (K x0 x1 x2 x5 x8) (D x0 x1 x2 x8) x6 O xs : S256x128.Idx → EReal) (ix2 u l) = stt p w gb T H 1 u l := by
  refine (step0 _ _ _ _ _ u l).trans ?_
  rw [hs]
  exact step_eq h 0 (by omega) O pay19_apply u l

theorem s2 (u : Fin 256) (l : Fin 128) : (k0_pay23 (K x0 x1 x2 x5 x8) (D x0 x1 x2 x8) x6 O xs : S256x128.Idx → EReal) (ix2 u l) = stt p w gb T H 2 u l := by
  refine (step1 _ _ _ _ _ u l).trans ?_
  rw [s1 h hs]
  exact step_eq h 1 (by omega) O pay19_apply u l

theorem s3 (u : Fin 256) (l : Fin 128) : (k0_pay25 (K x0 x1 x2 x5 x8) (D x0 x1 x2 x8) x6 O xs : S256x128.Idx → EReal) (ix2 u l) = stt p w gb T H 3 u l := by
  refine (step2 _ _ _ _ _ u l).trans ?_
  rw [s2 h hs]
  exact step_eq h 2 (by omega) O pay19_apply u l

theorem s4 (u : Fin 256) (l : Fin 128) : (k0_pay27 (K x0 x1 x2 x5 x8) (D x0 x1 x2 x8) x6 O xs : S256x128.Idx → EReal) (ix2 u l) = stt p w gb T H 4 u l := by
  refine (step3 _ _ _ _ _ u l).trans ?_
  rw [s3 h hs]
  exact step_eq h 3 (by omega) O pay19_apply u l

theorem s4S (u : Fin 256) (l : Fin 128) : (S4 x0 x1 x2 x5 x6 x8 xs : S256x128.Idx → EReal) (ix2 u l) = stt p w gb T H 4 u l := s4 h hs u l

theorem s5 (u : Fin 256) (l : Fin 128) : (k0_pay29 (K x0 x1 x2 x5 x8) (D x0 x1 x2 x8) x6 O (S4 x0 x1 x2 x5 x6 x8 xs) : S256x128.Idx → EReal) (ix2 u l) = stt p w gb T H 5 u l := by
  refine (step4 _ _ _ _ _ u l).trans ?_
  rw [s4S h hs]
  exact step_eq h 4 (by omega) O pay19_apply u l

theorem s6 (u : Fin 256) (l : Fin 128) : (k0_pay31 (K x0 x1 x2 x5 x8) (D x0 x1 x2 x8) x6 O (S4 x0 x1 x2 x5 x6 x8 xs) : S256x128.Idx → EReal) (ix2 u l) = stt p w gb T H 6 u l := by
  refine (step5 _ _ _ _ _ u l).trans ?_
  rw [s5 h hs]
  exact step_eq h 5 (by omega) O pay19_apply u l

theorem s7 (u : Fin 256) (l : Fin 128) : (k0_pay33 (K x0 x1 x2 x5 x8) (D x0 x1 x2 x8) x6 O (S4 x0 x1 x2 x5 x6 x8 xs) : S256x128.Idx → EReal) (ix2 u l) = stt p w gb T H 7 u l := by
  refine (step6 _ _ _ _ _ u l).trans ?_
  rw [s6 h hs]
  exact step_eq h 6 (by omega) O pay19_apply u l

theorem s8 (u : Fin 256) (l : Fin 128) : (k0_pay35 (K x0 x1 x2 x5 x8) (D x0 x1 x2 x8) x6 O (S4 x0 x1 x2 x5 x6 x8 xs) : S256x128.Idx → EReal) (ix2 u l) = stt p w gb T H 8 u l := by
  refine (step7 _ _ _ _ _ u l).trans ?_
  rw [s7 h hs]
  exact step_eq h 7 (by omega) O pay19_apply u l

theorem i0 (r : Fin 64) (u : Fin 256) : (k0_pay20 (Q x0 x1 x2 x4 x8) xs : S64x256.Idx → EReal) (ix2 r u)
      = ∑ d : Fin 64, qd p w gb (512 * T + (64 * 0 + r.val)) (64 * ((256 * H + u.val) / 128) + d.val)
          * st p w gb ((512 * T + (64 * 0 + r.val)) / 64 / 32 * 32) ((512 * T + (64 * 0 + r.val)) / 64 % 32)
              (64 * ((256 * H + u.val) / 128) + d.val) (256 * H + u.val) := by
  refine (inter0 (Q x0 x1 x2 x4 x8) (K x0 x1 x2 x5 x8) (D x0 x1 x2 x8) x6 O xs r u).trans ?_
  simp only [hs]
  exact inter_eq h 0 (by omega) r u

theorem i1 (r : Fin 64) (u : Fin 256) : (k0_pay22 (Q x0 x1 x2 x4 x8) (K x0 x1 x2 x5 x8) (D x0 x1 x2 x8) x6 O xs : S64x256.Idx → EReal) (ix2 r u)
      = ∑ d : Fin 64, qd p w gb (512 * T + (64 * 1 + r.val)) (64 * ((256 * H + u.val) / 128) + d.val)
          * st p w gb ((512 * T + (64 * 1 + r.val)) / 64 / 32 * 32) ((512 * T + (64 * 1 + r.val)) / 64 % 32)
              (64 * ((256 * H + u.val) / 128) + d.val) (256 * H + u.val) := by
  refine (inter1 (Q x0 x1 x2 x4 x8) (K x0 x1 x2 x5 x8) (D x0 x1 x2 x8) x6 O xs r u).trans ?_
  simp only [s1 h hs]
  exact inter_eq h 1 (by omega) r u

theorem i2 (r : Fin 64) (u : Fin 256) : (k0_pay24 (Q x0 x1 x2 x4 x8) (K x0 x1 x2 x5 x8) (D x0 x1 x2 x8) x6 O xs : S64x256.Idx → EReal) (ix2 r u)
      = ∑ d : Fin 64, qd p w gb (512 * T + (64 * 2 + r.val)) (64 * ((256 * H + u.val) / 128) + d.val)
          * st p w gb ((512 * T + (64 * 2 + r.val)) / 64 / 32 * 32) ((512 * T + (64 * 2 + r.val)) / 64 % 32)
              (64 * ((256 * H + u.val) / 128) + d.val) (256 * H + u.val) := by
  refine (inter2 (Q x0 x1 x2 x4 x8) (K x0 x1 x2 x5 x8) (D x0 x1 x2 x8) x6 O xs r u).trans ?_
  simp only [s2 h hs]
  exact inter_eq h 2 (by omega) r u

theorem i3 (r : Fin 64) (u : Fin 256) : (k0_pay26 (Q x0 x1 x2 x4 x8) (K x0 x1 x2 x5 x8) (D x0 x1 x2 x8) x6 O xs : S64x256.Idx → EReal) (ix2 r u)
      = ∑ d : Fin 64, qd p w gb (512 * T + (64 * 3 + r.val)) (64 * ((256 * H + u.val) / 128) + d.val)
          * st p w gb ((512 * T + (64 * 3 + r.val)) / 64 / 32 * 32) ((512 * T + (64 * 3 + r.val)) / 64 % 32)
              (64 * ((256 * H + u.val) / 128) + d.val) (256 * H + u.val) := by
  refine (inter3 (Q x0 x1 x2 x4 x8) (K x0 x1 x2 x5 x8) (D x0 x1 x2 x8) x6 O xs r u).trans ?_
  simp only [s3 h hs]
  exact inter_eq h 3 (by omega) r u

theorem i4 (r : Fin 64) (u : Fin 256) : (k0_pay28 (Q x0 x1 x2 x4 x8) (S4 x0 x1 x2 x5 x6 x8 xs) : S64x256.Idx → EReal) (ix2 r u)
      = ∑ d : Fin 64, qd p w gb (512 * T + (64 * 4 + r.val)) (64 * ((256 * H + u.val) / 128) + d.val)
          * st p w gb ((512 * T + (64 * 4 + r.val)) / 64 / 32 * 32) ((512 * T + (64 * 4 + r.val)) / 64 % 32)
              (64 * ((256 * H + u.val) / 128) + d.val) (256 * H + u.val) := by
  refine (inter4 (Q x0 x1 x2 x4 x8) (K x0 x1 x2 x5 x8) (D x0 x1 x2 x8) x6 O (S4 x0 x1 x2 x5 x6 x8 xs) r u).trans ?_
  simp only [s4 h hs]
  exact inter_eq h 4 (by omega) r u

theorem i5 (r : Fin 64) (u : Fin 256) : (k0_pay30 (Q x0 x1 x2 x4 x8) (K x0 x1 x2 x5 x8) (D x0 x1 x2 x8) x6 O (S4 x0 x1 x2 x5 x6 x8 xs) : S64x256.Idx → EReal) (ix2 r u)
      = ∑ d : Fin 64, qd p w gb (512 * T + (64 * 5 + r.val)) (64 * ((256 * H + u.val) / 128) + d.val)
          * st p w gb ((512 * T + (64 * 5 + r.val)) / 64 / 32 * 32) ((512 * T + (64 * 5 + r.val)) / 64 % 32)
              (64 * ((256 * H + u.val) / 128) + d.val) (256 * H + u.val) := by
  refine (inter5 (Q x0 x1 x2 x4 x8) (K x0 x1 x2 x5 x8) (D x0 x1 x2 x8) x6 O (S4 x0 x1 x2 x5 x6 x8 xs) r u).trans ?_
  simp only [s5 h hs]
  exact inter_eq h 5 (by omega) r u

theorem i6 (r : Fin 64) (u : Fin 256) : (k0_pay32 (Q x0 x1 x2 x4 x8) (K x0 x1 x2 x5 x8) (D x0 x1 x2 x8) x6 O (S4 x0 x1 x2 x5 x6 x8 xs) : S64x256.Idx → EReal) (ix2 r u)
      = ∑ d : Fin 64, qd p w gb (512 * T + (64 * 6 + r.val)) (64 * ((256 * H + u.val) / 128) + d.val)
          * st p w gb ((512 * T + (64 * 6 + r.val)) / 64 / 32 * 32) ((512 * T + (64 * 6 + r.val)) / 64 % 32)
              (64 * ((256 * H + u.val) / 128) + d.val) (256 * H + u.val) := by
  refine (inter6 (Q x0 x1 x2 x4 x8) (K x0 x1 x2 x5 x8) (D x0 x1 x2 x8) x6 O (S4 x0 x1 x2 x5 x6 x8 xs) r u).trans ?_
  simp only [s6 h hs]
  exact inter_eq h 6 (by omega) r u

theorem i7 (r : Fin 64) (u : Fin 256) : (k0_pay34 (Q x0 x1 x2 x4 x8) (K x0 x1 x2 x5 x8) (D x0 x1 x2 x8) x6 O (S4 x0 x1 x2 x5 x6 x8 xs) : S64x256.Idx → EReal) (ix2 r u)
      = ∑ d : Fin 64, qd p w gb (512 * T + (64 * 7 + r.val)) (64 * ((256 * H + u.val) / 128) + d.val)
          * st p w gb ((512 * T + (64 * 7 + r.val)) / 64 / 32 * 32) ((512 * T + (64 * 7 + r.val)) / 64 % 32)
              (64 * ((256 * H + u.val) / 128) + d.val) (256 * H + u.val) := by
  refine (inter7 (Q x0 x1 x2 x4 x8) (K x0 x1 x2 x5 x8) (D x0 x1 x2 x8) x6 O (S4 x0 x1 x2 x5 x6 x8 xs) r u).trans ?_
  simp only [s7 h hs]
  exact inter_eq h 7 (by omega) r u

/-- The rows against the states at their chunks' heads. -/
theorem inter_all (r : Fin 512) (u : Fin 256) :
    (k0_pay37 (k0_pay20 (Q x0 x1 x2 x4 x8) xs) (k0_pay22 (Q x0 x1 x2 x4 x8) (K x0 x1 x2 x5 x8) (D x0 x1 x2 x8) x6 O xs) (k0_pay24 (Q x0 x1 x2 x4 x8) (K x0 x1 x2 x5 x8) (D x0 x1 x2 x8) x6 O xs) (k0_pay26 (Q x0 x1 x2 x4 x8) (K x0 x1 x2 x5 x8) (D x0 x1 x2 x8) x6 O xs) (k0_pay28 (Q x0 x1 x2 x4 x8) (S4 x0 x1 x2 x5 x6 x8 xs)) (k0_pay30 (Q x0 x1 x2 x4 x8) (K x0 x1 x2 x5 x8) (D x0 x1 x2 x8) x6 O (S4 x0 x1 x2 x5 x6 x8 xs)) (k0_pay32 (Q x0 x1 x2 x4 x8) (K x0 x1 x2 x5 x8) (D x0 x1 x2 x8) x6 O (S4 x0 x1 x2 x5 x6 x8 xs)) (k0_pay34 (Q x0 x1 x2 x4 x8) (K x0 x1 x2 x5 x8) (D x0 x1 x2 x8) x6 O (S4 x0 x1 x2 x5 x6 x8 xs)) : S512x256.Idx → EReal) (ix2 r u)
      = ∑ d : Fin 64, qd p w gb (512 * T + r.val) (64 * ((256 * H + u.val) / 128) + d.val)
          * st p w gb ((512 * T + r.val) / 64 / 32 * 32) ((512 * T + r.val) / 64 % 32)
              (64 * ((256 * H + u.val) / 128) + d.val) (256 * H + u.val) := by
  obtain ⟨n, s, rfl⟩ : ∃ (n : Fin 8) (s : Fin 64), r = ⟨64 * n.val + s.val, by omega⟩ :=
    ⟨⟨r.val / 64, by omega⟩, ⟨r.val % 64, by omega⟩, Fin.ext (by show r.val = 64 * (r.val / 64) + r.val % 64; omega)⟩
  refine (pay37_apply _ _ _ _ _ _ _ _ n s u).trans ?_
  match n with
  | ⟨0, _⟩ => exact i0 h hs s u
  | ⟨1, _⟩ => exact i1 h hs s u
  | ⟨2, _⟩ => exact i2 h hs s u
  | ⟨3, _⟩ => exact i3 h hs s u
  | ⟨4, _⟩ => exact i4 h hs s u
  | ⟨5, _⟩ => exact i5 h hs s u
  | ⟨6, _⟩ => exact i6 h hs s u
  | ⟨7, _⟩ => exact i7 h hs s u

/-- The left head's output is the closed form. -/
theorem OL_eq (r : Fin 512) (c : Fin 128) :
    (OL x0 x1 x2 x3 x4 x5 x6 x7 x8 M xs : S512x128.Idx → EReal) (ix2 r c) = yy p w gb ng (512 * T + r.val) (256 * H + c.val) := by
  have hc := c.isLt
  refine (pay39_apply _ _ _ _ _ _ _ _ _ _ _ r c).trans ?_
  simp only [inter_all h hs, intra0 h]
  have ho : ∀ u : Fin 128, (∑ s : Fin 64, att p w gb (512 * T + r.val) s.val (2 * H + 0)
        * p (64 * ((512 * T + r.val) / 64) + s.val) (3328 + (256 * H + u.val)))
      + (∑ d : Fin 64, qd p w gb (512 * T + r.val) (64 * ((256 * H + u.val) / 128) + d.val)
          * st p w gb ((512 * T + r.val) / 64 / 32 * 32) ((512 * T + r.val) / 64 % 32)
              (64 * ((256 * H + u.val) / 128) + d.val) (256 * H + u.val)) = oo p w gb (512 * T + r.val) (256 * H + u.val) := fun u => by
    have hu := u.isLt
    unfold oo
    rw [show (256 * H + u.val) / 128 = 2 * H + 0 by omega]
  simp only [ho]
  unfold fin yy
  rw [h.h3, h.h7]
  rw [show (256 * H + c.val) % 128 = c.val by omega, show 128 * ((256 * H + c.val) / 128) = 256 * H by omega]

/-- The right head's output is the closed form. -/
theorem OR_eq (r : Fin 512) (c : Fin 128) :
    (OR x0 x1 x2 x3 x4 x5 x6 x7 x8 M xs : S512x128.Idx → EReal) (ix2 r c) = yy p w gb ng (512 * T + r.val) (256 * H + (128 + c.val)) := by
  have hc := c.isLt
  refine (pay1_apply _ _ _ _ _ _ _ _ _ _ _ r c).trans ?_
  simp only [inter_all h hs, intra1 h]
  have ho : ∀ u : Fin 128, (∑ s : Fin 64, att p w gb (512 * T + r.val) s.val (2 * H + 1)
        * p (64 * ((512 * T + r.val) / 64) + s.val) (3328 + (256 * H + (128 + u.val))))
      + (∑ d : Fin 64, qd p w gb (512 * T + r.val) (64 * ((256 * H + (128 + u.val)) / 128) + d.val)
          * st p w gb ((512 * T + r.val) / 64 / 32 * 32) ((512 * T + r.val) / 64 % 32)
              (64 * ((256 * H + (128 + u.val)) / 128) + d.val) (256 * H + (128 + u.val)))
      = oo p w gb (512 * T + r.val) (256 * H + (128 + u.val)) := fun u => by
    have hu := u.isLt
    unfold oo
    rw [show (256 * H + (128 + u.val)) / 128 = 2 * H + 1 by omega]
  simp only [ho]
  unfold fin yy
  rw [h.h3, h.h7]
  rw [show (256 * H + (128 + c.val)) % 128 = c.val by omega]
  have e : ∀ u : Fin 128, 128 * ((256 * H + (128 + c.val)) / 128) + u.val = 256 * H + (128 + u.val) := fun u => by omega
  simp only [e]

/-- The state the point leaves. -/
theorem SX_eq (u : Fin 256) (l : Fin 128) :
    (SX x0 x1 x2 x5 x6 x8 xs : S256x128.Idx → EReal) (ix2 u l) = stt p w gb T H 8 u l := by
  unfold SX
  rw [pay36_eq]
  exact s8 h hs u l

end

end Cert.GlaIdeal.Block

end
-- ==== Proof.GlaCases.lean ====
/-
  What one grid point of the gated linear attention's kernel leaves in its output block and in the carried state, by case:
  at the first of a sequence's four row blocks the state starts from zero, later it goes on from what it held.
-/
module

public import proofs.«01_k».proof.Proof.GlaBlock
public import proofs.«01_k».proof.Proof.Gen.GlaIdeal.Value
public import Idealize.ShloMosaic.Lib.Pipeline.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Tactic Idealize.SL.Sem
open Idealize.ShloMosaic.Pipeline (Dat)

namespace Cert.GlaIdeal.Cases

open Cert.GlaIdeal Cert.GlaIdeal.Gen Cert.GlaIdeal.Block

variable (c : Dev nD) (i : grid0.Coords) (a3 : Memref sig .tc .vmem S1024x512 .bf16) (h3 : a3.IsWhole) (a4 : Memref sig .tc .vmem S128x128 .bf16) (h4 : a4.IsWhole) (a5 : Memref sig .tc .vmem S1x128 .f32) (h5 : a5.IsWhole) (a6 : Memref sig .tc .vmem S1x128 .f32) (h6 : a6.IsWhole) (a7 : Memref sig .tc .vmem S512x128 .bf16) (h7 : a7.IsWhole) (a8 : Memref sig .tc .vmem S512x128 .bf16) (h8 : a8.IsWhole) (a9 : Memref sig .tc .vmem S512x256 .bf16) (h9 : a9.IsWhole) (a10 : Memref sig .tc .vmem S512x256 .bf16) (h10 : a10.IsWhole) (a11 : Memref sig .tc .vmem S512x128 .bf16) (h11 : a11.IsWhole) (a12 : Memref sig .tc .vmem S512x256 .bf16) (h12 : a12.IsWhole) (a13 : Memref sig .tc .vmem S256x128 .f32) (h13 : a13.IsWhole)
  (x0 : Vec Ideal S1024x512 .bf16) (x1 : Vec Ideal S128x128 .bf16) (x2 : Vec Ideal S1x128 .f32) (x3 : Vec Ideal S1x128 .f32) (x4 : Vec Ideal S512x128 .bf16) (x5 : Vec Ideal S512x128 .bf16) (x6 : Vec Ideal S512x256 .bf16) (x7 : Vec Ideal S512x256 .bf16) (x8 : Vec Ideal S512x128 .bf16)

/-- The first row block leaves the state stepped from zero. -/
theorem sout_A (hc : cond0_0 i) : sout0_A_0 (F := Ideal) c i a3 h3 a4 h4 a5 h5 a6 h6 a7 h7 a8 h8 a9 h9 a10 h10 a11 h11 a12 h12 a13 h13 hc x0 x1 x2 x3 x4 x5 x6 x7 x8 = SX x0 x1 x2 x5 x6 x8 (k0_pay2 (F := Ideal)) := by
  frame_out
  try rfl

/-- A later row block leaves the state stepped from what it found. -/
theorem sout_B (hc : ¬cond0_0 i) (xs : Vec Ideal S256x128 .f32) :
    sout0_B_0 (F := Ideal) c i a3 h3 a4 h4 a5 h5 a6 h6 a7 h7 a8 h8 a9 h9 a10 h10 a11 h11 a12 h12 a13 h13 hc x0 x1 x2 x3 x4 x5 x6 x7 x8 xs = SX x0 x1 x2 x5 x6 x8 xs := by
  frame_out
  try rfl

/-- The first row block's output: the two heads' blocks side by side. -/
theorem out_A (hc : cond0_0 i) : out0_A_9 (F := Ideal) c i a3 h3 a4 h4 a5 h5 a6 h6 a7 h7 a8 h8 a9 h9 a10 h10 a11 h11 a12 h12 a13 h13 hc x0 x1 x2 x3 x4 x5 x6 x7 x8
    = View.canon [⟨Rect.unit (s := S512x256) ![0, 128] S512x128.size inb_S512x256_S512x128_0_128, OR x0 x1 x2 x3 x4 x5 x6 x7 x8
        (View.ld x0 (Rect.unit (s := S1024x512) ![0, 0] S512x512.size inb_S1024x512_S512x512_0_0)) (k0_pay2 (F := Ideal))⟩,
      ⟨Rect.unit (s := S512x256) ![0, 0] S512x128.size inb_S512x256_S512x128_0_0, OL x0 x1 x2 x3 x4 x5 x6 x7 x8
        (View.ld x0 (Rect.unit (s := S1024x512) ![0, 0] S512x512.size inb_S1024x512_S512x512_0_0)) (k0_pay2 (F := Ideal))⟩] := by
  frame_out
  try rfl

/-- A later row block's output. -/
theorem out_B (hc : ¬cond0_0 i) (xs : Vec Ideal S256x128 .f32) :
    out0_B_9 (F := Ideal) c i a3 h3 a4 h4 a5 h5 a6 h6 a7 h7 a8 h8 a9 h9 a10 h10 a11 h11 a12 h12 a13 h13 hc x0 x1 x2 x3 x4 x5 x6 x7 x8 xs
    = View.canon [⟨Rect.unit (s := S512x256) ![0, 128] S512x128.size inb_S512x256_S512x128_0_128, OR x0 x1 x2 x3 x4 x5 x6 x7 x8
        (View.ld x0 (Rect.unit (s := S1024x512) ![0, 0] S512x512.size inb_S1024x512_S512x512_0_0)) xs⟩,
      ⟨Rect.unit (s := S512x256) ![0, 0] S512x128.size inb_S512x256_S512x128_0_0, OL x0 x1 x2 x3 x4 x5 x6 x7 x8
        (View.ld x0 (Rect.unit (s := S1024x512) ![0, 0] S512x512.size inb_S1024x512_S512x512_0_0)) xs⟩] := by
  frame_out
  try rfl

end Cert.GlaIdeal.Cases

end
-- ==== Proof.GlaOperands.lean ====
/-
  The gated linear attention: the kernel goes through a sequence in four row blocks of eight chunks, carrying the state from
  block to block. Its result array after the run is, entry by entry, the closed form of the arguments.
-/
module

public import proofs.«01_k».proof.Defs
public import proofs.«01_k».proof.Proof.Rms
public import proofs.«01_k».proof.Proof.GlaCases
public import Idealize.ShloMosaic.Lib.Routing.OpsPair
public import Idealize.ShloMosaic.Lib.Routing.OpsSet

@[expose] public section

set_option maxRecDepth 16384

noncomputable section

open Idealize.ShloMosaic Idealize.ShloMosaic.TcCoe Idealize.ShloMosaic.Tactic Idealize.SL.Sem
open Idealize.ShloMosaic.Pipeline (Dat)

namespace Cert.GlaIdeal.Closed

open Cert.GlaIdeal Cert.GlaIdeal.Gen Cert.GlaIdeal.Value Cert.GlaMath Cert.GlaIdeal.Block

variable (m : (ℓ : Loc nD τ sig) → Buf (Elt Ideal) ℓ) (ρ : Dev nD → PrngReg)

/-- The projected rows, the decay gate's second factor, its bias and the norm's scale, at natural coordinates. -/
def P (a : S32768x4608.Idx → EReal) (R C : ℕ) : EReal := if h : R < 32768 ∧ C < 4608 then a (ix2 ⟨R, h.1⟩ ⟨C, h.2⟩) else 0
def W (a : S4x16x256.Idx → EReal) (r C : ℕ) : EReal := if h : r < 16 ∧ C < 256 then a (ix3 0 ⟨r, h.1⟩ ⟨C, h.2⟩) else 0
def B (a : S4x256.Idx → EReal) (C : ℕ) : EReal := if h : C < 256 then a (ix2 0 ⟨C, h⟩) else 0
def N (a : S4x128.Idx → EReal) (C : ℕ) : EReal := if h : C < 128 then a (ix2 0 ⟨C, h⟩) else 0

theorem P_of (a : S32768x4608.Idx → EReal) (R : Fin 32768) (C : Fin 4608) : P a R.val C.val = a (ix2 R C) :=
  dif_pos (⟨R.isLt, C.isLt⟩ : R.val < 32768 ∧ C.val < 4608)
theorem W_of (a : S4x16x256.Idx → EReal) (r : Fin 16) (C : Fin 256) : W a r.val C.val = a (ix3 0 r C) :=
  dif_pos (⟨r.isLt, C.isLt⟩ : r.val < 16 ∧ C.val < 256)
theorem B_of (a : S4x256.Idx → EReal) (C : Fin 256) : B a C.val = a (ix2 0 C) := dif_pos C.isLt
theorem N_of (a : S4x128.Idx → EReal) (C : Fin 128) : N a C.val = a (ix2 0 C) := dif_pos C.isLt

/-- The result as one function of the arguments. -/
def G (a0 : S32768x4608.Idx → EReal) (a1 : S4x16x256.Idx → EReal) (a2 : S4x256.Idx → EReal) (a3 : S4x128.Idx → EReal) : S32768x512.Idx → EReal :=
  fun i => yy (P a0) (W a1) (B a2) (N a3) (i 0).val (i 1).val

/-- The index maps at a grid point: sequence `t / 8`, head pair `t / 4 % 2`, row block `t % 4` of the sequence. -/
theorem idx : ∀ t : Fin cfg0.N, (win0_0.index t 0 = 0 ∧ win0_0.index t 1 = 0)
    ∧ (win0_1.index t 0 = 0 ∧ win0_1.index t 1 = t.val / 4 % 2)
    ∧ (win0_2.index t 0 = 0 ∧ win0_2.index t 1 = t.val / 4 % 2)
    ∧ (win0_3.index t 0 = 0 ∧ win0_3.index t 1 = 0)
    ∧ (win0_4.index t 0 = t.val / 8 * 4 + t.val % 4 ∧ win0_4.index t 1 = 22 + t.val / 4 % 2)
    ∧ (win0_5.index t 0 = t.val / 8 * 4 + t.val % 4 ∧ win0_5.index t 1 = 24 + t.val / 4 % 2)
    ∧ (win0_6.index t 0 = t.val / 8 * 4 + t.val % 4 ∧ win0_6.index t 1 = 13 + t.val / 4 % 2)
    ∧ (win0_7.index t 0 = t.val / 8 * 4 + t.val % 4 ∧ win0_7.index t 1 = 15 + t.val / 4 % 2)
    ∧ (win0_8.index t 0 = t.val / 8 * 4 + t.val % 4 ∧ win0_8.index t 1 = 34)
    ∧ (win0_9.index t 0 = t.val / 8 * 4 + t.val % 4 ∧ win0_9.index t 1 = t.val / 4 % 2) := by decide +kernel

/-- Writing 16 rows at row 0 of a table of 128 leaves the written rows there and the table below. -/
theorem scat (x : S128x256.Idx → EReal) (i : IVec S1 32) (hi : i (ix1 0) = 0#32) (u : S16x256.Idx → EReal) (r : Fin 128) (c : Fin 256) :
    Host.scatter scatter_S128x256_S1_S16x256_01_n_0_0 (fun _ b => b) x i u (ix2 r c)
      = if h : r.val < 16 then u (ix2 ⟨r.val, h⟩ c) else x (ix2 r c) := by
  have lands : ∀ k : S16x256.Idx, scatter_S128x256_S1_S16x256_01_n_0_0.resultIdx? k i = some (ix2 r c) ↔ (k 0).val = r.val ∧ (k 1).val = c.val := by
    intro k
    rw [Routing.resultIdx?_eq_some]
    have s0 : scatter_S128x256_S1_S16x256_01_n_0_0.start k i 0 = 0 := by
      unfold ScatterDims.start
      rw [dif_pos (by decide)]
      have e : ∀ q : S1.Idx, i q = 0#32 := fun q => by
        rw [← hi]; congr 1; funext a
        match a with
        | ⟨0, _⟩ => exact Subsingleton.elim (α := Fin 1) _ _
      rw [e]; rfl
    have s1 : scatter_S128x256_S1_S16x256_01_n_0_0.start k i 1 = 0 := by
      unfold ScatterDims.start
      rw [dif_neg (by decide)]
    have w0 : scatter_S128x256_S1_S16x256_01_n_0_0.window k 0 = (k 0).val := by
      unfold ScatterDims.window
      rw [dif_pos (by decide)]; rfl
    have w1 : scatter_S128x256_S1_S16x256_01_n_0_0.window k 1 = (k 1).val := by
      unfold ScatterDims.window
      rw [dif_pos (by decide)]; rfl
    constructor
    · intro q
      have q0 := q 0
      have q1 := q 1
      rw [s0, w0] at q0
      rw [s1, w1] at q1
      have e0 : ((ix2 r c : S128x256.Idx) 0).val = r.val := rfl
      have e1 : ((ix2 r c : S128x256.Idx) 1).val = c.val := rfl
      rw [e0] at q0
      rw [e1] at q1
      omega
    · rintro ⟨q0, q1⟩ a
      match a with
      | ⟨0, _⟩ => show scatter_S128x256_S1_S16x256_01_n_0_0.start k i 0 + (scatter_S128x256_S1_S16x256_01_n_0_0.window k 0 : Int) = (r.val : Int); rw [s0, w0]; omega
      | ⟨1, _⟩ => show scatter_S128x256_S1_S16x256_01_n_0_0.start k i 1 + (scatter_S128x256_S1_S16x256_01_n_0_0.window k 1 : Int) = (c.val : Int); rw [s1, w1]; omega
  by_cases h : r.val < 16
  · rw [dif_pos h]
    refine Routing.scatter_set_hit _ x i u _ _ (fun k hk => ?_) (ix2 ⟨r.val, h⟩ c) ((lands _).mpr ⟨rfl, rfl⟩)
    obtain ⟨q0, q1⟩ := (lands k).mp hk
    congr 1
    funext a
    match a with
    | ⟨0, _⟩ => exact Fin.ext q0
    | ⟨1, _⟩ => exact Fin.ext q1
  · rw [dif_neg h]
    refine Routing.scatter_set_miss _ x i u _ fun k hk => ?_
    have := ((lands k).mp hk).1
    have := (k 0).isLt
    have e : (k 0).val < 16 := this
    omega

/-- The gate's second factor as the kernel sees it: 16 rows of it, zero rows below. -/
theorem V_w (c : Dev nD) (l : Fin 128) (C : Fin 256) : (V m c main_v5 : S128x256.Idx → EReal) (ix2 l C)
    = if l.val < 16 then W (m ((c : Thread nD τ).loc main_arg1)) l.val C.val else 0 := by
  have e : (V m c main_v5 : S128x256.Idx → EReal)
      = truncf .bf16 (Host.scatter scatter_S128x256_S1_S16x256_01_n_0_0 (fun _ b => b)
          (broadcastInDim S128x256 ![] bcast_S_S128x256 (constant (F := Ideal) S_ .f32 0#32))
          (broadcastInDim S1 ![] bcast_S_S1 (constantI S_ 32 0#32))
          (shapeCast S16x256 (extractStridedSlice S1x16x256 ![0, 0, 0] (m ((c : Thread nD τ).loc main_arg1) : S4x16x256.Idx → EReal) slices_S4x16x256_S1x16x256_0_0_0) shapeCasts_S1x16x256_S16x256 : S16x256.Idx → EReal)) bitsLt_bf16_f32 := by
    unfold V
    simp only [hostOps0]
    after_results
    all_goals rfl
  have t : ∀ x : FVec Ideal S128x256 .f32, (truncf .bf16 x bitsLt_bf16_f32 : S128x256.Idx → EReal) = x := fun _ => rfl
  rw [e, t]
  refine (scat _ _ rfl _ l C).trans ?_
  generalize m ((c : Thread nD τ).loc main_arg1) = g
  by_cases h : l.val < 16
  · rw [dif_pos h, if_pos h]
    refine Eq.trans ?_ (W_of g ⟨l.val, h⟩ C).symm
    pointwise
  · rw [dif_neg h, if_neg h]
    pointwise

/-- The gate's bias as the kernel sees it. -/
theorem V_b (c : Dev nD) (C : Fin 256) : (V m c main_v28 : S1x256.Idx → EReal) (ix2 0 C) = B (m ((c : Thread nD τ).loc main_arg2)) C.val := by
  have e : (V m c main_v28 : S1x256.Idx → EReal)
      = shapeCast S1x256 (shapeCast S256 (extractStridedSlice S1x256 ![0, 0] (m ((c : Thread nD τ).loc main_arg2) : S4x256.Idx → EReal) slices_S4x256_S1x256_0_0) shapeCasts_S1x256_S256) shapeCasts_S256_S1x256 := by
    unfold V
    simp only [hostOps0]
    after_results
    all_goals rfl
  rw [e]
  generalize m ((c : Thread nD τ).loc main_arg2) = g
  refine Eq.trans ?_ (B_of g C).symm
  pointwise

/-- The norm's scale as the kernel sees it. -/
theorem V_n (c : Dev nD) (C : Fin 128) : (V m c main_v29 : S1x128.Idx → EReal) (ix2 0 C) = N (m ((c : Thread nD τ).loc main_arg3)) C.val := by
  have e : (V m c main_v29 : S1x128.Idx → EReal)
      = shapeCast S1x128 (shapeCast S128 (extractStridedSlice S1x128 ![0, 0] (m ((c : Thread nD τ).loc main_arg3) : S4x128.Idx → EReal) slices_S4x128_S1x128_0_0) shapeCasts_S1x128_S128) shapeCasts_S128_S1x128 := by
    unfold V
    simp only [hostOps0]
    after_results
    all_goals rfl
  rw [e]
  generalize m ((c : Thread nD τ).loc main_arg3) = g
  refine Eq.trans ?_ (N_of g C).symm
  pointwise

end Cert.GlaIdeal.Closed

end
-- ==== Proof.GlaMask.lean ====
/-
  The chunk mask the host builds for the gated linear attention: 0/1 tables that say which rows of a block share a chunk, and
  which of them come no later.
-/
module

public import proofs.«01_k».proof.Proof.GlaCases
public import Idealize.ShloMosaic.Lib.Pipeline.Value
public import Idealize.ShloMosaic.Lib.Pointwise

@[expose] public section

set_option maxRecDepth 16384

noncomputable section

open Idealize.ShloMosaic Idealize.ShloMosaic.TcCoe Idealize.ShloMosaic.Tactic Idealize.SL.Sem
open Idealize.ShloMosaic.Pipeline (Dat)

namespace Cert.GlaIdeal.Mask

open Cert.GlaIdeal Cert.GlaIdeal.Gen Cert.GlaIdeal.Value

variable (m : (ℓ : Loc nD τ sig) → Buf (Elt Ideal) ℓ) (ρ : Dev nD → PrngReg)

/-- The chunk numbers of a block's rows, down and across. -/
def col : IVec S512x1 32 := broadcastInDim S512x1 ![0] bcast_S512_S512x1_0 (iotaInDim S512 32 0)
def row : IVec S1x512 32 := broadcastInDim S1x512 ![1] bcast_S512_S1x512_1 (iotaInDim S512 32 0)

/-- Same chunk. -/
def same : IVec S512x512 1 :=
  cmpi .eq (broadcastInDim S512x512 ![0, 1] bcast_S512x1_S512x512_0_1 (Host.divsi col (broadcastInDim S512x1 ![] bcast_S_S512x1 (constantI S_ 32 64#32))))
    (broadcastInDim S512x512 ![0, 1] bcast_S1x512_S512x512_0_1 (Host.divsi row (broadcastInDim S1x512 ![] bcast_S_S1x512 (constantI S_ 32 64#32))))

/-- No later. -/
def low : IVec S512x512 1 :=
  cmpi .sle (broadcastInDim S512x512 ![0, 1] bcast_S1x512_S512x512_0_1 row) (broadcastInDim S512x512 ![0, 1] bcast_S512x1_S512x512_0_1 col)

/-- The quotient of a row number by the chunk length. -/
theorem quot : ∀ r : Fin 512, IntOp.divsi ArithUnit.host (BitVec.ofNat 32 r.val) 64#32 = BitVec.ofNat 32 (r.val / 64) := by decide +kernel

/-- A bit read as a number. -/
theorem bit0 : (FloatOps.uitofp (F := Ideal) FTy.f32 (0#1) : EReal) = 0 := by
  show ((((0#1 : BitVec 1).toNat : ℕ) : ℝ) : EReal) = 0
  simp
theorem bit1 : (FloatOps.uitofp (F := Ideal) FTy.f32 (1#1) : EReal) = 1 := by
  show ((((1#1 : BitVec 1).toNat : ℕ) : ℝ) : EReal) = 1
  simp

theorem same_apply (r k : Fin 512) : same (ix2 r k) = if k.val / 64 = r.val / 64 then 1#1 else 0#1 := by
  have e : IntOp.cmpi CmpIPredicate.eq (IntOp.divsi ArithUnit.host (BitVec.ofNat 32 r.val) 64#32) (IntOp.divsi ArithUnit.host (BitVec.ofNat 32 k.val) 64#32)
      = if k.val / 64 = r.val / 64 then 1#1 else 0#1 := by
    rw [quot r, quot k]
    have hr := r.isLt
    have hk := k.isLt
    by_cases h : k.val / 64 = r.val / 64
    · rw [if_pos h, h]
      show BitVec.ofBool (BitVec.ofNat 32 (r.val / 64) == BitVec.ofNat 32 (r.val / 64)) = 1#1
      rw [beq_self_eq_true]; rfl
    · rw [if_neg h]
      show BitVec.ofBool (BitVec.ofNat 32 (r.val / 64) == BitVec.ofNat 32 (k.val / 64)) = 0#1
      rw [beq_eq_false_iff_ne.mpr]
      · rfl
      · intro h'
        have := congrArg BitVec.toNat h'
        rw [BitVec.toNat_ofNat, BitVec.toNat_ofNat] at this
        omega
  refine Eq.trans ?_ e
  unfold same col row
  pointwise

theorem low_apply (r k : Fin 512) : low (ix2 r k) = if k.val ≤ r.val then 1#1 else 0#1 := by
  have e : IntOp.cmpi CmpIPredicate.sle (BitVec.ofNat 32 k.val) (BitVec.ofNat 32 r.val) = if k.val ≤ r.val then 1#1 else 0#1 := by
    have hr := r.isLt
    have hk := k.isLt
    have ir : (BitVec.ofNat 32 r.val).toInt = (r.val : ℤ) := by
      rw [BitVec.toInt_eq_toNat_of_lt (by rw [BitVec.toNat_ofNat]; omega), BitVec.toNat_ofNat, Nat.mod_eq_of_lt (by omega)]
    have ik : (BitVec.ofNat 32 k.val).toInt = (k.val : ℤ) := by
      rw [BitVec.toInt_eq_toNat_of_lt (by rw [BitVec.toNat_ofNat]; omega), BitVec.toNat_ofNat, Nat.mod_eq_of_lt (by omega)]
    show BitVec.ofBool (decide ((BitVec.ofNat 32 k.val).toInt ≤ (BitVec.ofNat 32 r.val).toInt)) = _
    rw [ir, ik]
    by_cases h : k.val ≤ r.val
    · rw [if_pos h, decide_eq_true (Int.ofNat_le.mpr h)]; rfl
    · rw [if_neg h, decide_eq_false (fun h' => h (Int.ofNat_le.mp h'))]; rfl
  refine Eq.trans ?_ e
  unfold low col row
  pointwise

theorem V_m (c : Dev nD) : (V m c main_v27 : S1024x512.Idx → EReal)
    = truncf .bf16 (uitofp (F := Ideal) .f32 (concatenate S1024x512 0 [⟨S512x512, andi same low⟩, ⟨S512x512, same⟩] concatenates_S512x512_S512x512_S1024x512_d0)) bitsLt_bf16_f32 := by
  unfold V same low col row
  simp only [hostOps0]
  after_results
  all_goals rfl

/-- The mask's upper half: same chunk and no later. -/
theorem V_ma (c : Dev nD) (r k : Fin 512) : (V m c main_v27 : S1024x512.Idx → EReal) (ix2 ⟨r.val, by omega⟩ k)
    = if k.val / 64 = r.val / 64 ∧ k.val ≤ r.val then (1 : EReal) else 0 := by
  rw [V_m]
  have h1 := same_apply r k
  have h2 := low_apply r k
  generalize same = s at h1 ⊢
  generalize low = l at h2 ⊢
  have hr := r.isLt
  pointwise
  rw [h1, h2]
  by_cases e1 : k.val / 64 = r.val / 64 <;> by_cases e2 : k.val ≤ r.val <;>
    simp only [e1, e2, and_self, and_true, true_and, and_false, false_and, if_true, if_false]
  · exact bit1
  · exact bit0
  · exact bit0
  · exact bit0

/-- The mask's lower half: same chunk. -/
theorem V_mb (c : Dev nD) (r k : Fin 512) : (V m c main_v27 : S1024x512.Idx → EReal) (ix2 ⟨512 + r.val, by omega⟩ k)
    = if k.val / 64 = r.val / 64 then (1 : EReal) else 0 := by
  rw [V_m]
  have h1 := same_apply r k
  generalize same = s at h1 ⊢
  generalize low = l
  pointwise
  rw [h1]
  split
  · exact bit1
  · exact bit0

end Cert.GlaIdeal.Mask

end
-- ==== Proof.GlaValue.lean ====
/-
  The gated linear attention's kernel, over the whole grid: the state the points carry from row block to row block is the
  recurrence's, and the result array is the recurrence's output, entry by entry.
-/
module

public import proofs.«01_k».proof.Proof.GlaOperands
public import proofs.«01_k».proof.Proof.GlaMask

@[expose] public section

set_option maxRecDepth 16384

noncomputable section

open Idealize.ShloMosaic Idealize.ShloMosaic.TcCoe Idealize.ShloMosaic.Tactic Idealize.SL.Sem
open Idealize.ShloMosaic.Pipeline (Dat)

namespace Cert.GlaIdeal.Closed

open Cert.GlaIdeal Cert.GlaIdeal.Gen Cert.GlaIdeal.Value Cert.GlaMath Cert.GlaIdeal.Block Cert.GlaIdeal.Cases Cert.GlaIdeal.Mask

variable (m : (ℓ : Loc nD τ sig) → Buf (Elt Ideal) ℓ) (ρ : Dev nD → PrngReg)

theorem G_congr (a0 : S32768x4608.Idx → EReal) (a1 : S4x16x256.Idx → EReal) (a2 : S4x256.Idx → EReal) (a3 : S4x128.Idx → EReal)
    (i : S32768x512.Idx) (R C : ℕ) (h0 : (i 0).val = R) (h1 : (i 1).val = C) :
    G a0 a1 a2 a3 i = yy (P a0) (W a1) (B a2) (N a3) R C := by
  unfold G; rw [h0, h1]

/-- The row block and the head pair of a grid point. -/
abbrev tr (t : ℕ) : ℕ := t / 8 * 4 + t % 4
abbrev hp (t : ℕ) : ℕ := t / 4 % 2

theorem blk0 (c : Dev nD) (t : Fin cfg0.N) (r : Fin 1024) (k : Fin 512) :
    (iblk m c 0 t : S1024x512.Idx → EReal) (ix2 r k) = (V m c main_v27 : S1024x512.Idx → EReal) (ix2 r k) := by
  have hi := (idx t).1
  unfold iblk
  rw [View.read_apply]
  show V m c main_v27 _ = V m c main_v27 _
  congr 1
  funext a
  apply Fin.ext
  match a with
  | ⟨0, _⟩ => show win0_0.index t 0 * 1024 + 1 * r.val = r.val; rw [hi.1]; omega
  | ⟨1, _⟩ => show win0_0.index t 1 * 512 + 1 * k.val = k.val; rw [hi.2]; omega

theorem blk1 (c : Dev nD) (t : Fin cfg0.N) (r l : Fin 128) :
    (iblk m c 1 t : S128x128.Idx → EReal) (ix2 r l)
      = if r.val < 16 then W (m ((c : Thread nD τ).loc main_arg1)) r.val (128 * hp t.val + l.val) else 0 := by
  have hi := (idx t).2.1
  unfold iblk
  rw [View.read_apply]
  refine Eq.trans ?_ (V_w m c r (⟨128 * hp t.val + l.val, by unfold hp; omega⟩ : Fin 256))
  show V m c main_v5 _ = V m c main_v5 _
  congr 1
  funext a
  apply Fin.ext
  match a with
  | ⟨0, _⟩ => show win0_1.index t 0 * 128 + 1 * r.val = r.val; rw [hi.1]; omega
  | ⟨1, _⟩ => show win0_1.index t 1 * 128 + 1 * l.val = 128 * (t.val / 4 % 2) + l.val; rw [hi.2]; omega

theorem blk2 (c : Dev nD) (t : Fin cfg0.N) (l : Fin 128) :
    (iblk m c 2 t : S1x128.Idx → EReal) (ix2 0 l) = B (m ((c : Thread nD τ).loc main_arg2)) (128 * hp t.val + l.val) := by
  have hi := (idx t).2.2.1
  unfold iblk
  rw [View.read_apply]
  refine Eq.trans ?_ (V_b m c (⟨128 * hp t.val + l.val, by unfold hp; omega⟩ : Fin 256))
  show V m c main_v28 _ = V m c main_v28 _
  congr 1
  funext a
  apply Fin.ext
  match a with
  | ⟨0, _⟩ => show win0_2.index t 0 * 1 + 1 * 0 = 0; rw [hi.1]
  | ⟨1, _⟩ => show win0_2.index t 1 * 128 + 1 * l.val = 128 * (t.val / 4 % 2) + l.val; rw [hi.2]; omega

theorem blk3 (c : Dev nD) (t : Fin cfg0.N) (l : Fin 128) :
    (iblk m c 3 t : S1x128.Idx → EReal) (ix2 0 l) = N (m ((c : Thread nD τ).loc main_arg3)) l.val := by
  have hi := (idx t).2.2.2.1
  unfold iblk
  rw [View.read_apply]
  refine Eq.trans ?_ (V_n m c l)
  show V m c main_v29 _ = V m c main_v29 _
  congr 1
  funext a
  apply Fin.ext
  match a with
  | ⟨0, _⟩ => show win0_3.index t 0 * 1 + 1 * 0 = 0; rw [hi.1]
  | ⟨1, _⟩ => show win0_3.index t 1 * 128 + 1 * l.val = l.val; rw [hi.2]; omega

theorem blk4 (c : Dev nD) (t : Fin cfg0.N) (r : Fin 512) (l : Fin 128) :
    (iblk m c 4 t : S512x128.Idx → EReal) (ix2 r l)
      = P (m ((c : Thread nD τ).loc main_arg0)) (512 * tr t.val + r.val) (2816 + (128 * hp t.val + l.val)) := by
  have hi := (idx t).2.2.2.2.1
  have hN : cfg0.N = 128 := N_0
  have ht := t.isLt
  unfold iblk
  rw [View.read_apply]
  refine Eq.trans ?_ (P_of (m ((c : Thread nD τ).loc main_arg0)) (⟨512 * tr t.val + r.val, by unfold tr; omega⟩ : Fin 32768)
    (⟨2816 + (128 * hp t.val + l.val), by have h2 : hp t.val < 2 := Nat.mod_lt _ (by decide); omega⟩ : Fin 4608)).symm
  show V m c main_arg0 _ = m (c.tc.loc main_arg0) _
  rw [V_main_arg0]
  congr 1
  funext a
  apply Fin.ext
  match a with
  | ⟨0, _⟩ => show win0_4.index t 0 * 512 + 1 * r.val = 512 * tr t.val + r.val; unfold tr; rw [hi.1]; omega
  | ⟨1, _⟩ => show win0_4.index t 1 * 128 + 1 * l.val = 2816 + (128 * hp t.val + l.val); rw [hi.2]; (try unfold hp); omega

theorem blk5 (c : Dev nD) (t : Fin cfg0.N) (r : Fin 512) (l : Fin 128) :
    (iblk m c 5 t : S512x128.Idx → EReal) (ix2 r l)
      = P (m ((c : Thread nD τ).loc main_arg0)) (512 * tr t.val + r.val) (3072 + (128 * hp t.val + l.val)) := by
  have hi := (idx t).2.2.2.2.2.1
  have hN : cfg0.N = 128 := N_0
  have ht := t.isLt
  unfold iblk
  rw [View.read_apply]
  refine Eq.trans ?_ (P_of (m ((c : Thread nD τ).loc main_arg0)) (⟨512 * tr t.val + r.val, by unfold tr; omega⟩ : Fin 32768)
    (⟨3072 + (128 * hp t.val + l.val), by have h2 : hp t.val < 2 := Nat.mod_lt _ (by decide); omega⟩ : Fin 4608)).symm
  show V m c main_arg0 _ = m (c.tc.loc main_arg0) _
  rw [V_main_arg0]
  congr 1
  funext a
  apply Fin.ext
  match a with
  | ⟨0, _⟩ => show win0_5.index t 0 * 512 + 1 * r.val = 512 * tr t.val + r.val; unfold tr; rw [hi.1]; omega
  | ⟨1, _⟩ => show win0_5.index t 1 * 128 + 1 * l.val = 3072 + (128 * hp t.val + l.val); rw [hi.2]; (try unfold hp); omega

theorem blk6 (c : Dev nD) (t : Fin cfg0.N) (r : Fin 512) (l : Fin 256) :
    (iblk m c 6 t : S512x256.Idx → EReal) (ix2 r l)
      = P (m ((c : Thread nD τ).loc main_arg0)) (512 * tr t.val + r.val) (3328 + (256 * hp t.val + l.val)) := by
  have hi := (idx t).2.2.2.2.2.2.1
  have hN : cfg0.N = 128 := N_0
  have ht := t.isLt
  unfold iblk
  rw [View.read_apply]
  refine Eq.trans ?_ (P_of (m ((c : Thread nD τ).loc main_arg0)) (⟨512 * tr t.val + r.val, by unfold tr; omega⟩ : Fin 32768)
    (⟨3328 + (256 * hp t.val + l.val), by have h2 : hp t.val < 2 := Nat.mod_lt _ (by decide); omega⟩ : Fin 4608)).symm
  show V m c main_arg0 _ = m (c.tc.loc main_arg0) _
  rw [V_main_arg0]
  congr 1
  funext a
  apply Fin.ext
  match a with
  | ⟨0, _⟩ => show win0_6.index t 0 * 512 + 1 * r.val = 512 * tr t.val + r.val; unfold tr; rw [hi.1]; omega
  | ⟨1, _⟩ => show win0_6.index t 1 * 256 + 1 * l.val = 3328 + (256 * hp t.val + l.val); rw [hi.2]; (try unfold hp); omega

theorem blk7 (c : Dev nD) (t : Fin cfg0.N) (r : Fin 512) (l : Fin 256) :
    (iblk m c 7 t : S512x256.Idx → EReal) (ix2 r l)
      = P (m ((c : Thread nD τ).loc main_arg0)) (512 * tr t.val + r.val) (3840 + (256 * hp t.val + l.val)) := by
  have hi := (idx t).2.2.2.2.2.2.2.1
  have hN : cfg0.N = 128 := N_0
  have ht := t.isLt
  unfold iblk
  rw [View.read_apply]
  refine Eq.trans ?_ (P_of (m ((c : Thread nD τ).loc main_arg0)) (⟨512 * tr t.val + r.val, by unfold tr; omega⟩ : Fin 32768)
    (⟨3840 + (256 * hp t.val + l.val), by have h2 : hp t.val < 2 := Nat.mod_lt _ (by decide); omega⟩ : Fin 4608)).symm
  show V m c main_arg0 _ = m (c.tc.loc main_arg0) _
  rw [V_main_arg0]
  congr 1
  funext a
  apply Fin.ext
  match a with
  | ⟨0, _⟩ => show win0_7.index t 0 * 512 + 1 * r.val = 512 * tr t.val + r.val; unfold tr; rw [hi.1]; omega
  | ⟨1, _⟩ => show win0_7.index t 1 * 256 + 1 * l.val = 3840 + (256 * hp t.val + l.val); rw [hi.2]; (try unfold hp); omega

theorem blk8 (c : Dev nD) (t : Fin cfg0.N) (r : Fin 512) (l : Fin 128) :
    (iblk m c 8 t : S512x128.Idx → EReal) (ix2 r l)
      = P (m ((c : Thread nD τ).loc main_arg0)) (512 * tr t.val + r.val) (4352 + l.val) := by
  have hi := (idx t).2.2.2.2.2.2.2.2.1
  have hN : cfg0.N = 128 := N_0
  have ht := t.isLt
  unfold iblk
  rw [View.read_apply]
  refine Eq.trans ?_ (P_of (m ((c : Thread nD τ).loc main_arg0)) (⟨512 * tr t.val + r.val, by unfold tr; omega⟩ : Fin 32768)
    (⟨4352 + l.val, by have h2 : hp t.val < 2 := Nat.mod_lt _ (by decide); omega⟩ : Fin 4608)).symm
  show V m c main_arg0 _ = m (c.tc.loc main_arg0) _
  rw [V_main_arg0]
  congr 1
  funext a
  apply Fin.ext
  match a with
  | ⟨0, _⟩ => show win0_8.index t 0 * 512 + 1 * r.val = 512 * tr t.val + r.val; unfold tr; rw [hi.1]; omega
  | ⟨1, _⟩ => show win0_8.index t 1 * 128 + 1 * l.val = 4352 + l.val; rw [hi.2]; (try unfold hp); omega

/-- The blocks a grid point reads are the projected rows, the gate's factor, its bias, the norm's scale and the masks. -/
theorem blocks (c : Dev nD) (t : Fin cfg0.N) :
    Blocks (P (m ((c : Thread nD τ).loc main_arg0))) (W (m ((c : Thread nD τ).loc main_arg1))) (B (m ((c : Thread nD τ).loc main_arg2)))
      (N (m ((c : Thread nD τ).loc main_arg3))) (tr t.val) (hp t.val)
      (iblk m c 0 t) (iblk m c 1 t) (iblk m c 2 t) (iblk m c 3 t) (iblk m c 4 t) (iblk m c 5 t) (iblk m c 6 t) (iblk m c 7 t) (iblk m c 8 t)
      (View.ld (iblk m c 0 t) (Rect.unit (s := S1024x512) ![0, 0] S512x512.size inb_S1024x512_S512x512_0_0)) where
  h0a r k := (blk0 m c t _ k).trans (V_ma m c r k)
  h0b r k := (blk0 m c t _ k).trans (V_mb m c r k)
  hM r k := by
    refine Eq.trans ?_ ((blk0 m c t ⟨r.val, by omega⟩ k).trans (V_ma m c r k))
    show iblk m c 0 t _ = iblk m c 0 t _
    congr 1
    funext a
    apply Fin.ext
    match a with
    | ⟨0, _⟩ => show 0 + 1 * r.val = r.val; omega
    | ⟨1, _⟩ => show 0 + 1 * k.val = k.val; omega
  h1 := blk1 m c t
  h2 := blk2 m c t
  h3 := blk3 m c t
  h4 := blk4 m c t
  h5 := blk5 m c t
  h6 := blk6 m c t
  h7 := blk7 m c t
  h8 := blk8 m c t

/-- The state of head pair `h` before chunk `n` of row block `T`, over the arguments. -/
def state (c : Dev nD) (T H n : ℕ) (u : Fin 256) (l : Fin 128) : EReal :=
  stt (P (m ((c : Thread nD τ).loc main_arg0))) (W (m ((c : Thread nD τ).loc main_arg1))) (B (m ((c : Thread nD τ).loc main_arg2))) T H n u l

/-- At the first row block of a sequence the state is zero. -/
theorem state_zero (c : Dev nD) (T H : ℕ) (hT : T % 4 = 0) (u : Fin 256) (l : Fin 128) : (k0_pay2 (F := Ideal) : S256x128.Idx → EReal) (ix2 u l) = state m c T H 0 u l := by
  rw [Pay.pay2_apply]
  unfold state stt
  rw [hT]
  show _ = if _ then st _ _ _ _ 0 _ _ else _
  unfold st
  rw [ite_self]

/-- Eight chunks into a row block the state is the next row block's first. -/
theorem state_next (c : Dev nD) (T H : ℕ) (hT : T % 4 < 3) (u : Fin 256) (l : Fin 128) : state m c T H 8 u l = state m c (T + 1) H 0 u l := by
  unfold state stt
  have e1 : (T + 1) / 4 = T / 4 := by omega
  have e2 : 8 * ((T + 1) % 4) + 0 = 8 * (T % 4) + 8 := by omega
  rw [e1, e2]

/-- After every point the scratch holds the state eight chunks on. -/
theorem scratch (c : Dev nD) : ∀ (n : ℕ) (hn : n < cfg0.N) (u : Fin 256) (l : Fin 128),
    ((outsAt0 m c n hn).2 : S256x128.Idx → EReal) (ix2 u l) = state m c (tr n) (hp n) 8 u l := by
  intro n
  induction n with
  | zero =>
    intro hn u l
    rw [outsAt0_A m c ⟨0, hn⟩ rfl]
    dsimp only
    rw [sout_A]
    exact SX_eq (blocks m c ⟨0, hn⟩) (fun u l => state_zero m c _ _ (by show tr 0 % 4 = 0; rfl) u l) u l
  | succ n ih =>
    intro hn u l
    by_cases h0 : (n + 1) % 4 = 0
    · rw [outsAt0_A m c ⟨n + 1, hn⟩ h0]
      dsimp only
      rw [sout_A]
      exact SX_eq (blocks m c ⟨n + 1, hn⟩) (fun u l => state_zero m c _ _ (by show tr (n + 1) % 4 = 0; unfold tr; omega) u l) u l
    · rw [outsAt0_B m c ⟨n + 1, hn⟩ h0]
      dsimp only
      rw [sout_B]
      refine SX_eq (blocks m c ⟨n + 1, hn⟩) (fun u l => (ih (Nat.lt_of_succ_lt hn) u l).trans ?_) u l
      rw [state_next m c (tr n) (hp n) (by unfold tr; omega) u l]
      have e1 : tr n + 1 = tr (n + 1) := by unfold tr; omega
      have e2 : hp n = hp (n + 1) := by unfold hp; omega
      rw [e1, e2]
      rfl

/-- The two heads' column halves of an output block. -/
theorem halves (x0 : Vec Ideal S1024x512 .bf16) (wr wl : S512x128.Idx → EReal) (g : S512x256.Idx → EReal)
    (hl : ∀ (r : Fin 512) (l : Fin 128), wl (ix2 r l) = g (ix2 r ⟨l.val, by omega⟩))
    (hr : ∀ (r : Fin 512) (l : Fin 128), wr (ix2 r l) = g (ix2 r ⟨128 + l.val, by omega⟩)) (r : Fin 512) (l : Fin 256) :
    (View.canon (Val := Elt Ideal) (e := .bf16) [⟨Rect.unit (s := S512x256) ![0, 128] S512x128.size inb_S512x256_S512x128_0_128, wr⟩,
      ⟨Rect.unit (s := S512x256) ![0, 0] S512x128.size inb_S512x256_S512x128_0_0, wl⟩] : S512x256.Idx → EReal) (ix2 r l) = g (ix2 r l) := by
  have hlt := l.isLt
  by_cases h : l.val < 128
  · rw [View.canon_cons_of_not_mem]
    · have e : (ix2 r l : S512x256.Idx) = (Rect.unit (s := S512x256) ![0, 0] S512x128.size inb_S512x256_S512x128_0_0).emb (ix2 r (⟨l.val, h⟩ : Fin 128)) := by
        funext a
        apply Fin.ext
        match a with
        | ⟨0, _⟩ => show r.val = 0 + 1 * r.val; omega
        | ⟨1, _⟩ => show l.val = 0 + 1 * l.val; omega
      rw [e, View.canon_cons_emb, hl, ← e]
    · rw [Rect.mem_set_unit]
      intro hh
      have := (hh 1).1
      have : (128 : ℕ) ≤ l.val := this
      omega
  · have e : (ix2 r l : S512x256.Idx) = (Rect.unit (s := S512x256) ![0, 128] S512x128.size inb_S512x256_S512x128_0_128).emb (ix2 r (⟨l.val - 128, by omega⟩ : Fin 128)) := by
      funext a
      apply Fin.ext
      match a with
      | ⟨0, _⟩ => show r.val = 0 + 1 * r.val; omega
      | ⟨1, _⟩ => show l.val = 128 + 1 * (l.val - 128); omega
    have e' : (⟨128 + (l.val - 128), by omega⟩ : Fin 256) = l := Fin.ext (by show 128 + (l.val - 128) = l.val; omega)
    rw [e, View.canon_cons_emb, hr, ← e]
    dsimp only
    rw [e']

/-- What every point writes back, at an entry. -/
theorem out_apply (c : Dev nD) (t : Fin cfg0.N) (r : Fin 512) (l : Fin 256) :
    ((outsAt0 m c t.val t.isLt).1 : S512x256.Idx → EReal) (ix2 r l)
      = yy (P (m ((c : Thread nD τ).loc main_arg0))) (W (m ((c : Thread nD τ).loc main_arg1))) (B (m ((c : Thread nD τ).loc main_arg2)))
          (N (m ((c : Thread nD τ).loc main_arg3))) (512 * tr t.val + r.val) (256 * hp t.val + l.val) := by
  have hN : cfg0.N = 128 := N_0
  obtain ⟨n, hn⟩ := t
  by_cases h0 : n % 4 = 0
  · rw [outsAt0_A m c ⟨n, hn⟩ h0]
    dsimp only
    rw [out_A]
    have hs : ∀ u l, (k0_pay2 (F := Ideal) : S256x128.Idx → EReal) (ix2 u l) = state m c (tr n) (hp n) 0 u l := fun u l => state_zero m c _ _ (by show tr n % 4 = 0; unfold tr; omega) u l
    exact halves (iblk m c 0 ⟨n, hn⟩) _ _ (fun i => yy (P (m ((c : Thread nD τ).loc main_arg0))) (W (m ((c : Thread nD τ).loc main_arg1))) (B (m ((c : Thread nD τ).loc main_arg2)))
          (N (m ((c : Thread nD τ).loc main_arg3))) (512 * tr n + (i 0).val) (256 * hp n + (i 1).val))
      (fun r l => OL_eq (blocks m c ⟨n, hn⟩) hs r l) (fun r l => OR_eq (blocks m c ⟨n, hn⟩) hs r l) r l
  · obtain ⟨k, rfl⟩ : ∃ k, n = k + 1 := ⟨n - 1, by omega⟩
    rw [outsAt0_B m c ⟨k + 1, hn⟩ h0]
    dsimp only
    rw [out_B]
    have hs : ∀ u l, ((outsAt0 m c k (Nat.lt_of_succ_lt hn)).2 : S256x128.Idx → EReal) (ix2 u l) = state m c (tr (k + 1)) (hp (k + 1)) 0 u l := by
      intro u l
      rw [scratch m c k (Nat.lt_of_succ_lt hn) u l, state_next m c (tr k) (hp k) (by unfold tr; omega) u l]
      have e1 : tr k + 1 = tr (k + 1) := by unfold tr; omega
      have e2 : hp k = hp (k + 1) := by unfold hp; omega
      rw [e1, e2]
    exact halves (iblk m c 0 ⟨k + 1, hn⟩) _ _ (fun i => yy (P (m ((c : Thread nD τ).loc main_arg0))) (W (m ((c : Thread nD τ).loc main_arg1))) (B (m ((c : Thread nD τ).loc main_arg2)))
          (N (m ((c : Thread nD τ).loc main_arg3))) (512 * tr (k + 1) + (i 0).val) (256 * hp (k + 1) + (i 1).val))
      (fun r l => OL_eq (blocks m c ⟨k + 1, hn⟩) hs r l) (fun r l => OR_eq (blocks m c ⟨k + 1, hn⟩) hs r l) r l

/-- What point `t` writes back is block `t` of `G`. -/
theorem flushed_eq (c : Dev nD) (t : Fin cfg0.N) :
    (dats m 0 c).flushed 9 t = ((cfg0.win 9).blk t).view.read (Elt Ideal)
      (G (m ((c : Thread nD τ).loc main_arg0)) (m ((c : Thread nD τ).loc main_arg1)) (m ((c : Thread nD τ).loc main_arg2)) (m ((c : Thread nD τ).loc main_arg3))) := by
  have hi := (idx t).2.2.2.2.2.2.2.2.2
  rw [flushed9]
  funext j
  obtain ⟨r, l, rfl⟩ : ∃ (r : Fin 512) (l : Fin 256), j = ix2 r l := ⟨j 0, j 1, eq_ix2 j⟩
  rw [View.read_apply]
  show (outsAt0 m c t.val t.isLt).1 (ix2 r l) = G _ _ _ _ _
  refine (out_apply m c t r l).trans (G_congr _ _ _ _ _ _ _ ?_ ?_).symm
  · show win0_9.index t 0 * 512 + 1 * r.val = 512 * tr t.val + r.val; unfold tr; rw [hi.1]; omega
  · show win0_9.index t 1 * 256 + 1 * l.val = 256 * hp t.val + l.val; unfold hp; rw [hi.2]; omega

theorem cover (i : S32768x512.Idx) :
    ∃ t : Fin cfg0.N, (cfg0.win 9).flush t = true ∧ i ∈ ((cfg0.win 9).blk t).view.set := by
  have hN : cfg0.N = 128 := N_0
  have h0 : (i 0 : Nat) < 32768 := (i 0).isLt
  have h1 : (i 1 : Nat) < 512 := (i 1).isLt
  let t : Fin cfg0.N := ⟨(i 0 : Nat) / 2048 * 8 + (i 1 : Nat) / 256 * 4 + (i 0 : Nat) / 512 % 4, by omega⟩
  have hi := (idx t).2.2.2.2.2.2.2.2.2
  have hv : t.val = (i 0 : Nat) / 2048 * 8 + (i 1 : Nat) / 256 * 4 + (i 0 : Nat) / 512 % 4 := rfl
  refine ⟨t, flush0_9 t, ?_⟩
  show i ∈ ((View.whole main_v30).slice (win0_9.rect t)).set
  rw [View.set_slice_whole, Rect.mem_set_unit]
  intro a
  match a with
  | ⟨0, _⟩ =>
    show win0_9.index t 0 * 512 ≤ (i 0 : Nat) ∧ (i 0 : Nat) < win0_9.index t 0 * 512 + 512
    rw [hi.1]; omega
  | ⟨1, _⟩ =>
    show win0_9.index t 1 * 256 ≤ (i 1 : Nat) ∧ (i 1 : Nat) < win0_9.index t 1 * 256 + 256
    rw [hi.2]; omega

/-- The kernel's run: the result is `G` of the arguments, the arguments are unchanged. -/
theorem run : θ_run defs (onTc (τ := τ) (main (F := Ideal))) ⟨m, fun _ => 0, ρ⟩ fun r => ∀ c : Dev nD,
      r.2.mem ((c : Thread nD τ).loc main_v30)
        = G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans
    ((dats m 0 c).arrAt_eq_of_cover 9 _ (fun t _ => flushed_eq m c t) cover), (h c).2⟩) (run_blocks m ρ)

end Cert.GlaIdeal.Closed

end
-- ==== Proof.GlaRefValue.lean ====
/-
  The reference of the gated linear attention in the closed form the kernel has: every array it computes, and then its run.
-/
module

public import proofs.«01_k».proof.Proof.GlaRefSum
public import proofs.«01_k».proof.Proof.GlaRefLoop
public import proofs.«01_k».proof.Proof.GlaRefEntry
public import proofs.«01_k».proof.Proof.GlaValue

@[expose] public section

set_option maxRecDepth 16384

noncomputable section

open Idealize.ShloMosaic Idealize.ShloMosaic.TcCoe Idealize.ShloMosaic.Tactic Idealize.SL.Sem

namespace Cert.GlaRefIdeal.Pure

open Cert.GlaRefIdeal Cert.GlaRefIdeal.Gen Cert.GlaRefIdeal.Value Cert.GlaMath
open Cert.GlaIdeal.Closed (P W B N P_of W_of B_of N_of)
open Idealize.ShloMosaic.StableHlo

/-- The projected rows by sequence, as entries of the argument. -/
theorem x1_P (a0 : FVec Ideal S32768x4608 .bf16) (b : Fin 16) (t : Fin 2048) (c : Fin 4608) : x1 a0 (ix3 b t c) = P a0 (2048 * b.val + t.val) c.val :=
  (x1_apply a0 b t c).trans (P_of a0 ⟨2048 * b.val + t.val, by omega⟩ c).symm

/-- The queries. -/
theorem x22_P (a0 : FVec Ideal S32768x4608 .bf16) (b : Fin 16) (n : Fin 32) (r : Fin 64) (h : Fin 4) (d : Fin 64) : x22 a0 (ix5 b n r h d) = P a0 (2048 * b.val + (64 * n.val + r.val)) (2816 + (64 * h.val + d.val)) := by
  refine Eq.trans ?_ (x1_P a0 b ⟨64 * n.val + r.val, by omega⟩ ⟨2816 + (64 * h.val + d.val), by omega⟩)
  unfold x22
  rw [split_k]
  pointwise

/-- The keys. -/
theorem x23_P (a0 : FVec Ideal S32768x4608 .bf16) (b : Fin 16) (n : Fin 32) (r : Fin 64) (h : Fin 4) (d : Fin 64) : x23 a0 (ix5 b n r h d) = P a0 (2048 * b.val + (64 * n.val + r.val)) (3072 + (64 * h.val + d.val)) := by
  refine Eq.trans ?_ (x1_P a0 b ⟨64 * n.val + r.val, by omega⟩ ⟨3072 + (64 * h.val + d.val), by omega⟩)
  unfold x23
  rw [split_k]
  pointwise

/-- The values. -/
theorem x24_P (a0 : FVec Ideal S32768x4608 .bf16) (b : Fin 16) (n : Fin 32) (r : Fin 64) (h : Fin 4) (u : Fin 128) : x24 a0 (ix5 b n r h u) = P a0 (2048 * b.val + (64 * n.val + r.val)) (3328 + (128 * h.val + u.val)) := by
  refine Eq.trans ?_ (x1_P a0 b ⟨64 * n.val + r.val, by omega⟩ ⟨3328 + (128 * h.val + u.val), by omega⟩)
  unfold x24
  pointwise
  simp only [Nat.mul_comm]

/-- The output gate. -/
theorem x5_P (a0 : FVec Ideal S32768x4608 .bf16) (b : Fin 16) (t : Fin 2048) (c : Fin 512) : x5 a0 (ix3 b t c) = P a0 (2048 * b.val + t.val) (3840 + c.val) := by
  refine Eq.trans ?_ (x1_P a0 b t ⟨3840 + c.val, by omega⟩)
  unfold x5
  pointwise

/-- The log decays. -/
theorem x25_la (a0 : FVec Ideal S32768x4608 .bf16) (a1 : FVec Ideal S4x16x256 .f32) (a2 : FVec Ideal S4x256 .f32) (b : Fin 16) (n : Fin 32) (r : Fin 64) (h : Fin 4) (d : Fin 64) : x25 (x15 (x14 a0 a1 a2)) (ix5 b n r h d) = la (P a0) (W a1) (B a2) (2048 * b.val + (64 * n.val + r.val)) (64 * h.val + d.val) := by
  rw [x25_apply, x15_apply, x14_apply]
  unfold la lsg
  have e : (∑ k : Fin 16, a0 (ix2 ⟨2048 * b.val + (64 * n.val + r.val), by omega⟩ ⟨4352 + k.val, by omega⟩) * a1 (ix3 0 k ⟨64 * h.val + d.val, by omega⟩))
      = ∑ k : Fin 16, P a0 (2048 * b.val + (64 * n.val + r.val)) (4352 + k.val) * W a1 k.val (64 * h.val + d.val) :=
    Finset.sum_congr rfl fun k _ => congrArg₂ (· * ·) (P_of a0 ⟨2048 * b.val + (64 * n.val + r.val), by omega⟩ ⟨4352 + k.val, by omega⟩).symm
      (W_of a1 k ⟨64 * h.val + d.val, by omega⟩).symm
  have e2 : a2 (ix2 0 ⟨64 * h.val + d.val, by omega⟩) = B a2 (64 * h.val + d.val) := (B_of a2 ⟨64 * h.val + d.val, by omega⟩).symm
  rw [← e, ← e2]

/-- The row within its chunk and its chunk. -/
theorem row_mod (b : Fin 16) (n : Fin 32) (r : Fin 64) : (2048 * b.val + (64 * n.val + r.val)) % 64 = r.val := by omega
theorem row_div (b : Fin 16) (n : Fin 32) (r : Fin 64) : (2048 * b.val + (64 * n.val + r.val)) / 64 = 32 * b.val + n.val := by omega
theorem row_at (b : Fin 16) (n : Fin 32) (s : Fin 64) : 64 * (32 * b.val + n.val) + s.val = 2048 * b.val + (64 * n.val + s.val) := by omega

/-- The running log decays. -/
theorem x26_bb (a0 : FVec Ideal S32768x4608 .bf16) (a1 : FVec Ideal S4x16x256 .f32) (a2 : FVec Ideal S4x256 .f32) (b : Fin 16) (n : Fin 32) (r : Fin 64) (h : Fin 4) (d : Fin 64) : (x26 (x25 (x15 (x14 a0 a1 a2)))) (ix5 b n r h d) = bb (P a0) (W a1) (B a2) (2048 * b.val + (64 * n.val + r.val)) (64 * h.val + d.val) := by
  rw [x26_apply]
  unfold bb
  rw [row_mod, row_div]
  simp only [row_at, x25_la]

/-- The log decay over a chunk is the running one at its last row. -/
theorem x26_bl (a0 : FVec Ideal S32768x4608 .bf16) (a1 : FVec Ideal S4x16x256 .f32) (a2 : FVec Ideal S4x256 .f32) (b : Fin 16) (n : Fin 32) (h : Fin 4) (d : Fin 64) : (x26 (x25 (x15 (x14 a0 a1 a2)))) (ix5 b n 63 h d) = bl (P a0) (W a1) (B a2) (32 * b.val + n.val) (64 * h.val + d.val) := by
  rw [x26_apply]
  unfold bl
  refine Finset.sum_congr rfl fun s _ => ?_
  rw [if_pos (show s.val ≤ (63 : Fin 64).val from Nat.le_of_lt_succ s.isLt), row_at, x25_la]

/-- The decayed queries. -/
theorem x29_qd (a0 : FVec Ideal S32768x4608 .bf16) (a1 : FVec Ideal S4x16x256 .f32) (a2 : FVec Ideal S4x256 .f32) (b : Fin 16) (n : Fin 32) (r : Fin 64) (h : Fin 4) (d : Fin 64) : x29 (x22 a0) (x26 (x25 (x15 (x14 a0 a1 a2)))) (ix5 b n r h d) = qd (P a0) (W a1) (B a2) (2048 * b.val + (64 * n.val + r.val)) (64 * h.val + d.val) := by
  unfold qd
  rw [← x22_P, ← x26_bb]
  rfl

/-- The keys with their decay undone. -/
theorem x32_ki (a0 : FVec Ideal S32768x4608 .bf16) (a1 : FVec Ideal S4x16x256 .f32) (a2 : FVec Ideal S4x256 .f32) (b : Fin 16) (n : Fin 32) (r : Fin 64) (h : Fin 4) (d : Fin 64) : x32 (x23 a0) (x26 (x25 (x15 (x14 a0 a1 a2)))) (ix5 b n r h d) = ki (P a0) (W a1) (B a2) (2048 * b.val + (64 * n.val + r.val)) (64 * h.val + d.val) := by
  unfold ki
  rw [← x23_P, ← x26_bb, zero_sub]
  rfl

/-- The keys decayed to their chunk's end. -/
theorem x36_ke (a0 : FVec Ideal S32768x4608 .bf16) (a1 : FVec Ideal S4x16x256 .f32) (a2 : FVec Ideal S4x256 .f32) (b : Fin 16) (n : Fin 32) (r : Fin 64) (h : Fin 4) (d : Fin 64) : x36 (x23 a0) (x26 (x25 (x15 (x14 a0 a1 a2)))) (ix5 b n r h d) = ke (P a0) (W a1) (B a2) (2048 * b.val + (64 * n.val + r.val)) (64 * h.val + d.val) := by
  rw [x36_apply, x26_bl, x26_bb, x23_P]
  unfold ke
  rw [row_div]

/-- What a chunk adds to the state. -/
theorem x47_kv (a0 : FVec Ideal S32768x4608 .bf16) (a1 : FVec Ideal S4x16x256 .f32) (a2 : FVec Ideal S4x256 .f32) (n : Fin 32) (b : Fin 16) (h : Fin 4) (d : Fin 64) (u : Fin 128) :
    x47 (x36 (x23 a0) (x26 (x25 (x15 (x14 a0 a1 a2))))) (x24 a0) (ix5 n b h d u) = kv (P a0) (W a1) (B a2) (32 * b.val + n.val) (64 * h.val + d.val) (128 * h.val + u.val) := by
  rw [x47_apply]
  unfold kv
  refine Finset.sum_congr rfl fun s _ => ?_
  rw [x36_ke, x24_P, row_at, mul_comm]

/-- The state before a chunk. -/
theorem sv_st (a0 : FVec Ideal S32768x4608 .bf16) (a1 : FVec Ideal S4x16x256 .f32) (a2 : FVec Ideal S4x256 .f32) (b : Fin 16) (h : Fin 4) (d : Fin 64) (u : Fin 128) : ∀ n : ℕ, n ≤ 32 →
    sv (x47 (x36 (x23 a0) (x26 (x25 (x15 (x14 a0 a1 a2))))) (x24 a0)) (x48 (x26 (x25 (x15 (x14 a0 a1 a2))))) b h d u n = st (P a0) (W a1) (B a2) (32 * b.val) n (64 * h.val + d.val) (128 * h.val + u.val)
  | 0, _ => rfl
  | n + 1, hn => by
    rw [sv_succ _ _ b h d u n (by omega), sv_st a0 a1 a2 b h d u n (by omega), x47_kv, x48_apply, x26_bl]
    rfl

/-- The masked scores. -/
theorem x40_att (a0 : FVec Ideal S32768x4608 .bf16) (a1 : FVec Ideal S4x16x256 .f32) (a2 : FVec Ideal S4x256 .f32) (b : Fin 16) (n : Fin 32) (r : Fin 64) (h : Fin 4) (s : Fin 64) :
    x40 (x29 (x22 a0) (x26 (x25 (x15 (x14 a0 a1 a2))))) (x32 (x23 a0) (x26 (x25 (x15 (x14 a0 a1 a2))))) (ix5 b n h r s) = att (P a0) (W a1) (B a2) (2048 * b.val + (64 * n.val + r.val)) s.val h.val := by
  rw [x40_apply]
  unfold att
  rw [row_mod, row_div, row_at]
  simp only [x29_qd, x32_ki]

/-- The output before its norm. -/
theorem x54_oo (a0 : FVec Ideal S32768x4608 .bf16) (a1 : FVec Ideal S4x16x256 .f32) (a2 : FVec Ideal S4x256 .f32) (S : FVec Ideal S32x16x4x64x128 .f32) (hS : ∀ (n : Fin 32) b h d u, S (ix5 n b h d u) = st (P a0) (W a1) (B a2) (32 * b.val) n.val (64 * h.val + d.val) (128 * h.val + u.val)) (b : Fin 16) (n : Fin 32) (r : Fin 64) (h : Fin 4) (u : Fin 128) :
    x54 (x42 (x24 a0) (x40 (x29 (x22 a0) (x26 (x25 (x15 (x14 a0 a1 a2))))) (x32 (x23 a0) (x26 (x25 (x15 (x14 a0 a1 a2))))))) (x29 (x22 a0) (x26 (x25 (x15 (x14 a0 a1 a2))))) S (ix4 b ⟨64 * n.val + r.val, by omega⟩ h u)
      = oo (P a0) (W a1) (B a2) (2048 * b.val + (64 * n.val + r.val)) (128 * h.val + u.val) := by
  rw [x54_apply, x42_apply]
  unfold oo
  rw [row_div, show (128 * h.val + u.val) / 128 = h.val by omega, show (32 * b.val + n.val) / 32 * 32 = 32 * b.val by omega, show (32 * b.val + n.val) % 32 = n.val by omega]
  refine congrArg₂ (· + ·) (Finset.sum_congr rfl fun s _ => ?_) (Finset.sum_congr rfl fun d _ => ?_)
  · rw [x24_P, x40_att, row_at, mul_comm]
  · rw [hS, x29_qd, mul_comm]

/-- The reference's result is the kernel's closed form. -/
theorem result_G (a0 : FVec Ideal S32768x4608 .bf16) (a1 : FVec Ideal S4x16x256 .f32) (a2 : FVec Ideal S4x256 .f32) (a3 : FVec Ideal S4x128 .f32) (S : FVec Ideal S32x16x4x64x128 .f32) (hS : ∀ (n : Fin 32) b h d u, S (ix5 n b h d u) = st (P a0) (W a1) (B a2) (32 * b.val) n.val (64 * h.val + d.val) (128 * h.val + u.val)) :
    x75 (x70 (x54 (x42 (x24 a0) (x40 (x29 (x22 a0) (x26 (x25 (x15 (x14 a0 a1 a2))))) (x32 (x23 a0) (x26 (x25 (x15 (x14 a0 a1 a2))))))) (x29 (x22 a0) (x26 (x25 (x15 (x14 a0 a1 a2))))) S) a3) (x72 (x5 a0)) = Cert.GlaIdeal.Closed.G a0 a1 a2 a3 := by
  funext j
  obtain ⟨b, n, r, h, u, rfl⟩ : ∃ (b : Fin 16) (n : Fin 32) (r : Fin 64) (h : Fin 4) (u : Fin 128),
      j = ix2 (⟨2048 * b.val + (64 * n.val + r.val), by omega⟩ : Fin 32768) (⟨128 * h.val + u.val, by omega⟩ : Fin 512) := by
    obtain ⟨R, C, rfl⟩ : ∃ (R : Fin 32768) (C : Fin 512), j = ix2 R C := ⟨j 0, j 1, eq_ix2 j⟩
    refine ⟨⟨R.val / 2048, by omega⟩, ⟨R.val % 2048 / 64, by omega⟩, ⟨R.val % 64, by omega⟩, ⟨C.val / 128, by omega⟩, ⟨C.val % 128, by omega⟩, ?_⟩
    refine congrArg₂ ix2 (Fin.ext ?_) (Fin.ext ?_)
    · show R.val = 2048 * (R.val / 2048) + (64 * (R.val % 2048 / 64) + R.val % 64); omega
    · show C.val = 128 * (C.val / 128) + C.val % 128; omega
  refine (x75_apply _ _ b ⟨64 * n.val + r.val, by omega⟩ h u).trans ?_
  rw [x70_apply, x72_apply, x5_P]
  simp only [x54_oo a0 a1 a2 S hS]
  show _ = yy (P a0) (W a1) (B a2) (N a3) (2048 * b.val + (64 * n.val + r.val)) (128 * h.val + u.val)
  unfold yy
  rw [show (128 * h.val + u.val) / 128 = h.val by omega, show (128 * h.val + u.val) % 128 = u.val by omega, ← N_of a3 u]

variable (m : (ℓ : Loc nD τ sig) → Buf (Elt Ideal) ℓ) (ρ : Dev nD → PrngReg)

set_option maxHeartbeats 4000000 in
/-- After the loop: the norm and the gate, from the buffers the loop leaves. -/
theorem post_result (X : Valuation τ sig (Elt Ideal)) : afterL postI X (Proc.devRef .tc main_v75)
    = x75 (x70 (x54 (X (Proc.devRef .tc main_v42)) (X (Proc.devRef .tc main_v29)) (X (Proc.devRef .tc main_v50_4))) (X (Proc.devRef .tc main_arg3))) (x72 (X (Proc.devRef .tc main_v5))) := by
  simp only [afterL_cons, afterL_nil]
  after_reads_simp
  rfl

/-- The stretches after the loop leave an argument alone. -/
theorem post_arg0 (X : Valuation τ sig (Elt Ideal)) : afterL postI X (Proc.devRef .tc main_arg0) = X (Proc.devRef .tc main_arg0) := by
  simp only [afterL_cons, afterL_nil]
  after_reads_simp

/-- The stretches after the loop leave an argument alone. -/
theorem post_arg1 (X : Valuation τ sig (Elt Ideal)) : afterL postI X (Proc.devRef .tc main_arg1) = X (Proc.devRef .tc main_arg1) := by
  simp only [afterL_cons, afterL_nil]
  after_reads_simp

/-- The stretches after the loop leave an argument alone. -/
theorem post_arg2 (X : Valuation τ sig (Elt Ideal)) : afterL postI X (Proc.devRef .tc main_arg2) = X (Proc.devRef .tc main_arg2) := by
  simp only [afterL_cons, afterL_nil]
  after_reads_simp

/-- The stretches after the loop leave an argument alone. -/
theorem post_arg3 (X : Valuation τ sig (Elt Ideal)) : afterL postI X (Proc.devRef .tc main_arg3) = X (Proc.devRef .tc main_arg3) := by
  simp only [afterL_cons, afterL_nil]
  after_reads_simp

/-- A buffer that the loop does not write, when the loop is done. -/
theorem done_keep (c : Dev nD) (r : Ref sig .tc) (hr : r ∉ condOps_W ++ while0Ops0_W ++ while0Ops0_1_W ++ while0Ops0_2_W ++ while0Ops0_3_W ++ while0Ops0_4_W) :
    after condOps (atK m 32 c) (Proc.devRef .tc r) = entryContents preI m c (Proc.devRef .tc r) :=
  (after_of_writes_sub condOps _ condOps_writes (fun h => hr (by simp only [List.mem_append]; exact .inl (.inl (.inl (.inl (.inl h))))))).trans (atK_keep m c r hr 32)

/-- The reference's run: its result is the same function of its arguments, which are unchanged. -/
theorem run : θ_run defs (onTc (τ := τ) (main (F := Ideal))) ⟨m, fun _ => 0, ρ⟩ fun r => ∀ c : Dev nD,
      r.2.mem ((c : Thread nD τ).loc main_v75) = Cert.GlaIdeal.Closed.G (m ((c : Thread nD τ).loc main_arg0))
        (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ?_) (run_fold m ρ)
  have hm := fun b hb => h c b hb
  refine ⟨(hm main_v75 rfl).trans ?_, (hm main_arg0 rfl).trans ?_, (hm main_arg1 rfl).trans ?_, (hm main_arg2 rfl).trans ?_, (hm main_arg3 rfl).trans ?_⟩
  · refine (post_result (after condOps (atK m 32 c))).trans ?_
    rw [done_keep m c main_v42 (by decide +kernel), done_keep m c main_v29 (by decide +kernel), done_keep m c main_v5 (by decide +kernel), done_keep m c main_arg3 (by decide +kernel),
      cond_keeps (atK m 32 c) main_v50_4 (by decide), entry_main_v42, entry_main_v29, entry_main_v5, entry_main_arg3]
    refine result_G _ _ _ _ _ fun n b h d u => ?_
    rw [(loop_state m _ _ c (entry_main_v50_0 m c) (entry_main_v50_1 m c) (entry_main_v50_3 m c) (entry_main_v50_4 m c) 32 le_rfl).2.2.2 n b h d u n.isLt]
    exact sv_st _ _ _ b h d u n.val (by omega)
  · exact (post_arg0 _).trans ((done_keep m c main_arg0 (by decide +kernel)).trans (entry_main_arg0 m c))
  · exact (post_arg1 _).trans ((done_keep m c main_arg1 (by decide +kernel)).trans (entry_main_arg1 m c))
  · exact (post_arg2 _).trans ((done_keep m c main_arg2 (by decide +kernel)).trans (entry_main_arg2 m c))
  · exact (post_arg3 _).trans ((done_keep m c main_arg3 (by decide +kernel)).trans (entry_main_arg3 m c))

end Cert.GlaRefIdeal.Pure

/-- At extended reals the gated linear attention equals its reference, whatever the arguments are. -/
theorem Cert.gla_algebraic : Cert.algebraic_GlaIdeal_GlaRefIdeal := fun m ρ m' ρ' _ hag =>
  ⟨fun c => Cert.GlaIdeal.Closed.G (m ((c.tc : Thread _ _).loc Cert.GlaIdeal.main_arg0))
      (m ((c.tc : Thread _ _).loc Cert.GlaIdeal.main_arg1)) (m ((c.tc : Thread _ _).loc Cert.GlaIdeal.main_arg2)) (m ((c.tc : Thread _ _).loc Cert.GlaIdeal.main_arg3)),
    Cert.GlaIdeal.Closed.run m ρ,
    (θ_run _ _ _).mono (fun _ h c => ⟨(h c).1.trans (by rw [(hag c).1, (hag c).2.1, (hag c).2.2.1, (hag c).2.2.2]), (h c).2⟩)
      (Cert.GlaRefIdeal.Pure.run m' ρ')⟩

end
-- ==== Proof.MixMath.lean ====
/-
  The output projection and the memory cross-attention of one row, as mathematics: the row after the projection, its
  queries, the scores against the memory's keys, the base-2 softmax, and the row it ends as. The kernel divides each
  weighted sum of values by the sum of the weights, the reference divides the weights first; for finite scores the two agree.
-/
module

public import proofs.«01_k».proof.Proof.Rms
public import Idealize.ShloMosaic.Lib.Pointwise

@[expose] public section

noncomputable section

open Idealize.ShloMosaic

namespace Cert.MixMath

open Cert.Rms

/-! ## The row -/

/-- The row after the output projection: the three mixers' rows against their parts of the weights, added to the residual. -/
def xrow (yd : Fin 512 → EReal) (ys : Fin 1024 → EReal) (yg : Fin 512 → EReal) (w : Fin 2048 → Fin 2048 → EReal)
    (h : Fin 2048 → EReal) (l : Fin 2048) : EReal :=
  h l + ((∑ k : Fin 512, yd k * w ⟨k.val, by omega⟩ l) + (∑ k : Fin 1024, ys k * w ⟨512 + k.val, by omega⟩ l)
    + (∑ k : Fin 512, yg k * w ⟨1536 + k.val, by omega⟩ l))

/-- The row's queries: the normalised row against the query weights. -/
def query (x g : Fin 2048 → EReal) (wq : Fin 2048 → Fin 512 → EReal) (c : Fin 512) : EReal :=
  ∑ k : Fin 2048, normed x (g k) k * wq k c

/-- Head `hd`'s score against memory row `j`. -/
def score (q : Fin 512 → EReal) (kv : Fin 256 → Fin 1024 → EReal) (hd : Fin 4) (j : Fin 256) : EReal :=
  ∑ d : Fin 128, q ⟨hd.val * 128 + d.val, by omega⟩ * kv j ⟨hd.val * 128 + d.val, by omega⟩

/-- The largest score. -/
def top (s : Fin 256 → EReal) : EReal := Finset.fold max (Ideal.ofBits FTy.f32 4286578688#32) s Finset.univ

/-- The weight of a memory row before it is divided by the weights' sum. -/
def wt (s : Fin 256 → EReal) (j : Fin 256) : EReal := Ideal.exp2 (s j - top s)

/-- The sum of the weights. -/
def tot (s : Fin 256 → EReal) : EReal := ∑ j, wt s j

/-- The weighted sum of values, divided by the sum of the weights: as the kernel computes it. -/
def att (s v : Fin 256 → EReal) : EReal := Ideal.div (∑ j, wt s j * v j) (tot s)

/-- The sum of values by the divided weights: as the reference computes it. -/
def attR (s v : Fin 256 → EReal) : EReal := ∑ j, Ideal.div (wt s j) (tot s) * v j

/-- The attention's output column `c`, the division last. -/
def out (q : Fin 512 → EReal) (kv : Fin 256 → Fin 1024 → EReal) (c : Fin 512) : EReal :=
  att (score q kv ⟨c.val / 128, by omega⟩) (fun j => kv j ⟨512 + c.val, by omega⟩)

/-- The attention's output column `c`, the division first. -/
def outR (q : Fin 512 → EReal) (kv : Fin 256 → Fin 1024 → EReal) (c : Fin 512) : EReal :=
  attR (score q kv ⟨c.val / 128, by omega⟩) (fun j => kv j ⟨512 + c.val, by omega⟩)

/-- The row at the end: the attention's output against its weights, added to the row it came from. -/
def yrow (x : Fin 2048 → EReal) (o : Fin 512 → EReal) (xo : Fin 512 → Fin 2048 → EReal) (l : Fin 2048) : EReal :=
  x l + ∑ c : Fin 512, o c * xo c l

/-! ## Finite numbers -/

/-- A finite number: one that is neither infinity. -/
def Finite' (x : EReal) : Prop := ∃ r : ℝ, x = (r : EReal)

theorem Finite'.add {x y : EReal} (hx : Finite' x) (hy : Finite' y) : Finite' (x + y) := by
  obtain ⟨a, rfl⟩ := hx
  obtain ⟨b, rfl⟩ := hy
  exact ⟨a + b, (EReal.coe_add a b).symm⟩

theorem Finite'.sub {x y : EReal} (hx : Finite' x) (hy : Finite' y) : Finite' (x - y) := by
  obtain ⟨a, rfl⟩ := hx
  obtain ⟨b, rfl⟩ := hy
  exact ⟨a - b, (EReal.coe_sub a b).symm⟩

theorem Finite'.mul {x y : EReal} (hx : Finite' x) (hy : Finite' y) : Finite' (x * y) := by
  obtain ⟨a, rfl⟩ := hx
  obtain ⟨b, rfl⟩ := hy
  exact ⟨a * b, (EReal.coe_mul a b).symm⟩

theorem coe_sum {n : ℕ} (r : Fin n → ℝ) : ∑ k, ((r k : ℝ) : EReal) = ((∑ k, r k : ℝ) : EReal) := by
  induction n with
  | zero => simp
  | succ n ih => rw [Fin.sum_univ_succ, Fin.sum_univ_succ, ih, EReal.coe_add]

theorem Finite'.sum {n : ℕ} {x : Fin n → EReal} (hx : ∀ k, Finite' (x k)) : Finite' (∑ k, x k) := by
  choose r hr using hx
  refine ⟨∑ k, r k, ?_⟩
  rw [← coe_sum]
  exact Finset.sum_congr rfl fun k _ => hr k

theorem ofBits_2048 : Ideal.ofBits FTy.f32 1157627904#32 = ((2048 : ℝ) : EReal) := by
  simp [Ideal.ofBits, Ideal.ieee]
  rw [← EReal.coe_mul]
  norm_num

theorem ofBits_eps : ∃ e : ℝ, 0 < e ∧ Ideal.ofBits FTy.f32 897988541#32 = (e : EReal) := by
  refine ⟨_, ?_, by simp [Ideal.ofBits, Ideal.ieee]; rfl⟩
  norm_num

/-- A finite row's scale is finite. -/
theorem scale_fin {x : Fin 2048 → EReal} (hx : ∀ k, Finite' (x k)) : Finite' (scale x) := by
  choose r hr using hx
  obtain ⟨e, he, hb⟩ := ofBits_eps
  unfold scale
  have hs : ∑ k, x k * x k = ((∑ k, r k * r k : ℝ) : EReal) := by
    rw [← coe_sum]
    exact Finset.sum_congr rfl fun k _ => by rw [hr k, EReal.coe_mul]
  have hp : 0 ≤ ∑ k, r k * r k := Finset.sum_nonneg fun k _ => mul_self_nonneg (r k)
  rw [hs, ofBits_2048, hb, Ideal.div_coe (by norm_num), ← EReal.coe_mul, ← EReal.coe_add]
  have hq : 0 < (∑ k, r k * r k) * (1 / 2048) + e := by positivity
  rw [Ideal.rsqrt_coe, if_neg (not_lt.mpr hq.le), if_neg hq.ne']
  exact ⟨_, rfl⟩

theorem normed_fin {x : Fin 2048 → EReal} (hx : ∀ k, Finite' (x k)) {g : EReal} (hg : Finite' g) (k : Fin 2048) :
    Finite' (normed x g k) := ((hx k).mul (scale_fin hx)).mul hg

theorem xrow_fin {yd : Fin 512 → EReal} {ys : Fin 1024 → EReal} {yg : Fin 512 → EReal} {w : Fin 2048 → Fin 2048 → EReal}
    {h : Fin 2048 → EReal} (hd : ∀ k, Finite' (yd k)) (hs : ∀ k, Finite' (ys k)) (hg : ∀ k, Finite' (yg k))
    (hw : ∀ k l, Finite' (w k l)) (hh : ∀ k, Finite' (h k)) (l : Fin 2048) : Finite' (xrow yd ys yg w h l) :=
  (hh l).add (((Finite'.sum fun k => (hd k).mul (hw _ l)).add (Finite'.sum fun k => (hs k).mul (hw _ l))).add
    (Finite'.sum fun k => (hg k).mul (hw _ l)))

theorem query_fin {x g : Fin 2048 → EReal} {wq : Fin 2048 → Fin 512 → EReal} (hx : ∀ k, Finite' (x k)) (hg : ∀ k, Finite' (g k))
    (hw : ∀ k c, Finite' (wq k c)) (c : Fin 512) : Finite' (query x g wq c) :=
  Finite'.sum fun k => (normed_fin hx (hg k) k).mul (hw k c)

theorem score_fin {q : Fin 512 → EReal} {kv : Fin 256 → Fin 1024 → EReal} (hq : ∀ c, Finite' (q c))
    (hk : ∀ j c, Finite' (kv j c)) (hd : Fin 4) (j : Fin 256) : Finite' (score q kv hd j) :=
  Finite'.sum fun _ => (hq _).mul (hk j _)

/-! ## The two softmaxes -/

/-- A finite nonnegative factor distributes over a sum. -/
theorem sum_mul {c : ℝ} (hc : (0 : EReal) ≤ (c : EReal)) {n : ℕ} (f : Fin n → EReal) :
    (∑ j, f j) * (c : EReal) = ∑ j, f j * (c : EReal) := by
  induction n with
  | zero => simp
  | succ n ih =>
    rw [Fin.sum_univ_succ, Fin.sum_univ_succ, EReal.right_distrib_of_nonneg_of_ne_top hc (EReal.coe_ne_top _), ih]

theorem ofBits_neg_inf : Ideal.ofBits FTy.f32 4286578688#32 = ⊥ := by
  simp [Ideal.ofBits, Ideal.ieee]

/-- The largest of finite scores is finite. -/
theorem top_fin {s : Fin 256 → EReal} (hs : ∀ j, Finite' (s j)) : Finite' (top s) := by
  have key : ∀ t : Finset (Fin 256), (t = ∅ ∧ Finset.fold max (⊥ : EReal) s t = ⊥) ∨ Finite' (Finset.fold max (⊥ : EReal) s t) := by
    intro t
    induction t using Finset.induction_on with
    | empty => exact Or.inl ⟨rfl, rfl⟩
    | insert a t ha ih =>
      refine Or.inr ?_
      rw [Finset.fold_insert ha]
      rcases ih with ⟨_, e⟩ | e
      · rw [e, max_eq_left bot_le]
        exact hs a
      · rcases max_choice (s a) (Finset.fold max (⊥ : EReal) s t) with h | h <;> rw [h]
        · exact hs a
        · exact e
  unfold top
  rw [ofBits_neg_inf]
  rcases key Finset.univ with ⟨e, _⟩ | e
  · exact absurd e (Finset.univ_nonempty).ne_empty
  · exact e

/-- For finite scores dividing the weights first or the weighted sum last is the same. -/
theorem attR_eq {s : Fin 256 → EReal} (hs : ∀ j, Finite' (s j)) (v : Fin 256 → EReal) : attR s v = att s v := by
  have hw : ∀ j, ∃ r : ℝ, 0 < r ∧ wt s j = (r : EReal) := by
    intro j
    obtain ⟨a, ha⟩ := (hs j).sub (top_fin hs)
    refine ⟨Real.rpow 2 a, Real.rpow_pos_of_pos (by norm_num) a, ?_⟩
    unfold wt
    rw [ha]
    rfl
  choose r hr hw using hw
  have ht : tot s = ((∑ j, r j : ℝ) : EReal) := by
    unfold tot
    rw [← coe_sum]
    exact Finset.sum_congr rfl fun j _ => hw j
  have hp : 0 < ∑ j, r j := Finset.sum_pos (fun j _ => hr j) Finset.univ_nonempty
  have hc : (0 : EReal) ≤ ((1 / ∑ j, r j : ℝ) : EReal) := by exact_mod_cast (by positivity : 0 ≤ 1 / ∑ j, r j)
  unfold attR att
  rw [ht, Ideal.div_coe hp.ne', sum_mul hc]
  refine Finset.sum_congr rfl fun j _ => ?_
  rw [Ideal.div_coe hp.ne', mul_assoc, mul_assoc, mul_comm (v j)]

/-- So for finite scores the two attentions are the same. -/
theorem outR_eq {q : Fin 512 → EReal} {kv : Fin 256 → Fin 1024 → EReal} (hq : ∀ c, Finite' (q c)) (hk : ∀ j c, Finite' (kv j c))
    (c : Fin 512) : outR q kv c = out q kv c := attR_eq (score_fin hq hk _) _

/-- A power of two, as the reference spells it. -/
theorem pow_two (x : EReal) : Ideal.pow ((2 : ℝ) : EReal) x = Ideal.exp2 x := by
  induction x with
  | bot => simp
  | top => simp
  | coe r => rfl

theorem ofBits_2 : Ideal.ofBits FTy.f32 1073741824#32 = ((2 : ℝ) : EReal) := by
  simp [Ideal.ofBits, Ideal.ieee]
  rw [← EReal.coe_mul]
  norm_num

end Cert.MixMath
-- ==== Proof.MixPay.lean ====
/-
  The kernel body of the output projection and memory cross-attention, read entry by entry: each value it computes from
  the blocks it loads, and the two blocks it stores.
-/
module

public import proofs.«01_k».proof.Proof.MixMath
public import proofs.«01_k».proof.Proof.Gen.MixIdeal.Value
public import Idealize.ShloMosaic.Lib.Pipeline.Value
public import Idealize.ShloMosaic.Lib.Pipeline.ValueKit.Tiles
public import Idealize.ShloMosaic.Lib.Pointwise

@[expose] public section

set_option maxRecDepth 16384

noncomputable section

open Idealize.ShloMosaic Idealize.ShloMosaic.TcCoe Idealize.ShloMosaic.Tactic Idealize.SL.Sem

namespace Cert.MixIdeal.Pay

open Cert.MixIdeal Cert.MixIdeal.Gen Cert.Rms Cert.MixMath

/-! ## The values -/

section rows

variable (v0 : S512x512.Idx → EReal) (v1 : S1x512x2048.Idx → EReal) (v4 : S512x1024.Idx → EReal) (v5 : S1x1024x2048.Idx → EReal)
  (v9 : S512x512.Idx → EReal) (v10 : S1x512x2048.Idx → EReal) (v14 : S512x2048.Idx → EReal) (v26 : S1x2048.Idx → EReal)

/-- The rows after the output projection. -/
theorem pay2_apply (r : Fin 512) (l : Fin 2048) :
    k0_pay2 (F := Ideal) v0 v1 v4 v5 v9 v10 v14 (ix2 r l) = v14 (ix2 r l) + ((∑ k : Fin 512, v0 (ix2 r k) * v1 (ix3 0 k l))
      + (∑ k : Fin 1024, v4 (ix2 r k) * v5 (ix3 0 k l)) + (∑ k : Fin 512, v9 (ix2 r k) * v10 (ix3 0 k l))) := by
  pointwise [k0_pay2]

/-- Those rows, normalised. -/
theorem pay3_apply (r : Fin 512) (l : Fin 2048) : k0_pay3 (F := Ideal) v0 v1 v4 v5 v9 v10 v14 v26 (ix2 r l)
      = normed (fun k => k0_pay2 (F := Ideal) v0 v1 v4 v5 v9 v10 v14 (ix2 r k)) (v26 (ix2 0 l)) l := by
  unfold k0_pay3
  generalize k0_pay2 (F := Ideal) v0 v1 v4 v5 v9 v10 v14 = x
  unfold normed scale
  pointwise

end rows

/-- The queries. -/
theorem pay4_apply (v30 : S512x2048.Idx → EReal) (v31 : S1x2048x512.Idx → EReal) (r : Fin 512) (l : Fin 512) :
    k0_pay4 (F := Ideal) v30 v31 (ix2 r l) = ∑ k : Fin 2048, v30 (ix2 r k) * v31 (ix3 0 k l) := by
  pointwise [k0_pay4]

/-- Head 0's output. -/
theorem pay5_apply (v30 : S512x2048.Idx → EReal) (v31 : S1x2048x512.Idx → EReal) (v35 v36 : S256x128.Idx → EReal) (r : Fin 512) (l : Fin 128) :
    k0_pay5 (F := Ideal) v30 v31 v35 v36 (ix2 r l)
      = att (fun j => ∑ d : Fin 128, k0_pay4 (F := Ideal) v30 v31 (ix2 r ⟨d.val, by omega⟩) * v35 (ix2 j d)) (fun j => v36 (ix2 j l)) := by
  unfold k0_pay5
  generalize k0_pay4 (F := Ideal) v30 v31 = x
  unfold att tot wt top
  pointwise
  rfl

/-- Head 1's output. -/
theorem pay6_apply (v30 : S512x2048.Idx → EReal) (v31 : S1x2048x512.Idx → EReal) (v51 v52 : S256x128.Idx → EReal) (r : Fin 512) (l : Fin 128) :
    k0_pay6 (F := Ideal) v30 v31 v51 v52 (ix2 r l)
      = att (fun j => ∑ d : Fin 128, k0_pay4 (F := Ideal) v30 v31 (ix2 r ⟨128 + d.val, by omega⟩) * v51 (ix2 j d)) (fun j => v52 (ix2 j l)) := by
  unfold k0_pay6
  generalize k0_pay4 (F := Ideal) v30 v31 = x
  unfold att tot wt top
  pointwise
  rfl

/-- A head's output column, from scores and values spelt with the head's own offset. -/
theorem out_of (q : Fin 512 → EReal) (kv : Fin 256 → Fin 1024 → EReal) (c : Fin 512) (o : ℕ) (ho : o + 128 ≤ 512)
    (e : c.val / 128 * 128 = o) (s v : Fin 256 → EReal)
    (hs : ∀ j, s j = ∑ d : Fin 128, q ⟨o + d.val, by omega⟩ * kv j ⟨o + d.val, by omega⟩)
    (hv : ∀ j, v j = kv j ⟨512 + c.val, by omega⟩) : att s v = out q kv c := by
  subst e
  obtain rfl : s = score q kv ⟨c.val / 128, by omega⟩ := funext hs
  obtain rfl : v = fun j => kv j ⟨512 + c.val, by omega⟩ := funext hv
  rfl

/-- The rows at the end, from the queries, the memory's rows, and the two heads already computed. -/
theorem pay7_apply (v15 : S512x2048.Idx → EReal) (v34 : S512x512.Idx → EReal) (v50 v66 : S512x128.Idx → EReal)
    (v67 v68 v83 v84 : S256x128.Idx → EReal) (v100 : S1x512x2048.Idx → EReal) (r : Fin 512) (l : Fin 2048)
    (q : Fin 512 → EReal) (kv : Fin 256 → Fin 1024 → EReal) (hq : ∀ c, v34 (ix2 r c) = q c)
    (h0 : ∀ d : Fin 128, v50 (ix2 r d) = out q kv ⟨d.val, by omega⟩)
    (h1 : ∀ d : Fin 128, v66 (ix2 r d) = out q kv ⟨128 + d.val, by omega⟩)
    (k2 : ∀ j (d : Fin 128), v67 (ix2 j d) = kv j ⟨256 + d.val, by omega⟩)
    (w2 : ∀ j (d : Fin 128), v68 (ix2 j d) = kv j ⟨768 + d.val, by omega⟩)
    (k3 : ∀ j (d : Fin 128), v83 (ix2 j d) = kv j ⟨384 + d.val, by omega⟩)
    (w3 : ∀ j (d : Fin 128), v84 (ix2 j d) = kv j ⟨896 + d.val, by omega⟩) :
    k0_pay7 (F := Ideal) v15 v34 v50 v66 v67 v68 v83 v84 v100 (ix2 r l)
      = yrow (fun l => v15 (ix2 r l)) (out q kv) (fun c l => v100 (ix3 0 c l)) l := by
  unfold k0_pay7 yrow
  pointwise
  refine congrArg _ (Finset.sum_congr rfl fun c _ => congrArg (· * _) ?_)
  by_cases a : c.val < 128
  · rw [dif_pos a]
    exact h0 ⟨c.val, a⟩
  rw [dif_neg a]
  by_cases b : c.val - 128 < 128
  · rw [dif_pos b]
    refine (h1 ⟨c.val - 128, b⟩).trans (congrArg (out q kv) (Fin.ext ?_))
    dsimp only
    omega
  rw [dif_neg b]
  by_cases d : c.val - 128 - 128 < 128
  · rw [dif_pos d]
    refine out_of q kv c 256 (by omega) (by omega) _ _ (fun j => ?_) (fun j => ?_)
    · simp only [hq, k2]
    · rw [w2]
      exact congrArg (kv j) (Fin.ext (by dsimp only; omega))
  · rw [dif_neg d]
    refine out_of q kv c 384 (by omega) (by omega) _ _ (fun j => ?_) (fun j => ?_)
    · simp only [hq, k3]
    · rw [w3]
      exact congrArg (kv j) (Fin.ext (by dsimp only; omega))

/-- The sum of the squares of a row at the end. -/
theorem pay8_apply (v15 : S512x2048.Idx → EReal) (v34 : S512x512.Idx → EReal) (v50 v66 : S512x128.Idx → EReal)
    (v67 v68 v83 v84 : S256x128.Idx → EReal) (v100 : S1x512x2048.Idx → EReal) (r : Fin 512) :
    k0_pay8 (F := Ideal) v15 v34 v50 v66 v67 v68 v83 v84 v100 (ix2 r 0)
      = ∑ k : Fin 2048, k0_pay7 (F := Ideal) v15 v34 v50 v66 v67 v68 v83 v84 v100 (ix2 r k) * k0_pay7 (F := Ideal) v15 v34 v50 v66 v67 v68 v83 v84 v100 (ix2 r k) := by
  unfold k0_pay8
  generalize k0_pay7 (F := Ideal) v15 v34 v50 v66 v67 v68 v83 v84 v100 = x
  pointwise

/-- The rows at the end, normalised. -/
theorem pay1_apply (v103 : S512x2048.Idx → EReal) (v107 : S512x1.Idx → EReal) (v115 : S1x2048.Idx → EReal) (r : Fin 512) (l : Fin 2048)
    (h : v107 (ix2 r 0) = ∑ k : Fin 2048, v103 (ix2 r k) * v103 (ix2 r k)) :
    k0_pay1 (F := Ideal) v103 v107 (Scalar.ofBits .f32 0x45000000#32) v115 (ix2 r l) = normed (fun k => v103 (ix2 r k)) (v115 (ix2 0 l)) l := by
  unfold normed scale
  rw [← h]
  pointwise [k0_pay1]

/-! ## The blocks it stores -/

/-- A column slice of the memory's rows. -/
theorem ld_kv (x : Vec Ideal S256x1024 .bf16) (o : ℕ) (inb : ∀ a, (![0, o] : Fin 2 → ℕ) a + S256x128.size a ≤ S256x1024.size a)
    (j : Fin 256) (d : Fin 128) (ho : o + d.val < 1024) :
    (View.ld x (Rect.unit (s := S256x1024) ![0, o] S256x128.size inb) : S256x128.Idx → EReal) (ix2 j d) = x (ix2 j ⟨o + d.val, ho⟩) := by
  refine View.ld_unit_apply_of (Val := Elt Ideal) x _ _ inb _ _ fun a => ?_
  match a with
  | ⟨0, _⟩ => exact (Nat.zero_add _).symm
  | ⟨1, _⟩ => rfl

/-- A row slice of the output projection's weights. -/
theorem ld_w (n : ℕ) (x : Vec Ideal S1x2048x2048 .bf16) (o : ℕ)
    (inb : ∀ a, (![0, o, 0] : Fin 3 → ℕ) a + (⟨3, ![1, n, 2048]⟩ : Shape).size a ≤ S1x2048x2048.size a)
    (k : Fin n) (l : Fin 2048) (ho : o + k.val < 2048) :
    (View.ld x (Rect.unit (s := S1x2048x2048) ![0, o, 0] (⟨3, ![1, n, 2048]⟩ : Shape).size inb) : (⟨3, ![1, n, 2048]⟩ : Shape).Idx → EReal) (ix3 0 k l)
      = x (ix3 0 ⟨o + k.val, ho⟩ l) := by
  refine View.ld_unit_apply_of (Val := Elt Ideal) x _ _ inb _ _ fun a => ?_
  match a with
  | ⟨0, _⟩ => rfl
  | ⟨1, _⟩ => rfl
  | ⟨2, _⟩ => exact (Nat.zero_add _).symm

section blocks

variable (x0 : Vec Ideal S512x512 .bf16) (x1 : Vec Ideal S512x1024 .bf16) (x2 : Vec Ideal S512x512 .bf16) (x3 : Vec Ideal S1x2048x2048 .bf16)
  (x4 : Vec Ideal S512x2048 .f32) (x5 : Vec Ideal S1x2048 .f32) (x6 : Vec Ideal S1x2048x512 .bf16) (x7 : Vec Ideal S256x1024 .bf16)
  (x8 : Vec Ideal S1x512x2048 .bf16) (x9 : Vec Ideal S1x2048 .f32)

/-- Row `r` of a block after the output projection. -/
def bx (r : Fin 512) : Fin 2048 → EReal :=
  xrow (fun k => x0 (ix2 r k)) (fun k => x1 (ix2 r k)) (fun k => x2 (ix2 r k)) (fun k l => x3 (ix3 0 k l)) (fun l => x4 (ix2 r l))

/-- Its queries. -/
def bq (r : Fin 512) : Fin 512 → EReal := query (bx x0 x1 x2 x3 x4 r) (fun k => x5 (ix2 0 k)) (fun k c => x6 (ix3 0 k c))

/-- Row `r` of a block at the end. -/
def byr (r : Fin 512) : Fin 2048 → EReal :=
  yrow (bx x0 x1 x2 x3 x4 r) (out (bq x0 x1 x2 x3 x4 x5 x6 r) (fun j c => x7 (ix2 j c))) (fun c l => x8 (ix3 0 c l))

theorem pay9_apply (r : Fin 512) (l : Fin 2048) : k0_pay9 (F := Ideal) x0 x1 x2 x3 x4 x5 x6 x7 x8 x9 (ix2 r l) = bx x0 x1 x2 x3 x4 r l := by
  unfold k0_pay9
  rw [View.ld_unit_zero hz2, View.ld_unit_zero hz2, View.ld_unit_zero hz2, View.ld_unit_zero hz2]
  refine (pay2_apply _ _ _ _ _ _ _ r l).trans ?_
  unfold bx xrow
  refine congrArg₂ _ rfl (congrArg₂ _ (congrArg₂ _ ?_ ?_) ?_) <;> refine Finset.sum_congr rfl fun k _ => congrArg (_ * ·) ?_
  · refine (ld_w 512 x3 0 _ k l (by omega)).trans (congrArg x3 ?_)
    simp only [Nat.zero_add]
  · exact ld_w 1024 x3 512 _ k l (by omega)
  · exact ld_w 512 x3 1536 _ k l (by omega)

theorem pay10_apply (r : Fin 512) (l : Fin 2048) : k0_pay10 (F := Ideal) x0 x1 x2 x3 x4 x5 x6 x7 x8 x9 (ix2 r l)
    = normed (bx x0 x1 x2 x3 x4 r) (x5 (ix2 0 l)) l := by
  unfold k0_pay10
  refine (pay3_apply _ _ _ _ _ _ _ _ r l).trans ?_
  have e : ∀ k, k0_pay2 (F := Ideal) (View.ld x0 r0_0) (View.ld x3 r0_1) (View.ld x1 r0_2) (View.ld x3 r0_3) (View.ld x2 r0_0) (View.ld x3 r0_4) (View.ld x4 r0_5) (ix2 r k)
      = bx x0 x1 x2 x3 x4 r k := pay9_apply x0 x1 x2 x3 x4 x5 x6 x7 x8 x9 r
  rw [View.ld_unit_zero (S := S1x2048) hz2]
  simp only [e]

theorem q_apply (r : Fin 512) (c : Fin 512) :
    k0_pay4 (F := Ideal) (k0_pay10 (F := Ideal) x0 x1 x2 x3 x4 x5 x6 x7 x8 x9) (View.ld x6 r0_7) (ix2 r c) = bq x0 x1 x2 x3 x4 x5 x6 r c := by
  rw [View.ld_unit_zero hz3]
  refine (pay4_apply _ _ r c).trans ?_
  unfold bq query
  simp only [pay10_apply]

/-- The rows at the end, whole. -/
theorem y_apply (r : Fin 512) (l : Fin 2048) :
    k0_pay7 (F := Ideal) (k0_pay9 x0 x1 x2 x3 x4 x5 x6 x7 x8 x9) (k0_pay11 x0 x1 x2 x3 x4 x5 x6 x7 x8 x9) (k0_pay12 x0 x1 x2 x3 x4 x5 x6 x7 x8 x9)
      (k0_pay13 x0 x1 x2 x3 x4 x5 x6 x7 x8 x9) (View.ld x7 r0_12) (View.ld x7 r0_13) (View.ld x7 r0_14) (View.ld x7 r0_15) (View.ld x8 r0_16) (ix2 r l)
      = byr x0 x1 x2 x3 x4 x5 x6 x7 x8 r l := by
  refine (pay7_apply _ _ _ _ _ _ _ _ _ r l (bq x0 x1 x2 x3 x4 x5 x6 r) (fun j c => x7 (ix2 j c)) (fun c => ?_) (fun d => ?_) (fun d => ?_)
    (fun j d => ?_) (fun j d => ?_) (fun j d => ?_) (fun j d => ?_)).trans ?_
  · exact q_apply x0 x1 x2 x3 x4 x5 x6 x7 x8 x9 r c
  · refine (pay5_apply _ _ _ _ r d).trans (out_of _ _ _ 0 (by omega) (by dsimp only; omega) _ _ (fun j => ?_) (fun j => ?_))
    · refine Finset.sum_congr rfl fun e _ => congrArg₂ _ ((q_apply x0 x1 x2 x3 x4 x5 x6 x7 x8 x9 r _).trans ?_) (ld_kv x7 0 _ j e (by omega))
      simp only [Nat.zero_add]
    · exact ld_kv x7 512 _ j d (by omega)
  · refine (pay6_apply _ _ _ _ r d).trans (out_of _ _ _ 128 (by omega) (by dsimp only; omega) _ _ (fun j => ?_) (fun j => ?_))
    · exact Finset.sum_congr rfl fun e _ => congrArg₂ _ (q_apply x0 x1 x2 x3 x4 x5 x6 x7 x8 x9 r _) (ld_kv x7 128 _ j e (by omega))
    · refine (ld_kv x7 640 _ j d (by omega)).trans (congrArg x7 (congrArg (ix2 j) (Fin.ext ?_)))
      dsimp only
      omega
  · exact ld_kv x7 256 _ j d (by omega)
  · exact ld_kv x7 768 _ j d (by omega)
  · exact ld_kv x7 384 _ j d (by omega)
  · exact ld_kv x7 896 _ j d (by omega)
  · unfold byr
    rw [View.ld_unit_zero (S := S1x512x2048) hz3]
    simp only [pay9_apply]

/-- What the body leaves in the first result's block. -/
theorem out10_apply (r : Fin 512) (l : Fin 2048) :
    (out0_10 (F := Ideal) x0 x1 x2 x3 x4 x5 x6 x7 x8 x9 : S512x2048.Idx → EReal) (ix2 r l) = byr x0 x1 x2 x3 x4 x5 x6 x7 x8 r l := by
  unfold out0_10
  rw [View.canon_unit_zero hz2]
  exact y_apply x0 x1 x2 x3 x4 x5 x6 x7 x8 x9 r l

/-- What the body leaves in the second result's block. -/
theorem out11_apply (r : Fin 512) (l : Fin 2048) :
    (out0_11 (F := Ideal) x0 x1 x2 x3 x4 x5 x6 x7 x8 x9 : S512x2048.Idx → EReal) (ix2 r l)
      = normed (byr x0 x1 x2 x3 x4 x5 x6 x7 x8 r) (x9 (ix2 0 l)) l := by
  unfold out0_11
  rw [View.canon_unit_zero hz2]
  refine (pay1_apply _ _ _ r l (pay8_apply _ _ _ _ _ _ _ _ _ r)).trans ?_
  rw [View.ld_unit_zero (S := S1x2048) hz2]
  simp only [y_apply]

end blocks

end Cert.MixIdeal.Pay
-- ==== Proof.MixRefRead.lean ====
/-
  The reference of the output projection and memory cross-attention, read entry by entry: its text cut into eight values,
  each stated over the values before it, and what each holds at an entry.
-/
module

public import proofs.«01_k».proof.Proof.MixMath
public import proofs.«01_k».proof.Proof.Gen.MixRefIdeal.Run

@[expose] public section

set_option maxRecDepth 16384

noncomputable section

open Idealize.ShloMosaic Idealize.ShloMosaic.TcCoe Idealize.SL.Sem

namespace Cert.MixRefIdeal.Read

open Cert.MixRefIdeal Cert.MixRefIdeal.Gen Cert.Rms Cert.MixMath

/-- The rows after the output projection. -/
def tX (a0 : FVec Ideal S32768x512 .bf16) (a1 : FVec Ideal S32768x1024 .bf16) (a2 : FVec Ideal S32768x512 .bf16) (a3 : FVec Ideal S4x2048x2048 .f32)
    (a4 : FVec Ideal S32768x2048 .f32) : FVec Ideal S32768x2048 .f32 :=
  addf a4 (Host.dotGeneral dot_S32768x2048_S2048x2048_S32768x2048_1_0_0_1_n_n none (extf .f32 ((concatenate S32768x2048 1 [⟨S32768x512, (a0 : (⟨S32768x512, .bf16⟩ : BufTy).Contents (Elt Ideal))⟩, ⟨S32768x1024, (a1 : (⟨S32768x1024, .bf16⟩ : BufTy).Contents (Elt Ideal))⟩, ⟨S32768x512, (a2 : (⟨S32768x512, .bf16⟩ : BufTy).Contents (Elt Ideal))⟩] concatenates_S32768x512_S32768x1024_S32768x512_S32768x2048_d1 : (⟨S32768x2048, .bf16⟩ : BufTy).Contents (Elt Ideal))) bitsLt_bf16_f32) (shapeCast _ (extractStridedSlice S1x2048x2048 ![0, 0, 0] a3 slices_S4x2048x2048_S1x2048x2048_0_0_0) shapeCasts_S1x2048x2048_S2048x2048))

/-- A normalised array, with layer 0's gains. -/
def tN (x : FVec Ideal S32768x2048 .f32) (g : FVec Ideal S4x2048 .f32) : FVec Ideal S32768x2048 .f32 :=
  mulf (mulf x (broadcastInDim S32768x2048 ![0, 1] bcast_S32768x1_S32768x2048_0_1 (Host.rsqrt (addf (Host.divf (broadcastInDim S32768x1 ![0] bcast_S32768_S32768x1_0 (Host.reduceAdd (mulf x x) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 (shapeCast _ (extractStridedSlice S1x2048 ![0, 0] (g) slices_S4x2048_S1x2048_0_0) shapeCasts_S1x2048_S2048)))

/-- The queries. -/
def tQ (n : FVec Ideal S32768x2048 .f32) (a6 : FVec Ideal S4x2048x512 .bf16) : FVec Ideal S32768x512 .f32 :=
  Host.dotGeneral dot_S32768x2048_S2048x512_S32768x512_1_0_0_1_n_n none n (extf .f32 (shapeCast _ (extractStridedSlice S1x2048x512 ![0, 0, 0] a6 slices_S4x2048x512_S1x2048x512_0_0_0) shapeCasts_S1x2048x512_S2048x512) bitsLt_bf16_f32)

/-- The scores. -/
def tS (q : FVec Ideal S32768x512 .f32) (a7 : FVec Ideal S4096x1024 .bf16) : FVec Ideal S16x4x2048x256 .f32 :=
  Host.dotGeneral dot_S16x2048x4x128_S16x256x4x128_S16x4x2048x256_3_3_1_1_02_02 none (shapeCast _ q shapeCasts_S32768x512_S16x2048x4x128) (shapeCast _ (extractStridedSlice S16x256x512 ![0, 0, 0] (shapeCast _ (extf .f32 a7 bitsLt_bf16_f32) shapeCasts_S4096x1024_S16x256x1024) slices_S16x256x1024_S16x256x512_0_0_0) shapeCasts_S16x256x512_S16x256x4x128)

/-- The weights before they are divided. -/
def tE (s : FVec Ideal S16x4x2048x256 .f32) : FVec Ideal S16x4x2048x256 .f32 :=
  Host.powf (broadcastInDim S16x4x2048x256 ![] bcast_S_S16x4x2048x256 (constant S_ .f32 0x40000000#32)) (subf s (broadcastInDim S16x4x2048x256 ![0, 1, 2, 3] bcast_S16x4x2048x1_S16x4x2048x256_0_1_2_3 (broadcastInDim S16x4x2048x1 ![0, 1, 2] bcast_S16x4x2048_S16x4x2048x1_0_1_2 (Host.reduce FloatOps.maximumf s (constant S_ .f32 0xFF800000#32) reducesTo_S16x4x2048x256_S16x4x2048_d3 h_S_))))

/-- The weights. -/
def tP (e : FVec Ideal S16x4x2048x256 .f32) : FVec Ideal S16x4x2048x256 .f32 :=
  Host.divf e (broadcastInDim S16x4x2048x256 ![0, 1, 2, 3] bcast_S16x4x2048x1_S16x4x2048x256_0_1_2_3 (broadcastInDim S16x4x2048x1 ![0, 1, 2] bcast_S16x4x2048_S16x4x2048x1_0_1_2 (Host.reduceAdd e (constant S_ .f32 0x00000000#32) reducesTo_S16x4x2048x256_S16x4x2048_d3 h_S_)))

/-- The attention's output. -/
def tO (p : FVec Ideal S16x4x2048x256 .f32) (a7 : FVec Ideal S4096x1024 .bf16) : FVec Ideal S32768x512 .f32 :=
  shapeCast _ (transpose S16x2048x4x128 [0, 3, 1, 2] (Host.dotGeneral dot_S16x256x4x128_S16x4x2048x256_S16x4x128x2048_1_3_3_2_02_01 none (shapeCast _ (extractStridedSlice S16x256x512 ![0, 0, 512] (shapeCast _ (extf .f32 a7 bitsLt_bf16_f32) shapeCasts_S4096x1024_S16x256x1024) slices_S16x256x1024_S16x256x512_0_0_512) shapeCasts_S16x256x512_S16x256x4x128) p) transposes_S16x4x128x2048_S16x2048x4x128_0_3_1_2) shapeCasts_S16x2048x4x128_S32768x512

/-- The rows at the end. -/
def tY (x : FVec Ideal S32768x2048 .f32) (o : FVec Ideal S32768x512 .f32) (a8 : FVec Ideal S4x512x2048 .f32) : FVec Ideal S32768x2048 .f32 :=
  addf x (Host.dotGeneral dot_S32768x512_S512x2048_S32768x2048_1_0_0_1_n_n none o (shapeCast _ (extractStridedSlice S1x512x2048 ![0, 0, 0] a8 slices_S4x512x2048_S1x512x2048_0_0_0) shapeCasts_S1x512x2048_S512x2048))

/-- A sum over the 2048 rows of the weights, cut where the three mixers meet. -/
theorem sum_cut (f : Fin 2048 → EReal) : ∑ k, f k
    = (∑ k : Fin 512, f ⟨k.val, by omega⟩) + (∑ k : Fin 1024, f ⟨512 + k.val, by omega⟩) + (∑ k : Fin 512, f ⟨1536 + k.val, by omega⟩) := by
  show ∑ k : Fin (512 + 1024 + 512), f k = _
  rw [Fin.sum_univ_add, Fin.sum_univ_add]
  rfl

theorem tX_apply (a0 : FVec Ideal S32768x512 .bf16) (a1 : FVec Ideal S32768x1024 .bf16) (a2 : FVec Ideal S32768x512 .bf16) (a3 : FVec Ideal S4x2048x2048 .f32)
    (a4 : FVec Ideal S32768x2048 .f32) (R : Fin 32768) (l : Fin 2048) : tX a0 a1 a2 a3 a4 (ix2 R l)
      = xrow (fun k => a0 (ix2 R k)) (fun k => a1 (ix2 R k)) (fun k => a2 (ix2 R k)) (fun k l => a3 (ix3 0 k l)) (fun l => a4 (ix2 R l)) l := by
  unfold tX xrow
  pointwise
  rw [sum_cut]
  refine congrArg₂ _ rfl (congrArg₂ _ (congrArg₂ _ ?_ ?_) ?_) <;> refine Finset.sum_congr rfl fun k _ => congrArg (· * _) ?_
  · rw [dif_pos k.isLt]
  · rw [dif_neg (by simp), dif_pos (by dsimp only; omega)]
    exact congrArg a1 (congrArg (ix2 R) (Fin.ext (by dsimp only; omega)))
  · rw [dif_neg (by dsimp only; omega), dif_neg (by dsimp only; omega)]
    exact congrArg a2 (congrArg (ix2 R) (Fin.ext (by dsimp only; omega)))

theorem tN_apply (x : FVec Ideal S32768x2048 .f32) (g : FVec Ideal S4x2048 .f32) (R : Fin 32768) (l : Fin 2048) :
    tN x g (ix2 R l) = normed (fun k => x (ix2 R k)) (g (ix2 0 l)) l := by
  unfold tN normed scale
  pointwise

theorem tQ_apply (n : FVec Ideal S32768x2048 .f32) (a6 : FVec Ideal S4x2048x512 .bf16) (R : Fin 32768) (c : Fin 512) :
    tQ n a6 (ix2 R c) = ∑ k : Fin 2048, n (ix2 R k) * a6 (ix3 0 k c) := by
  unfold tQ
  pointwise

theorem tS_apply (q : FVec Ideal S32768x512 .f32) (a7 : FVec Ideal S4096x1024 .bf16) (b : Fin 16) (hd : Fin 4) (t : Fin 2048) (j : Fin 256) :
    tS q a7 (ix4 b hd t j) = score (fun c => q (ix2 ⟨b.val * 2048 + t.val, by omega⟩ c)) (fun j c => a7 (ix2 ⟨b.val * 256 + j.val, by omega⟩ c)) hd j := by
  unfold tS score
  pointwise

theorem tE_apply (s : FVec Ideal S16x4x2048x256 .f32) (b : Fin 16) (hd : Fin 4) (t : Fin 2048) (j : Fin 256) :
    tE s (ix4 b hd t j) = wt (fun j => s (ix4 b hd t j)) j := by
  unfold tE wt top
  rw [← pow_two, ← ofBits_2]
  pointwise

theorem tP_apply (s : FVec Ideal S16x4x2048x256 .f32) (b : Fin 16) (hd : Fin 4) (t : Fin 2048) (j : Fin 256) :
    tP s (ix4 b hd t j) = Ideal.div (s (ix4 b hd t j)) (∑ j, s (ix4 b hd t j)) := by
  unfold tP
  pointwise

theorem tO_apply (p : FVec Ideal S16x4x2048x256 .f32) (a7 : FVec Ideal S4096x1024 .bf16) (R : Fin 32768) (c : Fin 512) :
    tO p a7 (ix2 R c) = ∑ j : Fin 256, p (ix4 ⟨R.val / 2048, by omega⟩ ⟨c.val / 128, by omega⟩ ⟨R.val % 2048, by omega⟩ j) * a7 (ix2 ⟨R.val / 2048 * 256 + j.val, by omega⟩ ⟨512 + c.val, by omega⟩) := by
  unfold tO
  pointwise
  exact Finset.sum_congr rfl fun j _ => mul_comm _ _

theorem tY_apply (x : FVec Ideal S32768x2048 .f32) (o : FVec Ideal S32768x512 .f32) (a8 : FVec Ideal S4x512x2048 .f32) (R : Fin 32768) (l : Fin 2048) :
    tY x o a8 (ix2 R l) = yrow (fun l => x (ix2 R l)) (fun c => o (ix2 R c)) (fun c l => a8 (ix3 0 c l)) l := by
  unfold tY yrow
  pointwise

/-! ## The whole -/

section whole

variable (a0 : FVec Ideal S32768x512 .bf16) (a1 : FVec Ideal S32768x1024 .bf16) (a2 : FVec Ideal S32768x512 .bf16) (a3 : FVec Ideal S4x2048x2048 .f32)
  (a4 : FVec Ideal S32768x2048 .f32) (a5 : FVec Ideal S4x2048 .f32) (a6 : FVec Ideal S4x2048x512 .bf16) (a7 : FVec Ideal S4096x1024 .bf16)
  (a8 : FVec Ideal S4x512x2048 .f32) (a9 : FVec Ideal S4x2048 .f32)

/-- Row `R` after the output projection. -/
def xr (R : Fin 32768) : Fin 2048 → EReal :=
  xrow (fun k => a0 (ix2 R k)) (fun k => a1 (ix2 R k)) (fun k => a2 (ix2 R k)) (fun k l => a3 (ix3 0 k l)) (fun l => a4 (ix2 R l))

/-- Row `R`'s queries. -/
def qr (R : Fin 32768) : Fin 512 → EReal := query (xr a0 a1 a2 a3 a4 R) (fun k => a5 (ix2 0 k)) (fun k c => a6 (ix3 0 k c))

/-- The memory rows of row `R`'s sequence. -/
def kr (R : Fin 32768) : Fin 256 → Fin 1024 → EReal := fun j c => a7 (ix2 ⟨R.val / 2048 * 256 + j.val, by omega⟩ c)

/-- Row `R` at the end, each weighted sum divided last. -/
def yr (R : Fin 32768) : Fin 2048 → EReal :=
  yrow (xr a0 a1 a2 a3 a4 R) (out (qr a0 a1 a2 a3 a4 a5 a6 R) (kr a7 R)) (fun c l => a8 (ix3 0 c l))

/-- The first result: the rows at the end. -/
def G0 : S32768x2048.Idx → EReal := fun i => yr a0 a1 a2 a3 a4 a5 a6 a7 a8 (i 0) (i 1)

/-- The second result: the rows at the end, normalised, with layer 0's gains. -/
def G1 : S32768x2048.Idx → EReal := fun i => normed (yr a0 a1 a2 a3 a4 a5 a6 a7 a8 (i 0)) (a9 (ix2 0 (i 1))) (i 1)

/-- The reference's first result, from its eight values. -/
def tt : FVec Ideal S32768x2048 .f32 :=
  tY (tX a0 a1 a2 a3 a4) (tO (tP (tE (tS (tQ (tN (tX a0 a1 a2 a3 a4) a5) a6) a7))) a7) a8

/-- The reference's first result, row by row, when the scores are finite. -/
theorem tt_apply (h0 : ∀ i, Finite' (a0 i)) (h1 : ∀ i, Finite' (a1 i)) (h2 : ∀ i, Finite' (a2 i)) (h3 : ∀ i, Finite' (a3 i))
    (h4 : ∀ i, Finite' (a4 i)) (h5 : ∀ i, Finite' (a5 i)) (h6 : ∀ i, Finite' (a6 i)) (h7 : ∀ i, Finite' (a7 i))
    (R : Fin 32768) (l : Fin 2048) : tt a0 a1 a2 a3 a4 a5 a6 a7 a8 (ix2 R l) = yr a0 a1 a2 a3 a4 a5 a6 a7 a8 R l := by
  have hx : ∀ k, Finite' (xr a0 a1 a2 a3 a4 R k) :=
    xrow_fin (fun k => h0 _) (fun k => h1 _) (fun k => h2 _) (fun k l => h3 _) (fun k => h4 _)
  have hq : ∀ c, Finite' (qr a0 a1 a2 a3 a4 a5 a6 R c) := query_fin hx (fun k => h5 _) (fun k c => h6 _)
  have eX : ∀ l, tX a0 a1 a2 a3 a4 (ix2 R l) = xr a0 a1 a2 a3 a4 R l := fun l => tX_apply a0 a1 a2 a3 a4 R l
  have eQ : ∀ c, tQ (tN (tX a0 a1 a2 a3 a4) a5) a6 (ix2 R c) = qr a0 a1 a2 a3 a4 a5 a6 R c := by
    intro c
    rw [tQ_apply]
    unfold qr query
    refine Finset.sum_congr rfl fun k _ => congrArg (· * _) ?_
    rw [tN_apply]
    simp only [eX]
  have eS : ∀ (hd : Fin 4) (j : Fin 256), tS (tQ (tN (tX a0 a1 a2 a3 a4) a5) a6) a7
      (ix4 ⟨R.val / 2048, by omega⟩ hd ⟨R.val % 2048, by omega⟩ j) = score (qr a0 a1 a2 a3 a4 a5 a6 R) (kr a7 R) hd j := by
    intro hd j
    rw [tS_apply]
    have e : (⟨R.val / 2048 * 2048 + R.val % 2048, by omega⟩ : Fin 32768) = R := Fin.ext (by dsimp only; omega)
    simp only [e, eQ]
    rfl
  have eO : ∀ c, tO (tP (tE (tS (tQ (tN (tX a0 a1 a2 a3 a4) a5) a6) a7))) a7 (ix2 R c) = out (qr a0 a1 a2 a3 a4 a5 a6 R) (kr a7 R) c := by
    intro c
    rw [← outR_eq (kv := kr a7 R) hq (fun j c => h7 _), tO_apply]
    unfold outR attR tot
    refine Finset.sum_congr rfl fun j _ => congrArg (· * _) ?_
    rw [tP_apply]
    simp only [tE_apply, eS]
  unfold tt yr
  rw [tY_apply]
  simp only [eX, eO]

end whole

end Cert.MixRefIdeal.Read
-- ==== Proof.MixValue.lean ====
/-
  The output projection and memory cross-attention: the kernel's two result arrays after the run as functions of its
  arguments, the reference's as the same functions when the arguments it scores with are finite, and the claim.
-/
module

public import proofs.«01_k».proof.Defs
public import proofs.«01_k».proof.Proof.MixPay
public import proofs.«01_k».proof.Proof.MixRefRead
public import Idealize.ShloMosaic.Lib.ReduceAll

@[expose] public section

set_option maxRecDepth 16384

noncomputable section

open Idealize.ShloMosaic Idealize.ShloMosaic.TcCoe Idealize.ShloMosaic.Tactic Idealize.SL.Sem
open Idealize.ShloMosaic.Pipeline (Dat)

namespace Cert.MixIdeal.Closed

open Cert.MixIdeal Cert.MixIdeal.Gen Cert.MixIdeal.Value Cert.MixIdeal.Pay Cert.Rms Cert.MixMath
open Cert.MixRefIdeal.Read (xr qr kr yr G0 G1)

variable (m : (ℓ : Loc nD τ sig) → Buf (Elt Ideal) ℓ) (ρ : Dev nD → PrngReg)

/-- The index maps at a grid point: row block `t`, memory block `t / 4`, everything else whole. -/
theorem idx : ∀ t : Fin cfg0.N, (win0_0.index t 0 = t.val ∧ win0_0.index t 1 = 0)
    ∧ (win0_1.index t 0 = t.val ∧ win0_1.index t 1 = 0) ∧ (win0_2.index t 0 = t.val ∧ win0_2.index t 1 = 0)
    ∧ (win0_3.index t 0 = 0 ∧ win0_3.index t 1 = 0 ∧ win0_3.index t 2 = 0)
    ∧ (win0_4.index t 0 = t.val ∧ win0_4.index t 1 = 0) ∧ (win0_5.index t 0 = 0 ∧ win0_5.index t 1 = 0)
    ∧ (win0_6.index t 0 = 0 ∧ win0_6.index t 1 = 0 ∧ win0_6.index t 2 = 0)
    ∧ (win0_7.index t 0 = t.val / 4 ∧ win0_7.index t 1 = 0)
    ∧ (win0_8.index t 0 = 0 ∧ win0_8.index t 1 = 0 ∧ win0_8.index t 2 = 0)
    ∧ (win0_9.index t 0 = 0 ∧ win0_9.index t 1 = 0)
    ∧ (win0_10.index t 0 = t.val ∧ win0_10.index t 1 = 0) ∧ (win0_11.index t 0 = t.val ∧ win0_11.index t 1 = 0) := by decide +kernel

/-- The projection's weights as the kernel sees them. -/
theorem V_w (c : Dev nD) : (V m c main_v0 : S4x2048x2048.Idx → EReal) = m ((c : Thread nD τ).loc main_arg3) := by
  unfold V
  simp only [hostOps0]
  after_results
  all_goals rfl

/-- The attention's output weights as the kernel sees them. -/
theorem V_xo (c : Dev nD) : (V m c main_v3 : S4x512x2048.Idx → EReal) = m ((c : Thread nD τ).loc main_arg8) := by
  unfold V
  simp only [hostOps0]
  after_results
  all_goals rfl

/-- The first norm's gains as the kernel sees them: layer 0's row. -/
theorem V_g (c : Dev nD) (k : Fin 2048) : (V m c main_v6 : S1x2048.Idx → EReal) (ix2 0 k)
    = m ((c : Thread nD τ).loc main_arg5) (ix2 0 k) := by
  have e : (V m c main_v6 : S1x2048.Idx → EReal)
      = shapeCast S1x2048 (shapeCast S2048 (extractStridedSlice S1x2048 ![0, 0] (m ((c : Thread nD τ).loc main_arg5) : S4x2048.Idx → EReal) slices_S4x2048_S1x2048_0_0) shapeCasts_S1x2048_S2048) shapeCasts_S2048_S1x2048 := by
    unfold V
    simp only [hostOps0]
    after_results
    all_goals rfl
  rw [e]
  generalize m ((c : Thread nD τ).loc main_arg5) = g
  pointwise

/-- The second norm's gains as the kernel sees them: layer 0's row. -/
theorem V_gf (c : Dev nD) (k : Fin 2048) : (V m c main_v7 : S1x2048.Idx → EReal) (ix2 0 k)
    = m ((c : Thread nD τ).loc main_arg9) (ix2 0 k) := by
  have e : (V m c main_v7 : S1x2048.Idx → EReal)
      = shapeCast S1x2048 (shapeCast S2048 (extractStridedSlice S1x2048 ![0, 0] (m ((c : Thread nD τ).loc main_arg9) : S4x2048.Idx → EReal) slices_S4x2048_S1x2048_0_0) shapeCasts_S1x2048_S2048) shapeCasts_S2048_S1x2048 := by
    unfold V
    simp only [hostOps0]
    after_results
    all_goals rfl
  rw [e]
  generalize m ((c : Thread nD τ).loc main_arg9) = g
  pointwise

/-- The array row of row `r` of block `t`. -/
def row (t : Fin cfg0.N) (r : Fin 512) : Fin 32768 := ⟨t.val * 512 + r.val, by have := t.isLt; have : cfg0.N = 64 := N_0; omega⟩

theorem blk0 (c : Dev nD) (t : Fin cfg0.N) (r : Fin 512) (k : Fin 512) :
    (iblk m c 0 t : S512x512.Idx → EReal) (ix2 r k) = m ((c : Thread nD τ).loc main_arg0) (ix2 (row t r) k) := by
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = t.val * 512 + r.val; rw [(idx t).1.1]; omega
  | ⟨1, _⟩ => show win0_0.index t 1 * 512 + 1 * k.val = k.val; rw [(idx t).1.2]; omega

theorem blk1 (c : Dev nD) (t : Fin cfg0.N) (r : Fin 512) (k : Fin 1024) :
    (iblk m c 1 t : S512x1024.Idx → EReal) (ix2 r k) = m ((c : Thread nD τ).loc main_arg1) (ix2 (row t r) k) := by
  unfold iblk
  rw [View.read_apply]
  show V m c main_arg1 _ = m (c.tc.loc main_arg1) _
  rw [V_main_arg1]
  congr 1
  funext a
  apply Fin.ext
  match a with
  | ⟨0, _⟩ => show win0_1.index t 0 * 512 + 1 * r.val = t.val * 512 + r.val; rw [(idx t).2.1.1]; omega
  | ⟨1, _⟩ => show win0_1.index t 1 * 1024 + 1 * k.val = k.val; rw [(idx t).2.1.2]; omega

theorem blk2 (c : Dev nD) (t : Fin cfg0.N) (r : Fin 512) (k : Fin 512) :
    (iblk m c 2 t : S512x512.Idx → EReal) (ix2 r k) = m ((c : Thread nD τ).loc main_arg2) (ix2 (row t r) k) := by
  unfold iblk
  rw [View.read_apply]
  show V m c main_arg2 _ = m (c.tc.loc main_arg2) _
  rw [V_main_arg2]
  congr 1
  funext a
  apply Fin.ext
  match a with
  | ⟨0, _⟩ => show win0_2.index t 0 * 512 + 1 * r.val = t.val * 512 + r.val; rw [(idx t).2.2.1.1]; omega
  | ⟨1, _⟩ => show win0_2.index t 1 * 512 + 1 * k.val = k.val; rw [(idx t).2.2.1.2]; omega

theorem blk3 (c : Dev nD) (t : Fin cfg0.N) (k : Fin 2048) (l : Fin 2048) :
    (iblk m c 3 t : S1x2048x2048.Idx → EReal) (ix3 0 k l) = m ((c : Thread nD τ).loc main_arg3) (ix3 0 k l) := by
  unfold iblk
  rw [View.read_apply]
  refine Eq.trans ?_ (congrFun (V_w m c) (ix3 0 k l))
  show V m c main_v0 _ = V m c main_v0 _
  congr 1
  funext a
  apply Fin.ext
  match a with
  | ⟨0, _⟩ => show win0_3.index t 0 * 1 + 1 * 0 = 0; rw [(idx t).2.2.2.1.1]
  | ⟨1, _⟩ => show win0_3.index t 1 * 2048 + 1 * k.val = k.val; rw [(idx t).2.2.2.1.2.1]; omega
  | ⟨2, _⟩ => show win0_3.index t 2 * 2048 + 1 * l.val = l.val; rw [(idx t).2.2.2.1.2.2]; omega

theorem blk4 (c : Dev nD) (t : Fin cfg0.N) (r : Fin 512) (k : Fin 2048) :
    (iblk m c 4 t : S512x2048.Idx → EReal) (ix2 r k) = m ((c : Thread nD τ).loc main_arg4) (ix2 (row t r) k) := by
  unfold iblk
  rw [View.read_apply]
  show V m c main_arg4 _ = m (c.tc.loc main_arg4) _
  rw [V_main_arg4]
  congr 1
  funext a
  apply Fin.ext
  match a with
  | ⟨0, _⟩ => show win0_4.index t 0 * 512 + 1 * r.val = t.val * 512 + r.val; rw [(idx t).2.2.2.2.1.1]; omega
  | ⟨1, _⟩ => show win0_4.index t 1 * 2048 + 1 * k.val = k.val; rw [(idx t).2.2.2.2.1.2]; omega

theorem blk5 (c : Dev nD) (t : Fin cfg0.N) (l : Fin 2048) :
    (iblk m c 5 t : S1x2048.Idx → EReal) (ix2 0 l) = m ((c : Thread nD τ).loc main_arg5) (ix2 0 l) := by
  unfold iblk
  rw [View.read_apply]
  refine Eq.trans ?_ (V_g m c l)
  show V m c main_v6 _ = V m c main_v6 _
  congr 1
  funext a
  apply Fin.ext
  match a with
  | ⟨0, _⟩ => show win0_5.index t 0 * 1 + 1 * 0 = 0; rw [(idx t).2.2.2.2.2.1.1]
  | ⟨1, _⟩ => show win0_5.index t 1 * 2048 + 1 * l.val = l.val; rw [(idx t).2.2.2.2.2.1.2]; omega

theorem blk6 (c : Dev nD) (t : Fin cfg0.N) (k : Fin 2048) (l : Fin 512) :
    (iblk m c 6 t : S1x2048x512.Idx → EReal) (ix3 0 k l) = m ((c : Thread nD τ).loc main_arg6) (ix3 0 k l) := by
  unfold iblk
  rw [View.read_apply]
  show V m c main_arg6 _ = m (c.tc.loc main_arg6) _
  rw [V_main_arg6]
  congr 1
  funext a
  apply Fin.ext
  match a with
  | ⟨0, _⟩ => show win0_6.index t 0 * 1 + 1 * 0 = 0; rw [(idx t).2.2.2.2.2.2.1.1]
  | ⟨1, _⟩ => show win0_6.index t 1 * 2048 + 1 * k.val = k.val; rw [(idx t).2.2.2.2.2.2.1.2.1]; omega
  | ⟨2, _⟩ => show win0_6.index t 2 * 512 + 1 * l.val = l.val; rw [(idx t).2.2.2.2.2.2.1.2.2]; omega

theorem blk7 (c : Dev nD) (t : Fin cfg0.N) (r : Fin 512) (j : Fin 256) (l : Fin 1024) :
    (iblk m c 7 t : S256x1024.Idx → EReal) (ix2 j l) = kr (m ((c : Thread nD τ).loc main_arg7)) (row t r) j l := by
  unfold iblk
  rw [View.read_apply]
  show V m c main_arg7 _ = m (c.tc.loc main_arg7) _
  rw [V_main_arg7]
  congr 1
  funext a
  apply Fin.ext
  match a with
  | ⟨0, _⟩ =>
    show win0_7.index t 0 * 256 + 1 * j.val = (t.val * 512 + r.val) / 2048 * 256 + j.val
    rw [(idx t).2.2.2.2.2.2.2.1.1]
    omega
  | ⟨1, _⟩ => show win0_7.index t 1 * 1024 + 1 * l.val = l.val; rw [(idx t).2.2.2.2.2.2.2.1.2]; omega

theorem blk8 (c : Dev nD) (t : Fin cfg0.N) (k : Fin 512) (l : Fin 2048) :
    (iblk m c 8 t : S1x512x2048.Idx → EReal) (ix3 0 k l) = m ((c : Thread nD τ).loc main_arg8) (ix3 0 k l) := by
  unfold iblk
  rw [View.read_apply]
  refine Eq.trans ?_ (congrFun (V_xo m c) (ix3 0 k l))
  show V m c main_v3 _ = V m c main_v3 _
  congr 1
  funext a
  apply Fin.ext
  match a with
  | ⟨0, _⟩ => show win0_8.index t 0 * 1 + 1 * 0 = 0; rw [(idx t).2.2.2.2.2.2.2.2.1.1]
  | ⟨1, _⟩ => show win0_8.index t 1 * 512 + 1 * k.val = k.val; rw [(idx t).2.2.2.2.2.2.2.2.1.2.1]; omega
  | ⟨2, _⟩ => show win0_8.index t 2 * 2048 + 1 * l.val = l.val; rw [(idx t).2.2.2.2.2.2.2.2.1.2.2]; omega

theorem blk9 (c : Dev nD) (t : Fin cfg0.N) (l : Fin 2048) :
    (iblk m c 9 t : S1x2048.Idx → EReal) (ix2 0 l) = m ((c : Thread nD τ).loc main_arg9) (ix2 0 l) := by
  unfold iblk
  rw [View.read_apply]
  refine Eq.trans ?_ (V_gf m c l)
  show V m c main_v7 _ = V m c main_v7 _
  congr 1
  funext a
  apply Fin.ext
  match a with
  | ⟨0, _⟩ => show win0_9.index t 0 * 1 + 1 * 0 = 0; rw [(idx t).2.2.2.2.2.2.2.2.2.1.1]
  | ⟨1, _⟩ => show win0_9.index t 1 * 2048 + 1 * l.val = l.val; rw [(idx t).2.2.2.2.2.2.2.2.2.1.2]; omega

/-- A block's rows at the end are the arrays' rows at the end. -/
theorem byr_eq (c : Dev nD) (t : Fin cfg0.N) (r : Fin 512) :
    byr (iblk m c 0 t) (iblk m c 1 t) (iblk m c 2 t) (iblk m c 3 t) (iblk m c 4 t) (iblk m c 5 t) (iblk m c 6 t) (iblk m c 7 t) (iblk m c 8 t) r
      = yr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (row t r) := by
  have hk : (fun (j : Fin 256) (l : Fin 1024) => (iblk m c 7 t : S256x1024.Idx → EReal) (ix2 j l)) = kr (m ((c : Thread nD τ).loc main_arg7)) (row t r) :=
    funext fun j => funext fun l => blk7 m c t r j l
  unfold byr yr bq qr bx xr
  rw [hk]
  simp only [blk0, blk1, blk2, blk3, blk4, blk5, blk6, blk8]

theorem G0_congr (y : Fin 32768 → Fin 2048 → EReal) (i : S32768x2048.Idx) (R : Fin 32768) (C : Fin 2048) (h0 : (i 0).val = R.val)
    (h1 : (i 1).val = C.val) : y (i 0) (i 1) = y R C := by
  rw [show i 0 = R from Fin.ext h0, show i 1 = C from Fin.ext h1]

/-- What point `t` writes back through window 10 is block `t` of `G0`. -/
theorem flushed_eq10 (c : Dev nD) (t : Fin cfg0.N) :
    (dats m 0 c).flushed 10 t = ((cfg0.win 10).blk t).view.read (Elt Ideal)
      (G0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [flushed10]
  funext j
  obtain ⟨r, l, rfl⟩ : ∃ (r : Fin 512) (l : Fin 2048), j = ix2 r l := ⟨j 0, j 1, eq_ix2 j⟩
  rw [View.read_apply]
  refine (out10_apply (iblk m c 0 t) (iblk m c 1 t) (iblk m c 2 t) (iblk m c 3 t) (iblk m c 4 t) (iblk m c 5 t) (iblk m c 6 t) (iblk m c 7 t) (iblk m c 8 t) (iblk m c 9 t) r l).trans ?_
  rw [byr_eq]
  refine (G0_congr (yr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) _ (row t r) l ?_ ?_).symm
  · show win0_10.index t 0 * 512 + 1 * r.val = t.val * 512 + r.val; rw [(idx t).2.2.2.2.2.2.2.2.2.2.1.1]; omega
  · show win0_10.index t 1 * 2048 + 1 * l.val = l.val; rw [(idx t).2.2.2.2.2.2.2.2.2.2.1.2]; omega

theorem cover10 (i : S32768x2048.Idx) :
    ∃ t : Fin cfg0.N, (cfg0.win 10).flush t = true ∧ i ∈ ((cfg0.win 10).blk t).view.set := by
  have hN : cfg0.N = 64 := N_0
  have h0 : (i 0 : Nat) < 32768 := (i 0).isLt
  have h1 : (i 1 : Nat) < 2048 := (i 1).isLt
  let t : Fin cfg0.N := ⟨(i 0 : Nat) / 512, by omega⟩
  have hv : t.val = (i 0 : Nat) / 512 := rfl
  refine ⟨t, flush0_10 t, ?_⟩
  show i ∈ ((View.whole main_v8_0).slice (win0_10.rect t)).set
  rw [View.set_slice_whole, Rect.mem_set_unit]
  intro a
  match a with
  | ⟨0, _⟩ =>
    show win0_10.index t 0 * 512 ≤ (i 0 : Nat) ∧ (i 0 : Nat) < win0_10.index t 0 * 512 + 512
    rw [(idx t).2.2.2.2.2.2.2.2.2.2.1.1]; omega
  | ⟨1, _⟩ =>
    show win0_10.index t 1 * 2048 ≤ (i 1 : Nat) ∧ (i 1 : Nat) < win0_10.index t 1 * 2048 + 2048
    rw [(idx t).2.2.2.2.2.2.2.2.2.2.1.2]; omega

/-- What point `t` writes back through window 11 is block `t` of `G1`. -/
theorem flushed_eq11 (c : Dev nD) (t : Fin cfg0.N) :
    (dats m 0 c).flushed 11 t = ((cfg0.win 11).blk t).view.read (Elt Ideal)
      (G1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [flushed11]
  funext j
  obtain ⟨r, l, rfl⟩ : ∃ (r : Fin 512) (l : Fin 2048), j = ix2 r l := ⟨j 0, j 1, eq_ix2 j⟩
  rw [View.read_apply]
  refine (out11_apply (iblk m c 0 t) (iblk m c 1 t) (iblk m c 2 t) (iblk m c 3 t) (iblk m c 4 t) (iblk m c 5 t) (iblk m c 6 t) (iblk m c 7 t) (iblk m c 8 t) (iblk m c 9 t) r l).trans ?_
  rw [byr_eq, blk9]
  refine (G0_congr (fun R C => normed (yr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) R) (m ((c : Thread nD τ).loc main_arg9) (ix2 0 C)) C) _ (row t r) l ?_ ?_).symm
  · show win0_11.index t 0 * 512 + 1 * r.val = t.val * 512 + r.val; rw [(idx t).2.2.2.2.2.2.2.2.2.2.2.1]; omega
  · show win0_11.index t 1 * 2048 + 1 * l.val = l.val; rw [(idx t).2.2.2.2.2.2.2.2.2.2.2.2]; omega

theorem cover11 (i : S32768x2048.Idx) :
    ∃ t : Fin cfg0.N, (cfg0.win 11).flush t = true ∧ i ∈ ((cfg0.win 11).blk t).view.set := by
  have hN : cfg0.N = 64 := N_0
  have h0 : (i 0 : Nat) < 32768 := (i 0).isLt
  have h1 : (i 1 : Nat) < 2048 := (i 1).isLt
  let t : Fin cfg0.N := ⟨(i 0 : Nat) / 512, by omega⟩
  have hv : t.val = (i 0 : Nat) / 512 := rfl
  refine ⟨t, flush0_11 t, ?_⟩
  show i ∈ ((View.whole main_v8_1).slice (win0_11.rect t)).set
  rw [View.set_slice_whole, Rect.mem_set_unit]
  intro a
  match a with
  | ⟨0, _⟩ =>
    show win0_11.index t 0 * 512 ≤ (i 0 : Nat) ∧ (i 0 : Nat) < win0_11.index t 0 * 512 + 512
    rw [(idx t).2.2.2.2.2.2.2.2.2.2.2.1]; omega
  | ⟨1, _⟩ =>
    show win0_11.index t 1 * 2048 ≤ (i 1 : Nat) ∧ (i 1 : Nat) < win0_11.index t 1 * 2048 + 2048
    rw [(idx t).2.2.2.2.2.2.2.2.2.2.2.2]; omega

/-- The kernel's run: the results are `G0` and `G1` of the arguments, the arguments are unchanged. -/
theorem run : θ_run defs (onTc (τ := τ) (main (F := Ideal))) ⟨m, fun _ => 0, ρ⟩ fun r => ∀ c : Dev nD,
      r.2.mem ((c : Thread nD τ).loc main_v8_0) = G0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v8_1) = G1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨(h c).1.trans
    ((dats m 0 c).arrAt_eq_of_cover 10 _ (fun t _ => flushed_eq10 m c t) cover10), (h c).2.1.trans
    ((dats m 0 c).arrAt_eq_of_cover 11 _ (fun t _ => flushed_eq11 m c t) cover11), (h c).2.2⟩) (run_blocks m ρ)

end Cert.MixIdeal.Closed

namespace Cert.MixRefIdeal.Closed

open Cert.MixRefIdeal Cert.MixRefIdeal.Gen Cert.MixRefIdeal.Read Cert.MixMath

variable (m : (ℓ : Loc nD τ sig) → Buf (Elt Ideal) ℓ) (ρ : Dev nD → PrngReg)

/-- The eight arguments the scores come from are finite. -/
def Fine (c : Dev nD) : Prop :=
  (∀ i, Finite' ((m ((c : Thread nD τ).loc main_arg0) : S32768x512.Idx → EReal) i))
  ∧ (∀ i, Finite' ((m ((c : Thread nD τ).loc main_arg1) : S32768x1024.Idx → EReal) i))
  ∧ (∀ i, Finite' ((m ((c : Thread nD τ).loc main_arg2) : S32768x512.Idx → EReal) i))
  ∧ (∀ i, Finite' ((m ((c : Thread nD τ).loc main_arg3) : S4x2048x2048.Idx → EReal) i))
  ∧ (∀ i, Finite' ((m ((c : Thread nD τ).loc main_arg4) : S32768x2048.Idx → EReal) i))
  ∧ (∀ i, Finite' ((m ((c : Thread nD τ).loc main_arg5) : S4x2048.Idx → EReal) i))
  ∧ (∀ i, Finite' ((m ((c : Thread nD τ).loc main_arg6) : S4x2048x512.Idx → EReal) i))
  ∧ (∀ i, Finite' ((m ((c : Thread nD τ).loc main_arg7) : S4096x1024.Idx → EReal) i))

theorem res0_eq (c : Dev nD) : Value.res_out0 m c = tt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := rfl

theorem res1_eq (c : Dev nD) : (Value.res_out1 m c : S32768x2048.Idx → EReal) = tN (tt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) := rfl

/-- The reference's run: its results are the same functions of its arguments, when those its scores come from are finite. -/
theorem run (hf : ∀ c, Fine m c) : θ_run defs (onTc (τ := τ) (main (F := Ideal))) ⟨m, fun _ => 0, ρ⟩ fun r => ∀ c : Dev nD,
      r.2.mem ((c : Thread nD τ).loc main_v49) = G0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v65) = G1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) := by
  refine (θ_run defs _ _).mono (fun _ h c => ⟨(h c).1.trans ?_, (h c).2.1.trans ?_, (h c).2.2⟩) (Value.run m ρ)
  · refine (res0_eq m c).trans ?_
    obtain ⟨h0, h1, h2, h3, h4, h5, h6, h7⟩ := hf c
    funext j
    obtain ⟨r, l, rfl⟩ : ∃ (r : Fin 32768) (l : Fin 2048), j = ix2 r l := ⟨j 0, j 1, eq_ix2 j⟩
    exact tt_apply _ _ _ _ _ _ _ _ _ h0 h1 h2 h3 h4 h5 h6 h7 r l
  · refine (res1_eq m c).trans ?_
    obtain ⟨h0, h1, h2, h3, h4, h5, h6, h7⟩ := hf c
    funext j
    obtain ⟨r, l, rfl⟩ : ∃ (r : Fin 32768) (l : Fin 2048), j = ix2 r l := ⟨j 0, j 1, eq_ix2 j⟩
    rw [tN_apply]
    simp only [tt_apply _ _ _ _ _ _ _ _ _ h0 h1 h2 h3 h4 h5 h6 h7]
    rfl

end Cert.MixRefIdeal.Closed
-- ==== Proof.MixPre.lean ====
/-
  The output projection and memory cross-attention: what the precondition says of the arguments, and the claim that the
  kernel's results are the reference's.
-/
module

public import proofs.«01_k».proof.Proof.MixValue
public import proofs.«01_k».proof.Proof.Gen.Pre_finite_mix

@[expose] public section

set_option maxRecDepth 16384

noncomputable section

open Idealize.ShloMosaic Idealize.ShloMosaic.TcCoe Idealize.SL.Sem

namespace Cert.MixIdeal.Fine

open Cert.Pre_finite_mix Cert.MixMath

/-- An extended real whose absolute value is below infinity is a real number. -/
theorem finite_of_lt (x : EReal) (h : max x (-x) < ⊤) : Finite' x := by
  induction x using EReal.rec with
  | bot => simp at h
  | top => simp at h
  | coe r => exact ⟨r, rfl⟩

theorem inf_bf16 : Ideal.ofBits FTy.bf16 0x7F80#16 = ⊤ := by simp [Ideal.ofBits, Ideal.ieee]

theorem inf_f32 : Ideal.ofBits FTy.f32 0x7F800000#32 = ⊤ := by simp [Ideal.ofBits, Ideal.ieee]

/-- A comparison by "less than" that answers yes. -/
theorem lt_of_cmp (a b : EReal) (h : Ideal.cmp .olt a b = 1#1) : a < b := by
  by_contra hn
  simp [Ideal.cmp, hn] at h

/-- An array every element of which passes the bfloat16 test against infinity holds real numbers only. -/
theorem all_bf16 {s : Shape} {axes : List (Fin s.rank)} (x : FVec Ideal s .bf16) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .bf16 0x7F80#16)))
      (constantI S_ 1 1#1) hr hu j = 1#1) (i : s.Idx) : Finite' (x i) := by
  haveI : Subsingleton S_.Idx := ⟨fun a b => funext fun k => k.elim0⟩
  have h := lt_of_cmp _ _ (Host.reduce_andi_all _ _ hr hu j e i)
  exact finite_of_lt _ (lt_of_lt_of_eq h inf_bf16)

/-- An array every element of which passes the float32 test against infinity holds real numbers only. -/
theorem all_f32 {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32)))
      (constantI S_ 1 1#1) hr hu j = 1#1) (i : s.Idx) : Finite' (x i) := by
  haveI : Subsingleton S_.Idx := ⟨fun a b => funext fun k => k.elim0⟩
  have h := lt_of_cmp _ _ (Host.reduce_andi_all _ _ hr hu j e i)
  exact finite_of_lt _ (lt_of_lt_of_eq h inf_f32)

/-- The precondition read back: the eight arguments it tests hold real numbers only. -/
theorem of_fn [Cert.Pre_finite_mix.Facts] (a0 : FVec Ideal S32768x512 .bf16) (a1 : FVec Ideal S32768x1024 .bf16) (a2 : FVec Ideal S32768x512 .bf16) (a3 : FVec Ideal S4x2048x2048 .f32) (a4 : FVec Ideal S32768x2048 .f32) (a5 : FVec Ideal S4x2048 .f32) (a6 : FVec Ideal S4x2048x512 .bf16) (a7 : FVec Ideal S4096x1024 .bf16) (a8 : FVec Ideal S4x512x2048 .f32) (a9 : FVec Ideal S4x2048 .f32)
    (h : Cert.Pre_finite_mix.fn (F := Ideal) a0 a1 a2 a3 a4 a5 a6 a7 a8 a9 = fun _ => 1#1) :
    (∀ i, Finite' (a0 i))
    ∧ (∀ i, Finite' (a1 i))
    ∧ (∀ i, Finite' (a2 i))
    ∧ (∀ i, Finite' (a3 i))
    ∧ (∀ i, Finite' (a4 i))
    ∧ (∀ i, Finite' (a5 i))
    ∧ (∀ i, Finite' (a6 i))
    ∧ (∀ i, Finite' (a7 i)) := by
  have j : S_.Idx := fun k => k.elim0
  have h := congrFun h j
  unfold Cert.Pre_finite_mix.fn Cert.Pre_finite_mix.fn_part1 Cert.Pre_finite_mix.fn_part2 at h
  obtain ⟨h, e7⟩ := IntOp.andi_eq_one.1 h
  obtain ⟨h, e6⟩ := IntOp.andi_eq_one.1 h
  obtain ⟨h, e5⟩ := IntOp.andi_eq_one.1 h
  obtain ⟨h, e4⟩ := IntOp.andi_eq_one.1 h
  obtain ⟨h, e3⟩ := IntOp.andi_eq_one.1 h
  obtain ⟨h, e2⟩ := IntOp.andi_eq_one.1 h
  obtain ⟨e0, e1⟩ := IntOp.andi_eq_one.1 h
  exact ⟨all_bf16 a0 _ _ _ j e0, all_bf16 a1 _ _ _ j e1, all_bf16 a2 _ _ _ j e2, all_f32 a3 _ _ _ j e3, all_f32 a4 _ _ _ j e4, all_f32 a5 _ _ _ j e5, all_bf16 a6 _ _ _ j e6, all_bf16 a7 _ _ _ j e7⟩

end Cert.MixIdeal.Fine

/-- From arguments that agree and hold real numbers where the scores come from, the kernel and the reference end with the
    same two results. -/
theorem Cert.mix_algebraic [Cert.Pre_finite_mix.Facts] : Cert.algebraic_MixIdeal_MixRefIdeal_pre_finite_mix
    (hMixIdeal := Cert.MixIdeal.Gen.facts) (hMixRefIdeal := Cert.MixRefIdeal.Gen.facts) := by
  intro m ρ m' ρ' hpre hag
  have hf : ∀ c, Cert.MixRefIdeal.Closed.Fine m' c := by
    intro c
    obtain ⟨g0, g1, g2, g3, g4, g5, g6, g7, g8, g9⟩ := hag c
    unfold Cert.MixRefIdeal.Closed.Fine
    rw [g0, g1, g2, g3, g4, g5, g6, g7]
    exact Cert.MixIdeal.Fine.of_fn _ _ _ _ _ _ _ _ _ _ (hpre c)
  refine ⟨fun c => Cert.MixRefIdeal.Read.G0 (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)),
    fun c => Cert.MixRefIdeal.Read.G1 (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)),
    Cert.MixIdeal.Closed.run m ρ, (θ_run _ _ _).mono (fun _ h c => ?_) (Cert.MixRefIdeal.Closed.run m' ρ' hf)⟩
  obtain ⟨g0, g1, g2, g3, g4, g5, g6, g7, g8, g9⟩ := hag c
  obtain ⟨h0, h1, hk⟩ := h c
  refine ⟨h0.trans ?_, h1.trans ?_, hk⟩
  · rw [g0, g1, g2, g3, g4, g5, g6, g7, g8]
  · rw [g0, g1, g2, g3, g4, g5, g6, g7, g8, g9]

end
-- ==== Proof.UpIdealKit.lean ====
module

public import proofs.«01_k».proof.Proof.Gen.UpIdeal.Frame
public import proofs.«01_k».proof.Proof.Gen.UpIdeal.Skeleton
public import proofs.«01_k».proof.Proof.Gen.UpIdeal.Points
public import Idealize.ShloMosaic.Lib.Pipeline.FrameBody
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.UpIdeal.Hand

open Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The first branch of the body is taken at the first column step. -/
abbrev cond1 (i : grid0.Coords) : Prop := (Scalar.cmpi .ne (Scalar.extui (Scalar.cmpi .eq (BitVec.ofNat 32 (i 1).val) 0#32)) 0#32) = 1#1

/-- The row step of a point. -/
theorem row_val (t : Fin cfg0.N) : (grid0.coords t 0).val = t.val / 11 % 32 := Pipeline.Grid.coords_val t 0 (by decide) rfl
/-- The column step of a point. -/
theorem col_val (t : Fin cfg0.N) : (grid0.coords t 1).val = t.val % 11 :=
  (Pipeline.Grid.coords_val t 1 (by decide) rfl : _ = t.val / 1 % 11).trans (by rw [Nat.div_one])

theorem lt_points (t : Fin cfg0.N) : t.val < 352 := Nat.lt_of_lt_of_eq t.isLt N_0

/-- The first branch is taken exactly at the points ≡ 0 (mod 11). -/
theorem cond1_iff (t : Fin cfg0.N) : cond1 (grid0.coords t) ↔ t.val % 11 = 0 := by
  have ht := lt_points t
  simp only [cond1, col_val]
  word_cmp
/-- The last branch is taken exactly at the points ≡ 10 (mod 11). -/
theorem cond2_iff (t : Fin cfg0.N) : k0_cond2 (grid0.coords t) = 1#1 ↔ t.val % 11 = 10 := by
  have ht := lt_points t
  simp only [k0_cond2, col_val]
  word_cmp

/-- The scratch buffers as the body is handed them. -/
abbrev sc0 : Memref sig .tc .vmem S1040x2048 .bf16 := Memref.whole cc0_scratch0
abbrev sc1 : Memref sig .tc .vmem S1040x256 .f32 := Memref.whole cc0_scratch1
abbrev sc2 : Memref sig .tc .vmem S1040x256 .f32 := Memref.whole cc0_scratch2
abbrev sc3 : Memref sig .tc .vmem S1040x256 .f32 := Memref.whole cc0_scratch3
abbrev sc4 : Memref sig .tc .vmem S1040x256 .f32 := Memref.whole cc0_scratch4

/-- What the launch hands the body beside the windows: every scratch buffer at anything. -/
theorem rest_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

end Cert.UpIdeal.Hand

end
-- ==== Proof.UpIdealRun.lean ====
module

public import proofs.«01_k».proof.Proof.UpIdealKit

@[expose] public section

set_option maxRecDepth 16384

noncomputable section

namespace Cert.UpIdeal.Hand

open Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

-- the proof term of the whole body is large, so that closing the definition takes more than the default budget
set_option maxHeartbeats 1000000 in
/-- The body in the case A: the pieces that its stores leave in the output and in the scratch buffers, last first, and that
    with the inputs at `x0` … `x5` and the output at `y` it runs to those pieces written. -/
noncomputable def runA (c : Dev nD) (i : grid0.Coords) (arg2 : Memref sig .tc .vmem S1024x2048 .bf16) (harg2 : arg2.IsWhole) (arg3 : Memref sig .tc .vmem S16x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x11264 .f32) (harg6 : arg6.IsWhole) (arg7 : Memref sig .tc .vmem S1x1x11264 .f32) (harg7 : arg7.IsWhole) (arg8 : Memref sig .tc .vmem S1024x5632 .bf16) (harg8 : arg8.IsWhole) (arg9 : Memref sig .tc .vmem S1040x2048 .bf16) (harg9 : arg9.IsWhole) (arg10 : Memref sig .tc .vmem S1040x256 .f32) (harg10 : arg10.IsWhole) (arg11 : Memref sig .tc .vmem S1040x256 .f32) (harg11 : arg11.IsWhole) (arg12 : Memref sig .tc .vmem S1040x256 .f32) (harg12 : arg12.IsWhole) (arg13 : Memref sig .tc .vmem S1040x256 .f32) (harg13 : arg13.IsWhole) (hc1 : cond1 i) (hc2 : ¬k0_cond2 i = 1#1)
    (x0 : Vec F S1024x2048 .bf16) (x1 : Vec F S16x2048 .bf16) (x2 : Vec F S1x2048x512 .bf16) (x3 : Vec F S1x2048x512 .bf16) (x4 : Vec F S1x3x11264 .f32) (x5 : Vec F S1x1x11264 .f32) (y : Vec F S1024x5632 .bf16) :
    Σ' (L : List (View.Piece (Elt F) S1024x5632 .bf16)), Σ' (LE : List (View.Piece (Elt F) S1040x2048 .bf16)), Σ' (LG : List (View.Piece (Elt F) S1040x256 .f32)), Σ' (LU : List (View.Piece (Elt F) S1040x256 .f32)), Σ' (LGB : List (View.Piece (Elt F) S1040x256 .f32)), { LUB : List (View.Piece (Elt F) S1040x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (arg8.view.loc (c : Thread nD τ) ↦[arg8.view.set]{fullShare} arg8.view.writes (Elt F) (harg8.unread y) L) ∗ (∃ f, arg9.view.loc (c : Thread nD τ) ↦[arg9.view.set]{fullShare} arg9.view.writes (Elt F) f LE) ∗ (∃ f, arg10.view.loc (c : Thread nD τ) ↦[arg10.view.set]{fullShare} arg10.view.writes (Elt F) f LG) ∗ (∃ f, arg11.view.loc (c : Thread nD τ) ↦[arg11.view.set]{fullShare} arg11.view.writes (Elt F) f LU) ∗ (∃ f, arg12.view.loc (c : Thread nD τ) ↦[arg12.view.set]{fullShare} arg12.view.writes (Elt F) f LGB) ∗ (∃ f, arg13.view.loc (c : Thread nD τ) ↦[arg13.view.set]{fullShare} arg13.view.writes (Elt F) f LUB)) -∗ K ⟨⟩))
          ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0_ffn_up_eq_skeleton]; unfold cc0_ffn_up_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fy, %hfy, Hy⟩, ⟨%d_arg9, %f_arg9, -, H_arg9⟩, ⟨%d_arg10, %f_arg10, -, H_arg10⟩, ⟨%d_arg11, %f_arg11, -, H_arg11⟩, ⟨%d_arg12, %f_arg12, -, H_arg12⟩, ⟨%d_arg13, %f_arg13, -, H_arg13⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfy
    sl_exec (disch := first | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [Hy]; · iexact Hy
    isplitl [H_arg9]; · iexists _; iexact H_arg9
    isplitl [H_arg10]; · iexists _; iexact H_arg10
    isplitl [H_arg11]; · iexists _; iexact H_arg11
    isplitl [H_arg12]; · iexists _; iexact H_arg12
    iexists _; iexact H_arg13

-- the proof term of the whole body is large, so that closing the definition takes more than the default budget
set_option maxHeartbeats 1000000 in
/-- The body in the case B: the pieces that its stores leave in the output and in the scratch buffers, last first, and that
    with the inputs at `x0` … `x5` and the output at `y` it runs to those pieces written. -/
noncomputable def runB (c : Dev nD) (i : grid0.Coords) (arg2 : Memref sig .tc .vmem S1024x2048 .bf16) (harg2 : arg2.IsWhole) (arg3 : Memref sig .tc .vmem S16x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x11264 .f32) (harg6 : arg6.IsWhole) (arg7 : Memref sig .tc .vmem S1x1x11264 .f32) (harg7 : arg7.IsWhole) (arg8 : Memref sig .tc .vmem S1024x5632 .bf16) (harg8 : arg8.IsWhole) (arg9 : Memref sig .tc .vmem S1040x2048 .bf16) (harg9 : arg9.IsWhole) (arg10 : Memref sig .tc .vmem S1040x256 .f32) (harg10 : arg10.IsWhole) (arg11 : Memref sig .tc .vmem S1040x256 .f32) (harg11 : arg11.IsWhole) (arg12 : Memref sig .tc .vmem S1040x256 .f32) (harg12 : arg12.IsWhole) (arg13 : Memref sig .tc .vmem S1040x256 .f32) (harg13 : arg13.IsWhole) (hc1 : ¬cond1 i) (hc2 : ¬k0_cond2 i = 1#1)
    (x0 : Vec F S1024x2048 .bf16) (x1 : Vec F S16x2048 .bf16) (x2 : Vec F S1x2048x512 .bf16) (x3 : Vec F S1x2048x512 .bf16) (x4 : Vec F S1x3x11264 .f32) (x5 : Vec F S1x1x11264 .f32) (y : Vec F S1024x5632 .bf16) (xe : Vec F S1040x2048 .bf16) (gb : Vec F S1040x256 .f32) (ub : Vec F S1040x256 .f32) :
    Σ' (L : List (View.Piece (Elt F) S1024x5632 .bf16)), Σ' (LG : List (View.Piece (Elt F) S1040x256 .f32)), Σ' (LU : List (View.Piece (Elt F) S1040x256 .f32)), Σ' (LGB : List (View.Piece (Elt F) S1040x256 .f32)), { LUB : List (View.Piece (Elt F) S1040x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y ∗ owns (c : Thread nD τ) arg9 fullShare xe ∗ (∃ d, owns (c : Thread nD τ) arg10 fullShare d) ∗ (∃ d, owns (c : Thread nD τ) arg11 fullShare d) ∗ owns (c : Thread nD τ) arg12 fullShare gb ∗ owns (c : Thread nD τ) arg13 fullShare ub
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (arg8.view.loc (c : Thread nD τ) ↦[arg8.view.set]{fullShare} arg8.view.writes (Elt F) (harg8.unread y) L) ∗ owns (c : Thread nD τ) arg9 fullShare xe ∗ (∃ f, arg10.view.loc (c : Thread nD τ) ↦[arg10.view.set]{fullShare} arg10.view.writes (Elt F) f LG) ∗ (∃ f, arg11.view.loc (c : Thread nD τ) ↦[arg11.view.set]{fullShare} arg11.view.writes (Elt F) f LU) ∗ (∃ f, arg12.view.loc (c : Thread nD τ) ↦[arg12.view.set]{fullShare} arg12.view.writes (Elt F) f LGB) ∗ (∃ f, arg13.view.loc (c : Thread nD τ) ↦[arg13.view.set]{fullShare} arg13.view.writes (Elt F) f LUB)) -∗ K ⟨⟩))
          ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_ffn_up_eq_skeleton]; unfold cc0_ffn_up_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fy, %hfy, Hy⟩, ⟨%f_arg9, %hf_arg9, H_arg9⟩, ⟨%d_arg10, %f_arg10, -, H_arg10⟩, ⟨%d_arg11, %f_arg11, -, H_arg11⟩, ⟨%f_arg12, %hf_arg12, H_arg12⟩, ⟨%f_arg13, %hf_arg13, H_arg13⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfy; obtain rfl := harg9.eq_unread hf_arg9; obtain rfl := harg12.eq_unread hf_arg12; obtain rfl := harg13.eq_unread hf_arg13
    sl_exec (disch := first | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [Hy]; · iexact Hy
    isplitl [H_arg9]
    · iexists _; isplitr; · ipureintro; exact harg9.read_unread _
      iexact H_arg9
    isplitl [H_arg10]; · iexists _; iexact H_arg10
    isplitl [H_arg11]; · iexists _; iexact H_arg11
    isplitl [H_arg12]; · iexists _; iexact H_arg12
    iexists _; iexact H_arg13

-- the proof term of the whole body is large, so that closing the definition takes more than the default budget
set_option maxHeartbeats 1000000 in
/-- The body in the case C: the pieces that its stores leave in the output and in the scratch buffers, last first, and that
    with the inputs at `x0` … `x5` and the output at `y` it runs to those pieces written. -/
noncomputable def runC (c : Dev nD) (i : grid0.Coords) (arg2 : Memref sig .tc .vmem S1024x2048 .bf16) (harg2 : arg2.IsWhole) (arg3 : Memref sig .tc .vmem S16x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x11264 .f32) (harg6 : arg6.IsWhole) (arg7 : Memref sig .tc .vmem S1x1x11264 .f32) (harg7 : arg7.IsWhole) (arg8 : Memref sig .tc .vmem S1024x5632 .bf16) (harg8 : arg8.IsWhole) (arg9 : Memref sig .tc .vmem S1040x2048 .bf16) (harg9 : arg9.IsWhole) (arg10 : Memref sig .tc .vmem S1040x256 .f32) (harg10 : arg10.IsWhole) (arg11 : Memref sig .tc .vmem S1040x256 .f32) (harg11 : arg11.IsWhole) (arg12 : Memref sig .tc .vmem S1040x256 .f32) (harg12 : arg12.IsWhole) (arg13 : Memref sig .tc .vmem S1040x256 .f32) (harg13 : arg13.IsWhole) (hc1 : ¬cond1 i) (hc2 : k0_cond2 i = 1#1)
    (x0 : Vec F S1024x2048 .bf16) (x1 : Vec F S16x2048 .bf16) (x2 : Vec F S1x2048x512 .bf16) (x3 : Vec F S1x2048x512 .bf16) (x4 : Vec F S1x3x11264 .f32) (x5 : Vec F S1x1x11264 .f32) (y : Vec F S1024x5632 .bf16) (xe : Vec F S1040x2048 .bf16) (gb : Vec F S1040x256 .f32) (ub : Vec F S1040x256 .f32) :
    Σ' (L : List (View.Piece (Elt F) S1024x5632 .bf16)), Σ' (LG : List (View.Piece (Elt F) S1040x256 .f32)), Σ' (LU : List (View.Piece (Elt F) S1040x256 .f32)), Σ' (LGB : List (View.Piece (Elt F) S1040x256 .f32)), { LUB : List (View.Piece (Elt F) S1040x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y ∗ owns (c : Thread nD τ) arg9 fullShare xe ∗ (∃ d, owns (c : Thread nD τ) arg10 fullShare d) ∗ (∃ d, owns (c : Thread nD τ) arg11 fullShare d) ∗ owns (c : Thread nD τ) arg12 fullShare gb ∗ owns (c : Thread nD τ) arg13 fullShare ub
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (arg8.view.loc (c : Thread nD τ) ↦[arg8.view.set]{fullShare} arg8.view.writes (Elt F) (harg8.unread y) L) ∗ owns (c : Thread nD τ) arg9 fullShare xe ∗ (∃ f, arg10.view.loc (c : Thread nD τ) ↦[arg10.view.set]{fullShare} arg10.view.writes (Elt F) f LG) ∗ (∃ f, arg11.view.loc (c : Thread nD τ) ↦[arg11.view.set]{fullShare} arg11.view.writes (Elt F) f LU) ∗ (∃ f, arg12.view.loc (c : Thread nD τ) ↦[arg12.view.set]{fullShare} arg12.view.writes (Elt F) f LGB) ∗ (∃ f, arg13.view.loc (c : Thread nD τ) ↦[arg13.view.set]{fullShare} arg13.view.writes (Elt F) f LUB)) -∗ K ⟨⟩))
          ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_ffn_up_eq_skeleton]; unfold cc0_ffn_up_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fy, %hfy, Hy⟩, ⟨%f_arg9, %hf_arg9, H_arg9⟩, ⟨%d_arg10, %f_arg10, -, H_arg10⟩, ⟨%d_arg11, %f_arg11, -, H_arg11⟩, ⟨%f_arg12, %hf_arg12, H_arg12⟩, ⟨%f_arg13, %hf_arg13, H_arg13⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfy; obtain rfl := harg9.eq_unread hf_arg9; obtain rfl := harg12.eq_unread hf_arg12; obtain rfl := harg13.eq_unread hf_arg13
    sl_exec (disch := first | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [Hy]; · iexact Hy
    isplitl [H_arg9]
    · iexists _; isplitr; · ipureintro; exact harg9.read_unread _
      iexact H_arg9
    isplitl [H_arg10]; · iexists _; iexact H_arg10
    isplitl [H_arg11]; · iexists _; iexact H_arg11
    isplitl [H_arg12]; · iexists _; iexact H_arg12
    iexists _; iexact H_arg13

end Cert.UpIdeal.Hand

end
-- ==== Proof.UpIdealPieces.lean ====
module

public import proofs.«01_k».proof.Proof.UpIdealRun
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.UpIdeal.Hand

open Cert.UpIdeal.Gen
open Idealize.ShloMosaic Idealize.ShloMosaic.TcCoe Idealize.ShloMosaic.Tactic

variable {F : FTy → Type} [FloatOps F]

/-- Columns `256 q` … of the output block. -/
theorem OR_inb (q : Fin 22) : ∀ a, (![0, 256 * q.val] : Fin 2 → ℕ) a + S1024x256.size a ≤ S1024x5632.size a := by
  revert q; decide
abbrev OR (q : Fin 22) : Rect S1024x5632 := Rect.unit (s := S1024x5632) ![0, 256 * q.val] S1024x256.size (OR_inb q)

theorem KW_inb (n : Fin 44) : ∀ a, (![0, 0, 256 * n.val] : Fin 3 → ℕ) a + S1x3x256.size a ≤ S1x3x11264.size a := by
  revert n; decide
theorem KB_inb (n : Fin 44) : ∀ a, (![0, 0, 256 * n.val] : Fin 3 → ℕ) a + S1x1x256.size a ≤ S1x1x11264.size a := by
  revert n; decide
/-- The convolution's weights and its bias at the columns `256 n` …. -/
def KW (x4 : Vec F S1x3x11264 .f32) (n : Fin 44) : Vec F S1x3x256 .f32 := View.ld x4 (Rect.unit (s := S1x3x11264) ![0, 0, 256 * n.val] S1x3x256.size (KW_inb n))
def KB (x5 : Vec F S1x1x11264 .f32) (n : Fin 44) : Vec F S1x1x256 .f32 := View.ld x5 (Rect.unit (s := S1x1x11264) ![0, 0, 256 * n.val] S1x1x256.size (KB_inb n))

/-- The left and the right half of a block of weights. -/
def lo (x : Vec F S1x2048x512 .bf16) : Vec F S1x2048x256 .bf16 := View.ld x (Rect.unit (s := S1x2048x512) ![0, 0, 0] S1x2048x256.size inb_S1x2048x512_S1x2048x256_0_0_0)
def hi (x : Vec F S1x2048x512 .bf16) : Vec F S1x2048x256 .bf16 := View.ld x (Rect.unit (s := S1x2048x512) ![0, 0, 256] S1x2048x256.size inb_S1x2048x512_S1x2048x256_0_0_256)

/-- What the body stores for one chunk of columns, from the chunk's two products and its weights. -/
def EP (g u : Vec F S1040x256 .f32) (wg : Vec F S1x3x256 .f32) (bg : Vec F S1x1x256 .f32) (wu : Vec F S1x3x256 .f32) (bu : Vec F S1x1x256 .f32) : FVec F S1024x256 .bf16 :=
  k0_pay14 g (k0_pay11 wg) (k0_pay12 g wg) (k0_pay13 g wg) bg u wu bu

theorem ep5 (g u : Vec F S1040x256 .f32) (wg : Vec F S1x3x256 .f32) (bg : Vec F S1x1x256 .f32) (wu : Vec F S1x3x256 .f32) (bu : Vec F S1x1x256 .f32) :
    k0_pay14 g (k0_pay11 wg) (k0_pay12 g wg) (k0_pay13 g wg) bg u wu bu = EP g u wg bg wu bu := rfl
theorem ep10 (g u : Vec F S1040x256 .f32) (wg : Vec F S1x3x256 .f32) (bg : Vec F S1x1x256 .f32) (wu : Vec F S1x3x256 .f32) (bu : Vec F S1x1x256 .f32) :
    k0_pay1 (k0_pay17 g wg bg) u wu bu = EP g u wg bg wu bu := rfl
theorem ep15 (g u : Vec F S1040x256 .f32) (wg : Vec F S1x3x256 .f32) (bg : Vec F S1x1x256 .f32) (wu : Vec F S1x3x256 .f32) (bu : Vec F S1x1x256 .f32) :
    k0_pay2 (k0_pay3 g wg bg) (k0_pay4 u wu) bu = EP g u wg bg wu bu := rfl

/-- The chunk `q` of the output block, from its two products. -/
def EC (q : Fin 22) (g u : Vec F S1040x256 .f32) (x4 : Vec F S1x3x11264 .f32) (x5 : Vec F S1x1x11264 .f32) : FVec F S1024x256 .bf16 :=
  EP g u (KW x4 ⟨q.val, by omega⟩) (KB x5 ⟨q.val, by omega⟩) (KW x4 ⟨22 + q.val, by omega⟩) (KB x5 ⟨22 + q.val, by omega⟩)

/-- A store whose offsets evaluate to chunk `q`'s is chunk `q`'s. -/
theorem piece_of (q : Fin 22) {o : Fin 2 → ℕ} {o1 o2 o3 o4 : Fin 3 → ℕ} (g u : Vec F S1040x256 .f32) (x4 : Vec F S1x3x11264 .f32) (x5 : Vec F S1x1x11264 .f32)
    (ho : o = ![0, 256 * q.val]) (h1 : o1 = ![0, 0, 256 * q.val]) (h2 : o2 = ![0, 0, 256 * q.val]) (h3 : o3 = ![0, 0, 256 * (22 + q.val)]) (h4 : o4 = ![0, 0, 256 * (22 + q.val)])
    (i0 : ∀ a, o a + S1024x256.size a ≤ S1024x5632.size a) (i1 : ∀ a, o1 a + S1x3x256.size a ≤ S1x3x11264.size a) (i2 : ∀ a, o2 a + S1x1x256.size a ≤ S1x1x11264.size a)
    (i3 : ∀ a, o3 a + S1x3x256.size a ≤ S1x3x11264.size a) (i4 : ∀ a, o4 a + S1x1x256.size a ≤ S1x1x11264.size a) :
    (⟨Rect.unit (s := S1024x5632) o S1024x256.size i0, EP g u (View.ld x4 (Rect.unit (s := S1x3x11264) o1 S1x3x256.size i1)) (View.ld x5 (Rect.unit (s := S1x1x11264) o2 S1x1x256.size i2))
      (View.ld x4 (Rect.unit (s := S1x3x11264) o3 S1x3x256.size i3)) (View.ld x5 (Rect.unit (s := S1x1x11264) o4 S1x1x256.size i4))⟩ : View.Piece (Elt F) S1024x5632 .bf16)
      = ⟨OR q, EC q g u x4 x5⟩ := by
  subst ho; subst h1; subst h2; subst h3; subst h4; rfl

/-- The offsets of the loads and stores, as multiples of a chunk's width. -/
theorem off1 (i : grid0.Coords) (j : Fin 11) (h : (i 1).val = j.val) : k0_off1 i = ![0, 0, 256 * (2 * j.val - 1)] := by
  unfold k0_off1; rw [h]; clear h; revert j; decide
theorem off2 (i : grid0.Coords) (j : Fin 11) (h : (i 1).val = j.val) : k0_off2 i = ![0, 0, 256 * (2 * j.val - 1)] := by
  unfold k0_off2; rw [h]; clear h; revert j; decide
theorem off3 (i : grid0.Coords) (j : Fin 11) (h : (i 1).val = j.val) : k0_off3 i = ![0, 0, 256 * (22 + (2 * j.val - 1))] := by
  unfold k0_off3; rw [h]; clear h; revert j; decide
theorem off4 (i : grid0.Coords) (j : Fin 11) (h : (i 1).val = j.val) : k0_off4 i = ![0, 0, 256 * (22 + (2 * j.val - 1))] := by
  unfold k0_off4; rw [h]; clear h; revert j; decide
theorem off5 (i : grid0.Coords) (j : Fin 11) (h : (i 1).val = j.val) : k0_off5 i = ![0, 256 * (2 * j.val - 1)] := by
  unfold k0_off5; rw [h]; clear h; revert j; decide
theorem off6 (i : grid0.Coords) (j : Fin 11) (h : (i 1).val = j.val) : k0_off6 i = ![0, 0, 256 * (2 * j.val)] := by
  unfold k0_off6; rw [h]; clear h; revert j; decide
theorem off7 (i : grid0.Coords) (j : Fin 11) (h : (i 1).val = j.val) : k0_off7 i = ![0, 0, 256 * (2 * j.val)] := by
  unfold k0_off7; rw [h]; clear h; revert j; decide
theorem off8 (i : grid0.Coords) (j : Fin 11) (h : (i 1).val = j.val) : k0_off8 i = ![0, 0, 256 * (22 + 2 * j.val)] := by
  unfold k0_off8; rw [h]; clear h; revert j; decide
theorem off9 (i : grid0.Coords) (j : Fin 11) (h : (i 1).val = j.val) : k0_off9 i = ![0, 0, 256 * (22 + 2 * j.val)] := by
  unfold k0_off9; rw [h]; clear h; revert j; decide
theorem off10 (i : grid0.Coords) (j : Fin 11) (h : (i 1).val = j.val) : k0_off10 i = ![0, 256 * (2 * j.val)] := by
  unfold k0_off10; rw [h]; clear h; revert j; decide
theorem off11 (i : grid0.Coords) (j : Fin 11) (h : (i 1).val = j.val) : k0_off11 i = ![0, 0, 256 * (2 * j.val + 1)] := by
  unfold k0_off11; rw [h]; clear h; revert j; decide
theorem off12 (i : grid0.Coords) (j : Fin 11) (h : (i 1).val = j.val) : k0_off12 i = ![0, 0, 256 * (2 * j.val + 1)] := by
  unfold k0_off12; rw [h]; clear h; revert j; decide
theorem off13 (i : grid0.Coords) (j : Fin 11) (h : (i 1).val = j.val) : k0_off13 i = ![0, 0, 256 * (22 + (2 * j.val + 1))] := by
  unfold k0_off13; rw [h]; clear h; revert j; decide
theorem off14 (i : grid0.Coords) (j : Fin 11) (h : (i 1).val = j.val) : k0_off14 i = ![0, 0, 256 * (22 + (2 * j.val + 1))] := by
  unfold k0_off14; rw [h]; clear h; revert j; decide
theorem off15 (i : grid0.Coords) (j : Fin 11) (h : (i 1).val = j.val) : k0_off15 i = ![0, 256 * (2 * j.val + 1)] := by
  unfold k0_off15; rw [h]; clear h; revert j; decide

/-- The row block with its sixteen rows before it, as the first column step stores it. -/
def XE (i : grid0.Coords) (x0 : Vec F S1024x2048 .bf16) (x1 : Vec F S16x2048 .bf16) : Vec F S1040x2048 .bf16 :=
  View.canon [⟨Rect.unit (s := S1040x2048) ![16, 0] S1024x2048.size inb_S1040x2048_S1024x2048_16_0, k0_pay6 x0⟩, ⟨Rect.unit (s := S1040x2048) ![0, 0] S16x2048.size inb_S1040x2048_S16x2048_0_0, k0_pay5 i x1⟩]
abbrev wh (x : Vec F S1040x256 .f32) : View.Piece (Elt F) S1040x256 .f32 := ⟨Rect.unit (s := S1040x256) ![0, 0] S1040x256.size inb_S1040x256_S1040x256_0_0, x⟩

/-- A load of a whole buffer reads what the stores left. -/
theorem cov_lit {S : Shape} {e : EltTy} {sp : Space} (v : View sig .tc sp S e) (L : List (View.Piece (Elt F) S e)) {off : Fin S.rank → ℕ} {sz : Fin S.rank → ℕ}
    (inb : ∀ a, off a + sz a ≤ S.size a) (hs : sz = S.size) (h : ∀ a, off a = 0) :
    HEq (v.readCov L (Rect.unit off sz inb).toLoadRect) (View.canon L) := by
  subst hs
  rw [View.readCov_eq_canon']
  exact heq_of_eq (View.ld_unit_lit inb _ h)
theorem xe_cov {sp : Space} (v : View sig .tc sp S1040x2048 .bf16) (L : List (View.Piece (Elt F) S1040x2048 .bf16)) (inb) :
    v.readCov L (no_index (Rect.unit (s := S1040x2048) ![0, 0] ![1040, 2048] inb).toLoadRect) = View.canon L :=
  eq_of_heq (cov_lit v L inb (by decide) (by decide))

/-- What the first column step stores in the output block. -/
theorem runA_L (c : Dev nD) (i : grid0.Coords) (arg2 : Memref sig .tc .vmem S1024x2048 .bf16) (harg2 : arg2.IsWhole) (arg3 : Memref sig .tc .vmem S16x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x11264 .f32) (harg6 : arg6.IsWhole) (arg7 : Memref sig .tc .vmem S1x1x11264 .f32) (harg7 : arg7.IsWhole) (arg8 : Memref sig .tc .vmem S1024x5632 .bf16) (harg8 : arg8.IsWhole) (arg9 : Memref sig .tc .vmem S1040x2048 .bf16) (harg9 : arg9.IsWhole) (arg10 : Memref sig .tc .vmem S1040x256 .f32) (harg10 : arg10.IsWhole) (arg11 : Memref sig .tc .vmem S1040x256 .f32) (harg11 : arg11.IsWhole) (arg12 : Memref sig .tc .vmem S1040x256 .f32) (harg12 : arg12.IsWhole) (arg13 : Memref sig .tc .vmem S1040x256 .f32) (harg13 : arg13.IsWhole) (hc1 : cond1 i) (hc2 : ¬k0_cond2 i = 1#1)
    (x0 : Vec F S1024x2048 .bf16) (x1 : Vec F S16x2048 .bf16) (x2 : Vec F S1x2048x512 .bf16) (x3 : Vec F S1x2048x512 .bf16) (x4 : Vec F S1x3x11264 .f32) (x5 : Vec F S1x1x11264 .f32) (y : Vec F S1024x5632 .bf16) (j : Fin 11) (hj : (i 1).val = j.val) :
    (runA c i arg2 harg2 arg3 harg3 arg4 harg4 arg5 harg5 arg6 harg6 arg7 harg7 arg8 harg8 arg9 harg9 arg10 harg10 arg11 harg11 arg12 harg12 arg13 harg13 hc1 hc2 x0 x1 x2 x3 x4 x5 y).1 = [⟨OR ⟨2 * j.val, by omega⟩, EC ⟨2 * j.val, by omega⟩ (k0_pay9 (XE i x0 x1) (lo x2)) (k0_pay9 (XE i x0 x1) (lo x3)) x4 x5⟩, ⟨OR ⟨2 * j.val - 1, by omega⟩, EC ⟨2 * j.val - 1, by omega⟩ (k0_pay7 (F := F)) (k0_pay7 (F := F)) x4 x5⟩] := by
  frame_out [xe_cov]
  simp only [ep5, ep10]
  exact congrArg₂ List.cons (piece_of ⟨2 * j.val, by omega⟩ _ _ _ _ (off10 i j hj) (off6 i j hj) (off7 i j hj) (off8 i j hj) (off9 i j hj) _ _ _ _ _) (congrArg₂ List.cons (piece_of ⟨2 * j.val - 1, by omega⟩ _ _ _ _ (off5 i j hj) (off1 i j hj) (off2 i j hj) (off3 i j hj) (off4 i j hj) _ _ _ _ _) rfl)
/-- What a middle column step stores in the output block. -/
theorem runB_L (c : Dev nD) (i : grid0.Coords) (arg2 : Memref sig .tc .vmem S1024x2048 .bf16) (harg2 : arg2.IsWhole) (arg3 : Memref sig .tc .vmem S16x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x11264 .f32) (harg6 : arg6.IsWhole) (arg7 : Memref sig .tc .vmem S1x1x11264 .f32) (harg7 : arg7.IsWhole) (arg8 : Memref sig .tc .vmem S1024x5632 .bf16) (harg8 : arg8.IsWhole) (arg9 : Memref sig .tc .vmem S1040x2048 .bf16) (harg9 : arg9.IsWhole) (arg10 : Memref sig .tc .vmem S1040x256 .f32) (harg10 : arg10.IsWhole) (arg11 : Memref sig .tc .vmem S1040x256 .f32) (harg11 : arg11.IsWhole) (arg12 : Memref sig .tc .vmem S1040x256 .f32) (harg12 : arg12.IsWhole) (arg13 : Memref sig .tc .vmem S1040x256 .f32) (harg13 : arg13.IsWhole) (hc1 : ¬cond1 i) (hc2 : ¬k0_cond2 i = 1#1)
    (x0 : Vec F S1024x2048 .bf16) (x1 : Vec F S16x2048 .bf16) (x2 : Vec F S1x2048x512 .bf16) (x3 : Vec F S1x2048x512 .bf16) (x4 : Vec F S1x3x11264 .f32) (x5 : Vec F S1x1x11264 .f32) (y : Vec F S1024x5632 .bf16) (xe : Vec F S1040x2048 .bf16) (gb : Vec F S1040x256 .f32) (ub : Vec F S1040x256 .f32) (j : Fin 11) (hj : (i 1).val = j.val) :
    (runB c i arg2 harg2 arg3 harg3 arg4 harg4 arg5 harg5 arg6 harg6 arg7 harg7 arg8 harg8 arg9 harg9 arg10 harg10 arg11 harg11 arg12 harg12 arg13 harg13 hc1 hc2 x0 x1 x2 x3 x4 x5 y xe gb ub).1 = [⟨OR ⟨2 * j.val, by omega⟩, EC ⟨2 * j.val, by omega⟩ (k0_pay9 xe (lo x2)) (k0_pay9 xe (lo x3)) x4 x5⟩, ⟨OR ⟨2 * j.val - 1, by omega⟩, EC ⟨2 * j.val - 1, by omega⟩ gb ub x4 x5⟩] := by
  frame_out
  simp only [ep5, ep10]
  exact (congrArg₂ List.cons (piece_of ⟨2 * j.val, by omega⟩ _ _ _ _ (off10 i j hj) (off6 i j hj) (off7 i j hj) (off8 i j hj) (off9 i j hj) _ _ _ _ _) (congrArg₂ List.cons (piece_of ⟨2 * j.val - 1, by omega⟩ _ _ _ _ (off5 i j hj) (off1 i j hj) (off2 i j hj) (off3 i j hj) (off4 i j hj) _ _ _ _ _) rfl))
/-- What the last column step stores in the output block. -/
theorem runC_L (c : Dev nD) (i : grid0.Coords) (arg2 : Memref sig .tc .vmem S1024x2048 .bf16) (harg2 : arg2.IsWhole) (arg3 : Memref sig .tc .vmem S16x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x11264 .f32) (harg6 : arg6.IsWhole) (arg7 : Memref sig .tc .vmem S1x1x11264 .f32) (harg7 : arg7.IsWhole) (arg8 : Memref sig .tc .vmem S1024x5632 .bf16) (harg8 : arg8.IsWhole) (arg9 : Memref sig .tc .vmem S1040x2048 .bf16) (harg9 : arg9.IsWhole) (arg10 : Memref sig .tc .vmem S1040x256 .f32) (harg10 : arg10.IsWhole) (arg11 : Memref sig .tc .vmem S1040x256 .f32) (harg11 : arg11.IsWhole) (arg12 : Memref sig .tc .vmem S1040x256 .f32) (harg12 : arg12.IsWhole) (arg13 : Memref sig .tc .vmem S1040x256 .f32) (harg13 : arg13.IsWhole) (hc1 : ¬cond1 i) (hc2 : k0_cond2 i = 1#1)
    (x0 : Vec F S1024x2048 .bf16) (x1 : Vec F S16x2048 .bf16) (x2 : Vec F S1x2048x512 .bf16) (x3 : Vec F S1x2048x512 .bf16) (x4 : Vec F S1x3x11264 .f32) (x5 : Vec F S1x1x11264 .f32) (y : Vec F S1024x5632 .bf16) (xe : Vec F S1040x2048 .bf16) (gb : Vec F S1040x256 .f32) (ub : Vec F S1040x256 .f32) (j : Fin 11) (hj : (i 1).val = j.val) :
    (runC c i arg2 harg2 arg3 harg3 arg4 harg4 arg5 harg5 arg6 harg6 arg7 harg7 arg8 harg8 arg9 harg9 arg10 harg10 arg11 harg11 arg12 harg12 arg13 harg13 hc1 hc2 x0 x1 x2 x3 x4 x5 y xe gb ub).1 = [⟨OR ⟨2 * j.val + 1, by omega⟩, EC ⟨2 * j.val + 1, by omega⟩ (k0_pay9 xe (hi x2)) (k0_pay9 xe (hi x3)) x4 x5⟩, ⟨OR ⟨2 * j.val, by omega⟩, EC ⟨2 * j.val, by omega⟩ (k0_pay9 xe (lo x2)) (k0_pay9 xe (lo x3)) x4 x5⟩, ⟨OR ⟨2 * j.val - 1, by omega⟩, EC ⟨2 * j.val - 1, by omega⟩ gb ub x4 x5⟩] := by
  frame_out
  simp only [ep5, ep10, ep15]
  exact congrArg₂ List.cons (piece_of ⟨2 * j.val + 1, by omega⟩ _ _ _ _ (off15 i j hj) (off11 i j hj) (off12 i j hj) (off13 i j hj) (off14 i j hj) _ _ _ _ _) (congrArg₂ List.cons (piece_of ⟨2 * j.val, by omega⟩ _ _ _ _ (off10 i j hj) (off6 i j hj) (off7 i j hj) (off8 i j hj) (off9 i j hj) _ _ _ _ _) (congrArg₂ List.cons (piece_of ⟨2 * j.val - 1, by omega⟩ _ _ _ _ (off5 i j hj) (off1 i j hj) (off2 i j hj) (off3 i j hj) (off4 i j hj) _ _ _ _ _) rfl))
/-- What the first column step stores of the row block. -/
theorem runA_E (c : Dev nD) (i : grid0.Coords) (arg2 : Memref sig .tc .vmem S1024x2048 .bf16) (harg2 : arg2.IsWhole) (arg3 : Memref sig .tc .vmem S16x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x11264 .f32) (harg6 : arg6.IsWhole) (arg7 : Memref sig .tc .vmem S1x1x11264 .f32) (harg7 : arg7.IsWhole) (arg8 : Memref sig .tc .vmem S1024x5632 .bf16) (harg8 : arg8.IsWhole) (arg9 : Memref sig .tc .vmem S1040x2048 .bf16) (harg9 : arg9.IsWhole) (arg10 : Memref sig .tc .vmem S1040x256 .f32) (harg10 : arg10.IsWhole) (arg11 : Memref sig .tc .vmem S1040x256 .f32) (harg11 : arg11.IsWhole) (arg12 : Memref sig .tc .vmem S1040x256 .f32) (harg12 : arg12.IsWhole) (arg13 : Memref sig .tc .vmem S1040x256 .f32) (harg13 : arg13.IsWhole) (hc1 : cond1 i) (hc2 : ¬k0_cond2 i = 1#1)
    (x0 : Vec F S1024x2048 .bf16) (x1 : Vec F S16x2048 .bf16) (x2 : Vec F S1x2048x512 .bf16) (x3 : Vec F S1x2048x512 .bf16) (x4 : Vec F S1x3x11264 .f32) (x5 : Vec F S1x1x11264 .f32) (y : Vec F S1024x5632 .bf16)  :
    (runA c i arg2 harg2 arg3 harg3 arg4 harg4 arg5 harg5 arg6 harg6 arg7 harg7 arg8 harg8 arg9 harg9 arg10 harg10 arg11 harg11 arg12 harg12 arg13 harg13 hc1 hc2 x0 x1 x2 x3 x4 x5 y).2.1 = [⟨Rect.unit (s := S1040x2048) ![16, 0] S1024x2048.size inb_S1040x2048_S1024x2048_16_0, k0_pay6 x0⟩, ⟨Rect.unit (s := S1040x2048) ![0, 0] S16x2048.size inb_S1040x2048_S16x2048_0_0, k0_pay5 i x1⟩] := by
  frame_out [xe_cov]
  try rfl
/-- The gate product of the left half. -/
theorem runA_G (c : Dev nD) (i : grid0.Coords) (arg2 : Memref sig .tc .vmem S1024x2048 .bf16) (harg2 : arg2.IsWhole) (arg3 : Memref sig .tc .vmem S16x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x11264 .f32) (harg6 : arg6.IsWhole) (arg7 : Memref sig .tc .vmem S1x1x11264 .f32) (harg7 : arg7.IsWhole) (arg8 : Memref sig .tc .vmem S1024x5632 .bf16) (harg8 : arg8.IsWhole) (arg9 : Memref sig .tc .vmem S1040x2048 .bf16) (harg9 : arg9.IsWhole) (arg10 : Memref sig .tc .vmem S1040x256 .f32) (harg10 : arg10.IsWhole) (arg11 : Memref sig .tc .vmem S1040x256 .f32) (harg11 : arg11.IsWhole) (arg12 : Memref sig .tc .vmem S1040x256 .f32) (harg12 : arg12.IsWhole) (arg13 : Memref sig .tc .vmem S1040x256 .f32) (harg13 : arg13.IsWhole) (hc1 : cond1 i) (hc2 : ¬k0_cond2 i = 1#1)
    (x0 : Vec F S1024x2048 .bf16) (x1 : Vec F S16x2048 .bf16) (x2 : Vec F S1x2048x512 .bf16) (x3 : Vec F S1x2048x512 .bf16) (x4 : Vec F S1x3x11264 .f32) (x5 : Vec F S1x1x11264 .f32) (y : Vec F S1024x5632 .bf16)  :
    (runA c i arg2 harg2 arg3 harg3 arg4 harg4 arg5 harg5 arg6 harg6 arg7 harg7 arg8 harg8 arg9 harg9 arg10 harg10 arg11 harg11 arg12 harg12 arg13 harg13 hc1 hc2 x0 x1 x2 x3 x4 x5 y).2.2.1 = [wh (k0_pay9 (XE i x0 x1) (lo x2))] := by
  frame_out [xe_cov]
  try rfl
/-- The other product of the left half. -/
theorem runA_U (c : Dev nD) (i : grid0.Coords) (arg2 : Memref sig .tc .vmem S1024x2048 .bf16) (harg2 : arg2.IsWhole) (arg3 : Memref sig .tc .vmem S16x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x11264 .f32) (harg6 : arg6.IsWhole) (arg7 : Memref sig .tc .vmem S1x1x11264 .f32) (harg7 : arg7.IsWhole) (arg8 : Memref sig .tc .vmem S1024x5632 .bf16) (harg8 : arg8.IsWhole) (arg9 : Memref sig .tc .vmem S1040x2048 .bf16) (harg9 : arg9.IsWhole) (arg10 : Memref sig .tc .vmem S1040x256 .f32) (harg10 : arg10.IsWhole) (arg11 : Memref sig .tc .vmem S1040x256 .f32) (harg11 : arg11.IsWhole) (arg12 : Memref sig .tc .vmem S1040x256 .f32) (harg12 : arg12.IsWhole) (arg13 : Memref sig .tc .vmem S1040x256 .f32) (harg13 : arg13.IsWhole) (hc1 : cond1 i) (hc2 : ¬k0_cond2 i = 1#1)
    (x0 : Vec F S1024x2048 .bf16) (x1 : Vec F S16x2048 .bf16) (x2 : Vec F S1x2048x512 .bf16) (x3 : Vec F S1x2048x512 .bf16) (x4 : Vec F S1x3x11264 .f32) (x5 : Vec F S1x1x11264 .f32) (y : Vec F S1024x5632 .bf16)  :
    (runA c i arg2 harg2 arg3 harg3 arg4 harg4 arg5 harg5 arg6 harg6 arg7 harg7 arg8 harg8 arg9 harg9 arg10 harg10 arg11 harg11 arg12 harg12 arg13 harg13 hc1 hc2 x0 x1 x2 x3 x4 x5 y).2.2.2.1 = [wh (k0_pay9 (XE i x0 x1) (lo x3))] := by
  frame_out [xe_cov]
  try rfl
/-- The gate product of the right half. -/
theorem runA_GB (c : Dev nD) (i : grid0.Coords) (arg2 : Memref sig .tc .vmem S1024x2048 .bf16) (harg2 : arg2.IsWhole) (arg3 : Memref sig .tc .vmem S16x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x11264 .f32) (harg6 : arg6.IsWhole) (arg7 : Memref sig .tc .vmem S1x1x11264 .f32) (harg7 : arg7.IsWhole) (arg8 : Memref sig .tc .vmem S1024x5632 .bf16) (harg8 : arg8.IsWhole) (arg9 : Memref sig .tc .vmem S1040x2048 .bf16) (harg9 : arg9.IsWhole) (arg10 : Memref sig .tc .vmem S1040x256 .f32) (harg10 : arg10.IsWhole) (arg11 : Memref sig .tc .vmem S1040x256 .f32) (harg11 : arg11.IsWhole) (arg12 : Memref sig .tc .vmem S1040x256 .f32) (harg12 : arg12.IsWhole) (arg13 : Memref sig .tc .vmem S1040x256 .f32) (harg13 : arg13.IsWhole) (hc1 : cond1 i) (hc2 : ¬k0_cond2 i = 1#1)
    (x0 : Vec F S1024x2048 .bf16) (x1 : Vec F S16x2048 .bf16) (x2 : Vec F S1x2048x512 .bf16) (x3 : Vec F S1x2048x512 .bf16) (x4 : Vec F S1x3x11264 .f32) (x5 : Vec F S1x1x11264 .f32) (y : Vec F S1024x5632 .bf16)  :
    (runA c i arg2 harg2 arg3 harg3 arg4 harg4 arg5 harg5 arg6 harg6 arg7 harg7 arg8 harg8 arg9 harg9 arg10 harg10 arg11 harg11 arg12 harg12 arg13 harg13 hc1 hc2 x0 x1 x2 x3 x4 x5 y).2.2.2.2.1 = [wh (k0_pay9 (XE i x0 x1) (hi x2)), wh (k0_pay7 (F := F))] := by
  frame_out [xe_cov]
  try rfl
/-- The other product of the right half. -/
theorem runA_UB (c : Dev nD) (i : grid0.Coords) (arg2 : Memref sig .tc .vmem S1024x2048 .bf16) (harg2 : arg2.IsWhole) (arg3 : Memref sig .tc .vmem S16x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x11264 .f32) (harg6 : arg6.IsWhole) (arg7 : Memref sig .tc .vmem S1x1x11264 .f32) (harg7 : arg7.IsWhole) (arg8 : Memref sig .tc .vmem S1024x5632 .bf16) (harg8 : arg8.IsWhole) (arg9 : Memref sig .tc .vmem S1040x2048 .bf16) (harg9 : arg9.IsWhole) (arg10 : Memref sig .tc .vmem S1040x256 .f32) (harg10 : arg10.IsWhole) (arg11 : Memref sig .tc .vmem S1040x256 .f32) (harg11 : arg11.IsWhole) (arg12 : Memref sig .tc .vmem S1040x256 .f32) (harg12 : arg12.IsWhole) (arg13 : Memref sig .tc .vmem S1040x256 .f32) (harg13 : arg13.IsWhole) (hc1 : cond1 i) (hc2 : ¬k0_cond2 i = 1#1)
    (x0 : Vec F S1024x2048 .bf16) (x1 : Vec F S16x2048 .bf16) (x2 : Vec F S1x2048x512 .bf16) (x3 : Vec F S1x2048x512 .bf16) (x4 : Vec F S1x3x11264 .f32) (x5 : Vec F S1x1x11264 .f32) (y : Vec F S1024x5632 .bf16)  :
    (runA c i arg2 harg2 arg3 harg3 arg4 harg4 arg5 harg5 arg6 harg6 arg7 harg7 arg8 harg8 arg9 harg9 arg10 harg10 arg11 harg11 arg12 harg12 arg13 harg13 hc1 hc2 x0 x1 x2 x3 x4 x5 y).2.2.2.2.2.1 = [wh (k0_pay9 (XE i x0 x1) (hi x3)), wh (k0_pay7 (F := F))] := by
  frame_out [xe_cov]
  try rfl
/-- The gate product of the left half. -/
theorem runB_G (c : Dev nD) (i : grid0.Coords) (arg2 : Memref sig .tc .vmem S1024x2048 .bf16) (harg2 : arg2.IsWhole) (arg3 : Memref sig .tc .vmem S16x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x11264 .f32) (harg6 : arg6.IsWhole) (arg7 : Memref sig .tc .vmem S1x1x11264 .f32) (harg7 : arg7.IsWhole) (arg8 : Memref sig .tc .vmem S1024x5632 .bf16) (harg8 : arg8.IsWhole) (arg9 : Memref sig .tc .vmem S1040x2048 .bf16) (harg9 : arg9.IsWhole) (arg10 : Memref sig .tc .vmem S1040x256 .f32) (harg10 : arg10.IsWhole) (arg11 : Memref sig .tc .vmem S1040x256 .f32) (harg11 : arg11.IsWhole) (arg12 : Memref sig .tc .vmem S1040x256 .f32) (harg12 : arg12.IsWhole) (arg13 : Memref sig .tc .vmem S1040x256 .f32) (harg13 : arg13.IsWhole) (hc1 : ¬cond1 i) (hc2 : ¬k0_cond2 i = 1#1)
    (x0 : Vec F S1024x2048 .bf16) (x1 : Vec F S16x2048 .bf16) (x2 : Vec F S1x2048x512 .bf16) (x3 : Vec F S1x2048x512 .bf16) (x4 : Vec F S1x3x11264 .f32) (x5 : Vec F S1x1x11264 .f32) (y : Vec F S1024x5632 .bf16) (xe : Vec F S1040x2048 .bf16) (gb : Vec F S1040x256 .f32) (ub : Vec F S1040x256 .f32)  :
    (runB c i arg2 harg2 arg3 harg3 arg4 harg4 arg5 harg5 arg6 harg6 arg7 harg7 arg8 harg8 arg9 harg9 arg10 harg10 arg11 harg11 arg12 harg12 arg13 harg13 hc1 hc2 x0 x1 x2 x3 x4 x5 y xe gb ub).2.1 = [wh (k0_pay9 xe (lo x2))] := by
  frame_out
  try rfl
/-- The other product of the left half. -/
theorem runB_U (c : Dev nD) (i : grid0.Coords) (arg2 : Memref sig .tc .vmem S1024x2048 .bf16) (harg2 : arg2.IsWhole) (arg3 : Memref sig .tc .vmem S16x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x11264 .f32) (harg6 : arg6.IsWhole) (arg7 : Memref sig .tc .vmem S1x1x11264 .f32) (harg7 : arg7.IsWhole) (arg8 : Memref sig .tc .vmem S1024x5632 .bf16) (harg8 : arg8.IsWhole) (arg9 : Memref sig .tc .vmem S1040x2048 .bf16) (harg9 : arg9.IsWhole) (arg10 : Memref sig .tc .vmem S1040x256 .f32) (harg10 : arg10.IsWhole) (arg11 : Memref sig .tc .vmem S1040x256 .f32) (harg11 : arg11.IsWhole) (arg12 : Memref sig .tc .vmem S1040x256 .f32) (harg12 : arg12.IsWhole) (arg13 : Memref sig .tc .vmem S1040x256 .f32) (harg13 : arg13.IsWhole) (hc1 : ¬cond1 i) (hc2 : ¬k0_cond2 i = 1#1)
    (x0 : Vec F S1024x2048 .bf16) (x1 : Vec F S16x2048 .bf16) (x2 : Vec F S1x2048x512 .bf16) (x3 : Vec F S1x2048x512 .bf16) (x4 : Vec F S1x3x11264 .f32) (x5 : Vec F S1x1x11264 .f32) (y : Vec F S1024x5632 .bf16) (xe : Vec F S1040x2048 .bf16) (gb : Vec F S1040x256 .f32) (ub : Vec F S1040x256 .f32)  :
    (runB c i arg2 harg2 arg3 harg3 arg4 harg4 arg5 harg5 arg6 harg6 arg7 harg7 arg8 harg8 arg9 harg9 arg10 harg10 arg11 harg11 arg12 harg12 arg13 harg13 hc1 hc2 x0 x1 x2 x3 x4 x5 y xe gb ub).2.2.1 = [wh (k0_pay9 xe (lo x3))] := by
  frame_out
  try rfl
/-- The gate product of the right half. -/
theorem runB_GB (c : Dev nD) (i : grid0.Coords) (arg2 : Memref sig .tc .vmem S1024x2048 .bf16) (harg2 : arg2.IsWhole) (arg3 : Memref sig .tc .vmem S16x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x11264 .f32) (harg6 : arg6.IsWhole) (arg7 : Memref sig .tc .vmem S1x1x11264 .f32) (harg7 : arg7.IsWhole) (arg8 : Memref sig .tc .vmem S1024x5632 .bf16) (harg8 : arg8.IsWhole) (arg9 : Memref sig .tc .vmem S1040x2048 .bf16) (harg9 : arg9.IsWhole) (arg10 : Memref sig .tc .vmem S1040x256 .f32) (harg10 : arg10.IsWhole) (arg11 : Memref sig .tc .vmem S1040x256 .f32) (harg11 : arg11.IsWhole) (arg12 : Memref sig .tc .vmem S1040x256 .f32) (harg12 : arg12.IsWhole) (arg13 : Memref sig .tc .vmem S1040x256 .f32) (harg13 : arg13.IsWhole) (hc1 : ¬cond1 i) (hc2 : ¬k0_cond2 i = 1#1)
    (x0 : Vec F S1024x2048 .bf16) (x1 : Vec F S16x2048 .bf16) (x2 : Vec F S1x2048x512 .bf16) (x3 : Vec F S1x2048x512 .bf16) (x4 : Vec F S1x3x11264 .f32) (x5 : Vec F S1x1x11264 .f32) (y : Vec F S1024x5632 .bf16) (xe : Vec F S1040x2048 .bf16) (gb : Vec F S1040x256 .f32) (ub : Vec F S1040x256 .f32)  :
    (runB c i arg2 harg2 arg3 harg3 arg4 harg4 arg5 harg5 arg6 harg6 arg7 harg7 arg8 harg8 arg9 harg9 arg10 harg10 arg11 harg11 arg12 harg12 arg13 harg13 hc1 hc2 x0 x1 x2 x3 x4 x5 y xe gb ub).2.2.2.1 = [wh (k0_pay9 xe (hi x2))] := by
  frame_out
  try rfl
/-- The other product of the right half. -/
theorem runB_UB (c : Dev nD) (i : grid0.Coords) (arg2 : Memref sig .tc .vmem S1024x2048 .bf16) (harg2 : arg2.IsWhole) (arg3 : Memref sig .tc .vmem S16x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x11264 .f32) (harg6 : arg6.IsWhole) (arg7 : Memref sig .tc .vmem S1x1x11264 .f32) (harg7 : arg7.IsWhole) (arg8 : Memref sig .tc .vmem S1024x5632 .bf16) (harg8 : arg8.IsWhole) (arg9 : Memref sig .tc .vmem S1040x2048 .bf16) (harg9 : arg9.IsWhole) (arg10 : Memref sig .tc .vmem S1040x256 .f32) (harg10 : arg10.IsWhole) (arg11 : Memref sig .tc .vmem S1040x256 .f32) (harg11 : arg11.IsWhole) (arg12 : Memref sig .tc .vmem S1040x256 .f32) (harg12 : arg12.IsWhole) (arg13 : Memref sig .tc .vmem S1040x256 .f32) (harg13 : arg13.IsWhole) (hc1 : ¬cond1 i) (hc2 : ¬k0_cond2 i = 1#1)
    (x0 : Vec F S1024x2048 .bf16) (x1 : Vec F S16x2048 .bf16) (x2 : Vec F S1x2048x512 .bf16) (x3 : Vec F S1x2048x512 .bf16) (x4 : Vec F S1x3x11264 .f32) (x5 : Vec F S1x1x11264 .f32) (y : Vec F S1024x5632 .bf16) (xe : Vec F S1040x2048 .bf16) (gb : Vec F S1040x256 .f32) (ub : Vec F S1040x256 .f32)  :
    (runB c i arg2 harg2 arg3 harg3 arg4 harg4 arg5 harg5 arg6 harg6 arg7 harg7 arg8 harg8 arg9 harg9 arg10 harg10 arg11 harg11 arg12 harg12 arg13 harg13 hc1 hc2 x0 x1 x2 x3 x4 x5 y xe gb ub).2.2.2.2.1 = [wh (k0_pay9 xe (hi x3))] := by
  frame_out
  try rfl
/-- The gate product of the left half. -/
theorem runC_G (c : Dev nD) (i : grid0.Coords) (arg2 : Memref sig .tc .vmem S1024x2048 .bf16) (harg2 : arg2.IsWhole) (arg3 : Memref sig .tc .vmem S16x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x11264 .f32) (harg6 : arg6.IsWhole) (arg7 : Memref sig .tc .vmem S1x1x11264 .f32) (harg7 : arg7.IsWhole) (arg8 : Memref sig .tc .vmem S1024x5632 .bf16) (harg8 : arg8.IsWhole) (arg9 : Memref sig .tc .vmem S1040x2048 .bf16) (harg9 : arg9.IsWhole) (arg10 : Memref sig .tc .vmem S1040x256 .f32) (harg10 : arg10.IsWhole) (arg11 : Memref sig .tc .vmem S1040x256 .f32) (harg11 : arg11.IsWhole) (arg12 : Memref sig .tc .vmem S1040x256 .f32) (harg12 : arg12.IsWhole) (arg13 : Memref sig .tc .vmem S1040x256 .f32) (harg13 : arg13.IsWhole) (hc1 : ¬cond1 i) (hc2 : k0_cond2 i = 1#1)
    (x0 : Vec F S1024x2048 .bf16) (x1 : Vec F S16x2048 .bf16) (x2 : Vec F S1x2048x512 .bf16) (x3 : Vec F S1x2048x512 .bf16) (x4 : Vec F S1x3x11264 .f32) (x5 : Vec F S1x1x11264 .f32) (y : Vec F S1024x5632 .bf16) (xe : Vec F S1040x2048 .bf16) (gb : Vec F S1040x256 .f32) (ub : Vec F S1040x256 .f32)  :
    (runC c i arg2 harg2 arg3 harg3 arg4 harg4 arg5 harg5 arg6 harg6 arg7 harg7 arg8 harg8 arg9 harg9 arg10 harg10 arg11 harg11 arg12 harg12 arg13 harg13 hc1 hc2 x0 x1 x2 x3 x4 x5 y xe gb ub).2.1 = [wh (k0_pay9 xe (lo x2))] := by
  frame_out
  try rfl
/-- The other product of the left half. -/
theorem runC_U (c : Dev nD) (i : grid0.Coords) (arg2 : Memref sig .tc .vmem S1024x2048 .bf16) (harg2 : arg2.IsWhole) (arg3 : Memref sig .tc .vmem S16x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x11264 .f32) (harg6 : arg6.IsWhole) (arg7 : Memref sig .tc .vmem S1x1x11264 .f32) (harg7 : arg7.IsWhole) (arg8 : Memref sig .tc .vmem S1024x5632 .bf16) (harg8 : arg8.IsWhole) (arg9 : Memref sig .tc .vmem S1040x2048 .bf16) (harg9 : arg9.IsWhole) (arg10 : Memref sig .tc .vmem S1040x256 .f32) (harg10 : arg10.IsWhole) (arg11 : Memref sig .tc .vmem S1040x256 .f32) (harg11 : arg11.IsWhole) (arg12 : Memref sig .tc .vmem S1040x256 .f32) (harg12 : arg12.IsWhole) (arg13 : Memref sig .tc .vmem S1040x256 .f32) (harg13 : arg13.IsWhole) (hc1 : ¬cond1 i) (hc2 : k0_cond2 i = 1#1)
    (x0 : Vec F S1024x2048 .bf16) (x1 : Vec F S16x2048 .bf16) (x2 : Vec F S1x2048x512 .bf16) (x3 : Vec F S1x2048x512 .bf16) (x4 : Vec F S1x3x11264 .f32) (x5 : Vec F S1x1x11264 .f32) (y : Vec F S1024x5632 .bf16) (xe : Vec F S1040x2048 .bf16) (gb : Vec F S1040x256 .f32) (ub : Vec F S1040x256 .f32)  :
    (runC c i arg2 harg2 arg3 harg3 arg4 harg4 arg5 harg5 arg6 harg6 arg7 harg7 arg8 harg8 arg9 harg9 arg10 harg10 arg11 harg11 arg12 harg12 arg13 harg13 hc1 hc2 x0 x1 x2 x3 x4 x5 y xe gb ub).2.2.1 = [wh (k0_pay9 xe (lo x3))] := by
  frame_out
  try rfl
/-- The gate product of the right half. -/
theorem runC_GB (c : Dev nD) (i : grid0.Coords) (arg2 : Memref sig .tc .vmem S1024x2048 .bf16) (harg2 : arg2.IsWhole) (arg3 : Memref sig .tc .vmem S16x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x11264 .f32) (harg6 : arg6.IsWhole) (arg7 : Memref sig .tc .vmem S1x1x11264 .f32) (harg7 : arg7.IsWhole) (arg8 : Memref sig .tc .vmem S1024x5632 .bf16) (harg8 : arg8.IsWhole) (arg9 : Memref sig .tc .vmem S1040x2048 .bf16) (harg9 : arg9.IsWhole) (arg10 : Memref sig .tc .vmem S1040x256 .f32) (harg10 : arg10.IsWhole) (arg11 : Memref sig .tc .vmem S1040x256 .f32) (harg11 : arg11.IsWhole) (arg12 : Memref sig .tc .vmem S1040x256 .f32) (harg12 : arg12.IsWhole) (arg13 : Memref sig .tc .vmem S1040x256 .f32) (harg13 : arg13.IsWhole) (hc1 : ¬cond1 i) (hc2 : k0_cond2 i = 1#1)
    (x0 : Vec F S1024x2048 .bf16) (x1 : Vec F S16x2048 .bf16) (x2 : Vec F S1x2048x512 .bf16) (x3 : Vec F S1x2048x512 .bf16) (x4 : Vec F S1x3x11264 .f32) (x5 : Vec F S1x1x11264 .f32) (y : Vec F S1024x5632 .bf16) (xe : Vec F S1040x2048 .bf16) (gb : Vec F S1040x256 .f32) (ub : Vec F S1040x256 .f32)  :
    (runC c i arg2 harg2 arg3 harg3 arg4 harg4 arg5 harg5 arg6 harg6 arg7 harg7 arg8 harg8 arg9 harg9 arg10 harg10 arg11 harg11 arg12 harg12 arg13 harg13 hc1 hc2 x0 x1 x2 x3 x4 x5 y xe gb ub).2.2.2.1 = [wh (k0_pay9 xe (hi x2))] := by
  frame_out
  try rfl
/-- The other product of the right half. -/
theorem runC_UB (c : Dev nD) (i : grid0.Coords) (arg2 : Memref sig .tc .vmem S1024x2048 .bf16) (harg2 : arg2.IsWhole) (arg3 : Memref sig .tc .vmem S16x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x3x11264 .f32) (harg6 : arg6.IsWhole) (arg7 : Memref sig .tc .vmem S1x1x11264 .f32) (harg7 : arg7.IsWhole) (arg8 : Memref sig .tc .vmem S1024x5632 .bf16) (harg8 : arg8.IsWhole) (arg9 : Memref sig .tc .vmem S1040x2048 .bf16) (harg9 : arg9.IsWhole) (arg10 : Memref sig .tc .vmem S1040x256 .f32) (harg10 : arg10.IsWhole) (arg11 : Memref sig .tc .vmem S1040x256 .f32) (harg11 : arg11.IsWhole) (arg12 : Memref sig .tc .vmem S1040x256 .f32) (harg12 : arg12.IsWhole) (arg13 : Memref sig .tc .vmem S1040x256 .f32) (harg13 : arg13.IsWhole) (hc1 : ¬cond1 i) (hc2 : k0_cond2 i = 1#1)
    (x0 : Vec F S1024x2048 .bf16) (x1 : Vec F S16x2048 .bf16) (x2 : Vec F S1x2048x512 .bf16) (x3 : Vec F S1x2048x512 .bf16) (x4 : Vec F S1x3x11264 .f32) (x5 : Vec F S1x1x11264 .f32) (y : Vec F S1024x5632 .bf16) (xe : Vec F S1040x2048 .bf16) (gb : Vec F S1040x256 .f32) (ub : Vec F S1040x256 .f32)  :
    (runC c i arg2 harg2 arg3 harg3 arg4 harg4 arg5 harg5 arg6 harg6 arg7 harg7 arg8 harg8 arg9 harg9 arg10 harg10 arg11 harg11 arg12 harg12 arg13 harg13 hc1 hc2 x0 x1 x2 x3 x4 x5 y xe gb ub).2.2.2.2.1 = [wh (k0_pay9 xe (hi x3))] := by
  frame_out
  try rfl

end Cert.UpIdeal.Hand

end
-- ==== Proof.UpIdealState.lean ====
module

public import proofs.«01_k».proof.Proof.UpIdealPieces
public import Idealize.ShloMosaic.Lib.WritesUnit
public import Idealize.ShloMosaic.Lib.Writes

@[expose] public section

set_option maxRecDepth 16384

noncomputable section

namespace Cert.UpIdeal.Hand

open Cert.UpIdeal.Gen
open Idealize.ShloMosaic Idealize.ShloMosaic.TcCoe Idealize.ShloMosaic.Tactic

variable {F : FTy → Type} [FloatOps F]
variable (m : (ℓ : Loc nD τ sig) → Buf (Elt F) ℓ)

/-- The grid point numbered `n`. -/
def pt (n : ℕ) : Fin cfg0.N := ⟨n % 352, Nat.lt_of_lt_of_eq (Nat.mod_lt _ (by decide)) N_0.symm⟩
theorem pt_val (t : Fin cfg0.N) : pt t.val = t := Fin.ext (Nat.mod_eq_of_lt (lt_points t))

/-- Row block `i` with the sixteen rows before it. -/
def XEr (c : Dev nD) (i : ℕ) : Vec F S1040x2048 .bf16 :=
  XE (grid0.coords (pt (11 * i))) (iblk m c 0 (pt (11 * i))) (iblk m c 1 (pt (11 * i)))
/-- Its product with the gate's weights at chunk `q`, and with the other weights. -/
def GHr (c : Dev nD) (i q : ℕ) : Vec F S1040x256 .f32 :=
  k0_pay9 (XEr m c i) (if q % 2 = 0 then lo (iblk m c 2 (pt (11 * i + q / 2))) else hi (iblk m c 2 (pt (11 * i + q / 2))))
def UHr (c : Dev nD) (i q : ℕ) : Vec F S1040x256 .f32 :=
  k0_pay9 (XEr m c i) (if q % 2 = 0 then lo (iblk m c 3 (pt (11 * i + q / 2))) else hi (iblk m c 3 (pt (11 * i + q / 2))))
/-- Chunk `q` of row block `i` of the result. -/
def CHr (c : Dev nD) (i : ℕ) (q : Fin 22) : FVec F S1024x256 .bf16 :=
  EC q (GHr m c i q.val) (UHr m c i q.val) (iblk m c 4 (pt 0)) (iblk m c 5 (pt 0))

theorem blk4 (c : Dev nD) (t : Fin cfg0.N) : iblk m c 4 t = iblk m c 4 (pt 0) := rfl
theorem blk5 (c : Dev nD) (t : Fin cfg0.N) : iblk m c 5 t = iblk m c 5 (pt 0) := rfl

theorem pt_row (t : Fin cfg0.N) : pt (11 * (t.val / 11) + t.val % 11) = t := by rw [Nat.div_add_mod]; exact pt_val t

theorem GHr_even (c : Dev nD) (t : Fin cfg0.N) (n : ℕ) (hn : n = 2 * (t.val % 11)) : GHr m c (t.val / 11) n = k0_pay9 (XEr m c (t.val / 11)) (lo (iblk m c 2 t)) := by
  unfold GHr
  rw [if_pos (by omega), show n / 2 = t.val % 11 by omega, pt_row]
theorem UHr_even (c : Dev nD) (t : Fin cfg0.N) (n : ℕ) (hn : n = 2 * (t.val % 11)) : UHr m c (t.val / 11) n = k0_pay9 (XEr m c (t.val / 11)) (lo (iblk m c 3 t)) := by
  unfold UHr
  rw [if_pos (by omega), show n / 2 = t.val % 11 by omega, pt_row]
theorem GHr_odd (c : Dev nD) (t : Fin cfg0.N) (n : ℕ) (hn : n = 2 * (t.val % 11) + 1) : GHr m c (t.val / 11) n = k0_pay9 (XEr m c (t.val / 11)) (hi (iblk m c 2 t)) := by
  unfold GHr
  rw [if_neg (by omega), show n / 2 = t.val % 11 by omega, pt_row]
theorem UHr_odd (c : Dev nD) (t : Fin cfg0.N) (n : ℕ) (hn : n = 2 * (t.val % 11) + 1) : UHr m c (t.val / 11) n = k0_pay9 (XEr m c (t.val / 11)) (hi (iblk m c 3 t)) := by
  unfold UHr
  rw [if_neg (by omega), show n / 2 = t.val % 11 by omega, pt_row]

/-- How many chunks of its row block the output window holds after point `n`. -/
def lim (n : ℕ) : ℕ := if n % 11 = 10 then 22 else 2 * (n % 11) + 1
/-- The output window holds the first chunks of its row block of the result. -/
def Holds (c : Dev nD) (n : ℕ) (X : Vec F S1024x5632 .bf16) : Prop := ∀ q : Fin 22, q.val < lim n → View.ld X (OR q) = CHr m c (n / 11) q

/-- A chunk read after a list of stores: the newest store's payload where it is that chunk's, else what the earlier stores left. -/
theorem ld_hit {sp : Space} (v : View sig .tc sp S1024x5632 .bf16) (f : v.ty.Contents (Elt F)) (q : Fin 22) (w : FVec F S1024x256 .bf16) (L : List (View.Piece (Elt F) S1024x5632 .bf16)) :
    View.ld (v.read (Elt F) (v.writes (Elt F) f (⟨OR q, w⟩ :: L))) (OR q) = w :=
  funext fun x => View.read_writes_cons_emb v f (OR q) w L x
theorem ld_miss {sp : Space} (v : View sig .tc sp S1024x5632 .bf16) (f : v.ty.Contents (Elt F)) (q p : Fin 22) (h : q.val ≠ p.val) (w : FVec F S1024x256 .bf16) (L : List (View.Piece (Elt F) S1024x5632 .bf16)) :
    View.ld (v.read (Elt F) (v.writes (Elt F) f (⟨OR p, w⟩ :: L))) (OR q) = View.ld (v.read (Elt F) (v.writes (Elt F) f L)) (OR q) := by
  funext x
  refine View.read_writes_cons_unit_of_not_mem v f (OR_inb p) w L ((OR q).emb x) rfl 1 ?_
  have hx : (x 1).val < 256 := (x 1).isLt
  show 256 * q.val + 1 * (x 1).val < 256 * p.val ∨ 256 * p.val + 256 ≤ 256 * q.val + 1 * (x 1).val
  omega

/-- The first column step leaves the first chunk. -/
theorem holds_A {sp : Space} (v : View sig .tc sp S1024x5632 .bf16) (f : v.ty.Contents (Elt F)) (c : Dev nD) (t : Fin cfg0.N) (h : t.val % 11 = 0)
    (q : Fin 22) (hq : q.val = 2 * (t.val % 11)) (L : List (View.Piece (Elt F) S1024x5632 .bf16)) :
    Holds m c t.val (v.read (Elt F) (v.writes (Elt F) f (⟨OR q, EC q (k0_pay9 (XEr m c (t.val / 11)) (lo (iblk m c 2 t))) (k0_pay9 (XEr m c (t.val / 11)) (lo (iblk m c 3 t))) (iblk m c 4 t) (iblk m c 5 t)⟩ :: L))) := by
  intro p hp
  have e : p = q := Fin.ext (by unfold lim at hp; rw [if_neg (by omega)] at hp; omega)
  subst e
  rw [ld_hit, ← GHr_even m c t _ hq, ← UHr_even m c t _ hq, blk4, blk5]
  rfl

/-- A later column step adds the right chunk of the step before and its own left chunk to the chunks found. -/
theorem holds_B {sp : Space} (v : View sig .tc sp S1024x5632 .bf16) (f : v.ty.Contents (Elt F)) (c : Dev nD) (t : Fin cfg0.N) (h : t.val % 11 ≠ 0) (h' : t.val % 11 ≠ 10)
    (q q' : Fin 22) (hq : q.val = 2 * (t.val % 11)) (hq' : q'.val = 2 * (t.val % 11) - 1) (hf : Holds m c (t.val - 1) (v.read (Elt F) f)) :
    Holds m c t.val (v.read (Elt F) (v.writes (Elt F) f [⟨OR q, EC q (k0_pay9 (XEr m c (t.val / 11)) (lo (iblk m c 2 t))) (k0_pay9 (XEr m c (t.val / 11)) (lo (iblk m c 3 t))) (iblk m c 4 t) (iblk m c 5 t)⟩,
      ⟨OR q', EC q' (GHr m c (t.val / 11) q'.val) (UHr m c (t.val / 11) q'.val) (iblk m c 4 t) (iblk m c 5 t)⟩])) := by
  intro p hp
  unfold lim at hp; rw [if_neg h'] at hp
  by_cases e : p = q
  · subst e
    rw [ld_hit, ← GHr_even m c t _ hq, ← UHr_even m c t _ hq, blk4, blk5]
    rfl
  rw [ld_miss _ _ _ _ fun a => e (Fin.ext a)]
  by_cases e' : p = q'
  · subst e'
    rw [ld_hit, blk4, blk5]
    rfl
  rw [ld_miss _ _ _ _ fun a => e' (Fin.ext a)]
  have hp1 : p.val ≠ q.val := fun a => e (Fin.ext a)
  have hp2 : p.val ≠ q'.val := fun a => e' (Fin.ext a)
  have := hf p (by unfold lim; rw [if_neg (by omega)]; omega)
  rw [show (t.val - 1) / 11 = t.val / 11 by omega] at this
  exact this

/-- The last column step adds its own right chunk too, and so completes the row block. -/
theorem holds_C {sp : Space} (v : View sig .tc sp S1024x5632 .bf16) (f : v.ty.Contents (Elt F)) (c : Dev nD) (t : Fin cfg0.N) (h : t.val % 11 = 10)
    (q q' q'' : Fin 22) (hq : q.val = 2 * (t.val % 11)) (hq' : q'.val = 2 * (t.val % 11) - 1) (hq'' : q''.val = 2 * (t.val % 11) + 1) (hf : Holds m c (t.val - 1) (v.read (Elt F) f)) :
    Holds m c t.val (v.read (Elt F) (v.writes (Elt F) f [⟨OR q'', EC q'' (k0_pay9 (XEr m c (t.val / 11)) (hi (iblk m c 2 t))) (k0_pay9 (XEr m c (t.val / 11)) (hi (iblk m c 3 t))) (iblk m c 4 t) (iblk m c 5 t)⟩,
      ⟨OR q, EC q (k0_pay9 (XEr m c (t.val / 11)) (lo (iblk m c 2 t))) (k0_pay9 (XEr m c (t.val / 11)) (lo (iblk m c 3 t))) (iblk m c 4 t) (iblk m c 5 t)⟩,
      ⟨OR q', EC q' (GHr m c (t.val / 11) q'.val) (UHr m c (t.val / 11) q'.val) (iblk m c 4 t) (iblk m c 5 t)⟩])) := by
  intro p hp
  by_cases e'' : p = q''
  · subst e''
    rw [ld_hit, ← GHr_odd m c t _ hq'', ← UHr_odd m c t _ hq'', blk4, blk5]
    rfl
  rw [ld_miss _ _ _ _ fun a => e'' (Fin.ext a)]
  by_cases e : p = q
  · subst e
    rw [ld_hit, ← GHr_even m c t _ hq, ← UHr_even m c t _ hq, blk4, blk5]
    rfl
  rw [ld_miss _ _ _ _ fun a => e (Fin.ext a)]
  by_cases e' : p = q'
  · subst e'
    rw [ld_hit, blk4, blk5]
    rfl
  rw [ld_miss _ _ _ _ fun a => e' (Fin.ext a)]
  have hp0 : p.val ≠ q''.val := fun a => e'' (Fin.ext a)
  have hp1 : p.val ≠ q.val := fun a => e (Fin.ext a)
  have hp2 : p.val ≠ q'.val := fun a => e' (Fin.ext a)
  have hlt := p.isLt
  have := hf p (by unfold lim; rw [if_neg (by omega)]; omega)
  rw [show (t.val - 1) / 11 = t.val / 11 by omega] at this
  exact this

/-- A buffer whose newest store is whole holds that store's payload. -/
theorem read_wh {sp : Space} (v : View sig .tc sp S1040x256 .f32) (f : v.ty.Contents (Elt F)) (x : Vec F S1040x256 .f32) (L : List (View.Piece (Elt F) S1040x256 .f32)) :
    v.read (Elt F) (v.writes (Elt F) f (wh x :: L)) = x := by
  rw [View.read_writes_eq_canon v f _ fun y => ⟨wh x, List.mem_cons_self, by
    show y ∈ (Rect.unit (s := S1040x256) ![0, 0] S1040x256.size inb_S1040x256_S1040x256_0_0).set
    rw [Rect.mem_set_unit]; intro a; fin_cases a <;> exact ⟨Nat.zero_le _, by rw [show (![0, 0] : Fin 2 → ℕ) _ = 0 from rfl, Nat.zero_add]; exact (y _).isLt⟩⟩]
  exact View.canon_cons_unit_lit inb_S1040x256_S1040x256_0_0 x L (by decide)

/-- The two stores of the row block leave it whole. -/
theorem read_XE {sp : Space} (v : View sig .tc sp S1040x2048 .bf16) (f : v.ty.Contents (Elt F)) (i : grid0.Coords) (x0 : Vec F S1024x2048 .bf16) (x1 : Vec F S16x2048 .bf16) :
    v.read (Elt F) (v.writes (Elt F) f [⟨Rect.unit (s := S1040x2048) ![16, 0] S1024x2048.size inb_S1040x2048_S1024x2048_16_0, k0_pay6 x0⟩, ⟨Rect.unit (s := S1040x2048) ![0, 0] S16x2048.size inb_S1040x2048_S16x2048_0_0, k0_pay5 i x1⟩]) = XE i x0 x1 := by
  refine View.read_writes_eq_canon v f _ fun y => ?_
  have h0 : (y 0).val < 1040 := (y 0).isLt
  have h1 : (y 1).val < 2048 := (y 1).isLt
  by_cases h : (y 0).val < 16
  · refine ⟨_, List.mem_cons_of_mem _ List.mem_cons_self, ?_⟩
    show y ∈ (Rect.unit (s := S1040x2048) ![0, 0] S16x2048.size inb_S1040x2048_S16x2048_0_0).set
    rw [Rect.mem_set_unit]; intro a
    fin_cases a
    · exact ⟨Nat.zero_le _, by show (y 0).val < 0 + 16; omega⟩
    · exact ⟨Nat.zero_le _, by show (y 1).val < 0 + 2048; omega⟩
  · refine ⟨_, List.mem_cons_self, ?_⟩
    show y ∈ (Rect.unit (s := S1040x2048) ![16, 0] S1024x2048.size inb_S1040x2048_S1024x2048_16_0).set
    rw [Rect.mem_set_unit]; intro a
    fin_cases a
    · exact ⟨by show 16 ≤ (y 0).val; omega, by show (y 0).val < 16 + 1024; omega⟩
    · exact ⟨Nat.zero_le _, by show (y 1).val < 0 + 2048; omega⟩

end Cert.UpIdeal.Hand

end
-- ==== Proof.UpIdealFrame.lean ====
module

public import proofs.«01_k».proof.Proof.UpIdealState

@[expose] public section

set_option maxRecDepth 16384

noncomputable section

namespace Cert.UpIdeal.Hand

open Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's staging buffer at a point, and that it is whole. -/
abbrev ms0_0 (t : Fin cfg0.N) : Memref sig .tc .vmem S1024x2048 .bf16 := win0_0.stage (cfg0.slots t 0)
abbrev ms0_1 (t : Fin cfg0.N) : Memref sig .tc .vmem S16x2048 .bf16 := win0_1.stage (cfg0.slots t 1)
abbrev ms0_2 (t : Fin cfg0.N) : Memref sig .tc .vmem S1x2048x512 .bf16 := win0_2.stage (cfg0.slots t 2)
abbrev ms0_3 (t : Fin cfg0.N) : Memref sig .tc .vmem S1x2048x512 .bf16 := win0_3.stage (cfg0.slots t 3)
abbrev ms0_4 (t : Fin cfg0.N) : Memref sig .tc .vmem S1x3x11264 .f32 := win0_4.stage (cfg0.slots t 4)
abbrev ms0_5 (t : Fin cfg0.N) : Memref sig .tc .vmem S1x1x11264 .f32 := win0_5.stage (cfg0.slots t 5)
abbrev ms0_6 (t : Fin cfg0.N) : Memref sig .tc .vmem S1024x5632 .bf16 := win0_6.stage (cfg0.slots t 6)

/-- The scratch between the points: before the first at anything, then the row block and the right half's two products
    as the point before left them. -/
def PhiS (c : Dev nD) : (n : ℕ) → n ≤ cfg0.N → sProp 𝕄
  | 0, _ => Pipeline.ΦA spec0 c
  | n + 1, _ => iprop(iprop(owns (c : Thread nD τ) sc0 fullShare (XEr m c (n / 11)) ∗ (∃ d, owns (c : Thread nD τ) sc1 fullShare d) ∗ (∃ d, owns (c : Thread nD τ) sc2 fullShare d)
      ∗ owns (c : Thread nD τ) sc3 fullShare (GHr m c (n / 11) (2 * (n % 11) + 1)) ∗ owns (c : Thread nD τ) sc4 fullShare (UHr m c (n / 11) (2 * (n % 11) + 1))) ∗ (∃ r, prngReg c r))

theorem PhiS_succ (c : Dev nD) (n : ℕ) (hn : n + 1 ≤ cfg0.N) :
    PhiS m c (n + 1) hn = iprop(iprop(owns (c : Thread nD τ) sc0 fullShare (XEr m c (n / 11)) ∗ (∃ d, owns (c : Thread nD τ) sc1 fullShare d) ∗ (∃ d, owns (c : Thread nD τ) sc2 fullShare d)
      ∗ owns (c : Thread nD τ) sc3 fullShare (GHr m c (n / 11) (2 * (n % 11) + 1)) ∗ owns (c : Thread nD τ) sc4 fullShare (UHr m c (n / 11) (2 * (n % 11) + 1))) ∗ (∃ r, prngReg c r)) := rfl

/-- Within a row block the scratch is what the step before left of it. -/
theorem PhiS_mid (c : Dev nD) (n : ℕ) (hn : n ≤ cfg0.N) (h : n % 11 ≠ 0) :
    PhiS m c n hn = iprop(iprop(owns (c : Thread nD τ) sc0 fullShare (XEr m c (n / 11)) ∗ (∃ d, owns (c : Thread nD τ) sc1 fullShare d) ∗ (∃ d, owns (c : Thread nD τ) sc2 fullShare d)
      ∗ owns (c : Thread nD τ) sc3 fullShare (GHr m c (n / 11) (2 * (n % 11) - 1)) ∗ owns (c : Thread nD τ) sc4 fullShare (UHr m c (n / 11) (2 * (n % 11) - 1))) ∗ (∃ r, prngReg c r)) := by
  cases n with
  | zero => exact absurd rfl h
  | succ n => rw [PhiS_succ, show n / 11 = (n + 1) / 11 by omega, show 2 * (n % 11) + 1 = 2 * ((n + 1) % 11) - 1 by omega]

/-- What the scratch holds may be forgotten. -/
theorem PhiS_any (c : Dev nD) (n : ℕ) (hn : n ≤ cfg0.N) : PhiS m c n hn ⊢ Pipeline.ΦA spec0 c := by
  cases n with
  | zero => exact Idealize.SL.BI.Entails.refl _
  | succ n =>
    rw [PhiS_succ, rest_eq]
    iintro ⟨⟨H0, H1, H2, H3, H4⟩, Hg⟩
    isplitl [H0 H1 H2 H3 H4]
    · isplitl [H0]; · iexists _; iexact H0
      isplitl [H1]; · iexact H1
      isplitl [H2]; · iexact H2
      isplitl [H3]; · iexists _; iexact H3
      iexists _; iexact H4
    iexact Hg

/-- The launch's proof data: each input's buffer keeps its block; what the output's holds is said by `Rl`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => Classical.arbitrary _
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The window whose contents the data state only by a relation: the output. -/
def fgt : Fin cfg0.W → Bool
  | ⟨0, _⟩ => false
  | ⟨1, _⟩ => false
  | ⟨2, _⟩ => false
  | ⟨3, _⟩ => false
  | ⟨4, _⟩ => false
  | ⟨5, _⟩ => false
  | ⟨6, _⟩ => true

/-- The relation: the output's buffer holds the first chunks of its row block. -/
def Rl (c : Dev nD) (w : Fin cfg0.W) (t : Fin cfg0.N) : ((cfg0.win w).block.Idx → Elt F (cfg0.win w).elt) → Prop := match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun X => Holds m c t.val X

/-- The same data, the output window read relationally. -/
abbrev rdat (c : Dev nD) : RDat τ (Elt F) Unit ℕ (UR sig nD τ) ℕ cfg0 c := (dats m 0 c).toRRel fgt (Rl m c)

theorem leaves_out (c : Dev nD) (t : Fin cfg0.N) (X : Vec F S1024x5632 .bf16) (h : (rdat m c).Leaves 6 t X) : Holds m c t.val X :=
  (dats m 0 c).toRRel_leaves (fgt := fgt) (Rl := Rl m c) (w := 6) rfl h

/-- Within a row block the body finds in the output's buffer what the step before left there. -/
theorem finds_out (c : Dev nD) (t : Fin cfg0.N) (h : t.val % 11 ≠ 0) (X : Vec F S1024x5632 .bf16) (hX : (rdat m c).Finds 6 t X) : Holds m c (t.val - 1) X := by
  rcases (RDat.finds_of_pos (rd := rdat m c) (w := 6) rfl (by omega) X).mp hX with hf | hl
  · exact absurd ((flush0_6 _).mp hf) (by show ¬(t.val - 1) % 11 = 10; omega)
  · exact leaves_out m c _ X hl

/-- A point's precondition and postcondition, the separating conjunction over the windows written out. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜(rdat m c).Finds 6 t Y⌝ ∗ owns (c : Thread nD τ) (ms0_6 t) fullShare Y))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, ⌜Holds m c t.val X⌝ ∗ owns (c : Thread nD τ) (ms0_6 t) fullShare X))

/-- The row and column steps of a point, as the body's offsets take them. -/
theorem col_eq (t : Fin cfg0.N) : (grid0.coords t 1).val = (⟨t.val % 11, Nat.mod_lt _ (by decide)⟩ : Fin 11).val := col_val t

set_option maxHeartbeats 6400000 in
/-- Every point's body, from what the pipeline hands it, leaves what the data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ, PhiS_castSucc m c t]
  have hN := lt_points t
  by_cases h0 : t.val % 11 = 0
  · have h1 : ¬t.val % 11 = 10 := by omega
    refine (Idealize.SL.BI.Laws.sep_mono (PhiS_any m c _ _) .rfl).trans ?_
    rw [rest_eq]
    iintro ⟨⟨⟨E0, E1, E2, E3, E4⟩, Hg⟩, Ho, ⟨%d0, H0⟩, ⟨%d1, H1⟩, ⟨%d2, H2⟩, ⟨%d3, H3⟩, ⟨%d4, H4⟩, ⟨%d5, H5⟩, ⟨%Y, %hY, H6⟩⟩
    iapply ((runA c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) sc0 (Memref.isWhole_whole _) sc1 (Memref.isWhole_whole _) sc2 (Memref.isWhole_whole _) sc3 (Memref.isWhole_whole _) sc4 (Memref.isWhole_whole _) ((cond1_iff t).mpr h0) (fun h => h1 ((cond2_iff t).mp h)) (iblk m c 0 t) (iblk m c 1 t) (iblk m c 2 t) (iblk m c 3 t) (iblk m c 4 t) (iblk m c 5 t) Y).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [E0]; · iexact E0
    isplitl [E1]; · iexact E1
    isplitl [E2]; · iexact E2
    isplitl [E3]; · iexact E3
    isplitl [E4]; · iexact E4
    iintro ⟨H0, H1, H2, H3, H4, H5, H6, ⟨%f0, E0⟩, ⟨%f1, E1⟩, ⟨%f2, E2⟩, ⟨%f3, E3⟩, ⟨%f4, E4⟩⟩
    isplitl [E0 E1 E2 E3 E4 Hg]
    · isplitl [E0 E1 E2 E3 E4]
      · isplitl [E0]
        · unfold owns; iexists _; isplitr
          swap; · iexact E0
          ipureintro; rw [runA_E, read_XE]; unfold XEr; rw [show 11 * (t.val / 11) = t.val by omega, pt_val]
        isplitl [E1]
        · iexists _; unfold owns; iexists _; isplitr
          swap; · iexact E1
          ipureintro; rfl
        isplitl [E2]
        · iexists _; unfold owns; iexists _; isplitr
          swap; · iexact E2
          ipureintro; rfl
        isplitl [E3]
        · unfold owns; iexists _; isplitr
          swap; · iexact E3
          ipureintro; rw [runA_GB, read_wh, show XE (grid0.coords t) (iblk m c 0 t) (iblk m c 1 t) = XEr m c (t.val / 11) from (by unfold XEr; rw [show 11 * (t.val / 11) = t.val by omega, pt_val]), GHr_odd m c t _ rfl]
        unfold owns; iexists _; isplitr
        swap; · iexact E4
        ipureintro; rw [runA_UB, read_wh, show XE (grid0.coords t) (iblk m c 0 t) (iblk m c 1 t) = XEr m c (t.val / 11) from (by unfold XEr; rw [show 11 * (t.val / 11) = t.val by omega, pt_val]), UHr_odd m c t _ rfl]
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; isplitr
    swap
    · unfold owns; iexists _; isplitr
      swap; · iexact H6
      ipureintro; rfl
    ipureintro
    have e := runA_L c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) sc0 (Memref.isWhole_whole _) sc1 (Memref.isWhole_whole _) sc2 (Memref.isWhole_whole _) sc3 (Memref.isWhole_whole _) sc4 (Memref.isWhole_whole _) ((cond1_iff t).mpr h0) (fun h => h1 ((cond2_iff t).mp h)) (iblk m c 0 t) (iblk m c 1 t) (iblk m c 2 t) (iblk m c 3 t) (iblk m c 4 t) (iblk m c 5 t) Y ⟨t.val % 11, Nat.mod_lt _ (by decide)⟩ (col_eq t)
    rw [show XE (grid0.coords t) (iblk m c 0 t) (iblk m c 1 t) = XEr m c (t.val / 11) from (by unfold XEr; rw [show 11 * (t.val / 11) = t.val by omega, pt_val])] at e
    rw [e]
    exact holds_A m _ _ c t h0 _ rfl _
  by_cases h1 : t.val % 11 = 10
  ·
    rw [PhiS_mid m c _ _ h0]
    have hq := finds_out m c t h0
    iintro ⟨⟨⟨E0, E1, E2, E3, E4⟩, Hg⟩, Ho, ⟨%d0, H0⟩, ⟨%d1, H1⟩, ⟨%d2, H2⟩, ⟨%d3, H3⟩, ⟨%d4, H4⟩, ⟨%d5, H5⟩, ⟨%Y, %hY, H6⟩⟩
    iapply ((runC c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) sc0 (Memref.isWhole_whole _) sc1 (Memref.isWhole_whole _) sc2 (Memref.isWhole_whole _) sc3 (Memref.isWhole_whole _) sc4 (Memref.isWhole_whole _) (fun h => h0 ((cond1_iff t).mp h)) ((cond2_iff t).mpr h1) (iblk m c 0 t) (iblk m c 1 t) (iblk m c 2 t) (iblk m c 3 t) (iblk m c 4 t) (iblk m c 5 t) Y _ _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [E0]; · iexact E0
    isplitl [E1]; · iexact E1
    isplitl [E2]; · iexact E2
    isplitl [E3]; · iexact E3
    isplitl [E4]; · iexact E4
    iintro ⟨H0, H1, H2, H3, H4, H5, H6, E0, ⟨%f1, E1⟩, ⟨%f2, E2⟩, ⟨%f3, E3⟩, ⟨%f4, E4⟩⟩
    isplitl [E0 E1 E2 E3 E4 Hg]
    · isplitl [E0 E1 E2 E3 E4]
      · isplitl [E0]; · iexact E0
        isplitl [E1]
        · iexists _; unfold owns; iexists _; isplitr
          swap; · iexact E1
          ipureintro; rfl
        isplitl [E2]
        · iexists _; unfold owns; iexists _; isplitr
          swap; · iexact E2
          ipureintro; rfl
        isplitl [E3]
        · unfold owns; iexists _; isplitr
          swap; · iexact E3
          ipureintro; rw [runC_GB, read_wh, GHr_odd m c t _ rfl]
        unfold owns; iexists _; isplitr
        swap; · iexact E4
        ipureintro; rw [runC_UB, read_wh, UHr_odd m c t _ rfl]
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; isplitr
    swap
    · unfold owns; iexists _; isplitr
      swap; · iexact H6
      ipureintro; rfl
    ipureintro
    have e := runC_L c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) sc0 (Memref.isWhole_whole _) sc1 (Memref.isWhole_whole _) sc2 (Memref.isWhole_whole _) sc3 (Memref.isWhole_whole _) sc4 (Memref.isWhole_whole _) (fun h => h0 ((cond1_iff t).mp h)) ((cond2_iff t).mpr h1) (iblk m c 0 t) (iblk m c 1 t) (iblk m c 2 t) (iblk m c 3 t) (iblk m c 4 t) (iblk m c 5 t) Y (XEr m c (t.val / 11)) (GHr m c (t.val / 11) (2 * (t.val % 11) - 1)) (UHr m c (t.val / 11) (2 * (t.val % 11) - 1)) ⟨t.val % 11, Nat.mod_lt _ (by decide)⟩ (col_eq t)
    rw [e]
    exact holds_C m _ _ c t h1 _ _ _ rfl rfl rfl ((congrArg (Holds m c (t.val - 1)) (Memref.IsWhole.read_unread _ Y)).mpr (hq Y hY))
  ·
    rw [PhiS_mid m c _ _ h0]
    have hq := finds_out m c t h0
    iintro ⟨⟨⟨E0, E1, E2, E3, E4⟩, Hg⟩, Ho, ⟨%d0, H0⟩, ⟨%d1, H1⟩, ⟨%d2, H2⟩, ⟨%d3, H3⟩, ⟨%d4, H4⟩, ⟨%d5, H5⟩, ⟨%Y, %hY, H6⟩⟩
    iapply ((runB c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) sc0 (Memref.isWhole_whole _) sc1 (Memref.isWhole_whole _) sc2 (Memref.isWhole_whole _) sc3 (Memref.isWhole_whole _) sc4 (Memref.isWhole_whole _) (fun h => h0 ((cond1_iff t).mp h)) (fun h => h1 ((cond2_iff t).mp h)) (iblk m c 0 t) (iblk m c 1 t) (iblk m c 2 t) (iblk m c 3 t) (iblk m c 4 t) (iblk m c 5 t) Y _ _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [E0]; · iexact E0
    isplitl [E1]; · iexact E1
    isplitl [E2]; · iexact E2
    isplitl [E3]; · iexact E3
    isplitl [E4]; · iexact E4
    iintro ⟨H0, H1, H2, H3, H4, H5, H6, E0, ⟨%f1, E1⟩, ⟨%f2, E2⟩, ⟨%f3, E3⟩, ⟨%f4, E4⟩⟩
    isplitl [E0 E1 E2 E3 E4 Hg]
    · isplitl [E0 E1 E2 E3 E4]
      · isplitl [E0]; · iexact E0
        isplitl [E1]
        · iexists _; unfold owns; iexists _; isplitr
          swap; · iexact E1
          ipureintro; rfl
        isplitl [E2]
        · iexists _; unfold owns; iexists _; isplitr
          swap; · iexact E2
          ipureintro; rfl
        isplitl [E3]
        · unfold owns; iexists _; isplitr
          swap; · iexact E3
          ipureintro; rw [runB_GB, read_wh, GHr_odd m c t _ rfl]
        unfold owns; iexists _; isplitr
        swap; · iexact E4
        ipureintro; rw [runB_UB, read_wh, UHr_odd m c t _ rfl]
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; isplitr
    swap
    · unfold owns; iexists _; isplitr
      swap; · iexact H6
      ipureintro; rfl
    ipureintro
    have e := runB_L c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) sc0 (Memref.isWhole_whole _) sc1 (Memref.isWhole_whole _) sc2 (Memref.isWhole_whole _) sc3 (Memref.isWhole_whole _) sc4 (Memref.isWhole_whole _) (fun h => h0 ((cond1_iff t).mp h)) (fun h => h1 ((cond2_iff t).mp h)) (iblk m c 0 t) (iblk m c 1 t) (iblk m c 2 t) (iblk m c 3 t) (iblk m c 4 t) (iblk m c 5 t) Y (XEr m c (t.val / 11)) (GHr m c (t.val / 11) (2 * (t.val % 11) - 1)) (UHr m c (t.val / 11) (2 * (t.val % 11) - 1)) ⟨t.val % 11, Nat.mod_lt _ (by decide)⟩ (col_eq t)
    rw [e]
    exact holds_B m _ _ c t h0 h1 _ _ rfl rfl ((congrArg (Holds m c (t.val - 1)) (Memref.IsWhole.read_unread _ Y)).mpr (hq Y hY))

theorem defs₀_row (t : Fin cfg0.N) :
    defs₀ (F := F) .tc cfg0.body (cfg0.bodyArgs t (cfg0.slots t)) = bodyAt0 t := by
  unfold defs₀; rw [Defs.onTc_tc]

/-- The library's body obligation, the output window held to its relation. -/
theorem body_obligation (c : Dev nD) : BodyObligationRel (dats (F := F) m 0 c) (defs₀ (F := F)) Variants.none () Set.univ fgt (Rl m c) := fun t => by
  rw [bigSep_W0, bigSep_W0, defs₀_row]
  exact triple_restated (sound_body m c t) rfl .rfl fun _ => .rfl

theorem hin (c : Dev nD) : Pipeline.ΦA spec0 c ⊢ (rdat m c).Φ 0 := by
  rw [show (rdat m c).Φ 0 = Pipeline.ΦA spec0 c from rfl]

theorem hout (c : Dev nD) : (rdat m c).Φ (Fin.last cfg0.N) ⊢ Pipeline.ΦA spec0 c := by
  rw [show (rdat m c).Φ (Fin.last cfg0.N) = PhiS m c cfg0.N (Nat.le_of_lt_succ (Fin.last cfg0.N).isLt) from rfl]
  exact PhiS_any m c _ _

-- the library's launch theorem takes its implicit arguments from its conclusion, through definitions in a metavariable's type
set_option backward.isDefEq.respectTransparency.types false in
/-- The launch: every array ends at what the relational data allow, every semaphore counter at zero. -/
theorem run_main_quiescent : θ_run defs (onTc (τ := τ) (main (F := F))) (s₀ m ρ) (fun r => (RDat.FramePost cfg0 (rdat m) (V m)) r ∧ r.2.sem = fun _ => 0) :=
  Pipeline.RDat.θ_run_frame_track_shared (Q' := _) cfgs (0 : Fin 1) launch₀0 defs₀ Variants.none (rdat m) m ρ main
    (hbody := fun c => (body_obligation m c).toRRel) (hq := fun _ _ _ => rfl)
    (howed := fun _ _ => rfl) (V := V m) (hmain := hmain m Variants.none) (hA := A_eq m) (hin := hin m) (hout := hout m)

/-- The argument arrays end unchanged. -/
theorem kept {r : PUnit × MemSt nD τ sig (Elt F)} (h : RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h.arr_in c 1 rfl).trans ((A_eq m c 1).trans (V_main_arg0 m c)),
    ((h c).2 main_arg1 (Pipeline.mem_restRefs_of main_arg1 (by decide) (by decide))).trans (V_main_arg1 m c),
    (h.arr_in c 4 rfl).trans ((A_eq m c 4).trans (V_main_arg2 m c)),
    ((h c).2 main_arg3 (Pipeline.mem_restRefs_of main_arg3 (by decide) (by decide))).trans (V_main_arg3 m c)⟩

/-- The frame: the argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨kept m h.1, h.2⟩) (run_main_quiescent m ρ)

end Cert.UpIdeal.Hand

end
-- ==== Proof.UpMath.lean ====
/-
  The gated up projection as one function of its arguments.
-/
module

public import proofs.«01_k».proof.UpIdeal
public import Idealize.ShloMosaic.Lib.Pointwise

@[expose] public section

set_option maxRecDepth 16384

noncomputable section

open Idealize.ShloMosaic Idealize.ShloMosaic.TcCoe Idealize.SL.Sem

namespace Cert.UpIdeal.Closed

open Cert.UpIdeal

/-! ## The result as one function of the arguments -/

/-- An entry of the product, `2 - d` rows up within the sequence and zero before its first row. -/
def H (xn : S32768x2048.Idx → EReal) (w : S4x2048x11264.Idx → EReal) (d : Fin 3) (R : Fin 32768) (n : Fin 11264) : EReal :=
  if R.val % 2048 + d.val < 2 then 0 else ∑ k : Fin 2048, xn (ix2 (⟨R.val + d.val - 2, by omega⟩ : Fin 32768) k) * w (ix3 0 k n)

/-- The convolution of three rows with its bias. -/
def CV (xn : S32768x2048.Idx → EReal) (w : S4x2048x11264.Idx → EReal) (cw : S4x3x11264.Idx → EReal) (cb : S4x11264.Idx → EReal) (R : Fin 32768) (n : Fin 11264) : EReal :=
  H xn w 0 R n * cw (ix3 0 0 n) + H xn w 1 R n * cw (ix3 0 1 n) + H xn w 2 R n * cw (ix3 0 2 n) + cb (ix2 0 n)

/-- The gated product. -/
def act (g u : EReal) : EReal := Ideal.div g (1 + Ideal.exp (0 - g)) * u

/-- The result: the left half of the convolution's columns gates the right half. -/
def G (xn : S32768x2048.Idx → EReal) (w : S4x2048x11264.Idx → EReal) (cw : S4x3x11264.Idx → EReal) (cb : S4x11264.Idx → EReal) : S32768x5632.Idx → EReal :=
  fun i => act (CV xn w cw cb (i 0) ⟨(i 1).val, Nat.lt_of_lt_of_le (i 1).isLt (by decide)⟩) (CV xn w cw cb (i 0) ⟨5632 + (i 1).val, Nat.add_lt_add_left (i 1).isLt 5632⟩)

end Cert.UpIdeal.Closed

end
-- ==== Proof.UpRefValue.lean ====
/-
  The reference of the gated up projection: its result is the same function of its arguments as the kernel's.
-/
module

public import proofs.«01_k».proof.Proof.UpMath
public import proofs.«01_k».proof.Proof.Gen.UpRefIdeal.Run
public import proofs.«01_k».proof.Proof.GlaMath

@[expose] public section

set_option maxRecDepth 16384

noncomputable section

open Idealize.ShloMosaic Idealize.ShloMosaic.TcCoe Idealize.SL.Sem

namespace Cert.UpRefIdeal.Closed

open Cert.UpRefIdeal Cert.UpRefIdeal.Gen

variable (m : (ℓ : Loc nD τ sig) → Buf (Elt Ideal) ℓ) (ρ : Dev nD → PrngReg)

/-- The integer zero, converted, is zero. -/
theorem pad_zero : (FloatOps.sitofp (F := Ideal) .f32 (0#32) : EReal) = 0 := by
  show (((0#32 : BitVec 32).toInt : ℝ) : EReal) = 0
  simp

/-- A row of the padded product, as the reference reads it. -/
theorem row_eq (xn : S32768x2048.Idx → EReal) (w : S4x2048x11264.Idx → EReal) (d : Fin 3) (R : Fin 32768) (n : Fin 11264) (P : Prop) [Decidable P] (f : P → EReal)
    (hP : P ↔ ¬R.val % 2048 + d.val < 2) (hf : ∀ h : P, f h = ∑ k : Fin 2048, xn (ix2 (⟨R.val + d.val - 2, by omega⟩ : Fin 32768) k) * w (ix3 0 k n)) :
    (if h : P then f h else FloatOps.sitofp (F := Ideal) .f32 (0#32)) = Cert.UpIdeal.Closed.H xn w d R n := by
  unfold Cert.UpIdeal.Closed.H
  by_cases h : P
  · rw [dif_pos h, if_neg (hP.mp h), hf h]
  · rw [dif_neg h, if_pos (Decidable.not_not.mp fun a => h (hP.mpr a)), pad_zero]

theorem row_term (xn : S32768x2048.Idx → EReal) (w : S4x2048x11264.Idx → EReal) (a b : Fin 32768) (k : Fin 2048) (n : Fin 11264) (h : a.val = b.val) :
    xn (ix2 a k) * w (ix3 0 k n) = xn (ix2 b k) * w (ix3 0 k n) := by rw [Fin.ext h]

/-- Three such rows through the convolution. -/
theorem conv_eq (xn : S32768x2048.Idx → EReal) (w : S4x2048x11264.Idx → EReal) (cw : S4x3x11264.Idx → EReal) (cb : S4x11264.Idx → EReal) (R : Fin 32768) (n : Fin 11264) (a0 a1 a2 : EReal)
    (h0 : a0 = Cert.UpIdeal.Closed.H xn w 0 R n) (h1 : a1 = Cert.UpIdeal.Closed.H xn w 1 R n) (h2 : a2 = Cert.UpIdeal.Closed.H xn w 2 R n) :
    a0 * cw (ix3 0 0 n) + a1 * cw (ix3 0 1 n) + a2 * cw (ix3 0 2 n) + cb (ix2 0 n) = Cert.UpIdeal.Closed.CV xn w cw cb R n := by
  subst h0; subst h1; subst h2; rfl

/-- The gate as the reference writes it. -/
theorem act_eq (g u g' u' : EReal) (hg : g = g') (hu : u = u') : g * Ideal.div 1 (1 + Ideal.exp (-g)) * u = Cert.UpIdeal.Closed.act g' u' := by
  subst hg; subst hu
  unfold Cert.UpIdeal.Closed.act
  rw [← Cert.GlaMath.silu_eq]

set_option maxHeartbeats 2000000 in
/-- The reference's run: its result is the same function of its arguments. -/
theorem run : θ_run defs (onTc (τ := τ) (main (F := Ideal))) ⟨m, fun _ => 0, ρ⟩ fun r => ∀ c : Dev nD,
      r.2.mem ((c : Thread nD τ).loc main_v36) = Cert.UpIdeal.Closed.G (m ((c : Thread nD τ).loc main_arg0))
        (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ⟨(h c).1.trans ?_, (h c).2⟩) (Value.run m ρ)
  unfold Value.res_main_v36
  generalize m ((c : Thread nD τ).loc main_arg0) = xn
  generalize m ((c : Thread nD τ).loc main_arg1) = w
  generalize m ((c : Thread nD τ).loc main_arg2) = cw
  generalize m ((c : Thread nD τ).loc main_arg3) = cb
  funext j
  obtain ⟨r, l, rfl⟩ : ∃ (r : Fin 32768) (l : Fin 5632), j = ix2 r l := ⟨j 0, j 1, eq_ix2 j⟩
  unfold Cert.UpIdeal.Closed.G
  pointwise
  have hr := r.isLt
  have hl := l.isLt
  refine act_eq _ _ _ _ (conv_eq xn w cw cb r _ _ _ _ ?_ ?_ ?_) (conv_eq xn w cw cb r _ _ _ _ ?_ ?_ ?_)
  · refine row_eq xn w 0 r _ _ _ (by show _ ↔ ¬r.val % 2048 + 0 < 2; omega) fun h => Finset.sum_congr rfl fun k _ => ?_
    exact row_term xn w _ _ k _ (by show r.val / 2048 * 2048 + (r.val % 2048 - 2) = r.val + 0 - 2; omega)
  · refine row_eq xn w 1 r _ _ _ (by show _ ↔ ¬r.val % 2048 + 1 < 2; omega) fun h => Finset.sum_congr rfl fun k _ => ?_
    exact row_term xn w _ _ k _ (by show r.val / 2048 * 2048 + (1 + r.val % 2048 - 2) = r.val + 1 - 2; omega)
  · refine row_eq xn w 2 r _ _ _ (by show _ ↔ ¬r.val % 2048 + 2 < 2; omega) fun h => Finset.sum_congr rfl fun k _ => ?_
    exact row_term xn w _ _ k _ rfl
  · refine row_eq xn w 0 r _ _ _ (by show _ ↔ ¬r.val % 2048 + 0 < 2; omega) fun h => Finset.sum_congr rfl fun k _ => ?_
    exact row_term xn w _ _ k _ (by show r.val / 2048 * 2048 + (r.val % 2048 - 2) = r.val + 0 - 2; omega)
  · refine row_eq xn w 1 r _ _ _ (by show _ ↔ ¬r.val % 2048 + 1 < 2; omega) fun h => Finset.sum_congr rfl fun k _ => ?_
    exact row_term xn w _ _ k _ (by show r.val / 2048 * 2048 + (1 + r.val % 2048 - 2) = r.val + 1 - 2; omega)
  · refine row_eq xn w 2 r _ _ _ (by show _ ↔ ¬r.val % 2048 + 2 < 2; omega) fun h => Finset.sum_congr rfl fun k _ => ?_
    exact row_term xn w _ _ k _ rfl

end Cert.UpRefIdeal.Closed

end
-- ==== Proof.UpValue.lean ====
/-
  The gated up projection with its convolution over three rows: the kernel's result array after the run is, entry by
  entry, one function of the arguments, and so is the reference's.
-/
module

public import proofs.«01_k».proof.Defs
public import proofs.«01_k».proof.Proof.UpIdealFrame
public import proofs.«01_k».proof.Proof.UpRefValue
public import Idealize.ShloMosaic.Lib.Pipeline.Value
public import Idealize.ShloMosaic.Lib.Pipeline.ValueKit
public import Idealize.ShloMosaic.Lib.Pipeline.ArrRel
public import Idealize.ShloMosaic.Lib.Pointwise

@[expose] public section

set_option maxRecDepth 16384

noncomputable section

open Idealize.ShloMosaic Idealize.ShloMosaic.TcCoe Idealize.SL.Sem
open Idealize.ShloMosaic.Pipeline (Dat RDat)

namespace Cert.UpIdeal.Closed

open Cert.UpIdeal Cert.UpIdeal.Gen Cert.UpIdeal.Hand

variable (m : (ℓ : Loc nD τ sig) → Buf (Elt Ideal) ℓ) (ρ : Dev nD → PrngReg)

/-! ## The body's values at an entry -/

/-- A product's entry: an inner product over the 2048 columns. -/
theorem pay9_apply (x : S1040x2048.Idx → EReal) (w : S1x2048x256.Idx → EReal) (r : Fin 1040) (l : Fin 256) :
    k0_pay9 (F := Ideal) x w (ix2 r l) = ∑ k : Fin 2048, x (ix2 r k) * w (ix3 0 k l) := by
  pointwise [k0_pay9]

/-- A stored chunk's entry, from three rows of its two products. -/
theorem EP_apply (g u : S1040x256.Idx → EReal) (wg : S1x3x256.Idx → EReal) (bg : S1x1x256.Idx → EReal) (wu : S1x3x256.Idx → EReal) (bu : S1x1x256.Idx → EReal) (r : Fin 1024) (l : Fin 256) :
    EP (F := Ideal) g u wg bg wu bu (ix2 r l) = act
      (g (ix2 (⟨14 + r.val, by omega⟩ : Fin 1040) l) * wg (ix3 0 0 l) + g (ix2 (⟨15 + r.val, by omega⟩ : Fin 1040) l) * wg (ix3 0 1 l) + g (ix2 (⟨16 + r.val, by omega⟩ : Fin 1040) l) * wg (ix3 0 2 l) + bg (ix3 0 0 l))
      (u (ix2 (⟨14 + r.val, by omega⟩ : Fin 1040) l) * wu (ix3 0 0 l) + u (ix2 (⟨15 + r.val, by omega⟩ : Fin 1040) l) * wu (ix3 0 1 l) + u (ix2 (⟨16 + r.val, by omega⟩ : Fin 1040) l) * wu (ix3 0 2 l) + bu (ix3 0 0 l)) := by
  pointwise [EP, k0_pay14, k0_pay13, k0_pay12, k0_pay11, act]

/-- The body's test that a row block is its sequence's first, as it computes it. -/
def par (n : ℕ) : BitVec 1 :=
  let a : BitVec 32 := BitVec.ofNat 32 n
  let b : BitVec 32 := Scalar.select (Scalar.cmpi .eq 2#32 0#32) 1#32 2#32
  let e : BitVec 32 := Scalar.remsi a b
  Scalar.cmpi .eq (Scalar.select (Scalar.andi (Scalar.xori (Scalar.cmpi .slt e 0#32) (Scalar.cmpi .slt b 0#32)) (Scalar.cmpi .ne e 0#32)) (Scalar.addi e b) e) 0#32

theorem par_eq : ∀ n : Fin 32, par n.val = BitVec.ofBool (decide (n.val % 2 = 0)) := by decide

/-- The rows before a sequence's first row block are taken as zero. -/
theorem pay5_even (i : grid0.Coords) (n : Fin 32) (hn : (i 0).val = n.val) (h : n.val % 2 = 0) (v : S16x2048.Idx → EReal) (r : Fin 16) (k : Fin 2048) :
    k0_pay5 (F := Ideal) i v (ix2 r k) = 0 := by
  rw [show k0_pay5 (F := Ideal) i v = shapeCast S16x2048 (Scalar.select (par (i 0).val) (broadcast S16x2048 (Scalar.ofBits (F := Ideal) .bf16 0x0000#16)) v) shapeCasts_S16x2048_S16x2048 from rfl, hn, par_eq, decide_eq_true h]
  rw [show Scalar.select (BitVec.ofBool true) (broadcast S16x2048 (Scalar.ofBits (F := Ideal) .bf16 0x0000#16)) v = broadcast S16x2048 (Scalar.ofBits (F := Ideal) .bf16 0x0000#16) from rfl]
  pointwise
theorem pay5_odd (i : grid0.Coords) (n : Fin 32) (hn : (i 0).val = n.val) (h : ¬n.val % 2 = 0) (v : S16x2048.Idx → EReal) (r : Fin 16) (k : Fin 2048) :
    k0_pay5 (F := Ideal) i v (ix2 r k) = v (ix2 r k) := by
  rw [show k0_pay5 (F := Ideal) i v = shapeCast S16x2048 (Scalar.select (par (i 0).val) (broadcast S16x2048 (Scalar.ofBits (F := Ideal) .bf16 0x0000#16)) v) shapeCasts_S16x2048_S16x2048 from rfl, hn, par_eq, decide_eq_false h]
  rw [show Scalar.select (BitVec.ofBool false) (broadcast S16x2048 (Scalar.ofBits (F := Ideal) .bf16 0x0000#16)) v = v from rfl]
  pointwise
theorem pay6_apply (v : S1024x2048.Idx → EReal) (j : S1024x2048.Idx) : k0_pay6 (F := Ideal) v j = v j := by
  pointwise [k0_pay6]

/-- The row block's own rows follow the sixteen rows before it. -/
theorem XE_hi (i : grid0.Coords) (x0 : S1024x2048.Idx → EReal) (x1 : S16x2048.Idx → EReal) (p : Fin 1040) (r : Fin 1024) (h : p.val = 16 + r.val) (k : Fin 2048) :
    XE (F := Ideal) i x0 x1 (ix2 p k) = x0 (ix2 r k) := by
  unfold XE
  have e : ix2 p k = (Rect.unit (s := S1040x2048) ![16, 0] S1024x2048.size inb_S1040x2048_S1024x2048_16_0).emb (ix2 r k) := by
    funext a
    apply Fin.ext
    match a with
    | ⟨0, _⟩ => show p.val = 16 + 1 * r.val; omega
    | ⟨1, _⟩ => show k.val = 0 + 1 * k.val; omega
  rw [e, View.canon_cons_emb]
  exact pay6_apply x0 _
theorem XE_lo (i : grid0.Coords) (x0 : S1024x2048.Idx → EReal) (x1 : S16x2048.Idx → EReal) (p : Fin 1040) (r : Fin 16) (h : p.val = r.val) (k : Fin 2048) :
    XE (F := Ideal) i x0 x1 (ix2 p k) = k0_pay5 (F := Ideal) i x1 (ix2 r k) := by
  unfold XE
  have e : ix2 p k = (Rect.unit (s := S1040x2048) ![0, 0] S16x2048.size inb_S1040x2048_S16x2048_0_0).emb (ix2 r k) := by
    funext a
    apply Fin.ext
    match a with
    | ⟨0, _⟩ => show p.val = 0 + 1 * r.val; omega
    | ⟨1, _⟩ => show k.val = 0 + 1 * k.val; omega
  rw [View.canon_cons_of_not_mem, e, View.canon_cons_emb]
  rw [Rect.mem_set_unit]
  intro hh
  have := (hh 0).1
  have h2 : 16 ≤ p.val := this
  omega

theorem lo_apply (x : S1x2048x512.Idx → EReal) (k : Fin 2048) (l : Fin 256) : lo (F := Ideal) x (ix3 0 k l) = x (ix3 0 k (⟨l.val, by omega⟩ : Fin 512)) := by
  unfold lo
  show x _ = x _
  congr 1
  funext a
  apply Fin.ext
  match a with
  | ⟨0, _⟩ => rfl
  | ⟨1, _⟩ => show 0 + 1 * k.val = k.val; omega
  | ⟨2, _⟩ => show 0 + 1 * l.val = l.val; omega
theorem hi_apply (x : S1x2048x512.Idx → EReal) (k : Fin 2048) (l : Fin 256) : hi (F := Ideal) x (ix3 0 k l) = x (ix3 0 k (⟨256 + l.val, by omega⟩ : Fin 512)) := by
  unfold hi
  show x _ = x _
  congr 1
  funext a
  apply Fin.ext
  match a with
  | ⟨0, _⟩ => rfl
  | ⟨1, _⟩ => show 0 + 1 * k.val = k.val; omega
  | ⟨2, _⟩ => show 256 + 1 * l.val = 256 + l.val; omega
theorem KW_apply (x : S1x3x11264.Idx → EReal) (n : Fin 44) (d : Fin 3) (l : Fin 256) : KW (F := Ideal) x n (ix3 0 d l) = x (ix3 0 d (⟨256 * n.val + l.val, by omega⟩ : Fin 11264)) := by
  unfold KW
  show x _ = x _
  congr 1
  funext a
  apply Fin.ext
  match a with
  | ⟨0, _⟩ => rfl
  | ⟨1, _⟩ => show 0 + 1 * d.val = d.val; omega
  | ⟨2, _⟩ => show 256 * n.val + 1 * l.val = 256 * n.val + l.val; omega
theorem KB_apply (x : S1x1x11264.Idx → EReal) (n : Fin 44) (l : Fin 256) : KB (F := Ideal) x n (ix3 0 0 l) = x (ix3 0 0 (⟨256 * n.val + l.val, by omega⟩ : Fin 11264)) := by
  unfold KB
  show x _ = x _
  congr 1
  funext a
  apply Fin.ext
  match a with
  | ⟨0, _⟩ => rfl
  | ⟨1, _⟩ => rfl
  | ⟨2, _⟩ => show 256 * n.val + 1 * l.val = 256 * n.val + l.val; omega

/-! ## The blocks at an entry -/

/-- The index maps at a grid point: row block `t / 11`, column step `t % 11`. -/
theorem idx : ∀ t : Fin cfg0.N, win0_0.index t 0 = t.val / 11 ∧ win0_0.index t 1 = 0
    ∧ win0_1.index t 0 = 64 * (t.val / 11) - 1 ∧ win0_1.index t 1 = 0
    ∧ win0_2.index t 0 = 0 ∧ win0_2.index t 1 = 0 ∧ win0_2.index t 2 = t.val % 11
    ∧ win0_3.index t 0 = 0 ∧ win0_3.index t 1 = 0 ∧ win0_3.index t 2 = 11 + t.val % 11
    ∧ win0_4.index t 0 = 0 ∧ win0_4.index t 1 = 0 ∧ win0_4.index t 2 = 0
    ∧ win0_5.index t 0 = 0 ∧ win0_5.index t 1 = 0 ∧ win0_5.index t 2 = 0
    ∧ win0_6.index t 0 = t.val / 11 ∧ win0_6.index t 1 = 0 := by decide +kernel

theorem V_w (c : Dev nD) : (V m c main_v0 : S4x2048x11264.Idx → EReal) = m ((c : Thread nD τ).loc main_arg1) := by
  unfold V
  simp only [hostOps0]
  after_results
  all_goals rfl

theorem V_b (c : Dev nD) (n : Fin 11264) : (V m c main_v1 : S4x1x11264.Idx → EReal) (ix3 0 0 n) = m ((c : Thread nD τ).loc main_arg3) (ix2 0 n) := by
  unfold V
  simp only [hostOps0]
  after_results
  generalize m (c, _) = b
  pointwise

theorem blk0 (c : Dev nD) (t : Fin cfg0.N) (r : Fin 1024) (k : Fin 2048) (R : Fin 32768) (hR : R.val = 1024 * (t.val / 11) + r.val) :
    (iblk m c 0 t : S1024x2048.Idx → EReal) (ix2 r k) = m ((c : Thread nD τ).loc main_arg0) (ix2 R k) := by
  obtain ⟨a0, a1, _⟩ := idx t
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = R.val; rw [a0]; omega
  | ⟨1, _⟩ => show win0_0.index t 1 * 2048 + 1 * k.val = k.val; rw [a1]; omega

theorem blk1 (c : Dev nD) (t : Fin cfg0.N) (r : Fin 16) (k : Fin 2048) (R : Fin 32768) (hR : R.val = 16 * (64 * (t.val / 11) - 1) + r.val) :
    (iblk m c 1 t : S16x2048.Idx → EReal) (ix2 r k) = m ((c : Thread nD τ).loc main_arg0) (ix2 R k) := by
  obtain ⟨_, _, a0, a1, _⟩ := idx t
  unfold iblk
  rw [View.read_apply]
  show V m c main_arg0 _ = m (c.tc.loc main_arg0) _
  rw [V_main_arg0]
  congr 1
  funext a
  apply Fin.ext
  match a with
  | ⟨0, _⟩ => show win0_1.index t 0 * 16 + 1 * r.val = R.val; rw [a0]; omega
  | ⟨1, _⟩ => show win0_1.index t 1 * 2048 + 1 * k.val = k.val; rw [a1]; omega

theorem blk2 (c : Dev nD) (t : Fin cfg0.N) (k : Fin 2048) (l : Fin 512) (n : Fin 11264) (hn : n.val = 512 * (t.val % 11) + l.val) :
    (iblk m c 2 t : S1x2048x512.Idx → EReal) (ix3 0 k l) = m ((c : Thread nD τ).loc main_arg1) (ix3 0 k n) := by
  obtain ⟨_, _, _, _, a0, a1, a2, _⟩ := idx t
  unfold iblk
  rw [View.read_apply]
  show V m c main_v0 _ = m (c.tc.loc main_arg1) _
  refine (congrFun (V_w m c) _).trans ?_
  congr 1
  funext a
  apply Fin.ext
  match a with
  | ⟨0, _⟩ => show win0_2.index t 0 * 1 + 1 * 0 = 0; rw [a0]
  | ⟨1, _⟩ => show win0_2.index t 1 * 2048 + 1 * k.val = k.val; rw [a1]; omega
  | ⟨2, _⟩ => show win0_2.index t 2 * 512 + 1 * l.val = n.val; rw [a2]; omega

theorem blk3 (c : Dev nD) (t : Fin cfg0.N) (k : Fin 2048) (l : Fin 512) (n : Fin 11264) (hn : n.val = 5632 + 512 * (t.val % 11) + l.val) :
    (iblk m c 3 t : S1x2048x512.Idx → EReal) (ix3 0 k l) = m ((c : Thread nD τ).loc main_arg1) (ix3 0 k n) := by
  obtain ⟨_, _, _, _, _, _, _, a0, a1, a2, _⟩ := idx t
  unfold iblk
  rw [View.read_apply]
  show V m c main_v0 _ = m (c.tc.loc main_arg1) _
  refine (congrFun (V_w m c) _).trans ?_
  congr 1
  funext a
  apply Fin.ext
  match a with
  | ⟨0, _⟩ => show win0_3.index t 0 * 1 + 1 * 0 = 0; rw [a0]
  | ⟨1, _⟩ => show win0_3.index t 1 * 2048 + 1 * k.val = k.val; rw [a1]; omega
  | ⟨2, _⟩ => show win0_3.index t 2 * 512 + 1 * l.val = n.val; rw [a2]; omega

theorem blk4_apply (c : Dev nD) (t : Fin cfg0.N) (d : Fin 3) (n : Fin 11264) :
    (iblk m c 4 t : S1x3x11264.Idx → EReal) (ix3 0 d n) = m ((c : Thread nD τ).loc main_arg2) (ix3 0 d n) := by
  obtain ⟨_, _, _, _, _, _, _, _, _, _, a0, a1, a2, _⟩ := idx t
  unfold iblk
  rw [View.read_apply]
  show V m c main_arg2 _ = m (c.tc.loc main_arg2) _
  rw [V_main_arg2]
  congr 1
  funext a
  apply Fin.ext
  match a with
  | ⟨0, _⟩ => show win0_4.index t 0 * 1 + 1 * 0 = 0; rw [a0]
  | ⟨1, _⟩ => show win0_4.index t 1 * 3 + 1 * d.val = d.val; rw [a1]; omega
  | ⟨2, _⟩ => show win0_4.index t 2 * 11264 + 1 * n.val = n.val; rw [a2]; omega

theorem blk5_apply (c : Dev nD) (t : Fin cfg0.N) (n : Fin 11264) :
    (iblk m c 5 t : S1x1x11264.Idx → EReal) (ix3 0 0 n) = m ((c : Thread nD τ).loc main_arg3) (ix2 0 n) := by
  obtain ⟨_, _, _, _, _, _, _, _, _, _, _, _, _, a0, a1, a2, _⟩ := idx t
  refine Eq.trans ?_ (V_b m c n)
  unfold iblk
  rw [View.read_apply]
  show V m c main_v1 _ = V m c main_v1 _
  congr 1
  funext a
  apply Fin.ext
  match a with
  | ⟨0, _⟩ => show win0_5.index t 0 * 1 + 1 * 0 = 0; rw [a0]
  | ⟨1, _⟩ => show win0_5.index t 1 * 1 + 1 * 0 = 0; rw [a1]
  | ⟨2, _⟩ => show win0_5.index t 2 * 11264 + 1 * n.val = n.val; rw [a2]; omega

/-! ## The products and the chunks -/

theorem pt_at (n : ℕ) (h : n < 352) : (pt n).val = n := Nat.mod_eq_of_lt h

/-- A row of the row block and the rows before it, as a row of the argument. -/
theorem XEr_apply (c : Dev nD) (i : ℕ) (hi : i < 32) (r : Fin 1024) (d : Fin 3) (p : Fin 1040) (hp : p.val = 14 + d.val + r.val) (R : Fin 32768) (hR : R.val = 1024 * i + r.val) (k : Fin 2048) :
    (XEr m c i : S1040x2048.Idx → EReal) (ix2 p k) = if R.val % 2048 + d.val < 2 then (0 : EReal) else (m ((c : Thread nD τ).loc main_arg0) : S32768x2048.Idx → EReal) (ix2 (⟨R.val + d.val - 2, by omega⟩ : Fin 32768) k) := by
  have hv : (pt (11 * i)).val = 11 * i := pt_at _ (by omega)
  have hd : (pt (11 * i)).val / 11 = i := by rw [hv]; omega
  unfold XEr
  by_cases h : 16 ≤ p.val
  · rw [XE_hi _ _ _ p ⟨p.val - 16, by omega⟩ (by show p.val = 16 + (p.val - 16); omega) k, if_neg (by omega)]
    exact blk0 m c _ _ k _ (by rw [hd]; show R.val + d.val - 2 = 1024 * i + (p.val - 16); omega)
  · rw [XE_lo _ _ _ p ⟨p.val, by omega⟩ rfl k]
    have hrow : (grid0.coords (pt (11 * i)) 0).val = (⟨i, hi⟩ : Fin 32).val := by rw [row_val, hd]; exact Nat.mod_eq_of_lt hi
    by_cases he : i % 2 = 0
    · rw [pay5_even _ ⟨i, hi⟩ hrow he, if_pos (by omega)]
    · rw [pay5_odd _ ⟨i, hi⟩ hrow he, if_neg (by omega)]
      exact blk1 m c _ _ k _ (by rw [hd]; show R.val + d.val - 2 = 16 * (64 * i - 1) + p.val; omega)

/-- A product's entry is the entry of the whole product. -/
theorem prod_apply (c : Dev nD) (i : ℕ) (hi : i < 32) (r : Fin 1024) (d : Fin 3) (p : Fin 1040) (hp : p.val = 14 + d.val + r.val) (R : Fin 32768) (hR : R.val = 1024 * i + r.val)
    (w : S1x2048x256.Idx → EReal) (l : Fin 256) (n : Fin 11264) (hw : ∀ k : Fin 2048, w (ix3 0 k l) = m ((c : Thread nD τ).loc main_arg1) (ix3 0 k n)) :
    k0_pay9 (F := Ideal) (XEr m c i) w (ix2 p l) = H (m ((c : Thread nD τ).loc main_arg0)) (m ((c : Thread nD τ).loc main_arg1)) d R n := by
  rw [pay9_apply]
  unfold H
  by_cases h : R.val % 2048 + d.val < 2
  · rw [if_pos h]
    refine Finset.sum_eq_zero fun k _ => ?_
    rw [XEr_apply m c i hi r d p hp R hR k, if_pos h]; exact zero_mul (M₀ := EReal) _
  · rw [if_neg h]
    refine Finset.sum_congr rfl fun k _ => ?_
    rw [XEr_apply m c i hi r d p hp R hR k, if_neg h, hw]

theorem GHr_apply (c : Dev nD) (i : ℕ) (hi : i < 32) (q : Fin 22) (r : Fin 1024) (d : Fin 3) (p : Fin 1040) (hp : p.val = 14 + d.val + r.val) (R : Fin 32768) (hR : R.val = 1024 * i + r.val)
    (l : Fin 256) (n : Fin 11264) (hn : n.val = 256 * q.val + l.val) :
    (GHr m c i q.val : S1040x256.Idx → EReal) (ix2 p l) = H (m ((c : Thread nD τ).loc main_arg0)) (m ((c : Thread nD τ).loc main_arg1)) d R n := by
  have hv : (pt (11 * i + q.val / 2)).val = 11 * i + q.val / 2 := pt_at _ (by omega)
  unfold GHr
  refine prod_apply m c i hi r d p hp R hR _ l n fun k => ?_
  by_cases h : q.val % 2 = 0
  · rw [if_pos h, lo_apply]
    exact blk2 m c _ k _ n (by rw [hv]; show n.val = 512 * ((11 * i + q.val / 2) % 11) + l.val; omega)
  · rw [if_neg h, hi_apply]
    exact blk2 m c _ k _ n (by rw [hv]; show n.val = 512 * ((11 * i + q.val / 2) % 11) + (256 + l.val); omega)

theorem UHr_apply (c : Dev nD) (i : ℕ) (hi : i < 32) (q : Fin 22) (r : Fin 1024) (d : Fin 3) (p : Fin 1040) (hp : p.val = 14 + d.val + r.val) (R : Fin 32768) (hR : R.val = 1024 * i + r.val)
    (l : Fin 256) (n : Fin 11264) (hn : n.val = 5632 + 256 * q.val + l.val) :
    (UHr m c i q.val : S1040x256.Idx → EReal) (ix2 p l) = H (m ((c : Thread nD τ).loc main_arg0)) (m ((c : Thread nD τ).loc main_arg1)) d R n := by
  have hv : (pt (11 * i + q.val / 2)).val = 11 * i + q.val / 2 := pt_at _ (by omega)
  unfold UHr
  refine prod_apply m c i hi r d p hp R hR _ l n fun k => ?_
  by_cases h : q.val % 2 = 0
  · rw [if_pos h, lo_apply]
    exact blk3 m c _ k _ n (by rw [hv]; show n.val = 5632 + 512 * ((11 * i + q.val / 2) % 11) + l.val; omega)
  · rw [if_neg h, hi_apply]
    exact blk3 m c _ k _ n (by rw [hv]; show n.val = 5632 + 512 * ((11 * i + q.val / 2) % 11) + (256 + l.val); omega)

/-- A chunk's entry is the result's entry. -/
theorem CHr_apply (c : Dev nD) (i : ℕ) (hi : i < 32) (q : Fin 22) (r : Fin 1024) (l : Fin 256) (R : Fin 32768) (hR : R.val = 1024 * i + r.val) (C : Fin 5632) (hC : C.val = 256 * q.val + l.val) :
    (CHr m c i q : S1024x256.Idx → EReal) (ix2 r l) = G (m ((c : Thread nD τ).loc main_arg0)) (m ((c : Thread nD τ).loc main_arg1)) (m ((c : Thread nD τ).loc main_arg2)) (m ((c : Thread nD τ).loc main_arg3)) (ix2 R C) := by
  have e1 : (⟨256 * (⟨q.val, by omega⟩ : Fin 44).val + l.val, by omega⟩ : Fin 11264) = ⟨C.val, by omega⟩ := Fin.ext (by show 256 * q.val + l.val = C.val; omega)
  have e2 : (⟨256 * (⟨22 + q.val, by omega⟩ : Fin 44).val + l.val, by omega⟩ : Fin 11264) = ⟨5632 + C.val, by omega⟩ := Fin.ext (by show 256 * (22 + q.val) + l.val = 5632 + C.val; omega)
  unfold CHr EC
  rw [EP_apply]
  simp only [KW_apply, KB_apply, blk4_apply, blk5_apply, e1, e2]
  rw [GHr_apply m c i hi q r 0 _ (by show 14 + r.val = 14 + 0 + r.val; omega) R hR l ⟨C.val, by omega⟩ hC,
    GHr_apply m c i hi q r 1 _ (by show 15 + r.val = 14 + 1 + r.val; omega) R hR l ⟨C.val, by omega⟩ hC,
    GHr_apply m c i hi q r 2 _ (by show 16 + r.val = 14 + 2 + r.val; omega) R hR l ⟨C.val, by omega⟩ hC,
    UHr_apply m c i hi q r 0 _ (by show 14 + r.val = 14 + 0 + r.val; omega) R hR l ⟨5632 + C.val, by omega⟩ (by show 5632 + C.val = _; omega),
    UHr_apply m c i hi q r 1 _ (by show 15 + r.val = 14 + 1 + r.val; omega) R hR l ⟨5632 + C.val, by omega⟩ (by show 5632 + C.val = _; omega),
    UHr_apply m c i hi q r 2 _ (by show 16 + r.val = 14 + 2 + r.val; omega) R hR l ⟨5632 + C.val, by omega⟩ (by show 5632 + C.val = _; omega)]
  rfl

/-- What a row block's last step leaves in the output's buffer is the row block of the result. -/
theorem block_eq (c : Dev nD) (t : Fin cfg0.N) (ht : t.val % 11 = 10) (X : S1024x5632.Idx → EReal) (hX : Holds m c t.val X) (r : Fin 1024) (C : Fin 5632) (R : Fin 32768) (hR : R.val = 1024 * (t.val / 11) + r.val) :
    X (ix2 r C) = G (m ((c : Thread nD τ).loc main_arg0)) (m ((c : Thread nD τ).loc main_arg1)) (m ((c : Thread nD τ).loc main_arg2)) (m ((c : Thread nD τ).loc main_arg3)) (ix2 R C) := by
  have hN := lt_points t
  have e := congrFun (hX ⟨C.val / 256, by omega⟩ (by unfold lim; rw [if_pos ht]; show C.val / 256 < 22; omega)) (ix2 r (⟨C.val % 256, by omega⟩ : Fin 256))
  refine Eq.trans ?_ (e.trans (CHr_apply m c _ (by omega) _ r _ R hR C (by show C.val = 256 * (C.val / 256) + C.val % 256; omega)))
  show X _ = X _
  congr 1
  funext a
  apply Fin.ext
  match a with
  | ⟨0, _⟩ => show r.val = 0 + 1 * r.val; omega
  | ⟨1, _⟩ => show C.val = 256 * (C.val / 256) + 1 * (C.val % 256); omega

/-- The result array after the run is `G` of the arguments. -/
theorem final {r : PUnit × MemSt nD τ sig (Elt Ideal)} (h : RDat.FramePost cfg0 (rdat m) (V m) r) (c : Dev nD) :
    r.2.mem ((c.tc : Thread nD τ).loc main_v2) = G (m ((c : Thread nD τ).loc main_arg0)) (m ((c : Thread nD τ).loc main_arg1)) (m ((c : Thread nD τ).loc main_arg2)) (m ((c : Thread nD τ).loc main_arg3)) := by
  obtain ⟨after, hL, hA⟩ := h.exists_exact c
  refine (hA 6).trans ?_
  refine ((rdat m c).withAfter after).arrAt_eq_of_covers 6 _ (by decide +kernel) fun t hf y => ?_
  have ht := (flush0_6 t).mp hf
  have hX := leaves_out m c t _ (hL 6 t hf)
  have hN := lt_points t
  obtain ⟨_, _, _, _, _, _, _, _, _, _, _, _, _, _, _, _, a0, a1⟩ := idx t
  obtain ⟨p, C, rfl⟩ : ∃ (p : Fin 1024) (C : Fin 5632), y = ix2 p C := ⟨y 0, y 1, eq_ix2 y⟩
  refine (block_eq m c t ht _ hX p C ⟨1024 * (t.val / 11) + p.val, by omega⟩ rfl).trans ?_
  congr 1
  funext a
  apply Fin.ext
  match a with
  | ⟨0, _⟩ => show 1024 * (t.val / 11) + p.val = win0_6.index t 0 * 1024 + 1 * p.val; rw [a0]; omega
  | ⟨1, _⟩ => show C.val = win0_6.index t 1 * 5632 + 1 * C.val; rw [a1]; omega

/-- The kernel's run: the result is `G` of the arguments, the arguments are unchanged. -/
theorem run : θ_run defs (onTc (τ := τ) (main (F := Ideal))) ⟨m, fun _ => 0, ρ⟩ fun r => ∀ c : Dev nD,
      r.2.mem ((c : Thread nD τ).loc main_v2)
        = G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨final m h.1 c, kept m h.1 c⟩) (run_main_quiescent m ρ)

end Cert.UpIdeal.Closed

/-- At extended reals the gated up projection equals its reference, whatever the arguments are. -/
theorem Cert.up_algebraic : Cert.algebraic_UpIdeal_UpRefIdeal := fun m ρ m' ρ' _ hag =>
  ⟨fun c => Cert.UpIdeal.Closed.G (m ((c.tc : Thread _ _).loc Cert.UpIdeal.main_arg0))
      (m ((c.tc : Thread _ _).loc Cert.UpIdeal.main_arg1)) (m ((c.tc : Thread _ _).loc Cert.UpIdeal.main_arg2)) (m ((c.tc : Thread _ _).loc Cert.UpIdeal.main_arg3)),
    Cert.UpIdeal.Closed.run m ρ,
    (θ_run _ _ _).mono (fun _ h c => ⟨(h c).1.trans (by rw [(hag c).1, (hag c).2.1, (hag c).2.2.1, (hag c).2.2.2]), (h c).2⟩)
      (Cert.UpRefIdeal.Closed.run m' ρ')⟩

end
-- ==== Proof.DownValue.lean ====
/-
  The down projection with its residual: the kernel's result array after the run is, entry by entry, the residual plus
  the row of activations against the column of weights, and so is the reference's.
-/
module

public import proofs.«01_k».proof.Defs
public import proofs.«01_k».proof.Proof.Gen.DownIdeal.Value
public import proofs.«01_k».proof.Proof.Gen.DownRefIdeal.Run
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DownIdeal.Closed

open Cert.DownIdeal Cert.DownIdeal.Gen Cert.DownIdeal.Value

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The result as one function of the arguments: the residual plus the inner product over the 5632 columns. -/
def G (act : S32768x5632.Idx → EReal) (w : S4x5632x2048.Idx → EReal) (h : S32768x2048.Idx → EReal) :
    S32768x2048.Idx → EReal :=
  fun i => h i + ∑ k : Fin 5632, act (ix2 (i 0) k) * w (ix3 0 k (i 1))

theorem G_congr (act : S32768x5632.Idx → EReal) (w : S4x5632x2048.Idx → EReal) (h : S32768x2048.Idx → EReal)
    (i : S32768x2048.Idx) (R : Fin 32768) (C : Fin 2048) (h0 : (i 0).val = R.val) (h1 : (i 1).val = C.val) :
    G act w h i = G act w h (ix2 R C) := by
  congr 1
  funext a
  match a with
  | ⟨0, _⟩ => exact Fin.ext h0
  | ⟨1, _⟩ => exact Fin.ext h1

/-- The four index maps at a grid point: row block `t / 4`, column block `t % 4`. -/
theorem idx : ∀ t : Fin cfg0.N, win0_0.index t 0 = t.val / 4 ∧ win0_0.index t 1 = 0
    ∧ win0_1.index t 0 = 0 ∧ win0_1.index t 1 = 0 ∧ win0_1.index t 2 = t.val % 4
    ∧ win0_2.index t 0 = t.val / 4 ∧ win0_2.index t 1 = t.val % 4
    ∧ win0_3.index t 0 = t.val / 4 ∧ win0_3.index t 1 = t.val % 4 := by decide +kernel

theorem V_w (c : Dev nD) : (V m c main_v0 : S4x5632x2048.Idx → EReal) = m ((c : Thread nD τ).loc main_arg1) := by
  unfold V
  simp only [hostOps0]
  after_results
  all_goals rfl

theorem blk0 (c : Dev nD) (t : Fin cfg0.N) (r : Fin 1024) (k : Fin 5632) :
    (iblk m c 0 t : S1024x5632.Idx → EReal) (ix2 r k)
      = m ((c : Thread nD τ).loc main_arg0) (ix2 (⟨t.val / 4 * 1024 + r.val, by
          have := t.isLt; have : cfg0.N = 128 := N_0; omega⟩ : Fin 32768) k) := by
  have hi := idx t
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = t.val / 4 * 1024 + r.val; rw [hi.1]; omega
  | ⟨1, _⟩ => show win0_0.index t 1 * 5632 + 1 * k.val = k.val; rw [hi.2.1]; omega

theorem blk1 (c : Dev nD) (t : Fin cfg0.N) (k : Fin 5632) (l : Fin 512) :
    (iblk m c 1 t : S1x5632x512.Idx → EReal) (ix3 0 k l)
      = m ((c : Thread nD τ).loc main_arg1) (ix3 0 k (⟨t.val % 4 * 512 + l.val, by omega⟩ : Fin 2048)) := by
  have hi := idx t
  unfold iblk
  rw [View.read_apply]
  show V m c main_v0 _ = m (c.tc.loc main_arg1) _
  refine (congrFun (V_w m c) _).trans ?_
  congr 1
  funext a
  apply Fin.ext
  match a with
  | ⟨0, _⟩ => show win0_1.index t 0 * 1 + 1 * 0 = 0; rw [hi.2.2.1]
  | ⟨1, _⟩ => show win0_1.index t 1 * 5632 + 1 * k.val = k.val; rw [hi.2.2.2.1]; omega
  | ⟨2, _⟩ => show win0_1.index t 2 * 512 + 1 * l.val = t.val % 4 * 512 + l.val; rw [hi.2.2.2.2.1]; omega

theorem blk2 (c : Dev nD) (t : Fin cfg0.N) (r : Fin 1024) (l : Fin 512) :
    (iblk m c 2 t : S1024x512.Idx → EReal) (ix2 r l)
      = m ((c : Thread nD τ).loc main_arg2) (ix2 (⟨t.val / 4 * 1024 + r.val, by
          have := t.isLt; have : cfg0.N = 128 := N_0; omega⟩ : Fin 32768) (⟨t.val % 4 * 512 + l.val, by omega⟩ : Fin 2048)) := by
  have hi := idx t
  unfold iblk
  rw [View.read_apply]
  show V m c main_arg2 _ = m (c.tc.loc main_arg2) _
  rw [V_main_arg2]
  congr 1
  funext a
  apply Fin.ext
  match a with
  | ⟨0, _⟩ => show win0_2.index t 0 * 1024 + 1 * r.val = t.val / 4 * 1024 + r.val; rw [hi.2.2.2.2.2.1]; omega
  | ⟨1, _⟩ => show win0_2.index t 1 * 512 + 1 * l.val = t.val % 4 * 512 + l.val; rw [hi.2.2.2.2.2.2.1]; omega

/-- The body's payload at an entry: the residual's entry plus the inner product. -/
theorem pay_apply (x2 : S1024x512.Idx → EReal) (x0 : S1024x5632.Idx → EReal) (x1 : S1x5632x512.Idx → EReal)
    (r : Fin 1024) (l : Fin 512) :
    k0_pay1 (F := Ideal) x2 x0 x1 (ix2 r l) = x2 (ix2 r l) + ∑ k : Fin 5632, x0 (ix2 r k) * x1 (ix3 0 k l) := by
  pointwise [k0_pay1]

/-- What point `t` writes back is block `t` of `G`. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  have hi := idx t
  rw [flushed3]
  unfold out0_3
  rw [View.canon_unit_zero hz2, View.ld_unit_zero hz2, View.ld_unit_zero hz2, View.ld_unit_zero hz3]
  funext j
  obtain ⟨r, l, rfl⟩ : ∃ (r : Fin 1024) (l : Fin 512), j = ix2 r l := ⟨j 0, j 1, eq_ix2 j⟩
  rw [View.read_apply]
  show k0_pay1 (F := Ideal) _ _ _ (ix2 r l) = G _ _ _ _
  refine (pay_apply _ _ _ r l).trans ?_
  refine Eq.trans ?_ (G_congr _ _ _ _ (⟨t.val / 4 * 1024 + r.val, by
          have := t.isLt; have : cfg0.N = 128 := N_0; omega⟩ : Fin 32768) (⟨t.val % 4 * 512 + l.val, by omega⟩ : Fin 2048) ?_ ?_).symm
  rotate_left
  · show win0_3.index t 0 * 1024 + 1 * r.val = t.val / 4 * 1024 + r.val; rw [hi.2.2.2.2.2.2.2.1]; omega
  · show win0_3.index t 1 * 512 + 1 * l.val = t.val % 4 * 512 + l.val; rw [hi.2.2.2.2.2.2.2.2]; omega
  rw [blk2]
  unfold G
  simp only [blk0, blk1]
  rfl

theorem cover (i : S32768x2048.Idx) :
    ∃ t : Fin cfg0.N, (cfg0.win 3).flush t = true ∧ i ∈ ((cfg0.win 3).blk t).view.set := by
  have hN : cfg0.N = 128 := N_0
  have h0 : (i 0 : Nat) < 32768 := (i 0).isLt
  have h1 : (i 1 : Nat) < 2048 := (i 1).isLt
  let t : Fin cfg0.N := ⟨(i 0 : Nat) / 1024 * 4 + (i 1 : Nat) / 512, by omega⟩
  have hi := idx t
  have hv : t.val = (i 0 : Nat) / 1024 * 4 + (i 1 : Nat) / 512 := rfl
  refine ⟨t, flush0_3 t, ?_⟩
  show i ∈ ((View.whole main_v1).slice (win0_3.rect t)).set
  rw [View.set_slice_whole, Rect.mem_set_unit]
  intro a
  match a with
  | ⟨0, _⟩ =>
    show win0_3.index t 0 * 1024 ≤ (i 0 : Nat) ∧ (i 0 : Nat) < win0_3.index t 0 * 1024 + 1024
    rw [hi.2.2.2.2.2.2.2.1]; omega
  | ⟨1, _⟩ =>
    show win0_3.index t 1 * 512 ≤ (i 1 : Nat) ∧ (i 1 : Nat) < win0_3.index t 1 * 512 + 512
    rw [hi.2.2.2.2.2.2.2.2]; omega

/-- The result array after the run is `G` of the arguments. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run: the result is `G` of the arguments, the arguments are unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.DownIdeal.Closed

namespace Cert.DownRefIdeal.Closed

open Cert.DownRefIdeal Cert.DownRefIdeal.Gen

variable (m : (ℓ : Loc nD τ sig) → Buf (Elt Ideal) ℓ) (ρ : Dev nD → PrngReg)

/-- The reference's run: its result is the same function of its arguments. -/
theorem run : θ_run defs (onTc (τ := τ) (main (F := Ideal))) ⟨m, fun _ => 0, ρ⟩ fun r => ∀ c : Dev nD,
      r.2.mem ((c : Thread nD τ).loc main_v4) = Cert.DownIdeal.Closed.G (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun _ h c => ⟨(h c).1.trans ?_, (h c).2⟩) (Value.run m ρ)
  generalize m ((c : Thread nD τ).loc main_arg0) = act
  generalize m ((c : Thread nD τ).loc main_arg1) = w
  generalize m ((c : Thread nD τ).loc main_arg2) = hh
  funext j
  obtain ⟨r, l, rfl⟩ : ∃ (r : Fin 32768) (l : Fin 2048), j = ix2 r l := ⟨j 0, j 1, eq_ix2 j⟩
  unfold Cert.DownIdeal.Closed.G
  pointwise

end Cert.DownRefIdeal.Closed

/-- At extended reals the down projection equals its reference, whatever the arguments are. -/
theorem Cert.down_algebraic : Cert.algebraic_DownIdeal_DownRefIdeal := fun m ρ m' ρ' _ hag =>
  ⟨fun c => Cert.DownIdeal.Closed.G (m ((c.tc : Thread _ _).loc Cert.DownIdeal.main_arg0))
      (m ((c.tc : Thread _ _).loc Cert.DownIdeal.main_arg1)) (m ((c.tc : Thread _ _).loc Cert.DownIdeal.main_arg2)),
    Cert.DownIdeal.Closed.run m ρ,
    (θ_run _ _ _).mono (fun _ h c => ⟨(h c).1.trans (by rw [(hag c).1, (hag c).2.1, (hag c).2.2]), (h c).2⟩)
      (Cert.DownRefIdeal.Closed.run m' ρ')⟩
-- ==== Proof.ProjValue.lean ====
/-
  The input projection: the kernel normalises a block of rows once, at the first of three column blocks, and multiplies
  it with each column block of the weights. Its result array after the run is, entry by entry, the normalised row against
  the column of weights, and so is the reference's.
-/
module

public import proofs.«01_k».proof.Defs
public import proofs.«01_k».proof.Proof.Rms
public import proofs.«01_k».proof.Proof.Gen.ProjIdeal.Value
public import proofs.«01_k».proof.Proof.Gen.ProjRefIdeal.Run
public import Idealize.ShloMosaic.Lib.Pipeline.Value
public import Idealize.ShloMosaic.Lib.Pointwise

@[expose] public section

set_option maxRecDepth 16384

noncomputable section

open Idealize.ShloMosaic Idealize.ShloMosaic.TcCoe Idealize.ShloMosaic.Tactic Idealize.SL.Sem
open Idealize.ShloMosaic.Pipeline (Dat)

namespace Cert.ProjIdeal.Closed

open Cert.ProjIdeal Cert.ProjIdeal.Gen Cert.ProjIdeal.Value Cert.Rms

variable (m : (ℓ : Loc nD τ sig) → Buf (Elt Ideal) ℓ) (ρ : Dev nD → PrngReg)

/-- The normalised rows. -/
def X (h : S32768x2048.Idx → EReal) (g : S4x2048.Idx → EReal) (R : Fin 32768) (k : Fin 2048) : EReal :=
  normed (fun k => h (ix2 R k)) (g (ix2 0 k)) k

/-- The result as one function of the arguments: the normalised row against the column of weights. -/
def G (h : S32768x2048.Idx → EReal) (g : S4x2048.Idx → EReal) (w : S4x2048x4608.Idx → EReal) : S32768x4608.Idx → EReal :=
  fun i => ∑ k : Fin 2048, X h g (i 0) k * w (ix3 0 k (i 1))

theorem G_congr (h : S32768x2048.Idx → EReal) (g : S4x2048.Idx → EReal) (w : S4x2048x4608.Idx → EReal)
    (i : S32768x4608.Idx) (R : Fin 32768) (C : Fin 4608) (h0 : (i 0).val = R.val) (h1 : (i 1).val = C.val) :
    G h g w i = G h g w (ix2 R C) := by
  congr 1
  funext a
  match a with
  | ⟨0, _⟩ => exact Fin.ext h0
  | ⟨1, _⟩ => exact Fin.ext h1

/-- The index maps at a grid point: row block `t / 3`, column block `t % 3`. -/
theorem idx : ∀ t : Fin cfg0.N, win0_0.index t 0 = t.val / 3 ∧ win0_0.index t 1 = 0
    ∧ win0_1.index t 0 = 0 ∧ win0_1.index t 1 = 0
    ∧ win0_2.index t 0 = 0 ∧ win0_2.index t 1 = 0 ∧ win0_2.index t 2 = t.val % 3
    ∧ win0_3.index t 0 = t.val / 3 ∧ win0_3.index t 1 = t.val % 3 := by decide +kernel

/-- The gains as the kernel sees them: layer 0's row. -/
theorem V_g (c : Dev nD) (k : Fin 2048) : (V m c main_v2 : S1x2048.Idx → EReal) (ix2 0 k)
    = m ((c : Thread nD τ).loc main_arg1) (ix2 0 k) := by
  have e : (V m c main_v2 : S1x2048.Idx → EReal)
      = shapeCast S1x2048 (shapeCast S2048 (extractStridedSlice S1x2048 ![0, 0] (m ((c : Thread nD τ).loc main_arg1) : S4x2048.Idx → EReal) slices_S4x2048_S1x2048_0_0) shapeCasts_S1x2048_S2048) shapeCasts_S2048_S1x2048 := by
    unfold V
    simp only [hostOps0]
    after_results
    all_goals rfl
  rw [e]
  generalize m ((c : Thread nD τ).loc main_arg1) = g
  pointwise

theorem blk0 (c : Dev nD) (t : Fin cfg0.N) (r : Fin 1024) (k : Fin 2048) :
    (iblk m c 0 t : S1024x2048.Idx → EReal) (ix2 r k)
      = m ((c : Thread nD τ).loc main_arg0) (ix2 (⟨t.val / 3 * 1024 + r.val, by
          have := t.isLt; have : cfg0.N = 96 := N_0; omega⟩ : Fin 32768) k) := by
  have hi := idx t
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = t.val / 3 * 1024 + r.val; rw [hi.1]; omega
  | ⟨1, _⟩ => show win0_0.index t 1 * 2048 + 1 * k.val = k.val; rw [hi.2.1]; omega

theorem blk1 (c : Dev nD) (t : Fin cfg0.N) (l : Fin 2048) :
    (iblk m c 1 t : S1x2048.Idx → EReal) (ix2 0 l) = m ((c : Thread nD τ).loc main_arg1) (ix2 0 l) := by
  have hi := idx t
  unfold iblk
  rw [View.read_apply]
  refine Eq.trans ?_ (V_g m c l)
  show V m c main_v2 _ = V m c main_v2 _
  congr 1
  funext a
  apply Fin.ext
  match a with
  | ⟨0, _⟩ => show win0_1.index t 0 * 1 + 1 * 0 = 0; rw [hi.2.2.1]
  | ⟨1, _⟩ => show win0_1.index t 1 * 2048 + 1 * l.val = l.val; rw [hi.2.2.2.1]; omega

theorem blk2 (c : Dev nD) (t : Fin cfg0.N) (k : Fin 2048) (l : Fin 1536) :
    (iblk m c 2 t : S1x2048x1536.Idx → EReal) (ix3 0 k l)
      = m ((c : Thread nD τ).loc main_arg2) (ix3 0 k (⟨t.val % 3 * 1536 + l.val, by omega⟩ : Fin 4608)) := by
  have hi := idx t
  unfold iblk
  rw [View.read_apply]
  show V m c main_arg2 _ = m (c.tc.loc main_arg2) _
  rw [V_main_arg2]
  congr 1
  funext a
  apply Fin.ext
  match a with
  | ⟨0, _⟩ => show win0_2.index t 0 * 1 + 1 * 0 = 0; rw [hi.2.2.2.2.1]
  | ⟨1, _⟩ => show win0_2.index t 1 * 2048 + 1 * k.val = k.val; rw [hi.2.2.2.2.2.1]; omega
  | ⟨2, _⟩ => show win0_2.index t 2 * 1536 + 1 * l.val = t.val % 3 * 1536 + l.val; rw [hi.2.2.2.2.2.2.1]; omega

/-- The normalised block at an entry. -/
theorem pay1_apply (x : S1024x2048.Idx → EReal) (g : S1x2048.Idx → EReal) (r : Fin 1024) (l : Fin 2048) :
    k0_pay1 (F := Ideal) x g (ix2 r l) = normed (fun k => x (ix2 r k)) (g (ix2 0 l)) l := by
  unfold normed scale
  pointwise [k0_pay1]

/-- The product block at an entry. -/
theorem pay2_apply (x : S1024x2048.Idx → EReal) (w : S1x2048x1536.Idx → EReal) (r : Fin 1024) (l : Fin 1536) :
    k0_pay2 (F := Ideal) x w (ix2 r l) = ∑ k : Fin 2048, x (ix2 r k) * w (ix3 0 k l) := by
  pointwise [k0_pay2]

section cases

variable (c : Dev nD) (i : grid0.Coords) (a2 : Memref sig .tc .vmem S1024x2048 .f32) (h2 : a2.IsWhole)
  (a3 : Memref sig .tc .vmem S1x2048 .f32) (h3 : a3.IsWhole) (a4 : Memref sig .tc .vmem S1x2048x1536 .bf16) (h4 : a4.IsWhole)
  (a5 : Memref sig .tc .vmem S1024x1536 .bf16) (h5 : a5.IsWhole) (a6 : Memref sig .tc .vmem S1024x2048 .bf16) (h6 : a6.IsWhole)
  (x0 : Vec Ideal S1024x2048 .f32) (x1 : Vec Ideal S1x2048 .f32) (x2 : Vec Ideal S1x2048x1536 .bf16)

/-- At the first column block the scratch is left holding the normalised rows. -/
theorem sout_A (hc : cond0_0 i) : sout0_A_0 (F := Ideal) c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz2]
  simp only [View.readAt_eq_ld, h2.read_unread, h3.read_unread, View.ld_unit_zero (S := S1024x2048) hz2,
    View.ld_unit_zero (S := S1x2048) hz2]

/-- At the first column block the output is the product of the fresh normalised rows. -/
theorem out_A (hc : cond0_0 i) : out0_A_3 (F := Ideal) c i a2 h2 a3 h3 a4 h4 a5 h5 a6 h6 hc x0 x1 x2
    = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz2, View.readCov_unit_zero (S := S1024x2048) _ hz2]
  simp only [View.readAt_eq_ld, h2.read_unread, h3.read_unread, h4.read_unread, View.ld_unit_zero (S := S1024x2048) hz2,
    View.ld_unit_zero (S := S1x2048) hz2, View.ld_unit_zero (S := S1x2048x1536) hz3]

/-- At a later column block the output is the product of the rows the scratch holds. -/
theorem out_B (hc : ¬cond0_0 i) (xs : Vec Ideal S1024x2048 .bf16) :
    out0_B_3 (F := Ideal) c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  try sl_unfold_words
  rw [View.canon_unit_zero hz2]
  simp only [View.readAt_eq_ld, h4.read_unread, h6.read_unread, View.ld_unit_zero (S := S1024x2048) hz2,
    View.ld_unit_zero (S := S1x2048x1536) hz3]

end cases

/-- After every point the scratch holds the normalised rows of the point's row block. -/
theorem scratch (c : Dev nD) : ∀ (n : ℕ) (hn : n < cfg0.N) (r : Fin 1024) (k : Fin 2048),
    ((outsAt0 m c n hn).2 : S1024x2048.Idx → EReal) (ix2 r k)
      = X (m ((c : Thread nD τ).loc main_arg0)) (m ((c : Thread nD τ).loc main_arg1))
          (⟨n / 3 * 1024 + r.val, by have : cfg0.N = 96 := N_0; omega⟩ : Fin 32768) k := by
  intro n
  induction n with
  | zero =>
    intro hn r k
    rw [outsAt0_A m c ⟨0, hn⟩ rfl]
    dsimp only
    rw [sout_A]
    refine (pay1_apply _ _ r k).trans ?_
    unfold X
    simp only [blk0, blk1]
  | succ n ih =>
    intro hn r k
    by_cases h0 : (n + 1) % 3 = 0
    · rw [outsAt0_A m c ⟨n + 1, hn⟩ h0]
      dsimp only
      rw [sout_A]
      refine (pay1_apply _ _ r k).trans ?_
      unfold X
      simp only [blk0, blk1]
    · rw [outsAt0_B m c ⟨n + 1, hn⟩ h0]
      dsimp only
      unfold sout0_B_0
      refine (ih (Nat.lt_of_succ_lt hn) r k).trans ?_
      have e : n / 3 = (n + 1) / 3 := by omega
      simp only [e]

/-- What every point writes back, at an entry. -/
theorem out_apply (c : Dev nD) (t : Fin cfg0.N) (r : Fin 1024) (l : Fin 1536) :
    ((outsAt0 m c t.val t.isLt).1 : S1024x1536.Idx → EReal) (ix2 r l)
      = G (m ((c : Thread nD τ).loc main_arg0)) (m ((c : Thread nD τ).loc main_arg1)) (m ((c : Thread nD τ).loc main_arg2))
          (ix2 (⟨t.val / 3 * 1024 + r.val, by have := t.isLt; have : cfg0.N = 96 := N_0; omega⟩ : Fin 32768)
            (⟨t.val % 3 * 1536 + l.val, by omega⟩ : Fin 4608)) := by
  have hs := scratch m c t.val t.isLt r
  by_cases h0 : t.val % 3 = 0
  · rw [outsAt0_A m c t h0] at hs ⊢
    dsimp only at hs ⊢
    rw [sout_A] at hs
    rw [out_A]
    refine (pay2_apply _ _ r l).trans ?_
    unfold G
    simp only [hs, blk2]
    rfl
  · rw [outsAt0_B m c t h0] at hs ⊢
    dsimp only at hs ⊢
    rw [out_B]
    refine (pay2_apply _ _ r l).trans ?_
    unfold sout0_B_0 at hs
    unfold G
    simp only [hs, blk2]
    rfl

/-- What point `t` writes back is block `t` of `G`. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  have hi := idx t
  rw [flushed3]
  funext j
  obtain ⟨r, l, rfl⟩ : ∃ (r : Fin 1024) (l : Fin 1536), j = ix2 r l := ⟨j 0, j 1, eq_ix2 j⟩
  rw [View.read_apply]
  show (outsAt0 m c t.val t.isLt).1 (ix2 r l) = G _ _ _ _
  refine (out_apply m c t r l).trans (G_congr _ _ _ _ _ _ ?_ ?_).symm
  · show win0_3.index t 0 * 1024 + 1 * r.val = t.val / 3 * 1024 + r.val; rw [hi.2.2.2.2.2.2.2.1]; omega
  · show win0_3.index t 1 * 1536 + 1 * l.val = t.val % 3 * 1536 + l.val; rw [hi.2.2.2.2.2.2.2.2]; omega

theorem cover (i : S32768x4608.Idx) :
    ∃ t : Fin cfg0.N, (cfg0.win 3).flush t = true ∧ i ∈ ((cfg0.win 3).blk t).view.set := by
  have hN : cfg0.N = 96 := N_0
  have h0 : (i 0 : Nat) < 32768 := (i 0).isLt
  have h1 : (i 1 : Nat) < 4608 := (i 1).isLt
  let t : Fin cfg0.N := ⟨(i 0 : Nat) / 1024 * 3 + (i 1 : Nat) / 1536, by omega⟩
  have hi := idx t
  have hv : t.val = (i 0 : Nat) / 1024 * 3 + (i 1 : Nat) / 1536 := rfl
  refine ⟨t, flush0_3 t, ?_⟩
  show i ∈ ((View.whole main_v3).slice (win0_3.rect t)).set
  rw [View.set_slice_whole, Rect.mem_set_unit]
  intro a
  match a with
  | ⟨0, _⟩ =>
    show win0_3.index t 0 * 1024 ≤ (i 0 : Nat) ∧ (i 0 : Nat) < win0_3.index t 0 * 1024 + 1024
    rw [hi.2.2.2.2.2.2.2.1]; omega
  | ⟨1, _⟩ =>
    show win0_3.index t 1 * 1536 ≤ (i 1 : Nat) ∧ (i 1 : Nat) < win0_3.index t 1 * 1536 + 1536
    rw [hi.2.2.2.2.2.2.2.2]; omega

/-- The kernel's run: the result is `G` of the arguments, the arguments are unchanged. -/
theorem run : θ_run defs (onTc (τ := τ) (main (F := Ideal))) ⟨m, fun _ => 0, ρ⟩ fun r => ∀ c : Dev nD,
      r.2.mem ((c : Thread nD τ).loc main_v3)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans
    ((dats m 0 c).arrAt_eq_of_cover 3 _ (fun t _ => flushed_eq m c t) cover), (h c).2⟩) (run_blocks m ρ)

end Cert.ProjIdeal.Closed

namespace Cert.ProjRefIdeal.Closed

open Cert.ProjRefIdeal Cert.ProjRefIdeal.Gen

variable (m : (ℓ : Loc nD τ sig) → Buf (Elt Ideal) ℓ) (ρ : Dev nD → PrngReg)

/-- The reference's run: its result is the same function of its arguments. -/
theorem run : θ_run defs (onTc (τ := τ) (main (F := Ideal))) ⟨m, fun _ => 0, ρ⟩ fun r => ∀ c : Dev nD,
      r.2.mem ((c : Thread nD τ).loc main_v19) = Cert.ProjIdeal.Closed.G (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun _ h c => ⟨(h c).1.trans ?_, (h c).2⟩) (Value.run m ρ)
  generalize m ((c : Thread nD τ).loc main_arg0) = h
  generalize m ((c : Thread nD τ).loc main_arg1) = g
  generalize m ((c : Thread nD τ).loc main_arg2) = w
  funext j
  obtain ⟨r, l, rfl⟩ : ∃ (r : Fin 32768) (l : Fin 4608), j = ix2 r l := ⟨j 0, j 1, eq_ix2 j⟩
  unfold Cert.ProjIdeal.Closed.G Cert.ProjIdeal.Closed.X Rms.normed Rms.scale
  pointwise

end Cert.ProjRefIdeal.Closed

/-- At extended reals the input projection equals its reference, whatever the arguments are. -/
theorem Cert.proj_algebraic : Cert.algebraic_ProjIdeal_ProjRefIdeal := fun m ρ m' ρ' _ hag =>
  ⟨fun c => Cert.ProjIdeal.Closed.G (m ((c.tc : Thread _ _).loc Cert.ProjIdeal.main_arg0))
      (m ((c.tc : Thread _ _).loc Cert.ProjIdeal.main_arg1)) (m ((c.tc : Thread _ _).loc Cert.ProjIdeal.main_arg2)),
    Cert.ProjIdeal.Closed.run m ρ,
    (θ_run _ _ _).mono (fun _ h c => ⟨(h c).1.trans (by rw [(hag c).1, (hag c).2.1, (hag c).2.2]), (h c).2⟩)
      (Cert.ProjRefIdeal.Closed.run m' ρ')⟩
-- ==== Proof.KvValue.lean ====
/-
  The memory's keys and values: the kernel normalises a block of the memory's rows once, at the first of two column blocks,
  and multiplies it with each column block of the weights. Its result array after the run is, entry by entry, the normalised
  row of the memory against the column of weights, and so is the reference's.
-/
module

public import proofs.«01_k».proof.Defs
public import proofs.«01_k».proof.Proof.Rms
public import proofs.«01_k».proof.Proof.Gen.KvIdeal.Value
public import proofs.«01_k».proof.Proof.Gen.KvRefIdeal.Run
public import Idealize.ShloMosaic.Lib.Pipeline.Value
public import Idealize.ShloMosaic.Lib.Pointwise

@[expose] public section

set_option maxRecDepth 16384

noncomputable section

open Idealize.ShloMosaic Idealize.ShloMosaic.TcCoe Idealize.ShloMosaic.Tactic Idealize.SL.Sem
open Idealize.ShloMosaic.Pipeline (Dat)

namespace Cert.KvIdeal.Closed

open Cert.KvIdeal Cert.KvIdeal.Gen Cert.KvIdeal.Value Cert.Rms

variable (m : (ℓ : Loc nD τ sig) → Buf (Elt Ideal) ℓ) (ρ : Dev nD → PrngReg)

/-- The normalised rows. -/
def X (h : S16x256x2048.Idx → EReal) (g : S4x2048.Idx → EReal) (R : Fin 4096) (k : Fin 2048) : EReal :=
  normed (fun k => h (ix3 ⟨R.val / 256, by omega⟩ ⟨R.val % 256, by omega⟩ k)) (g (ix2 0 k)) k

/-- The result as one function of the arguments: the normalised row against the column of weights. -/
def G (h : S16x256x2048.Idx → EReal) (g : S4x2048.Idx → EReal) (w : S4x2048x1024.Idx → EReal) : S4096x1024.Idx → EReal :=
  fun i => ∑ k : Fin 2048, X h g (i 0) k * w (ix3 0 k (i 1))

theorem G_congr (h : S16x256x2048.Idx → EReal) (g : S4x2048.Idx → EReal) (w : S4x2048x1024.Idx → EReal)
    (i : S4096x1024.Idx) (R : Fin 4096) (C : Fin 1024) (h0 : (i 0).val = R.val) (h1 : (i 1).val = C.val) :
    G h g w i = G h g w (ix2 R C) := by
  congr 1
  funext a
  match a with
  | ⟨0, _⟩ => exact Fin.ext h0
  | ⟨1, _⟩ => exact Fin.ext h1

/-- The index maps at a grid point: row block `t / 2`, column block `t % 2`. -/
theorem idx : ∀ t : Fin cfg0.N, win0_0.index t 0 = t.val / 2 ∧ win0_0.index t 1 = 0
    ∧ win0_1.index t 0 = 0 ∧ win0_1.index t 1 = 0
    ∧ win0_2.index t 0 = 0 ∧ win0_2.index t 1 = 0 ∧ win0_2.index t 2 = t.val % 2
    ∧ win0_3.index t 0 = t.val / 2 ∧ win0_3.index t 1 = t.val % 2 := by decide +kernel

/-- The gains as the kernel sees them: layer 0's row. -/
theorem V_g (c : Dev nD) (k : Fin 2048) : (V m c main_v4 : S1x2048.Idx → EReal) (ix2 0 k)
    = m ((c : Thread nD τ).loc main_arg1) (ix2 0 k) := by
  have e : (V m c main_v4 : S1x2048.Idx → EReal)
      = shapeCast S1x2048 (shapeCast S2048 (extractStridedSlice S1x2048 ![0, 0] (m ((c : Thread nD τ).loc main_arg1) : S4x2048.Idx → EReal) slices_S4x2048_S1x2048_0_0) shapeCasts_S1x2048_S2048) shapeCasts_S2048_S1x2048 := by
    unfold V
    simp only [hostOps0]
    after_results
    all_goals rfl
  rw [e]
  generalize m ((c : Thread nD τ).loc main_arg1) = g
  pointwise

/-- The weights as the kernel sees them. -/
theorem V_w (c : Dev nD) : (V m c main_v3 : S4x2048x1024.Idx → EReal) = m ((c : Thread nD τ).loc main_arg2) := by
  unfold V
  simp only [hostOps0]
  after_results
  all_goals rfl

/-- The memory's rows, all sequences in one column of rows, at an entry. -/
theorem rows_apply (x : FVec Ideal S16x256x2048 .f32) (R : Fin 4096) (k : Fin 2048) :
    (shapeCast S4096x2048 x shapeCasts_S16x256x2048_S4096x2048 : FVec Ideal S4096x2048 .f32) (ix2 R k)
      = x (ix3 ⟨R.val / 256, by omega⟩ ⟨R.val % 256, by omega⟩ k) := by
  pointwise

/-- The rows as the kernel sees them. -/
theorem V_rows (c : Dev nD) : (V m c main_v0 : S4096x2048.Idx → EReal)
    = (shapeCast S4096x2048 (m ((c : Thread nD τ).loc main_arg0) : S16x256x2048.Idx → EReal) shapeCasts_S16x256x2048_S4096x2048) := by
  unfold V
  simp only [hostOps0]
  after_results
  all_goals rfl

theorem V_x (c : Dev nD) (R : Fin 4096) (k : Fin 2048) : (V m c main_v0 : S4096x2048.Idx → EReal) (ix2 R k)
    = m ((c : Thread nD τ).loc main_arg0) (ix3 (⟨R.val / 256, by omega⟩ : Fin 16) (⟨R.val % 256, by omega⟩ : Fin 256) k) :=
  (congrFun (V_rows m c) (ix2 R k)).trans (rows_apply _ R k)

theorem blk0 (c : Dev nD) (t : Fin cfg0.N) (r : Fin 512) (k : Fin 2048) :
    (iblk m c 0 t : S512x2048.Idx → EReal) (ix2 r k)
      = m ((c : Thread nD τ).loc main_arg0) (ix3 (⟨(t.val / 2 * 512 + r.val) / 256, by
          have := t.isLt; have : cfg0.N = 16 := N_0; omega⟩ : Fin 16) (⟨(t.val / 2 * 512 + r.val) % 256, by omega⟩ : Fin 256) k) := by
  have hi := idx t
  unfold iblk
  rw [View.read_apply]
  refine Eq.trans ?_ (V_x m c ⟨t.val / 2 * 512 + r.val, by have := t.isLt; have : cfg0.N = 16 := N_0; omega⟩ k)
  show V m c main_v0 _ = V m c main_v0 _
  congr 1
  funext a
  apply Fin.ext
  match a with
  | ⟨0, _⟩ => show win0_0.index t 0 * 512 + 1 * r.val = t.val / 2 * 512 + r.val; rw [hi.1]; omega
  | ⟨1, _⟩ => show win0_0.index t 1 * 2048 + 1 * k.val = k.val; rw [hi.2.1]; omega

theorem blk1 (c : Dev nD) (t : Fin cfg0.N) (l : Fin 2048) :
    (iblk m c 1 t : S1x2048.Idx → EReal) (ix2 0 l) = m ((c : Thread nD τ).loc main_arg1) (ix2 0 l) := by
  have hi := idx t
  unfold iblk
  rw [View.read_apply]
  refine Eq.trans ?_ (V_g m c l)
  show V m c main_v4 _ = V m c main_v4 _
  congr 1
  funext a
  apply Fin.ext
  match a with
  | ⟨0, _⟩ => show win0_1.index t 0 * 1 + 1 * 0 = 0; rw [hi.2.2.1]
  | ⟨1, _⟩ => show win0_1.index t 1 * 2048 + 1 * l.val = l.val; rw [hi.2.2.2.1]; omega

theorem blk2 (c : Dev nD) (t : Fin cfg0.N) (k : Fin 2048) (l : Fin 512) :
    (iblk m c 2 t : S1x2048x512.Idx → EReal) (ix3 0 k l)
      = m ((c : Thread nD τ).loc main_arg2) (ix3 0 k (⟨t.val % 2 * 512 + l.val, by omega⟩ : Fin 1024)) := by
  have hi := idx t
  unfold iblk
  rw [View.read_apply]
  show V m c main_v3 _ = m (c.tc.loc main_arg2) _
  rw [V_w]
  congr 1
  funext a
  apply Fin.ext
  match a with
  | ⟨0, _⟩ => show win0_2.index t 0 * 1 + 1 * 0 = 0; rw [hi.2.2.2.2.1]
  | ⟨1, _⟩ => show win0_2.index t 1 * 2048 + 1 * k.val = k.val; rw [hi.2.2.2.2.2.1]; omega
  | ⟨2, _⟩ => show win0_2.index t 2 * 512 + 1 * l.val = t.val % 2 * 512 + l.val; rw [hi.2.2.2.2.2.2.1]; omega

/-- The normalised block at an entry. -/
theorem pay1_apply (x : S512x2048.Idx → EReal) (g : S1x2048.Idx → EReal) (r : Fin 512) (l : Fin 2048) :
    k0_pay1 (F := Ideal) x g (ix2 r l) = normed (fun k => x (ix2 r k)) (g (ix2 0 l)) l := by
  unfold normed scale
  pointwise [k0_pay1]

/-- The product block at an entry. -/
theorem pay2_apply (x : S512x2048.Idx → EReal) (w : S1x2048x512.Idx → EReal) (r : Fin 512) (l : Fin 512) :
    k0_pay2 (F := Ideal) x w (ix2 r l) = ∑ k : Fin 2048, x (ix2 r k) * w (ix3 0 k l) := by
  pointwise [k0_pay2]

section cases

variable (c : Dev nD) (i : grid0.Coords) (a2 : Memref sig .tc .vmem S512x2048 .f32) (h2 : a2.IsWhole)
  (a3 : Memref sig .tc .vmem S1x2048 .f32) (h3 : a3.IsWhole) (a4 : Memref sig .tc .vmem S1x2048x512 .bf16) (h4 : a4.IsWhole)
  (a5 : Memref sig .tc .vmem S512x512 .bf16) (h5 : a5.IsWhole) (a6 : Memref sig .tc .vmem S512x2048 .bf16) (h6 : a6.IsWhole)
  (x0 : Vec Ideal S512x2048 .f32) (x1 : Vec Ideal S1x2048 .f32) (x2 : Vec Ideal S1x2048x512 .bf16)

/-- At the first column block the scratch is left holding the normalised rows. -/
theorem sout_A (hc : cond0_0 i) : sout0_A_0 (F := Ideal) c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz2]
  simp only [View.readAt_eq_ld, h2.read_unread, h3.read_unread, View.ld_unit_zero (S := S512x2048) hz2,
    View.ld_unit_zero (S := S1x2048) hz2]

/-- At the first column block the output is the product of the fresh normalised rows. -/
theorem out_A (hc : cond0_0 i) : out0_A_3 (F := Ideal) c i a2 h2 a3 h3 a4 h4 a5 h5 a6 h6 hc x0 x1 x2
    = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz2, View.readCov_unit_zero (S := S512x2048) _ hz2]
  simp only [View.readAt_eq_ld, h2.read_unread, h3.read_unread, h4.read_unread, View.ld_unit_zero (S := S512x2048) hz2,
    View.ld_unit_zero (S := S1x2048) hz2, View.ld_unit_zero (S := S1x2048x512) hz3]

/-- At a later column block the output is the product of the rows the scratch holds. -/
theorem out_B (hc : ¬cond0_0 i) (xs : Vec Ideal S512x2048 .bf16) :
    out0_B_3 (F := Ideal) c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  try sl_unfold_words
  rw [View.canon_unit_zero hz2]
  simp only [View.readAt_eq_ld, h4.read_unread, h6.read_unread, View.ld_unit_zero (S := S512x2048) hz2,
    View.ld_unit_zero (S := S1x2048x512) hz3]

end cases

/-- After every point the scratch holds the normalised rows of the point's row block. -/
theorem scratch (c : Dev nD) : ∀ (n : ℕ) (hn : n < cfg0.N) (r : Fin 512) (k : Fin 2048),
    ((outsAt0 m c n hn).2 : S512x2048.Idx → EReal) (ix2 r k)
      = X (m ((c : Thread nD τ).loc main_arg0)) (m ((c : Thread nD τ).loc main_arg1))
          (⟨n / 2 * 512 + r.val, by have : cfg0.N = 16 := N_0; omega⟩ : Fin 4096) k := by
  intro n
  induction n with
  | zero =>
    intro hn r k
    rw [outsAt0_A m c ⟨0, hn⟩ rfl]
    dsimp only
    rw [sout_A]
    refine (pay1_apply _ _ r k).trans ?_
    unfold X
    simp only [blk0, blk1]
  | succ n ih =>
    intro hn r k
    by_cases h0 : (n + 1) % 2 = 0
    · rw [outsAt0_A m c ⟨n + 1, hn⟩ h0]
      dsimp only
      rw [sout_A]
      refine (pay1_apply _ _ r k).trans ?_
      unfold X
      simp only [blk0, blk1]
    · rw [outsAt0_B m c ⟨n + 1, hn⟩ h0]
      dsimp only
      unfold sout0_B_0
      refine (ih (Nat.lt_of_succ_lt hn) r k).trans ?_
      have e : n / 2 = (n + 1) / 2 := by omega
      simp only [e]

/-- What every point writes back, at an entry. -/
theorem out_apply (c : Dev nD) (t : Fin cfg0.N) (r : Fin 512) (l : Fin 512) :
    ((outsAt0 m c t.val t.isLt).1 : S512x512.Idx → EReal) (ix2 r l)
      = G (m ((c : Thread nD τ).loc main_arg0)) (m ((c : Thread nD τ).loc main_arg1)) (m ((c : Thread nD τ).loc main_arg2))
          (ix2 (⟨t.val / 2 * 512 + r.val, by have := t.isLt; have : cfg0.N = 16 := N_0; omega⟩ : Fin 4096)
            (⟨t.val % 2 * 512 + l.val, by omega⟩ : Fin 1024)) := by
  have hs := scratch m c t.val t.isLt r
  by_cases h0 : t.val % 2 = 0
  · rw [outsAt0_A m c t h0] at hs ⊢
    dsimp only at hs ⊢
    rw [sout_A] at hs
    rw [out_A]
    refine (pay2_apply _ _ r l).trans ?_
    unfold G
    simp only [hs, blk2]
    rfl
  · rw [outsAt0_B m c t h0] at hs ⊢
    dsimp only at hs ⊢
    rw [out_B]
    refine (pay2_apply _ _ r l).trans ?_
    unfold sout0_B_0 at hs
    unfold G
    simp only [hs, blk2]
    rfl

/-- What point `t` writes back is block `t` of `G`. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  have hi := idx t
  rw [flushed3]
  funext j
  obtain ⟨r, l, rfl⟩ : ∃ (r : Fin 512) (l : Fin 512), j = ix2 r l := ⟨j 0, j 1, eq_ix2 j⟩
  rw [View.read_apply]
  show (outsAt0 m c t.val t.isLt).1 (ix2 r l) = G _ _ _ _
  refine (out_apply m c t r l).trans (G_congr _ _ _ _ _ _ ?_ ?_).symm
  · show win0_3.index t 0 * 512 + 1 * r.val = t.val / 2 * 512 + r.val; rw [hi.2.2.2.2.2.2.2.1]; omega
  · show win0_3.index t 1 * 512 + 1 * l.val = t.val % 2 * 512 + l.val; rw [hi.2.2.2.2.2.2.2.2]; omega

theorem cover (i : S4096x1024.Idx) :
    ∃ t : Fin cfg0.N, (cfg0.win 3).flush t = true ∧ i ∈ ((cfg0.win 3).blk t).view.set := by
  have hN : cfg0.N = 16 := N_0
  have h0 : (i 0 : Nat) < 4096 := (i 0).isLt
  have h1 : (i 1 : Nat) < 1024 := (i 1).isLt
  let t : Fin cfg0.N := ⟨(i 0 : Nat) / 512 * 2 + (i 1 : Nat) / 512, by omega⟩
  have hi := idx t
  have hv : t.val = (i 0 : Nat) / 512 * 2 + (i 1 : Nat) / 512 := rfl
  refine ⟨t, flush0_3 t, ?_⟩
  show i ∈ ((View.whole main_v5).slice (win0_3.rect t)).set
  rw [View.set_slice_whole, Rect.mem_set_unit]
  intro a
  match a with
  | ⟨0, _⟩ =>
    show win0_3.index t 0 * 512 ≤ (i 0 : Nat) ∧ (i 0 : Nat) < win0_3.index t 0 * 512 + 512
    rw [hi.2.2.2.2.2.2.2.1]; omega
  | ⟨1, _⟩ =>
    show win0_3.index t 1 * 512 ≤ (i 1 : Nat) ∧ (i 1 : Nat) < win0_3.index t 1 * 512 + 512
    rw [hi.2.2.2.2.2.2.2.2]; omega

/-- The kernel's run: the result is `G` of the arguments, the arguments are unchanged. -/
theorem run : θ_run defs (onTc (τ := τ) (main (F := Ideal))) ⟨m, fun _ => 0, ρ⟩ fun r => ∀ c : Dev nD,
      r.2.mem ((c : Thread nD τ).loc main_v5)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans
    ((dats m 0 c).arrAt_eq_of_cover 3 _ (fun t _ => flushed_eq m c t) cover), (h c).2⟩) (run_blocks m ρ)

end Cert.KvIdeal.Closed

namespace Cert.KvRefIdeal.Closed

open Cert.KvRefIdeal Cert.KvRefIdeal.Gen

variable (m : (ℓ : Loc nD τ sig) → Buf (Elt Ideal) ℓ) (ρ : Dev nD → PrngReg)

/-- The reference's run: its result is the same function of its arguments. -/
theorem run : θ_run defs (onTc (τ := τ) (main (F := Ideal))) ⟨m, fun _ => 0, ρ⟩ fun r => ∀ c : Dev nD,
      r.2.mem ((c : Thread nD τ).loc main_v19) = Cert.KvIdeal.Closed.G (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun _ h c => ⟨(h c).1.trans ?_, (h c).2⟩) (Value.run m ρ)
  generalize m ((c : Thread nD τ).loc main_arg0) = h
  generalize m ((c : Thread nD τ).loc main_arg1) = g
  generalize m ((c : Thread nD τ).loc main_arg2) = w
  funext j
  obtain ⟨r, l, rfl⟩ : ∃ (r : Fin 4096) (l : Fin 1024), j = ix2 r l := ⟨j 0, j 1, eq_ix2 j⟩
  unfold Cert.KvIdeal.Closed.G Cert.KvIdeal.Closed.X Rms.normed Rms.scale
  pointwise

end Cert.KvRefIdeal.Closed

/-- At extended reals the product for the memory's keys and values equals its reference, whatever the arguments are. -/
theorem Cert.kv_algebraic : Cert.algebraic_KvIdeal_KvRefIdeal := fun m ρ m' ρ' _ hag =>
  ⟨fun c => Cert.KvIdeal.Closed.G (m ((c.tc : Thread _ _).loc Cert.KvIdeal.main_arg0))
      (m ((c.tc : Thread _ _).loc Cert.KvIdeal.main_arg1)) (m ((c.tc : Thread _ _).loc Cert.KvIdeal.main_arg2)),
    Cert.KvIdeal.Closed.run m ρ,
    (θ_run _ _ _).mono (fun _ h c => ⟨(h c).1.trans (by rw [(hag c).1, (hag c).2.1, (hag c).2.2]), (h c).2⟩)
      (Cert.KvRefIdeal.Closed.run m' ρ')⟩
-- ==== Proof.NormValue.lean ====
/-
  The final normalisation: the kernel's result array after the run is, row by row, the row scaled by the reciprocal root
  of its mean square and by the gains, and so is the reference's.
-/
module

public import proofs.«01_k».proof.Defs
public import proofs.«01_k».proof.Proof.Rms
public import proofs.«01_k».proof.Proof.Gen.NormIdeal.Value
public import proofs.«01_k».proof.Proof.Gen.NormRefIdeal.Run
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormIdeal.Closed

open Cert.NormIdeal Cert.NormIdeal.Gen Cert.NormIdeal.Value Cert.Rms

variable (m : (ℓ : Loc nD τ sig) → Buf (Elt Ideal) ℓ) (ρ : Dev nD → PrngReg)

/-- The result as one function of the arguments: each row normalised, times the gains. -/
def G (h : S32768x2048.Idx → EReal) (g : S2048.Idx → EReal) : S32768x2048.Idx → EReal :=
  fun i => normed (fun k => h (ix2 (i 0) k)) (g (ix1 (i 1))) (i 1)

theorem G_congr (h : S32768x2048.Idx → EReal) (g : S2048.Idx → EReal)
    (i : S32768x2048.Idx) (R : Fin 32768) (C : Fin 2048) (h0 : (i 0).val = R.val) (h1 : (i 1).val = C.val) :
    G h g i = G h g (ix2 R C) := by
  congr 1
  funext a
  match a with
  | ⟨0, _⟩ => exact Fin.ext h0
  | ⟨1, _⟩ => exact Fin.ext h1

/-- The index maps at a grid point. -/
theorem idx : ∀ t : Fin cfg0.N, win0_0.index t 0 = t.val ∧ win0_0.index t 1 = 0
    ∧ win0_1.index t 0 = 0 ∧ win0_1.index t 1 = 0
    ∧ win0_2.index t 0 = t.val ∧ win0_2.index t 1 = 0 := by decide +kernel

/-- The gains as the kernel sees them: a row. -/
theorem V_g (c : Dev nD) (k : Fin 2048) : (V m c main_v0 : S1x2048.Idx → EReal) (ix2 0 k)
    = m ((c : Thread nD τ).loc main_arg1) (ix1 k) := by
  have e : (V m c main_v0 : S1x2048.Idx → EReal)
      = shapeCast S1x2048 (m ((c : Thread nD τ).loc main_arg1) : S2048.Idx → EReal) shapeCasts_S2048_S1x2048 := by
    unfold V
    simp only [hostOps0]
    after_results
    all_goals rfl
  rw [e]
  generalize m ((c : Thread nD τ).loc main_arg1) = g
  pointwise

theorem blk0 (c : Dev nD) (t : Fin cfg0.N) (r : Fin 512) (k : Fin 2048) :
    (iblk m c 0 t : S512x2048.Idx → EReal) (ix2 r k)
      = m ((c : Thread nD τ).loc main_arg0) (ix2 (⟨t.val * 512 + r.val, by
          have := t.isLt; have : cfg0.N = 64 := N_0; omega⟩ : Fin 32768) k) := by
  have hi := idx t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = t.val * 512 + r.val; rw [hi.1]; omega
  | ⟨1, _⟩ => show win0_0.index t 1 * 2048 + 1 * k.val = k.val; rw [hi.2.1]; omega

theorem blk1 (c : Dev nD) (t : Fin cfg0.N) (l : Fin 2048) :
    (iblk m c 1 t : S1x2048.Idx → EReal) (ix2 0 l) = m ((c : Thread nD τ).loc main_arg1) (ix1 l) := by
  have hi := idx t
  unfold iblk
  rw [View.read_apply]
  refine Eq.trans ?_ (V_g m c l)
  show V m c main_v0 _ = V m c main_v0 _
  congr 1
  funext a
  apply Fin.ext
  match a with
  | ⟨0, _⟩ => show win0_1.index t 0 * 1 + 1 * 0 = 0; rw [hi.2.2.1]
  | ⟨1, _⟩ => show win0_1.index t 1 * 2048 + 1 * l.val = l.val; rw [hi.2.2.2.1]; omega

/-- The body's payload at an entry. -/
theorem pay_apply (x : S512x2048.Idx → EReal) (g : S1x2048.Idx → EReal) (r : Fin 512) (l : Fin 2048) :
    k0_pay1 (F := Ideal) x g (ix2 r l) = normed (fun k => x (ix2 r k)) (g (ix2 0 l)) l := by
  unfold normed scale
  pointwise [k0_pay1]

/-- What point `t` writes back is block `t` of `G`. -/
theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  have hi := idx t
  rw [flushed2]
  unfold out0_2
  rw [View.canon_unit_zero hz2, View.ld_unit_zero hz2, View.ld_unit_zero hz2]
  funext j
  obtain ⟨r, l, rfl⟩ : ∃ (r : Fin 512) (l : Fin 2048), j = ix2 r l := ⟨j 0, j 1, eq_ix2 j⟩
  rw [View.read_apply]
  show k0_pay1 (F := Ideal) _ _ (ix2 r l) = G _ _ _
  refine (pay_apply _ _ r l).trans ?_
  refine Eq.trans ?_ (G_congr _ _ _ (⟨t.val * 512 + r.val, by
          have := t.isLt; have : cfg0.N = 64 := N_0; omega⟩ : Fin 32768) l ?_ ?_).symm
  rotate_left
  · show win0_2.index t 0 * 512 + 1 * r.val = t.val * 512 + r.val; rw [hi.2.2.2.2.1]; omega
  · show win0_2.index t 1 * 2048 + 1 * l.val = l.val; rw [hi.2.2.2.2.2]; omega
  unfold G
  simp only [blk0, blk1]
  rfl

theorem cover (i : S32768x2048.Idx) :
    ∃ t : Fin cfg0.N, (cfg0.win 2).flush t = true ∧ i ∈ ((cfg0.win 2).blk t).view.set := by
  have hN : cfg0.N = 64 := N_0
  have h0 : (i 0 : Nat) < 32768 := (i 0).isLt
  have h1 : (i 1 : Nat) < 2048 := (i 1).isLt
  let t : Fin cfg0.N := ⟨(i 0 : Nat) / 512, by omega⟩
  have hi := idx t
  have hv : t.val = (i 0 : Nat) / 512 := rfl
  refine ⟨t, flush0_2 t, ?_⟩
  show i ∈ ((View.whole main_v1).slice (win0_2.rect t)).set
  rw [View.set_slice_whole, Rect.mem_set_unit]
  intro a
  match a with
  | ⟨0, _⟩ =>
    show win0_2.index t 0 * 512 ≤ (i 0 : Nat) ∧ (i 0 : Nat) < win0_2.index t 0 * 512 + 512
    rw [hi.2.2.2.2.1]; omega
  | ⟨1, _⟩ =>
    show win0_2.index t 1 * 2048 ≤ (i 1 : Nat) ∧ (i 1 : Nat) < win0_2.index t 1 * 2048 + 2048
    rw [hi.2.2.2.2.2]; omega

/-- The kernel's run: the result is `G` of the arguments, the arguments are unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans
    ((dats m 0 c).arrAt_eq_of_cover 2 _ (fun t _ => flushed_eq m c t) cover), (h c).2⟩) (run_blocks m ρ)

end Cert.NormIdeal.Closed

namespace Cert.NormRefIdeal.Closed

open Cert.NormRefIdeal Cert.NormRefIdeal.Gen

variable (m : (ℓ : Loc nD τ sig) → Buf (Elt Ideal) ℓ) (ρ : Dev nD → PrngReg)

/-- The reference's run: its result is the same function of its arguments. -/
theorem run : θ_run defs (onTc (τ := τ) (main (F := Ideal))) ⟨m, fun _ => 0, ρ⟩ fun r => ∀ c : Dev nD,
      r.2.mem ((c : Thread nD τ).loc main_v12) = Cert.NormIdeal.Closed.G (m ((c : Thread nD τ).loc main_arg0))
        (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ⟨(h c).1.trans ?_, (h c).2⟩) (Value.run m ρ)
  generalize m ((c : Thread nD τ).loc main_arg0) = h
  generalize m ((c : Thread nD τ).loc main_arg1) = g
  funext j
  obtain ⟨r, l, rfl⟩ : ∃ (r : Fin 32768) (l : Fin 2048), j = ix2 r l := ⟨j 0, j 1, eq_ix2 j⟩
  unfold Cert.NormIdeal.Closed.G Rms.normed Rms.scale
  pointwise

end Cert.NormRefIdeal.Closed

/-- At extended reals the final normalisation equals its reference, whatever the arguments are. -/
theorem Cert.norm_algebraic : Cert.algebraic_NormIdeal_NormRefIdeal := fun m ρ m' ρ' _ hag =>
  ⟨fun c => Cert.NormIdeal.Closed.G (m ((c.tc : Thread _ _).loc Cert.NormIdeal.main_arg0))
      (m ((c.tc : Thread _ _).loc Cert.NormIdeal.main_arg1)),
    Cert.NormIdeal.Closed.run m ρ,
    (θ_run _ _ _).mono (fun _ h c => ⟨(h c).1.trans (by rw [(hag c).1, (hag c).2]), (h c).2⟩)
      (Cert.NormRefIdeal.Closed.run m' ρ')⟩
-- ==== Proof.lean ====
/-
  The certificate: every conjunct of the claim, in order.
-/
module

public import proofs.«01_k».proof.Defs
public import proofs.«01_k».proof.Proof.GlaRefValue
public import proofs.«01_k».proof.Proof.MixPre
public import proofs.«01_k».proof.Proof.Gen.Pre_finite_mix
public import proofs.«01_k».proof.Proof.UpValue
public import proofs.«01_k».proof.Proof.UpFrame
public import proofs.«01_k».proof.Proof.DownValue
public import proofs.«01_k».proof.Proof.ProjValue
public import proofs.«01_k».proof.Proof.KvValue
public import proofs.«01_k».proof.Proof.NormValue
public import proofs.«01_k».proof.Proof.Gen.Gla.Frame
public import proofs.«01_k».proof.Proof.Gen.Up.Frame
public import proofs.«01_k».proof.Proof.Gen.Down.Frame
public import proofs.«01_k».proof.Proof.Gen.Proj.Frame
public import proofs.«01_k».proof.Proof.Gen.Norm.Frame
public import proofs.«01_k».proof.Proof.Gen.GlaIdeal.Value
public import proofs.«01_k».proof.Proof.Gen.GlaRefIdeal.Run
public import proofs.«01_k».proof.Proof.Gen.UpIdeal.Frame
public import proofs.«01_k».proof.Proof.Gen.UpRefIdeal.Run
public import proofs.«01_k».proof.Proof.Gen.DownIdeal.Value
public import proofs.«01_k».proof.Proof.Gen.DownRefIdeal.Run
public import proofs.«01_k».proof.Proof.Gen.ProjIdeal.Value
public import proofs.«01_k».proof.Proof.Gen.ProjRefIdeal.Run
public import proofs.«01_k».proof.Proof.Gen.Kv.Frame
public import proofs.«01_k».proof.Proof.Gen.KvIdeal.Value
public import proofs.«01_k».proof.Proof.Gen.KvRefIdeal.Run
public import proofs.«01_k».proof.Proof.Gen.NormIdeal.Value
public import proofs.«01_k».proof.Proof.Gen.NormRefIdeal.Run
public import proofs.«01_k».proof.Proof.Gen.Mix.Frame
public import proofs.«01_k».proof.Proof.Gen.MixIdeal.Value
public import proofs.«01_k».proof.Proof.Gen.MixRefIdeal.Run

@[expose] public section

noncomputable section

open Idealize.ShloMosaic Idealize.SL.Sem

/-- The reference's frame, read off its run; the program declares no semaphore. -/
theorem Cert.gla_ref_frame : Cert.quiescent_GlaRefIdeal (hGlaRefIdeal := Cert.GlaRefIdeal.Gen.facts) := fun m ρ _ =>
  (θ_run _ _ _).mono (fun _ h => ⟨fun c => (h c).2, funext fun s => nomatch s⟩) (Cert.GlaRefIdeal.Pure.run m ρ)

/-- The reference's frame, read off its run; the program declares no semaphore. -/
theorem Cert.mix_ref_frame : Cert.quiescent_MixRefIdeal (hMixRefIdeal := Cert.MixRefIdeal.Gen.facts) := fun m ρ _ =>
  (θ_run _ _ _).mono (fun _ h => ⟨fun c => (h c).2.2, funext fun s => nomatch s⟩) (Cert.MixRefIdeal.Value.run m ρ)

/-- The reference's frame, read off its run; the program declares no semaphore. -/
theorem Cert.up_ref_frame : Cert.quiescent_UpRefIdeal (hUpRefIdeal := Cert.UpRefIdeal.Gen.facts) := fun m ρ _ =>
  (θ_run _ _ _).mono (fun _ h => ⟨fun c => (h c).2, funext fun s => nomatch s⟩) (Cert.UpRefIdeal.Value.run m ρ)

/-- The reference's frame, read off its run; the program declares no semaphore. -/
theorem Cert.down_ref_frame : Cert.quiescent_DownRefIdeal (hDownRefIdeal := Cert.DownRefIdeal.Gen.facts) := fun m ρ _ =>
  (θ_run _ _ _).mono (fun _ h => ⟨fun c => (h c).2, funext fun s => nomatch s⟩) (Cert.DownRefIdeal.Value.run m ρ)

/-- The reference's frame, read off its run; the program declares no semaphore. -/
theorem Cert.proj_ref_frame : Cert.quiescent_ProjRefIdeal (hProjRefIdeal := Cert.ProjRefIdeal.Gen.facts) := fun m ρ _ =>
  (θ_run _ _ _).mono (fun _ h => ⟨fun c => (h c).2, funext fun s => nomatch s⟩) (Cert.ProjRefIdeal.Value.run m ρ)

/-- The reference's frame, read off its run; the program declares no semaphore. -/
theorem Cert.kv_ref_frame : Cert.quiescent_KvRefIdeal (hKvRefIdeal := Cert.KvRefIdeal.Gen.facts) := fun m ρ _ =>
  (θ_run _ _ _).mono (fun _ h => ⟨fun c => (h c).2, funext fun s => nomatch s⟩) (Cert.KvRefIdeal.Value.run m ρ)

/-- The reference's frame, read off its run; the program declares no semaphore. -/
theorem Cert.norm_ref_frame : Cert.quiescent_NormRefIdeal (hNormRefIdeal := Cert.NormRefIdeal.Gen.facts) := fun m ρ _ =>
  (θ_run _ _ _).mono (fun _ h => ⟨fun c => (h c).2, funext fun s => nomatch s⟩) (Cert.NormRefIdeal.Value.run m ρ)

namespace Cert.Proof

/-- Every claim holds: the frames in the programs' order, then for each call that its idealized program preserves it and
    equals the idealized reference. -/
theorem claim : Cert.Claim :=
  ⟨Cert.Gla.Gen.facts, Cert.GlaIdeal.Gen.facts, Cert.GlaRefIdeal.Gen.facts,
    Cert.Mix.Gen.facts, Cert.MixIdeal.Gen.facts, Cert.MixRefIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.Proj.Gen.facts, Cert.ProjIdeal.Gen.facts, Cert.ProjRefIdeal.Gen.facts,
    Cert.Kv.Gen.facts, Cert.KvIdeal.Gen.facts, Cert.KvRefIdeal.Gen.facts,
    Cert.Norm.Gen.facts, Cert.NormIdeal.Gen.facts, Cert.NormRefIdeal.Gen.facts, Cert.Pre_finite_mix.Gen.facts,
    fun m ρ _ => Cert.Gla.Gen.frame m ρ, fun m ρ _ => Cert.GlaIdeal.Gen.frame m ρ, Cert.gla_ref_frame,
    fun m ρ _ => Cert.Mix.Gen.frame m ρ, fun m ρ _ => Cert.MixIdeal.Gen.frame m ρ,
    fun m ρ _ => Cert.MixIdeal.Gen.frame m ρ, Cert.mix_ref_frame, fun m ρ _ => Cert.mix_ref_frame m ρ trivial,
    fun m ρ _ => Cert.Up.Hand.frame m ρ, fun m ρ _ => Cert.UpIdeal.Hand.frame m ρ, Cert.up_ref_frame,
    fun m ρ _ => Cert.Down.Gen.frame m ρ, fun m ρ _ => Cert.DownIdeal.Gen.frame m ρ, Cert.down_ref_frame,
    fun m ρ _ => Cert.Proj.Gen.frame m ρ, fun m ρ _ => Cert.ProjIdeal.Gen.frame m ρ, Cert.proj_ref_frame,
    fun m ρ _ => Cert.Kv.Gen.frame m ρ, fun m ρ _ => Cert.KvIdeal.Gen.frame m ρ, Cert.kv_ref_frame,
    fun m ρ _ => Cert.Norm.Gen.frame m ρ, fun m ρ _ => Cert.NormIdeal.Gen.frame m ρ, Cert.norm_ref_frame,
    trivial, Cert.gla_algebraic, trivial, Cert.mix_algebraic, trivial, Cert.up_algebraic, trivial, Cert.down_algebraic,
    trivial, Cert.proj_algebraic, trivial, Cert.kv_algebraic, trivial, Cert.norm_algebraic⟩

end Cert.Proof

end
